-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_plain_arguments [hPre_plain_arguments : Cert.Pre_plain_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_plain_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_plain_arguments [hPre_plain_arguments : Cert.Pre_plain_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_plain_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_plain_arguments [hKernelIdeal : Cert.KernelIdeal.Facts] [hPre_plain_arguments : Cert.Pre_plain_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_plain_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_plain_arguments [hReferenceIdeal : Cert.ReferenceIdeal.Facts] [hPre_plain_arguments : Cert.Pre_plain_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_plain_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "share" .f32 0x3F7D70A4#32 ((99 / 100 : ℝ) : EReal)
  ∧ IdealRules.named_const.Statement Cert.KernelIdeal.κ "milli1" .f32 0x3A83126F#32 ((1 / 1000 : ℝ) : EReal)
  ∧ IdealRules.named_const.Statement Cert.KernelIdeal.κ "milli2" .f32 0x3B03126F#32 ((1 / 500 : ℝ) : EReal)
  ∧ IdealRules.named_const.Statement Cert.KernelIdeal.κ "milli3" .f32 0x3B449BA6#32 ((3 / 1000 : ℝ) : EReal)
  ∧ IdealRules.named_const.Statement Cert.KernelIdeal.κ "milli4" .f32 0x3B83126F#32 ((1 / 250 : ℝ) : EReal)
  ∧ IdealRules.named_const.Statement Cert.KernelIdeal.κ "milli5" .f32 0x3BA3D70A#32 ((1 / 200 : ℝ) : EReal)
  ∧ IdealRules.named_const.Statement Cert.KernelIdeal.κ "milli6" .f32 0x3BC49BA6#32 ((3 / 500 : ℝ) : EReal)
  ∧ IdealRules.named_const.Statement Cert.KernelIdeal.κ "milli7" .f32 0x3BE56042#32 ((7 / 1000 : ℝ) : EReal)
  ∧ IdealRules.named_const.Statement Cert.KernelIdeal.κ "milli8" .f32 0x3C03126F#32 ((1 / 125 : ℝ) : EReal)
  ∧ IdealRules.named_const.Statement Cert.KernelIdeal.κ "milli9" .f32 0x3C1374BC#32 ((9 / 1000 : ℝ) : EReal)
  ∧ IdealRules.named_const.Statement Cert.KernelIdeal.κ "tenth" .f32 0x3DCCCCCD#32 ((1 / 10 : ℝ) : EReal)

def algebraic_KernelIdeal_ReferenceIdeal_pre_plain_arguments [hKernelIdeal : Cert.KernelIdeal.Facts] [hReferenceIdeal : Cert.ReferenceIdeal.Facts] [hPre_plain_arguments : Cert.Pre_plain_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_plain_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v653) = v0 c
          ∧ r.2.mem ((c.tc : Thread Cert.ReferenceIdeal.nD Cert.ReferenceIdeal.τ).loc Cert.ReferenceIdeal.main_v656) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_plain_arguments : Cert.Pre_plain_arguments.Facts),
    quiescent_Kernel (hKernel := hKernel)
    ∧ quiescent_KernelIdeal (hKernelIdeal := hKernelIdeal)
    ∧ quiescent_KernelIdeal_pre_plain_arguments (hKernelIdeal := hKernelIdeal) (hPre_plain_arguments := hPre_plain_arguments)
    ∧ quiescent_ReferenceIdeal (hReferenceIdeal := hReferenceIdeal)
    ∧ quiescent_ReferenceIdeal_pre_plain_arguments (hReferenceIdeal := hReferenceIdeal) (hPre_plain_arguments := hPre_plain_arguments)
    ∧ preserves_Kernel_KernelIdeal
    ∧ algebraic_KernelIdeal_ReferenceIdeal_pre_plain_arguments (hKernelIdeal := hKernelIdeal) (hReferenceIdeal := hReferenceIdeal) (hPre_plain_arguments := hPre_plain_arguments)
-- ==== Pre_plain_arguments.lean ====
abbrev S16x192x2048 : Shape := ⟨3, ![16, 192, 2048]⟩
abbrev S16x1x2048 : Shape := ⟨3, ![16, 1, 2048]⟩
abbrev S256x96 : Shape := ⟨2, ![256, 96]⟩
abbrev S256 : Shape := ⟨1, ![256]⟩
abbrev S3x256x3 : Shape := ⟨3, ![3, 256, 3]⟩
abbrev S3x256 : Shape := ⟨2, ![3, 256]⟩
abbrev S3x256x256 : Shape := ⟨3, ![3, 256, 256]⟩
abbrev S2784x256 : Shape := ⟨2, ![2784, 256]⟩
abbrev S2784 : Shape := ⟨1, ![2784]⟩
abbrev S_ : Shape := ⟨0, ![]⟩

class Facts : Prop where
  bcast_S_S16x1x2048 : S_.BroadcastsInDim S16x1x2048 (![] : Fin 0 → Fin S16x1x2048.rank)
  reducesTo_S16x1x2048_S_d0_1_2 : S16x1x2048.ReducesTo [0, 1, 2] S_
  h_S_ : 0 < S_.numel
  bcast_S_S3x256 : S_.BroadcastsInDim S3x256 (![] : Fin 0 → Fin S3x256.rank)
  reducesTo_S3x256_S_d0_1 : S3x256.ReducesTo [0, 1] S_
  bcast_S_S256 : S_.BroadcastsInDim S256 (![] : Fin 0 → Fin S256.rank)
  reducesTo_S256_S_d0 : S256.ReducesTo [0] S_
  bcast_S_S2784 : S_.BroadcastsInDim S2784 (![] : Fin 0 → Fin S2784.rank)
  reducesTo_S2784_S_d0 : S2784.ReducesTo [0] S_
  bcast_S_S16x192x2048 : S_.BroadcastsInDim S16x192x2048 (![] : Fin 0 → Fin S16x192x2048.rank)
  reducesTo_S16x192x2048_S_d0_1_2 : S16x192x2048.ReducesTo [0, 1, 2] S_
  bcast_S_S256x96 : S_.BroadcastsInDim S256x96 (![] : Fin 0 → Fin S256x96.rank)
  reducesTo_S256x96_S_d0_1 : S256x96.ReducesTo [0, 1] S_
  bcast_S_S3x256x3 : S_.BroadcastsInDim S3x256x3 (![] : Fin 0 → Fin S3x256x3.rank)
  reducesTo_S3x256x3_S_d0_1_2 : S3x256x3.ReducesTo [0, 1, 2] S_
  bcast_S_S3x256x256 : S_.BroadcastsInDim S3x256x256 (![] : Fin 0 → Fin S3x256x256.rank)
  reducesTo_S3x256x256_S_d0_1_2 : S3x256x256.ReducesTo [0, 1, 2] S_
  bcast_S_S2784x256 : S_.BroadcastsInDim S2784x256 (![] : Fin 0 → Fin S2784x256.rank)
  reducesTo_S2784x256_S_d0_1 : S2784x256.ReducesTo [0, 1] S_

variable [Facts]

def fn_part3 {F : FTy → Type} [FloatOps F] (main_arg6 : FVec F S3x256x256 .f32) (main_arg12 : FVec F S2784x256 .f32) (main_v10 : IVec S_ 1) (main_v33 : IVec S_ 1) (main_v47 : IVec S_ 1) : IVec S_ 1 :=
  let main_v48 : FVec F S3x256x256 .f32 := Host.absf main_arg6
  let main_cst_22 : FVec F S_ .f32 := constant S_ .f32 0x7F800000#32
  let main_v49 : FVec F S3x256x256 .f32 := broadcastInDim S3x256x256 ![] bcast_S_S3x256x256 main_cst_22
  let main_v50 : IVec S3x256x256 1 := cmpf .olt main_v48 main_v49
  let main_c_23 : IVec S_ 1 := constantI S_ 1 1#1
  let main_v51 : IVec S_ 1 := (fun x v => Host.reduce IntOp.andi x v reducesTo_S3x256x256_S_d0_1_2 h_S_) main_v50 main_c_23
  let main_v52 : IVec S_ 1 := andi main_v47 main_v51
  let main_v53 : FVec F S2784x256 .f32 := Host.absf main_arg12
  let main_cst_24 : FVec F S_ .f32 := constant S_ .f32 0x7F800000#32
  let main_v54 : FVec F S2784x256 .f32 := broadcastInDim S2784x256 ![] bcast_S_S2784x256 main_cst_24
  let main_v55 : IVec S2784x256 1 := cmpf .olt main_v53 main_v54
  let main_c_25 : IVec S_ 1 := constantI S_ 1 1#1
  let main_v56 : IVec S_ 1 := (fun x v => Host.reduce IntOp.andi x v reducesTo_S2784x256_S_d0_1 h_S_) main_v55 main_c_25
  let main_v57 : IVec S_ 1 := andi main_v52 main_v56
  let main_v58 : IVec S_ 1 := andi main_v10 main_v33
  let main_v59 : IVec S_ 1 := andi main_v58 main_v57
  main_v59

def fn_part2 {F : FTy → Type} [FloatOps F] (main_arg0 : FVec F S16x192x2048 .f32) (main_arg2 : FVec F S256x96 .f32) (main_arg4 : FVec F S3x256x3 .f32) (main_arg6 : FVec F S3x256x256 .f32) (main_arg12 : FVec F S2784x256 .f32) (main_arg13 : FVec F S2784 .f32) (main_v10 : IVec S_ 1) (main_v29 : IVec S_ 1) (main_v30 : FVec F S2784 .f32) : IVec S_ 1 :=
  let main_v31 : IVec S2784 1 := cmpf .oeq main_arg13 main_v30
  let main_c_15 : IVec S_ 1 := constantI S_ 1 1#1
  let main_v32 : IVec S_ 1 := (fun x v => Host.reduce IntOp.andi x v reducesTo_S2784_S_d0 h_S_) main_v31 main_c_15
  let main_v33 : IVec S_ 1 := andi main_v29 main_v32
  let main_v34 : FVec F S16x192x2048 .f32 := Host.absf main_arg0
  let main_cst_16 : FVec F S_ .f32 := constant S_ .f32 0x7F800000#32
  let main_v35 : FVec F S16x192x2048 .f32 := broadcastInDim S16x192x2048 ![] bcast_S_S16x192x2048 main_cst_16
  let main_v36 : IVec S16x192x2048 1 := cmpf .olt main_v34 main_v35
  let main_c_17 : IVec S_ 1 := constantI S_ 1 1#1
  let main_v37 : IVec S_ 1 := (fun x v => Host.reduce IntOp.andi x v reducesTo_S16x192x2048_S_d0_1_2 h_S_) main_v36 main_c_17
  let main_v38 : FVec F S256x96 .f32 := Host.absf main_arg2
  let main_cst_18 : FVec F S_ .f32 := constant S_ .f32 0x7F800000#32
  let main_v39 : FVec F S256x96 .f32 := broadcastInDim S256x96 ![] bcast_S_S256x96 main_cst_18
  let main_v40 : IVec S256x96 1 := cmpf .olt main_v38 main_v39
  let main_c_19 : IVec S_ 1 := constantI S_ 1 1#1
  let main_v41 : IVec S_ 1 := (fun x v => Host.reduce IntOp.andi x v reducesTo_S256x96_S_d0_1 h_S_) main_v40 main_c_19
  let main_v42 : IVec S_ 1 := andi main_v37 main_v41
  let main_v43 : FVec F S3x256x3 .f32 := Host.absf main_arg4
  let main_cst_20 : FVec F S_ .f32 := constant S_ .f32 0x7F800000#32
  let main_v44 : FVec F S3x256x3 .f32 := broadcastInDim S3x256x3 ![] bcast_S_S3x256x3 main_cst_20
  let main_v45 : IVec S3x256x3 1 := cmpf .olt main_v43 main_v44
  let main_c_21 : IVec S_ 1 := constantI S_ 1 1#1
  let main_v46 : IVec S_ 1 := (fun x v => Host.reduce IntOp.andi x v reducesTo_S3x256x3_S_d0_1_2 h_S_) main_v45 main_c_21
  let main_v47 : IVec S_ 1 := andi main_v42 main_v46
  fn_part3 (F := F) main_arg6 main_arg12 main_v10 main_v33 main_v47

def fn_part1 {F : FTy → Type} [FloatOps F] (main_arg0 : FVec F S16x192x2048 .f32) (main_arg2 : FVec F S256x96 .f32) (main_arg4 : FVec F S3x256x3 .f32) (main_arg5 : FVec F S3x256 .f32) (main_arg6 : FVec F S3x256x256 .f32) (main_arg7 : FVec F S3x256 .f32) (main_arg9 : FVec F S3x256 .f32) (main_arg11 : FVec F S3x256 .f32) (main_arg12 : FVec F S2784x256 .f32) (main_arg13 : FVec F S2784 .f32) (main_v10 : IVec S_ 1) (main_v13 : IVec S_ 1) (main_v14 : FVec F S3x256 .f32) : IVec S_ 1 :=
  let main_v15 : IVec S3x256 1 := cmpf .oeq main_arg5 main_v14
  let main_c_7 : IVec S_ 1 := constantI S_ 1 1#1
  let main_v16 : IVec S_ 1 := (fun x v => Host.reduce IntOp.andi x v reducesTo_S3x256_S_d0_1 h_S_) main_v15 main_c_7
  let main_v17 : IVec S_ 1 := andi main_v13 main_v16
  let main_cst_8 : FVec F S_ .f32 := constant S_ .f32 0x00000000#32
  let main_v18 : FVec F S3x256 .f32 := broadcastInDim S3x256 ![] bcast_S_S3x256 main_cst_8
  let main_v19 : IVec S3x256 1 := cmpf .oeq main_arg7 main_v18
  let main_c_9 : IVec S_ 1 := constantI S_ 1 1#1
  let main_v20 : IVec S_ 1 := (fun x v => Host.reduce IntOp.andi x v reducesTo_S3x256_S_d0_1 h_S_) main_v19 main_c_9
  let main_v21 : IVec S_ 1 := andi main_v17 main_v20
  let main_cst_10 : FVec F S_ .f32 := constant S_ .f32 0x00000000#32
  let main_v22 : FVec F S3x256 .f32 := broadcastInDim S3x256 ![] bcast_S_S3x256 main_cst_10
  let main_v23 : IVec S3x256 1 := cmpf .oeq main_arg9 main_v22
  let main_c_11 : IVec S_ 1 := constantI S_ 1 1#1
  let main_v24 : IVec S_ 1 := (fun x v => Host.reduce IntOp.andi x v reducesTo_S3x256_S_d0_1 h_S_) main_v23 main_c_11
  let main_v25 : IVec S_ 1 := andi main_v21 main_v24
  let main_cst_12 : FVec F S_ .f32 := constant S_ .f32 0x00000000#32
  let main_v26 : FVec F S3x256 .f32 := broadcastInDim S3x256 ![] bcast_S_S3x256 main_cst_12
  let main_v27 : IVec S3x256 1 := cmpf .oeq main_arg11 main_v26
  let main_c_13 : IVec S_ 1 := constantI S_ 1 1#1
  let main_v28 : IVec S_ 1 := (fun x v => Host.reduce IntOp.andi x v reducesTo_S3x256_S_d0_1 h_S_) main_v27 main_c_13
  let main_v29 : IVec S_ 1 := andi main_v25 main_v28
  let main_cst_14 : FVec F S_ .f32 := constant S_ .f32 0x00000000#32
  let main_v30 : FVec F S2784 .f32 := broadcastInDim S2784 ![] bcast_S_S2784 main_cst_14
  fn_part2 (F := F) main_arg0 main_arg2 main_arg4 main_arg6 main_arg12 main_arg13 main_v10 main_v29 main_v30

def fn {F : FTy → Type} [FloatOps F] (main_arg0 : FVec F S16x192x2048 .f32) (main_arg1 : FVec F S16x1x2048 .f32) (main_arg2 : FVec F S256x96 .f32) (main_arg3 : FVec F S256 .f32) (main_arg4 : FVec F S3x256x3 .f32) (main_arg5 : FVec F S3x256 .f32) (main_arg6 : FVec F S3x256x256 .f32) (main_arg7 : FVec F S3x256 .f32) (main_arg8 : FVec F S3x256 .f32) (main_arg9 : FVec F S3x256 .f32) (main_arg10 : FVec F S3x256 .f32) (main_arg11 : FVec F S3x256 .f32) (main_arg12 : FVec F S2784x256 .f32) (main_arg13 : FVec F S2784 .f32) : IVec S_ 1 :=
  let main_cst : FVec F S_ .f32 := constant S_ .f32 0x3F800000#32
  let main_v0 : FVec F S16x1x2048 .f32 := broadcastInDim S16x1x2048 ![] bcast_S_S16x1x2048 main_cst
  let main_v1 : IVec S16x1x2048 1 := cmpf .oeq main_arg1 main_v0
  let main_c : IVec S_ 1 := constantI S_ 1 1#1
  let main_v2 : IVec S_ 1 := (fun x v => Host.reduce IntOp.andi x v reducesTo_S16x1x2048_S_d0_1_2 h_S_) main_v1 main_c
  let main_cst_0 : FVec F S_ .f32 := constant S_ .f32 0x3F800000#32
  let main_v3 : FVec F S3x256 .f32 := broadcastInDim S3x256 ![] bcast_S_S3x256 main_cst_0
  let main_v4 : IVec S3x256 1 := cmpf .oeq main_arg8 main_v3
  let main_c_1 : IVec S_ 1 := constantI S_ 1 1#1
  let main_v5 : IVec S_ 1 := (fun x v => Host.reduce IntOp.andi x v reducesTo_S3x256_S_d0_1 h_S_) main_v4 main_c_1
  let main_v6 : IVec S_ 1 := andi main_v2 main_v5
  let main_cst_2 : FVec F S_ .f32 := constant S_ .f32 0x3F800000#32
  let main_v7 : FVec F S3x256 .f32 := broadcastInDim S3x256 ![] bcast_S_S3x256 main_cst_2
  let main_v8 : IVec S3x256 1 := cmpf .oeq main_arg10 main_v7
  let main_c_3 : IVec S_ 1 := constantI S_ 1 1#1
  let main_v9 : IVec S_ 1 := (fun x v => Host.reduce IntOp.andi x v reducesTo_S3x256_S_d0_1 h_S_) main_v8 main_c_3
  let main_v10 : IVec S_ 1 := andi main_v6 main_v9
  let main_cst_4 : FVec F S_ .f32 := constant S_ .f32 0x00000000#32
  let main_v11 : FVec F S256 .f32 := broadcastInDim S256 ![] bcast_S_S256 main_cst_4
  let main_v12 : IVec S256 1 := cmpf .oeq main_arg3 main_v11
  let main_c_5 : IVec S_ 1 := constantI S_ 1 1#1
  let main_v13 : IVec S_ 1 := (fun x v => Host.reduce IntOp.andi x v reducesTo_S256_S_d0 h_S_) main_v12 main_c_5
  let main_cst_6 : FVec F S_ .f32 := constant S_ .f32 0x00000000#32
  let main_v14 : FVec F S3x256 .f32 := broadcastInDim S3x256 ![] bcast_S_S3x256 main_cst_6
  fn_part1 (F := F) main_arg0 main_arg2 main_arg4 main_arg5 main_arg6 main_arg7 main_arg9 main_arg11 main_arg12 main_arg13 main_v10 main_v13 main_v14
-- ==== Kernel.lean ====
abbrev S16x192x2048 : Shape := ⟨3, ![16, 192, 2048]⟩
abbrev S16x1x2048 : Shape := ⟨3, ![16, 1, 2048]⟩
abbrev S256x96 : Shape := ⟨2, ![256, 96]⟩
abbrev S256 : Shape := ⟨1, ![256]⟩
abbrev S3x256x3 : Shape := ⟨3, ![3, 256, 3]⟩
abbrev S3x256 : Shape := ⟨2, ![3, 256]⟩
abbrev S3x256x256 : Shape := ⟨3, ![3, 256, 256]⟩
abbrev S2784x256 : Shape := ⟨2, ![2784, 256]⟩
abbrev S2784 : Shape := ⟨1, ![2784]⟩
abbrev S3x3x256 : Shape := ⟨3, ![3, 3, 256]⟩
abbrev S3x3x256x1 : Shape := ⟨4, ![3, 3, 256, 1]⟩
abbrev S3x3x256x128 : Shape := ⟨4, ![3, 3, 256, 128]⟩
abbrev S96x29x256 : Shape := ⟨3, ![96, 29, 256]⟩
abbrev S29x96x256 : Shape := ⟨3, ![29, 96, 256]⟩
abbrev S10x96x256 : Shape := ⟨3, ![10, 96, 256]⟩
abbrev S_ : Shape := ⟨0, ![]⟩
abbrev S9x96x256 : Shape := ⟨3, ![9, 96, 256]⟩
abbrev S16x256x2048 : Shape := ⟨3, ![16, 256, 2048]⟩
abbrev S1x96x2048 : Shape := ⟨3, ![1, 96, 2048]⟩
abbrev S1x256x2048 : Shape := ⟨3, ![1, 256, 2048]⟩
abbrev S256x2048 : Shape := ⟨2, ![256, 2048]⟩
abbrev S1x96x1024 : Shape := ⟨3, ![1, 96, 1024]⟩
abbrev S96x1024 : Shape := ⟨2, ![96, 1024]⟩
abbrev S256x1024 : Shape := ⟨2, ![256, 1024]⟩
abbrev S1x1x256x128 : Shape := ⟨4, ![1, 1, 256, 128]⟩
abbrev S256x128 : Shape := ⟨2, ![256, 128]⟩
abbrev S256x1152 : Shape := ⟨2, ![256, 1152]⟩
abbrev S256x1280 : Shape := ⟨2, ![256, 1280]⟩
abbrev S1024 : Shape := ⟨1, ![1024]⟩
abbrev S1x1024 : Shape := ⟨2, ![1, 1024]⟩
abbrev S1x256x256 : Shape := ⟨3, ![1, 256, 256]⟩
abbrev S256x256 : Shape := ⟨2, ![256, 256]⟩
abbrev S16x1x1 : Shape := ⟨3, ![16, 1, 1]⟩
abbrev S1x192x1024 : Shape := ⟨3, ![1, 192, 1024]⟩
abbrev S1x256x1024 : Shape := ⟨3, ![1, 256, 1024]⟩
abbrev S1x1x1 : Shape := ⟨3, ![1, 1, 1]⟩
abbrev S10x96x1024 : Shape := ⟨3, ![10, 96, 1024]⟩
abbrev S9x96x1024 : Shape := ⟨3, ![9, 96, 1024]⟩
abbrev S1x96x256 : Shape := ⟨3, ![1, 96, 256]⟩
abbrev S96x256 : Shape := ⟨2, ![96, 256]⟩
abbrev S1 : Shape := ⟨1, ![1]⟩
abbrev S1x1 : Shape := ⟨2, ![1, 1]⟩
abbrev S16 : Shape := ⟨1, ![16]⟩

abbrev nBuf : Space → Nat
  | .hbm => 32
  | .vmem => 22
  | .smem => 0
  | _ => 0

abbrev bufTy : (tb : Table) → Fin (tcTables nBuf tb) → BufTy
  | .hbm, ⟨0, _⟩ => ⟨S16x192x2048, .f32⟩
  | .hbm, ⟨1, _⟩ => ⟨S16x1x2048, .f32⟩
  | .hbm, ⟨2, _⟩ => ⟨S256x96, .f32⟩
  | .hbm, ⟨3, _⟩ => ⟨S256, .f32⟩
  | .hbm, ⟨4, _⟩ => ⟨S3x256x3, .f32⟩
  | .hbm, ⟨5, _⟩ => ⟨S3x256, .f32⟩
  | .hbm, ⟨6, _⟩ => ⟨S3x256x256, .f32⟩
  | .hbm, ⟨7, _⟩ => ⟨S3x256, .f32⟩
  | .hbm, ⟨8, _⟩ => ⟨S3x256, .f32⟩
  | .hbm, ⟨9, _⟩ => ⟨S3x256, .f32⟩
  | .hbm, ⟨10, _⟩ => ⟨S3x256, .f32⟩
  | .hbm, ⟨11, _⟩ => ⟨S3x256, .f32⟩
  | .hbm, ⟨12, _⟩ => ⟨S2784x256, .f32⟩
  | .hbm, ⟨13, _⟩ => ⟨S2784, .f32⟩
  | .hbm, ⟨14, _⟩ => ⟨S3x3x256, .f32⟩
  | .hbm, ⟨15, _⟩ => ⟨S3x3x256x1, .f32⟩
  | .hbm, ⟨16, _⟩ => ⟨S3x3x256x128, .f32⟩
  | .hbm, ⟨17, _⟩ => ⟨S96x29x256, .f32⟩
  | .hbm, ⟨18, _⟩ => ⟨S29x96x256, .f32⟩
  | .hbm, ⟨19, _⟩ => ⟨S10x96x256, .f32⟩
  | .hbm, ⟨20, _⟩ => ⟨S_, .f32⟩
  | .hbm, ⟨21, _⟩ => ⟨S10x96x256, .f32⟩
  | .hbm, ⟨22, _⟩ => ⟨S10x96x256, .f32⟩
  | .hbm, ⟨23, _⟩ => ⟨S10x96x256, .f32⟩
  | .hbm, ⟨24, _⟩ => ⟨S_, .f32⟩
  | .hbm, ⟨25, _⟩ => ⟨S10x96x256, .f32⟩
  | .hbm, ⟨26, _⟩ => ⟨S10x96x256, .f32⟩
  | .hbm, ⟨27, _⟩ => ⟨S9x96x256, .f32⟩
  | .hbm, ⟨28, _⟩ => ⟨S16x256x2048, .f32⟩
  | .hbm, ⟨29, _⟩ => ⟨S16x192x2048, .f32⟩
  | .hbm, ⟨30, _⟩ => ⟨S16x1x1, .f32⟩
  | .hbm, ⟨31, _⟩ => ⟨S16, .f32⟩
  | .local _ .vmem, ⟨0, _⟩ => ⟨S1x96x2048, .f32⟩
  | .local _ .vmem, ⟨1, _⟩ => ⟨S1x96x2048, .f32⟩
  | .local _ .vmem, ⟨2, _⟩ => ⟨S256x96, .f32⟩
  | .local _ .vmem, ⟨3, _⟩ => ⟨S3x3x256x128, .f32⟩
  | .local _ .vmem, ⟨4, _⟩ => ⟨S3x256x256, .f32⟩
  | .local _ .vmem, ⟨5, _⟩ => ⟨S1x256x2048, .f32⟩
  | .local _ .vmem, ⟨6, _⟩ => ⟨S1x256x2048, .f32⟩
  | .local _ .vmem, ⟨7, _⟩ => ⟨S256x2048, .f32⟩
  | .local _ .vmem, ⟨8, _⟩ => ⟨S1x192x1024, .f32⟩
  | .local _ .vmem, ⟨9, _⟩ => ⟨S1x192x1024, .f32⟩
  | .local _ .vmem, ⟨10, _⟩ => ⟨S1x256x1024, .f32⟩
  | .local _ .vmem, ⟨11, _⟩ => ⟨S1x256x1024, .f32⟩
  | .local _ .vmem, ⟨12, _⟩ => ⟨S10x96x256, .f32⟩
  | .local _ .vmem, ⟨13, _⟩ => ⟨S10x96x256, .f32⟩
  | .local _ .vmem, ⟨14, _⟩ => ⟨S9x96x256, .f32⟩
  | .local _ .vmem, ⟨15, _⟩ => ⟨S1x192x1024, .f32⟩
  | .local _ .vmem, ⟨16, _⟩ => ⟨S1x192x1024, .f32⟩
  | .local _ .vmem, ⟨17, _⟩ => ⟨S1x1x1, .f32⟩
  | .local _ .vmem, ⟨18, _⟩ => ⟨S1x1x1, .f32⟩
  | .local _ .vmem, ⟨19, _⟩ => ⟨S10x96x1024, .f32⟩
  | .local _ .vmem, ⟨20, _⟩ => ⟨S10x96x1024, .f32⟩
  | .local _ .vmem, ⟨21, _⟩ => ⟨S9x96x1024, .f32⟩
  | _, _ => ⟨S16x192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13_0 : Ref sig .tc := ⟨.hbm, 29, rfl⟩
abbrev main_v13_1 : Ref sig .tc := ⟨.hbm, 30, rfl⟩
abbrev main_v14 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x96x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x3x256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![16, 2], ![false, false]⟩

def k1_cond1 (i : grid1.Coords) : BitVec 1 :=
  let arg1 : BitVec 32 := BitVec.ofNat 32 (i 1).val
  let c0_i32 : BitVec 32 := 0#32
  let v683 : BitVec 1 := Scalar.cmpi .eq arg1 c0_i32
  let v684 : BitVec 32 := Scalar.extui v683
  let c0_i32_563 : BitVec 32 := 0#32
  let v685 : BitVec 1 := Scalar.cmpi .ne v684 c0_i32_563
  v685

def k1_cond2 (i : grid1.Coords) : BitVec 1 :=
  let arg1 : BitVec 32 := BitVec.ofNat 32 (i 1).val
  let c0_i32_564 : BitVec 32 := 0#32
  let v686 : BitVec 1 := Scalar.cmpi .ne arg1 c0_i32_564
  let v687 : BitVec 32 := Scalar.extui v686
  let c0_i32_565 : BitVec 32 := 0#32
  let v688 : BitVec 1 := Scalar.cmpi .ne v687 c0_i32_565
  v688

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x192x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S10x96x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S10x96x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S9x96x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x192x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]
-- ==== KernelIdeal.lean ====
variable {F : FTy → Type} [FloatOps F] [Named F]
def κ : String → Option EReal := fun
  | "milli1" => some ((1 / 1000 : ℝ) : EReal)
  | "milli2" => some ((1 / 500 : ℝ) : EReal)
  | "milli3" => some ((3 / 1000 : ℝ) : EReal)
  | "milli4" => some ((1 / 250 : ℝ) : EReal)
  | "milli5" => some ((1 / 200 : ℝ) : EReal)
  | "milli6" => some ((3 / 500 : ℝ) : EReal)
  | "milli7" => some ((7 / 1000 : ℝ) : EReal)
  | "milli8" => some ((1 / 125 : ℝ) : EReal)
  | "milli9" => some ((9 / 1000 : ℝ) : EReal)
  | "share" => some ((99 / 100 : ℝ) : EReal)
  | "tenth" => some ((1 / 10 : ℝ) : EReal)
  | _ => none
-- ==== ReferenceIdeal.lean ====
abbrev S16x192x2048 : Shape := ⟨3, ![16, 192, 2048]⟩
abbrev S16x1x2048 : Shape := ⟨3, ![16, 1, 2048]⟩
abbrev S256x96 : Shape := ⟨2, ![256, 96]⟩
abbrev S256 : Shape := ⟨1, ![256]⟩
abbrev S3x256x3 : Shape := ⟨3, ![3, 256, 3]⟩
abbrev S3x256 : Shape := ⟨2, ![3, 256]⟩
abbrev S3x256x256 : Shape := ⟨3, ![3, 256, 256]⟩
abbrev S2784x256 : Shape := ⟨2, ![2784, 256]⟩
abbrev S2784 : Shape := ⟨1, ![2784]⟩
abbrev S16x96x2048 : Shape := ⟨3, ![16, 96, 2048]⟩
abbrev S16x2048x256 : Shape := ⟨3, ![16, 2048, 256]⟩
abbrev S16x256x2048 : Shape := ⟨3, ![16, 256, 2048]⟩
abbrev S1x256x1 : Shape := ⟨3, ![1, 256, 1]⟩
abbrev S1x256x3 : Shape := ⟨3, ![1, 256, 3]⟩
abbrev S256x3 : Shape := ⟨2, ![256, 3]⟩
abbrev S1x256 : Shape := ⟨2, ![1, 256]⟩
abbrev S_ : Shape := ⟨0, ![]⟩
abbrev S16x256x2050 : Shape := ⟨3, ![16, 256, 2050]⟩
abbrev S256x1 : Shape := ⟨2, ![256, 1]⟩
abbrev S16x2048 : Shape := ⟨2, ![16, 2048]⟩
abbrev S1x256x256 : Shape := ⟨3, ![1, 256, 256]⟩
abbrev S256x256 : Shape := ⟨2, ![256, 256]⟩
abbrev S16x256x2054 : Shape := ⟨3, ![16, 256, 2054]⟩
abbrev S16x256x2066 : Shape := ⟨3, ![16, 256, 2066]⟩
abbrev S16x2048x2784 : Shape := ⟨3, ![16, 2048, 2784]⟩
abbrev S16x2784x2048 : Shape := ⟨3, ![16, 2784, 2048]⟩
abbrev S1x2784x1 : Shape := ⟨3, ![1, 2784, 1]⟩
abbrev S16x96x29x2048 : Shape := ⟨4, ![16, 96, 29, 2048]⟩
abbrev S16x96x2048x29 : Shape := ⟨4, ![16, 96, 2048, 29]⟩
abbrev S16x96x2048x10 : Shape := ⟨4, ![16, 96, 2048, 10]⟩
abbrev S16x96x2048x9 : Shape := ⟨4, ![16, 96, 2048, 9]⟩
abbrev S16x96x2048x11 : Shape := ⟨4, ![16, 96, 2048, 11]⟩
abbrev S16x96x2048x1 : Shape := ⟨4, ![16, 96, 2048, 1]⟩
abbrev S16x96x2048x2 : Shape := ⟨4, ![16, 96, 2048, 2]⟩
abbrev S16x96x2048x3 : Shape := ⟨4, ![16, 96, 2048, 3]⟩
abbrev S16x96x2048x4 : Shape := ⟨4, ![16, 96, 2048, 4]⟩
abbrev S16x96x2048x5 : Shape := ⟨4, ![16, 96, 2048, 5]⟩
abbrev S16x96x2048x6 : Shape := ⟨4, ![16, 96, 2048, 6]⟩
abbrev S16x96x2048x7 : Shape := ⟨4, ![16, 96, 2048, 7]⟩
abbrev S16x96x2048x8 : Shape := ⟨4, ![16, 96, 2048, 8]⟩
abbrev S11 : Shape := ⟨1, ![11]⟩
abbrev S1x1x1x11 : Shape := ⟨4, ![1, 1, 1, 11]⟩
abbrev S10 : Shape := ⟨1, ![10]⟩
abbrev S1x1x1x10 : Shape := ⟨4, ![1, 1, 1, 10]⟩
abbrev S16 : Shape := ⟨1, ![16]⟩

abbrev nBuf : Space → Nat
  | .hbm => 865
  | .vmem => 0
  | .smem => 0
  | _ => 0

abbrev hbmTy0_0 (i : Nat) : BufTy := match i % 128 with
  | 0 => ⟨S16x192x2048, .f32⟩
  | 1 => ⟨S16x1x2048, .f32⟩
  | 2 => ⟨S256x96, .f32⟩
  | 3 => ⟨S256, .f32⟩
  | 4 => ⟨S3x256x3, .f32⟩
  | 5 => ⟨S3x256, .f32⟩
  | 6 => ⟨S3x256x256, .f32⟩
  | 7 => ⟨S3x256, .f32⟩
  | 8 => ⟨S3x256, .f32⟩
  | 9 => ⟨S3x256, .f32⟩
  | 10 => ⟨S3x256, .f32⟩
  | 11 => ⟨S3x256, .f32⟩
  | 12 => ⟨S2784x256, .f32⟩
  | 13 => ⟨S2784, .f32⟩
  | 14 => ⟨S16x96x2048, .f32⟩
  | 15 => ⟨S16x96x2048, .f32⟩
  | 16 => ⟨S16x2048x256, .f32⟩
  | 17 => ⟨S16x256x2048, .f32⟩
  | 18 => ⟨S1x256x1, .f32⟩
  | 19 => ⟨S16x256x2048, .f32⟩
  | 20 => ⟨S16x256x2048, .f32⟩
  | 21 => ⟨S16x256x2048, .f32⟩
  | 22 => ⟨S16x256x2048, .f32⟩
  | 23 => ⟨S1x256x3, .f32⟩
  | 24 => ⟨S256x3, .f32⟩
  | 25 => ⟨S1x256, .f32⟩
  | 26 => ⟨S256, .f32⟩
  | 27 => ⟨S_, .i32⟩
  | 28 => ⟨S_, .f32⟩
  | 29 => ⟨S16x256x2050, .f32⟩
  | 30 => ⟨S256x1, .f32⟩
  | 31 => ⟨S256, .f32⟩
  | 32 => ⟨S1x256x1, .f32⟩
  | 33 => ⟨S16x256x2048, .f32⟩
  | 34 => ⟨S16x256x2048, .f32⟩
  | 35 => ⟨S16x256x2048, .f32⟩
  | 36 => ⟨S_, .f32⟩
  | 37 => ⟨S16x256x2048, .f32⟩
  | 38 => ⟨S16x256x2048, .f32⟩
  | 39 => ⟨S256x1, .f32⟩
  | 40 => ⟨S256, .f32⟩
  | 41 => ⟨S1x256x1, .f32⟩
  | 42 => ⟨S16x256x2048, .f32⟩
  | 43 => ⟨S16x256x2048, .f32⟩
  | 44 => ⟨S16x256x2048, .f32⟩
  | 45 => ⟨S16x256x2048, .f32⟩
  | 46 => ⟨S256x1, .f32⟩
  | 47 => ⟨S256, .f32⟩
  | 48 => ⟨S1x256x1, .f32⟩
  | 49 => ⟨S16x256x2048, .f32⟩
  | 50 => ⟨S16x256x2048, .f32⟩
  | 51 => ⟨S16x256x2048, .f32⟩
  | 52 => ⟨S16x256x2048, .f32⟩
  | 53 => ⟨S1x256x1, .f32⟩
  | 54 => ⟨S16x256x2048, .f32⟩
  | 55 => ⟨S16x256x2048, .f32⟩
  | 56 => ⟨S1x256, .f32⟩
  | 57 => ⟨S256, .f32⟩
  | 58 => ⟨S1x256, .f32⟩
  | 59 => ⟨S256, .f32⟩
  | 60 => ⟨S_, .f32⟩
  | 61 => ⟨S16x2048, .f32⟩
  | 62 => ⟨S16x1x2048, .f32⟩
  | 63 => ⟨S_, .f32⟩
  | 64 => ⟨S16x1x2048, .f32⟩
  | 65 => ⟨S16x1x2048, .f32⟩
  | 66 => ⟨S16x256x2048, .f32⟩
  | 67 => ⟨S16x256x2048, .f32⟩
  | 68 => ⟨S16x256x2048, .f32⟩
  | 69 => ⟨S_, .f32⟩
  | 70 => ⟨S16x2048, .f32⟩
  | 71 => ⟨S16x1x2048, .f32⟩
  | 72 => ⟨S_, .f32⟩
  | 73 => ⟨S16x1x2048, .f32⟩
  | 74 => ⟨S16x1x2048, .f32⟩
  | 75 => ⟨S16x256x2048, .f32⟩
  | 76 => ⟨S16x256x2048, .f32⟩
  | 77 => ⟨S_, .f32⟩
  | 78 => ⟨S16x1x2048, .f32⟩
  | 79 => ⟨S16x1x2048, .f32⟩
  | 80 => ⟨S16x1x2048, .f32⟩
  | 81 => ⟨S16x256x2048, .f32⟩
  | 82 => ⟨S16x256x2048, .f32⟩
  | 83 => ⟨S1x256x1, .f32⟩
  | 84 => ⟨S16x256x2048, .f32⟩
  | 85 => ⟨S16x256x2048, .f32⟩
  | 86 => ⟨S1x256x1, .f32⟩
  | 87 => ⟨S16x256x2048, .f32⟩
  | 88 => ⟨S16x256x2048, .f32⟩
  | 89 => ⟨S_, .f32⟩
  | 90 => ⟨S16x256x2048, .f32⟩
  | 91 => ⟨S16x256x2048, .f32⟩
  | 92 => ⟨S_, .f32⟩
  | 93 => ⟨S16x256x2048, .f32⟩
  | 94 => ⟨S16x256x2048, .f32⟩
  | 95 => ⟨S16x256x2048, .f32⟩
  | 96 => ⟨S_, .f32⟩
  | 97 => ⟨S16x256x2048, .f32⟩
  | 98 => ⟨S16x256x2048, .f32⟩
  | 99 => ⟨S16x256x2048, .f32⟩
  | 100 => ⟨S1x256x256, .f32⟩
  | 101 => ⟨S256x256, .f32⟩
  | 102 => ⟨S16x2048x256, .f32⟩
  | 103 => ⟨S16x256x2048, .f32⟩
  | 104 => ⟨S1x256, .f32⟩
  | 105 => ⟨S256, .f32⟩
  | 106 => ⟨S1x256x1, .f32⟩
  | 107 => ⟨S16x256x2048, .f32⟩
  | 108 => ⟨S16x256x2048, .f32⟩
  | 109 => ⟨S1x256, .f32⟩
  | 110 => ⟨S256, .f32⟩
  | 111 => ⟨S1x256, .f32⟩
  | 112 => ⟨S256, .f32⟩
  | 113 => ⟨S_, .f32⟩
  | 114 => ⟨S16x2048, .f32⟩
  | 115 => ⟨S16x1x2048, .f32⟩
  | 116 => ⟨S_, .f32⟩
  | 117 => ⟨S16x1x2048, .f32⟩
  | 118 => ⟨S16x1x2048, .f32⟩
  | 119 => ⟨S16x256x2048, .f32⟩
  | 120 => ⟨S16x256x2048, .f32⟩
  | 121 => ⟨S16x256x2048, .f32⟩
  | 122 => ⟨S_, .f32⟩
  | 123 => ⟨S16x2048, .f32⟩
  | 124 => ⟨S16x1x2048, .f32⟩
  | 125 => ⟨S_, .f32⟩
  | 126 => ⟨S16x1x2048, .f32⟩
  | 127 => ⟨S16x1x2048, .f32⟩
  | _ => ⟨S16x192x2048, .f32⟩

abbrev hbmTy0_1 (i : Nat) : BufTy := match i % 128 with
  | 0 => ⟨S16x256x2048, .f32⟩
  | 1 => ⟨S16x256x2048, .f32⟩
  | 2 => ⟨S_, .f32⟩
  | 3 => ⟨S16x1x2048, .f32⟩
  | 4 => ⟨S16x1x2048, .f32⟩
  | 5 => ⟨S16x1x2048, .f32⟩
  | 6 => ⟨S16x256x2048, .f32⟩
  | 7 => ⟨S16x256x2048, .f32⟩
  | 8 => ⟨S1x256x1, .f32⟩
  | 9 => ⟨S16x256x2048, .f32⟩
  | 10 => ⟨S16x256x2048, .f32⟩
  | 11 => ⟨S1x256x1, .f32⟩
  | 12 => ⟨S16x256x2048, .f32⟩
  | 13 => ⟨S16x256x2048, .f32⟩
  | 14 => ⟨S_, .f32⟩
  | 15 => ⟨S16x256x2048, .f32⟩
  | 16 => ⟨S16x256x2048, .f32⟩
  | 17 => ⟨S_, .f32⟩
  | 18 => ⟨S16x256x2048, .f32⟩
  | 19 => ⟨S16x256x2048, .f32⟩
  | 20 => ⟨S16x256x2048, .f32⟩
  | 21 => ⟨S_, .f32⟩
  | 22 => ⟨S16x256x2048, .f32⟩
  | 23 => ⟨S16x256x2048, .f32⟩
  | 24 => ⟨S16x256x2048, .f32⟩
  | 25 => ⟨S16x256x2048, .f32⟩
  | 26 => ⟨S16x256x2048, .f32⟩
  | 27 => ⟨S16x256x2048, .f32⟩
  | 28 => ⟨S1x256x3, .f32⟩
  | 29 => ⟨S256x3, .f32⟩
  | 30 => ⟨S1x256, .f32⟩
  | 31 => ⟨S256, .f32⟩
  | 32 => ⟨S_, .i32⟩
  | 33 => ⟨S_, .f32⟩
  | 34 => ⟨S16x256x2054, .f32⟩
  | 35 => ⟨S256x1, .f32⟩
  | 36 => ⟨S256, .f32⟩
  | 37 => ⟨S1x256x1, .f32⟩
  | 38 => ⟨S16x256x2048, .f32⟩
  | 39 => ⟨S16x256x2048, .f32⟩
  | 40 => ⟨S16x256x2048, .f32⟩
  | 41 => ⟨S_, .f32⟩
  | 42 => ⟨S16x256x2048, .f32⟩
  | 43 => ⟨S16x256x2048, .f32⟩
  | 44 => ⟨S256x1, .f32⟩
  | 45 => ⟨S256, .f32⟩
  | 46 => ⟨S1x256x1, .f32⟩
  | 47 => ⟨S16x256x2048, .f32⟩
  | 48 => ⟨S16x256x2048, .f32⟩
  | 49 => ⟨S16x256x2048, .f32⟩
  | 50 => ⟨S16x256x2048, .f32⟩
  | 51 => ⟨S256x1, .f32⟩
  | 52 => ⟨S256, .f32⟩
  | 53 => ⟨S1x256x1, .f32⟩
  | 54 => ⟨S16x256x2048, .f32⟩
  | 55 => ⟨S16x256x2048, .f32⟩
  | 56 => ⟨S16x256x2048, .f32⟩
  | 57 => ⟨S16x256x2048, .f32⟩
  | 58 => ⟨S1x256x1, .f32⟩
  | 59 => ⟨S16x256x2048, .f32⟩
  | 60 => ⟨S16x256x2048, .f32⟩
  | 61 => ⟨S1x256, .f32⟩
  | 62 => ⟨S256, .f32⟩
  | 63 => ⟨S1x256, .f32⟩
  | 64 => ⟨S256, .f32⟩
  | 65 => ⟨S_, .f32⟩
  | 66 => ⟨S16x2048, .f32⟩
  | 67 => ⟨S16x1x2048, .f32⟩
  | 68 => ⟨S_, .f32⟩
  | 69 => ⟨S16x1x2048, .f32⟩
  | 70 => ⟨S16x1x2048, .f32⟩
  | 71 => ⟨S16x256x2048, .f32⟩
  | 72 => ⟨S16x256x2048, .f32⟩
  | 73 => ⟨S16x256x2048, .f32⟩
  | 74 => ⟨S_, .f32⟩
  | 75 => ⟨S16x2048, .f32⟩
  | 76 => ⟨S16x1x2048, .f32⟩
  | 77 => ⟨S_, .f32⟩
  | 78 => ⟨S16x1x2048, .f32⟩
  | 79 => ⟨S16x1x2048, .f32⟩
  | 80 => ⟨S16x256x2048, .f32⟩
  | 81 => ⟨S16x256x2048, .f32⟩
  | 82 => ⟨S_, .f32⟩
  | 83 => ⟨S16x1x2048, .f32⟩
  | 84 => ⟨S16x1x2048, .f32⟩
  | 85 => ⟨S16x1x2048, .f32⟩
  | 86 => ⟨S16x256x2048, .f32⟩
  | 87 => ⟨S16x256x2048, .f32⟩
  | 88 => ⟨S1x256x1, .f32⟩
  | 89 => ⟨S16x256x2048, .f32⟩
  | 90 => ⟨S16x256x2048, .f32⟩
  | 91 => ⟨S1x256x1, .f32⟩
  | 92 => ⟨S16x256x2048, .f32⟩
  | 93 => ⟨S16x256x2048, .f32⟩
  | 94 => ⟨S_, .f32⟩
  | 95 => ⟨S16x256x2048, .f32⟩
  | 96 => ⟨S16x256x2048, .f32⟩
  | 97 => ⟨S_, .f32⟩
  | 98 => ⟨S16x256x2048, .f32⟩
  | 99 => ⟨S16x256x2048, .f32⟩
  | 100 => ⟨S16x256x2048, .f32⟩
  | 101 => ⟨S_, .f32⟩
  | 102 => ⟨S16x256x2048, .f32⟩
  | 103 => ⟨S16x256x2048, .f32⟩
  | 104 => ⟨S16x256x2048, .f32⟩
  | 105 => ⟨S1x256x256, .f32⟩
  | 106 => ⟨S256x256, .f32⟩
  | 107 => ⟨S16x2048x256, .f32⟩
  | 108 => ⟨S16x256x2048, .f32⟩
  | 109 => ⟨S1x256, .f32⟩
  | 110 => ⟨S256, .f32⟩
  | 111 => ⟨S1x256x1, .f32⟩
  | 112 => ⟨S16x256x2048, .f32⟩
  | 113 => ⟨S16x256x2048, .f32⟩
  | 114 => ⟨S1x256, .f32⟩
  | 115 => ⟨S256, .f32⟩
  | 116 => ⟨S1x256, .f32⟩
  | 117 => ⟨S256, .f32⟩
  | 118 => ⟨S_, .f32⟩
  | 119 => ⟨S16x2048, .f32⟩
  | 120 => ⟨S16x1x2048, .f32⟩
  | 121 => ⟨S_, .f32⟩
  | 122 => ⟨S16x1x2048, .f32⟩
  | 123 => ⟨S16x1x2048, .f32⟩
  | 124 => ⟨S16x256x2048, .f32⟩
  | 125 => ⟨S16x256x2048, .f32⟩
  | 126 => ⟨S16x256x2048, .f32⟩
  | 127 => ⟨S_, .f32⟩
  | _ => ⟨S16x192x2048, .f32⟩

abbrev hbmTy0_2 (i : Nat) : BufTy := match i % 128 with
  | 0 => ⟨S16x2048, .f32⟩
  | 1 => ⟨S16x1x2048, .f32⟩
  | 2 => ⟨S_, .f32⟩
  | 3 => ⟨S16x1x2048, .f32⟩
  | 4 => ⟨S16x1x2048, .f32⟩
  | 5 => ⟨S16x256x2048, .f32⟩
  | 6 => ⟨S16x256x2048, .f32⟩
  | 7 => ⟨S_, .f32⟩
  | 8 => ⟨S16x1x2048, .f32⟩
  | 9 => ⟨S16x1x2048, .f32⟩
  | 10 => ⟨S16x1x2048, .f32⟩
  | 11 => ⟨S16x256x2048, .f32⟩
  | 12 => ⟨S16x256x2048, .f32⟩
  | 13 => ⟨S1x256x1, .f32⟩
  | 14 => ⟨S16x256x2048, .f32⟩
  | 15 => ⟨S16x256x2048, .f32⟩
  | 16 => ⟨S1x256x1, .f32⟩
  | 17 => ⟨S16x256x2048, .f32⟩
  | 18 => ⟨S16x256x2048, .f32⟩
  | 19 => ⟨S_, .f32⟩
  | 20 => ⟨S16x256x2048, .f32⟩
  | 21 => ⟨S16x256x2048, .f32⟩
  | 22 => ⟨S_, .f32⟩
  | 23 => ⟨S16x256x2048, .f32⟩
  | 24 => ⟨S16x256x2048, .f32⟩
  | 25 => ⟨S16x256x2048, .f32⟩
  | 26 => ⟨S_, .f32⟩
  | 27 => ⟨S16x256x2048, .f32⟩
  | 28 => ⟨S16x256x2048, .f32⟩
  | 29 => ⟨S16x256x2048, .f32⟩
  | 30 => ⟨S16x256x2048, .f32⟩
  | 31 => ⟨S16x256x2048, .f32⟩
  | 32 => ⟨S16x256x2048, .f32⟩
  | 33 => ⟨S1x256x3, .f32⟩
  | 34 => ⟨S256x3, .f32⟩
  | 35 => ⟨S1x256, .f32⟩
  | 36 => ⟨S256, .f32⟩
  | 37 => ⟨S_, .i32⟩
  | 38 => ⟨S_, .f32⟩
  | 39 => ⟨S16x256x2066, .f32⟩
  | 40 => ⟨S256x1, .f32⟩
  | 41 => ⟨S256, .f32⟩
  | 42 => ⟨S1x256x1, .f32⟩
  | 43 => ⟨S16x256x2048, .f32⟩
  | 44 => ⟨S16x256x2048, .f32⟩
  | 45 => ⟨S16x256x2048, .f32⟩
  | 46 => ⟨S_, .f32⟩
  | 47 => ⟨S16x256x2048, .f32⟩
  | 48 => ⟨S16x256x2048, .f32⟩
  | 49 => ⟨S256x1, .f32⟩
  | 50 => ⟨S256, .f32⟩
  | 51 => ⟨S1x256x1, .f32⟩
  | 52 => ⟨S16x256x2048, .f32⟩
  | 53 => ⟨S16x256x2048, .f32⟩
  | 54 => ⟨S16x256x2048, .f32⟩
  | 55 => ⟨S16x256x2048, .f32⟩
  | 56 => ⟨S256x1, .f32⟩
  | 57 => ⟨S256, .f32⟩
  | 58 => ⟨S1x256x1, .f32⟩
  | 59 => ⟨S16x256x2048, .f32⟩
  | 60 => ⟨S16x256x2048, .f32⟩
  | 61 => ⟨S16x256x2048, .f32⟩
  | 62 => ⟨S16x256x2048, .f32⟩
  | 63 => ⟨S1x256x1, .f32⟩
  | 64 => ⟨S16x256x2048, .f32⟩
  | 65 => ⟨S16x256x2048, .f32⟩
  | 66 => ⟨S1x256, .f32⟩
  | 67 => ⟨S256, .f32⟩
  | 68 => ⟨S1x256, .f32⟩
  | 69 => ⟨S256, .f32⟩
  | 70 => ⟨S_, .f32⟩
  | 71 => ⟨S16x2048, .f32⟩
  | 72 => ⟨S16x1x2048, .f32⟩
  | 73 => ⟨S_, .f32⟩
  | 74 => ⟨S16x1x2048, .f32⟩
  | 75 => ⟨S16x1x2048, .f32⟩
  | 76 => ⟨S16x256x2048, .f32⟩
  | 77 => ⟨S16x256x2048, .f32⟩
  | 78 => ⟨S16x256x2048, .f32⟩
  | 79 => ⟨S_, .f32⟩
  | 80 => ⟨S16x2048, .f32⟩
  | 81 => ⟨S16x1x2048, .f32⟩
  | 82 => ⟨S_, .f32⟩
  | 83 => ⟨S16x1x2048, .f32⟩
  | 84 => ⟨S16x1x2048, .f32⟩
  | 85 => ⟨S16x256x2048, .f32⟩
  | 86 => ⟨S16x256x2048, .f32⟩
  | 87 => ⟨S_, .f32⟩
  | 88 => ⟨S16x1x2048, .f32⟩
  | 89 => ⟨S16x1x2048, .f32⟩
  | 90 => ⟨S16x1x2048, .f32⟩
  | 91 => ⟨S16x256x2048, .f32⟩
  | 92 => ⟨S16x256x2048, .f32⟩
  | 93 => ⟨S1x256x1, .f32⟩
  | 94 => ⟨S16x256x2048, .f32⟩
  | 95 => ⟨S16x256x2048, .f32⟩
  | 96 => ⟨S1x256x1, .f32⟩
  | 97 => ⟨S16x256x2048, .f32⟩
  | 98 => ⟨S16x256x2048, .f32⟩
  | 99 => ⟨S_, .f32⟩
  | 100 => ⟨S16x256x2048, .f32⟩
  | 101 => ⟨S16x256x2048, .f32⟩
  | 102 => ⟨S_, .f32⟩
  | 103 => ⟨S16x256x2048, .f32⟩
  | 104 => ⟨S16x256x2048, .f32⟩
  | 105 => ⟨S16x256x2048, .f32⟩
  | 106 => ⟨S_, .f32⟩
  | 107 => ⟨S16x256x2048, .f32⟩
  | 108 => ⟨S16x256x2048, .f32⟩
  | 109 => ⟨S16x256x2048, .f32⟩
  | 110 => ⟨S1x256x256, .f32⟩
  | 111 => ⟨S256x256, .f32⟩
  | 112 => ⟨S16x2048x256, .f32⟩
  | 113 => ⟨S16x256x2048, .f32⟩
  | 114 => ⟨S1x256, .f32⟩
  | 115 => ⟨S256, .f32⟩
  | 116 => ⟨S1x256x1, .f32⟩
  | 117 => ⟨S16x256x2048, .f32⟩
  | 118 => ⟨S16x256x2048, .f32⟩
  | 119 => ⟨S1x256, .f32⟩
  | 120 => ⟨S256, .f32⟩
  | 121 => ⟨S1x256, .f32⟩
  | 122 => ⟨S256, .f32⟩
  | 123 => ⟨S_, .f32⟩
  | 124 => ⟨S16x2048, .f32⟩
  | 125 => ⟨S16x1x2048, .f32⟩
  | 126 => ⟨S_, .f32⟩
  | 127 => ⟨S16x1x2048, .f32⟩
  | _ => ⟨S16x192x2048, .f32⟩

abbrev hbmTy0_3 (i : Nat) : BufTy := match i % 128 with
  | 0 => ⟨S16x1x2048, .f32⟩
  | 1 => ⟨S16x256x2048, .f32⟩
  | 2 => ⟨S16x256x2048, .f32⟩
  | 3 => ⟨S16x256x2048, .f32⟩
  | 4 => ⟨S_, .f32⟩
  | 5 => ⟨S16x2048, .f32⟩
  | 6 => ⟨S16x1x2048, .f32⟩
  | 7 => ⟨S_, .f32⟩
  | 8 => ⟨S16x1x2048, .f32⟩
  | 9 => ⟨S16x1x2048, .f32⟩
  | 10 => ⟨S16x256x2048, .f32⟩
  | 11 => ⟨S16x256x2048, .f32⟩
  | 12 => ⟨S_, .f32⟩
  | 13 => ⟨S16x1x2048, .f32⟩
  | 14 => ⟨S16x1x2048, .f32⟩
  | 15 => ⟨S16x1x2048, .f32⟩
  | 16 => ⟨S16x256x2048, .f32⟩
  | 17 => ⟨S16x256x2048, .f32⟩
  | 18 => ⟨S1x256x1, .f32⟩
  | 19 => ⟨S16x256x2048, .f32⟩
  | 20 => ⟨S16x256x2048, .f32⟩
  | 21 => ⟨S1x256x1, .f32⟩
  | 22 => ⟨S16x256x2048, .f32⟩
  | 23 => ⟨S16x256x2048, .f32⟩
  | 24 => ⟨S_, .f32⟩
  | 25 => ⟨S16x256x2048, .f32⟩
  | 26 => ⟨S16x256x2048, .f32⟩
  | 27 => ⟨S_, .f32⟩
  | 28 => ⟨S16x256x2048, .f32⟩
  | 29 => ⟨S16x256x2048, .f32⟩
  | 30 => ⟨S16x256x2048, .f32⟩
  | 31 => ⟨S_, .f32⟩
  | 32 => ⟨S16x256x2048, .f32⟩
  | 33 => ⟨S16x256x2048, .f32⟩
  | 34 => ⟨S16x256x2048, .f32⟩
  | 35 => ⟨S16x256x2048, .f32⟩
  | 36 => ⟨S16x256x2048, .f32⟩
  | 37 => ⟨S16x256x2048, .f32⟩
  | 38 => ⟨S16x2048x2784, .f32⟩
  | 39 => ⟨S16x2784x2048, .f32⟩
  | 40 => ⟨S1x2784x1, .f32⟩
  | 41 => ⟨S16x2784x2048, .f32⟩
  | 42 => ⟨S16x2784x2048, .f32⟩
  | 43 => ⟨S16x2784x2048, .f32⟩
  | 44 => ⟨S16x2784x2048, .f32⟩
  | 45 => ⟨S16x96x29x2048, .f32⟩
  | 46 => ⟨S16x96x2048x29, .f32⟩
  | 47 => ⟨S_, .f32⟩
  | 48 => ⟨S_, .f32⟩
  | 49 => ⟨S_, .f32⟩
  | 50 => ⟨S_, .f32⟩
  | 51 => ⟨S16x96x2048x10, .f32⟩
  | 52 => ⟨S16x96x2048x10, .f32⟩
  | 53 => ⟨S16x96x2048x10, .f32⟩
  | 54 => ⟨S16x96x2048x10, .f32⟩
  | 55 => ⟨S16x96x2048x10, .f32⟩
  | 56 => ⟨S16x96x2048x10, .f32⟩
  | 57 => ⟨S16x96x2048x9, .f32⟩
  | 58 => ⟨S_, .f32⟩
  | 59 => ⟨S16x96x2048, .f32⟩
  | 60 => ⟨S16x96x2048, .i1⟩
  | 61 => ⟨S_, .f32⟩
  | 62 => ⟨S16x96x2048, .f32⟩
  | 63 => ⟨S16x96x2048, .i1⟩
  | 64 => ⟨S16x96x2048, .i1⟩
  | 65 => ⟨S_, .f32⟩
  | 66 => ⟨S_, .f32⟩
  | 67 => ⟨S16x96x2048x11, .f32⟩
  | 68 => ⟨S_, .f32⟩
  | 69 => ⟨S16x96x2048, .f32⟩
  | 70 => ⟨S_, .f32⟩
  | 71 => ⟨S16x96x2048, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S16x96x2048, .f32⟩
  | 81 => ⟨S_, .f32⟩
  | 82 => ⟨S16x96x2048, .f32⟩
  | 83 => ⟨S16x96x2048, .f32⟩
  | 84 => ⟨S16x96x2048x1, .f32⟩
  | 85 => ⟨S16x96x2048x10, .f32⟩
  | 86 => ⟨S16x96x2048x10, .f32⟩
  | 87 => ⟨S16x96x2048x10, .f32⟩
  | 88 => ⟨S_, .f32⟩
  | 89 => ⟨S16x96x2048, .f32⟩
  | 90 => ⟨S16x96x2048x1, .f32⟩
  | 91 => ⟨S16x96x2048x10, .f32⟩
  | 92 => ⟨S16x96x2048x10, .f32⟩
  | 93 => ⟨S16x96x2048x10, .f32⟩
  | 94 => ⟨S16x96x2048x10, .f32⟩
  | 95 => ⟨S16x96x2048x10, .f32⟩
  | 96 => ⟨S16x96x2048x10, .f32⟩
  | 97 => ⟨S16x96x2048x1, .f32⟩
  | 98 => ⟨S_, .f32⟩
  | 99 => ⟨S16x96x2048, .f32⟩
  | 100 => ⟨S_, .f32⟩
  | 101 => ⟨S16x96x2048, .f32⟩
  | 102 => ⟨S16x96x2048, .f32⟩
  | 103 => ⟨S_, .f32⟩
  | 104 => ⟨S16x96x2048, .f32⟩
  | 105 => ⟨S16x96x2048, .f32⟩
  | 106 => ⟨S16x96x2048x2, .f32⟩
  | 107 => ⟨S_, .f32⟩
  | 108 => ⟨S16x96x2048, .f32⟩
  | 109 => ⟨S_, .f32⟩
  | 110 => ⟨S16x96x2048, .f32⟩
  | 111 => ⟨S16x96x2048, .f32⟩
  | 112 => ⟨S_, .f32⟩
  | 113 => ⟨S16x96x2048, .f32⟩
  | 114 => ⟨S16x96x2048, .f32⟩
  | 115 => ⟨S16x96x2048x3, .f32⟩
  | 116 => ⟨S_, .f32⟩
  | 117 => ⟨S16x96x2048, .f32⟩
  | 118 => ⟨S_, .f32⟩
  | 119 => ⟨S16x96x2048, .f32⟩
  | 120 => ⟨S16x96x2048, .f32⟩
  | 121 => ⟨S_, .f32⟩
  | 122 => ⟨S16x96x2048, .f32⟩
  | 123 => ⟨S16x96x2048, .f32⟩
  | 124 => ⟨S16x96x2048x4, .f32⟩
  | 125 => ⟨S_, .f32⟩
  | 126 => ⟨S16x96x2048, .f32⟩
  | 127 => ⟨S_, .f32⟩
  | _ => ⟨S16x192x2048, .f32⟩

abbrev hbmTy0_4 (i : Nat) : BufTy := match i % 128 with
  | 0 => ⟨S16x96x2048, .f32⟩
  | 1 => ⟨S16x96x2048, .f32⟩
  | 2 => ⟨S_, .f32⟩
  | 3 => ⟨S16x96x2048, .f32⟩
  | 4 => ⟨S16x96x2048, .f32⟩
  | 5 => ⟨S16x96x2048x5, .f32⟩
  | 6 => ⟨S_, .f32⟩
  | 7 => ⟨S16x96x2048, .f32⟩
  | 8 => ⟨S_, .f32⟩
  | 9 => ⟨S16x96x2048, .f32⟩
  | 10 => ⟨S16x96x2048, .f32⟩
  | 11 => ⟨S_, .f32⟩
  | 12 => ⟨S16x96x2048, .f32⟩
  | 13 => ⟨S16x96x2048, .f32⟩
  | 14 => ⟨S16x96x2048x6, .f32⟩
  | 15 => ⟨S_, .f32⟩
  | 16 => ⟨S16x96x2048, .f32⟩
  | 17 => ⟨S_, .f32⟩
  | 18 => ⟨S16x96x2048, .f32⟩
  | 19 => ⟨S16x96x2048, .f32⟩
  | 20 => ⟨S_, .f32⟩
  | 21 => ⟨S16x96x2048, .f32⟩
  | 22 => ⟨S16x96x2048, .f32⟩
  | 23 => ⟨S16x96x2048x7, .f32⟩
  | 24 => ⟨S_, .f32⟩
  | 25 => ⟨S16x96x2048, .f32⟩
  | 26 => ⟨S_, .f32⟩
  | 27 => ⟨S16x96x2048, .f32⟩
  | 28 => ⟨S16x96x2048, .f32⟩
  | 29 => ⟨S_, .f32⟩
  | 30 => ⟨S16x96x2048, .f32⟩
  | 31 => ⟨S16x96x2048, .f32⟩
  | 32 => ⟨S16x96x2048x8, .f32⟩
  | 33 => ⟨S_, .f32⟩
  | 34 => ⟨S16x96x2048, .f32⟩
  | 35 => ⟨S_, .f32⟩
  | 36 => ⟨S16x96x2048, .f32⟩
  | 37 => ⟨S16x96x2048, .f32⟩
  | 38 => ⟨S_, .f32⟩
  | 39 => ⟨S16x96x2048, .f32⟩
  | 40 => ⟨S16x96x2048, .f32⟩
  | 41 => ⟨S16x96x2048x9, .f32⟩
  | 42 => ⟨S_, .f32⟩
  | 43 => ⟨S16x96x2048, .f32⟩
  | 44 => ⟨S_, .f32⟩
  | 45 => ⟨S16x96x2048, .f32⟩
  | 46 => ⟨S16x96x2048, .f32⟩
  | 47 => ⟨S_, .f32⟩
  | 48 => ⟨S16x96x2048, .f32⟩
  | 49 => ⟨S16x96x2048, .f32⟩
  | 50 => ⟨S16x96x2048x1, .f32⟩
  | 51 => ⟨S16x96x2048x1, .f32⟩
  | 52 => ⟨S16x96x2048x1, .f32⟩
  | 53 => ⟨S16x96x2048x1, .f32⟩
  | 54 => ⟨S16x96x2048x1, .f32⟩
  | 55 => ⟨S16x96x2048x1, .f32⟩
  | 56 => ⟨S16x96x2048x1, .f32⟩
  | 57 => ⟨S16x96x2048x1, .f32⟩
  | 58 => ⟨S16x96x2048x1, .f32⟩
  | 59 => ⟨S16x96x2048x1, .f32⟩
  | 60 => ⟨S16x96x2048x1, .f32⟩
  | 61 => ⟨S16x96x2048x11, .f32⟩
  | 62 => ⟨S16x96x2048x10, .f32⟩
  | 63 => ⟨S16x96x2048x10, .f32⟩
  | 64 => ⟨S16x96x2048x10, .f32⟩
  | 65 => ⟨S_, .f32⟩
  | 66 => ⟨S_, .f32⟩
  | 67 => ⟨S_, .f32⟩
  | 68 => ⟨S_, .f32⟩
  | 69 => ⟨S_, .f32⟩
  | 70 => ⟨S16x96x2048, .f32⟩
  | 71 => ⟨S_, .f32⟩
  | 72 => ⟨S16x96x2048, .f32⟩
  | 73 => ⟨S16x96x2048, .f32⟩
  | 74 => ⟨S16x96x2048x1, .f32⟩
  | 75 => ⟨S16x96x2048x10, .f32⟩
  | 76 => ⟨S16x96x2048x10, .f32⟩
  | 77 => ⟨S16x96x2048x10, .f32⟩
  | 78 => ⟨S_, .f32⟩
  | 79 => ⟨S16x96x2048, .f32⟩
  | 80 => ⟨S16x96x2048x1, .f32⟩
  | 81 => ⟨S16x96x2048x10, .f32⟩
  | 82 => ⟨S16x96x2048x10, .f32⟩
  | 83 => ⟨S16x96x2048x10, .f32⟩
  | 84 => ⟨S16x96x2048x10, .f32⟩
  | 85 => ⟨S16x96x2048x10, .f32⟩
  | 86 => ⟨S16x96x2048x10, .f32⟩
  | 87 => ⟨S16x96x2048x1, .f32⟩
  | 88 => ⟨S_, .f32⟩
  | 89 => ⟨S16x96x2048, .f32⟩
  | 90 => ⟨S_, .f32⟩
  | 91 => ⟨S16x96x2048, .f32⟩
  | 92 => ⟨S16x96x2048, .f32⟩
  | 93 => ⟨S_, .f32⟩
  | 94 => ⟨S16x96x2048, .f32⟩
  | 95 => ⟨S16x96x2048, .f32⟩
  | 96 => ⟨S16x96x2048x2, .f32⟩
  | 97 => ⟨S_, .f32⟩
  | 98 => ⟨S16x96x2048, .f32⟩
  | 99 => ⟨S_, .f32⟩
  | 100 => ⟨S16x96x2048, .f32⟩
  | 101 => ⟨S16x96x2048, .f32⟩
  | 102 => ⟨S_, .f32⟩
  | 103 => ⟨S16x96x2048, .f32⟩
  | 104 => ⟨S16x96x2048, .f32⟩
  | 105 => ⟨S16x96x2048x3, .f32⟩
  | 106 => ⟨S_, .f32⟩
  | 107 => ⟨S16x96x2048, .f32⟩
  | 108 => ⟨S_, .f32⟩
  | 109 => ⟨S16x96x2048, .f32⟩
  | 110 => ⟨S16x96x2048, .f32⟩
  | 111 => ⟨S_, .f32⟩
  | 112 => ⟨S16x96x2048, .f32⟩
  | 113 => ⟨S16x96x2048, .f32⟩
  | 114 => ⟨S16x96x2048x4, .f32⟩
  | 115 => ⟨S_, .f32⟩
  | 116 => ⟨S16x96x2048, .f32⟩
  | 117 => ⟨S_, .f32⟩
  | 118 => ⟨S16x96x2048, .f32⟩
  | 119 => ⟨S16x96x2048, .f32⟩
  | 120 => ⟨S_, .f32⟩
  | 121 => ⟨S16x96x2048, .f32⟩
  | 122 => ⟨S16x96x2048, .f32⟩
  | 123 => ⟨S16x96x2048x5, .f32⟩
  | 124 => ⟨S_, .f32⟩
  | 125 => ⟨S16x96x2048, .f32⟩
  | 126 => ⟨S_, .f32⟩
  | 127 => ⟨S16x96x2048, .f32⟩
  | _ => ⟨S16x192x2048, .f32⟩

abbrev hbmTy0_5 (i : Nat) : BufTy := match i % 128 with
  | 0 => ⟨S16x96x2048, .f32⟩
  | 1 => ⟨S_, .f32⟩
  | 2 => ⟨S16x96x2048, .f32⟩
  | 3 => ⟨S16x96x2048, .f32⟩
  | 4 => ⟨S16x96x2048x6, .f32⟩
  | 5 => ⟨S_, .f32⟩
  | 6 => ⟨S16x96x2048, .f32⟩
  | 7 => ⟨S_, .f32⟩
  | 8 => ⟨S16x96x2048, .f32⟩
  | 9 => ⟨S16x96x2048, .f32⟩
  | 10 => ⟨S_, .f32⟩
  | 11 => ⟨S16x96x2048, .f32⟩
  | 12 => ⟨S16x96x2048, .f32⟩
  | 13 => ⟨S16x96x2048x7, .f32⟩
  | 14 => ⟨S_, .f32⟩
  | 15 => ⟨S16x96x2048, .f32⟩
  | 16 => ⟨S_, .f32⟩
  | 17 => ⟨S16x96x2048, .f32⟩
  | 18 => ⟨S16x96x2048, .f32⟩
  | 19 => ⟨S_, .f32⟩
  | 20 => ⟨S16x96x2048, .f32⟩
  | 21 => ⟨S16x96x2048, .f32⟩
  | 22 => ⟨S16x96x2048x8, .f32⟩
  | 23 => ⟨S_, .f32⟩
  | 24 => ⟨S16x96x2048, .f32⟩
  | 25 => ⟨S_, .f32⟩
  | 26 => ⟨S16x96x2048, .f32⟩
  | 27 => ⟨S16x96x2048, .f32⟩
  | 28 => ⟨S_, .f32⟩
  | 29 => ⟨S16x96x2048, .f32⟩
  | 30 => ⟨S16x96x2048, .f32⟩
  | 31 => ⟨S16x96x2048x9, .f32⟩
  | 32 => ⟨S_, .f32⟩
  | 33 => ⟨S16x96x2048, .f32⟩
  | 34 => ⟨S_, .f32⟩
  | 35 => ⟨S16x96x2048, .f32⟩
  | 36 => ⟨S16x96x2048, .f32⟩
  | 37 => ⟨S_, .f32⟩
  | 38 => ⟨S16x96x2048, .f32⟩
  | 39 => ⟨S16x96x2048, .f32⟩
  | 40 => ⟨S16x96x2048x1, .f32⟩
  | 41 => ⟨S16x96x2048x1, .f32⟩
  | 42 => ⟨S16x96x2048x1, .f32⟩
  | 43 => ⟨S16x96x2048x1, .f32⟩
  | 44 => ⟨S16x96x2048x1, .f32⟩
  | 45 => ⟨S16x96x2048x1, .f32⟩
  | 46 => ⟨S16x96x2048x1, .f32⟩
  | 47 => ⟨S16x96x2048x1, .f32⟩
  | 48 => ⟨S16x96x2048x1, .f32⟩
  | 49 => ⟨S16x96x2048x1, .f32⟩
  | 50 => ⟨S16x96x2048x1, .f32⟩
  | 51 => ⟨S16x96x2048x11, .f32⟩
  | 52 => ⟨S16x96x2048x10, .f32⟩
  | 53 => ⟨S16x96x2048x10, .f32⟩
  | 54 => ⟨S16x96x2048x10, .f32⟩
  | 55 => ⟨S_, .f32⟩
  | 56 => ⟨S16x96x2048x11, .f32⟩
  | 57 => ⟨S16x96x2048x11, .f32⟩
  | 58 => ⟨S16x96x2048x11, .f32⟩
  | 59 => ⟨S16x96x2048x11, .f32⟩
  | 60 => ⟨S16x96x2048x11, .i1⟩
  | 61 => ⟨S16x96x2048x11, .f32⟩
  | 62 => ⟨S16x96x2048x11, .f32⟩
  | 63 => ⟨S16x96x2048x11, .f32⟩
  | 64 => ⟨S16x96x2048x11, .f32⟩
  | 65 => ⟨S16x96x2048x11, .f32⟩
  | 66 => ⟨S16x96x2048x11, .f32⟩
  | 67 => ⟨S16x96x2048x11, .f32⟩
  | 68 => ⟨S16x96x2048x11, .f32⟩
  | 69 => ⟨S16x96x2048x11, .f32⟩
  | 70 => ⟨S16x96x2048x11, .f32⟩
  | 71 => ⟨S_, .f32⟩
  | 72 => ⟨S_, .f32⟩
  | 73 => ⟨S_, .f32⟩
  | 74 => ⟨S16x96x2048, .f32⟩
  | 75 => ⟨S16x96x2048, .f32⟩
  | 76 => ⟨S_, .f32⟩
  | 77 => ⟨S16x96x2048, .f32⟩
  | 78 => ⟨S16x96x2048, .f32⟩
  | 79 => ⟨S16x96x2048x1, .f32⟩
  | 80 => ⟨S16x96x2048x11, .f32⟩
  | 81 => ⟨S16x96x2048x11, .i1⟩
  | 82 => ⟨S16x96x2048x11, .i32⟩
  | 83 => ⟨S_, .i32⟩
  | 84 => ⟨S16x96x2048, .i32⟩
  | 85 => ⟨S_, .i32⟩
  | 86 => ⟨S16x96x2048, .i32⟩
  | 87 => ⟨S16x96x2048, .i32⟩
  | 88 => ⟨S_, .i32⟩
  | 89 => ⟨S_, .i32⟩
  | 90 => ⟨S_, .i32⟩
  | 91 => ⟨S16x96x2048, .i32⟩
  | 92 => ⟨S16x96x2048, .i32⟩
  | 93 => ⟨S_, .i32⟩
  | 94 => ⟨S16x96x2048, .i32⟩
  | 95 => ⟨S16x96x2048, .i32⟩
  | 96 => ⟨S11, .i32⟩
  | 97 => ⟨S16x96x2048x1, .i32⟩
  | 98 => ⟨S1x1x1x11, .i32⟩
  | 99 => ⟨S16x96x2048x11, .i32⟩
  | 100 => ⟨S16x96x2048x11, .i32⟩
  | 101 => ⟨S16x96x2048x11, .i1⟩
  | 102 => ⟨S_, .f32⟩
  | 103 => ⟨S_, .f32⟩
  | 104 => ⟨S16x96x2048x11, .f32⟩
  | 105 => ⟨S16x96x2048x11, .f32⟩
  | 106 => ⟨S_, .f32⟩
  | 107 => ⟨S16x96x2048, .f32⟩
  | 108 => ⟨S10, .i32⟩
  | 109 => ⟨S16x96x2048x1, .i32⟩
  | 110 => ⟨S1x1x1x10, .i32⟩
  | 111 => ⟨S16x96x2048x10, .i32⟩
  | 112 => ⟨S16x96x2048x10, .i32⟩
  | 113 => ⟨S16x96x2048x10, .i1⟩
  | 114 => ⟨S_, .f32⟩
  | 115 => ⟨S_, .f32⟩
  | 116 => ⟨S16x96x2048x10, .f32⟩
  | 117 => ⟨S16x96x2048x10, .f32⟩
  | 118 => ⟨S_, .f32⟩
  | 119 => ⟨S16x96x2048, .f32⟩
  | 120 => ⟨S11, .i32⟩
  | 121 => ⟨S16x96x2048x1, .i32⟩
  | 122 => ⟨S1x1x1x11, .i32⟩
  | 123 => ⟨S16x96x2048x11, .i32⟩
  | 124 => ⟨S16x96x2048x11, .i32⟩
  | 125 => ⟨S16x96x2048x11, .i1⟩
  | 126 => ⟨S_, .f32⟩
  | 127 => ⟨S_, .f32⟩
  | _ => ⟨S16x192x2048, .f32⟩

abbrev hbmTy0_6 (i : Nat) : BufTy := match i % 128 with
  | 0 => ⟨S16x96x2048x11, .f32⟩
  | 1 => ⟨S16x96x2048x11, .f32⟩
  | 2 => ⟨S_, .f32⟩
  | 3 => ⟨S16x96x2048, .f32⟩
  | 4 => ⟨S10, .i32⟩
  | 5 => ⟨S16x96x2048x1, .i32⟩
  | 6 => ⟨S1x1x1x10, .i32⟩
  | 7 => ⟨S16x96x2048x10, .i32⟩
  | 8 => ⟨S16x96x2048x10, .i32⟩
  | 9 => ⟨S16x96x2048x10, .i1⟩
  | 10 => ⟨S_, .f32⟩
  | 11 => ⟨S_, .f32⟩
  | 12 => ⟨S16x96x2048x10, .f32⟩
  | 13 => ⟨S16x96x2048x10, .f32⟩
  | 14 => ⟨S_, .f32⟩
  | 15 => ⟨S16x96x2048, .f32⟩
  | 16 => ⟨S16x96x2048, .f32⟩
  | 17 => ⟨S11, .i32⟩
  | 18 => ⟨S16x96x2048x1, .i32⟩
  | 19 => ⟨S1x1x1x11, .i32⟩
  | 20 => ⟨S16x96x2048x11, .i32⟩
  | 21 => ⟨S16x96x2048x11, .i32⟩
  | 22 => ⟨S16x96x2048x11, .i1⟩
  | 23 => ⟨S_, .f32⟩
  | 24 => ⟨S_, .f32⟩
  | 25 => ⟨S16x96x2048x11, .f32⟩
  | 26 => ⟨S16x96x2048x11, .f32⟩
  | 27 => ⟨S_, .f32⟩
  | 28 => ⟨S16x96x2048, .f32⟩
  | 29 => ⟨S_, .i32⟩
  | 30 => ⟨S16x96x2048, .i32⟩
  | 31 => ⟨S16x96x2048, .i32⟩
  | 32 => ⟨S11, .i32⟩
  | 33 => ⟨S16x96x2048x1, .i32⟩
  | 34 => ⟨S1x1x1x11, .i32⟩
  | 35 => ⟨S16x96x2048x11, .i32⟩
  | 36 => ⟨S16x96x2048x11, .i32⟩
  | 37 => ⟨S16x96x2048x11, .i1⟩
  | 38 => ⟨S_, .f32⟩
  | 39 => ⟨S_, .f32⟩
  | 40 => ⟨S16x96x2048x11, .f32⟩
  | 41 => ⟨S16x96x2048x11, .f32⟩
  | 42 => ⟨S_, .f32⟩
  | 43 => ⟨S16x96x2048, .f32⟩
  | 44 => ⟨S16x96x2048, .f32⟩
  | 45 => ⟨S16x96x2048, .f32⟩
  | 46 => ⟨S_, .f32⟩
  | 47 => ⟨S16x96x2048, .f32⟩
  | 48 => ⟨S16x96x2048, .f32⟩
  | 49 => ⟨S16x96x2048, .f32⟩
  | 50 => ⟨S16x96x2048, .f32⟩
  | 51 => ⟨S_, .f32⟩
  | 52 => ⟨S16x96x2048, .f32⟩
  | 53 => ⟨S16x96x2048, .f32⟩
  | 54 => ⟨S16x96x2048, .f32⟩
  | 55 => ⟨S16x96x2048, .f32⟩
  | 56 => ⟨S16x96x2048, .f32⟩
  | 57 => ⟨S16x96x2048, .f32⟩
  | 58 => ⟨S16x96x2048, .f32⟩
  | 59 => ⟨S16x96x2048, .f32⟩
  | 60 => ⟨S16x96x2048, .f32⟩
  | 61 => ⟨S16x96x2048, .f32⟩
  | 62 => ⟨S16x96x2048, .f32⟩
  | 63 => ⟨S16x96x2048, .f32⟩
  | 64 => ⟨S16x96x2048, .f32⟩
  | 65 => ⟨S16x96x2048, .f32⟩
  | 66 => ⟨S16x96x2048, .f32⟩
  | 67 => ⟨S_, .f32⟩
  | 68 => ⟨S16x96x2048, .f32⟩
  | 69 => ⟨S16x96x2048, .f32⟩
  | 70 => ⟨S16x96x2048, .f32⟩
  | 71 => ⟨S16x96x2048, .f32⟩
  | 72 => ⟨S_, .f32⟩
  | 73 => ⟨S16x96x2048, .f32⟩
  | 74 => ⟨S16x96x2048, .f32⟩
  | 75 => ⟨S16x96x2048, .f32⟩
  | 76 => ⟨S16x96x2048, .f32⟩
  | 77 => ⟨S16x96x2048, .f32⟩
  | 78 => ⟨S16x96x2048, .f32⟩
  | 79 => ⟨S16x96x2048, .f32⟩
  | 80 => ⟨S16x96x2048, .f32⟩
  | 81 => ⟨S_, .f32⟩
  | 82 => ⟨S16x96x2048, .f32⟩
  | 83 => ⟨S16x96x2048, .f32⟩
  | 84 => ⟨S16x96x2048, .f32⟩
  | 85 => ⟨S16x96x2048, .f32⟩
  | 86 => ⟨S_, .f32⟩
  | 87 => ⟨S_, .f32⟩
  | 88 => ⟨S16x96x2048, .f32⟩
  | 89 => ⟨S16x96x2048, .f32⟩
  | 90 => ⟨S16x192x2048, .f32⟩
  | 91 => ⟨S16x192x2048, .f32⟩
  | 92 => ⟨S16x192x2048, .f32⟩
  | 93 => ⟨S16x96x2048, .f32⟩
  | 94 => ⟨S16x96x2048, .f32⟩
  | 95 => ⟨S_, .f32⟩
  | 96 => ⟨S16, .f32⟩
  | _ => ⟨S16x192x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S16x192x2048, .f32⟩

abbrev bufTy : (tb : Table) → Fin (tcTables nBuf tb) → BufTy
  | .hbm, ⟨i, _⟩ => hbmTy i
  | _, _ => ⟨S16x192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_call0_v0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_0 : Ref sig .tc := ⟨.hbm, 60, rfl⟩
abbrev main_v43 : Ref sig .tc := ⟨.hbm, 61, rfl⟩
abbrev main_v44 : Ref sig .tc := ⟨.hbm, 62, rfl⟩
abbrev main_cst_1 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_2 : Ref sig .tc := ⟨.hbm, 69, rfl⟩
abbrev main_v50 : Ref sig .tc := ⟨.hbm, 70, rfl⟩
abbrev main_v51 : Ref sig .tc := ⟨.hbm, 71, rfl⟩
abbrev main_cst_3 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_4 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_5 : Ref sig .tc := ⟨.hbm, 89, rfl⟩
abbrev main_v67 : Ref sig .tc := ⟨.hbm, 90, rfl⟩
abbrev main_v68 : Ref sig .tc := ⟨.hbm, 91, rfl⟩
abbrev main_cst_6 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_7 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_8 : Ref sig .tc := ⟨.hbm, 113, rfl⟩
abbrev main_v88 : Ref sig .tc := ⟨.hbm, 114, rfl⟩
abbrev main_v89 : Ref sig .tc := ⟨.hbm, 115, rfl⟩
abbrev main_cst_9 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_10 : Ref sig .tc := ⟨.hbm, 122, rfl⟩
abbrev main_v95 : Ref sig .tc := ⟨.hbm, 123, rfl⟩
abbrev main_v96 : Ref sig .tc := ⟨.hbm, 124, rfl⟩
abbrev main_cst_11 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_cst_12 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_cst_13 : Ref sig .tc := ⟨.hbm, 142, rfl⟩
abbrev main_v112 : Ref sig .tc := ⟨.hbm, 143, rfl⟩
abbrev main_v113 : Ref sig .tc := ⟨.hbm, 144, rfl⟩
abbrev main_cst_14 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_cst_15 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_c_16 : Ref sig .tc := ⟨.hbm, 160, rfl⟩
abbrev main_call1_v0 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_cst_17 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_cst_18 : Ref sig .tc := ⟨.hbm, 193, rfl⟩
abbrev main_v157 : Ref sig .tc := ⟨.hbm, 194, rfl⟩
abbrev main_v158 : Ref sig .tc := ⟨.hbm, 195, rfl⟩
abbrev main_cst_19 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_cst_20 : Ref sig .tc := ⟨.hbm, 202, rfl⟩
abbrev main_v164 : Ref sig .tc := ⟨.hbm, 203, rfl⟩
abbrev main_v165 : Ref sig .tc := ⟨.hbm, 204, rfl⟩
abbrev main_cst_21 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_cst_22 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_cst_23 : Ref sig .tc := ⟨.hbm, 222, rfl⟩
abbrev main_v181 : Ref sig .tc := ⟨.hbm, 223, rfl⟩
abbrev main_v182 : Ref sig .tc := ⟨.hbm, 224, rfl⟩
abbrev main_cst_24 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_cst_25 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_cst_26 : Ref sig .tc := ⟨.hbm, 246, rfl⟩
abbrev main_v202 : Ref sig .tc := ⟨.hbm, 247, rfl⟩
abbrev main_v203 : Ref sig .tc := ⟨.hbm, 248, rfl⟩
abbrev main_cst_27 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_cst_28 : Ref sig .tc := ⟨.hbm, 255, rfl⟩
abbrev main_v209 : Ref sig .tc := ⟨.hbm, 256, rfl⟩
abbrev main_v210 : Ref sig .tc := ⟨.hbm, 257, rfl⟩
abbrev main_cst_29 : Ref sig .tc := ⟨.hbm, 258, rfl⟩
abbrev main_v211 : Ref sig .tc := ⟨.hbm, 259, rfl⟩
abbrev main_v212 : Ref sig .tc := ⟨.hbm, 260, rfl⟩
abbrev main_v213 : Ref sig .tc := ⟨.hbm, 261, rfl⟩
abbrev main_v214 : Ref sig .tc := ⟨.hbm, 262, rfl⟩
abbrev main_cst_30 : Ref sig .tc := ⟨.hbm, 263, rfl⟩
abbrev main_v215 : Ref sig .tc := ⟨.hbm, 264, rfl⟩
abbrev main_v216 : Ref sig .tc := ⟨.hbm, 265, rfl⟩
abbrev main_v217 : Ref sig .tc := ⟨.hbm, 266, rfl⟩
abbrev main_v218 : Ref sig .tc := ⟨.hbm, 267, rfl⟩
abbrev main_v219 : Ref sig .tc := ⟨.hbm, 268, rfl⟩
abbrev main_v220 : Ref sig .tc := ⟨.hbm, 269, rfl⟩
abbrev main_v221 : Ref sig .tc := ⟨.hbm, 270, rfl⟩
abbrev main_v222 : Ref sig .tc := ⟨.hbm, 271, rfl⟩
abbrev main_v223 : Ref sig .tc := ⟨.hbm, 272, rfl⟩
abbrev main_v224 : Ref sig .tc := ⟨.hbm, 273, rfl⟩
abbrev main_v225 : Ref sig .tc := ⟨.hbm, 274, rfl⟩
abbrev main_cst_31 : Ref sig .tc := ⟨.hbm, 275, rfl⟩
abbrev main_v226 : Ref sig .tc := ⟨.hbm, 276, rfl⟩
abbrev main_v227 : Ref sig .tc := ⟨.hbm, 277, rfl⟩
abbrev main_cst_32 : Ref sig .tc := ⟨.hbm, 278, rfl⟩
abbrev main_v228 : Ref sig .tc := ⟨.hbm, 279, rfl⟩
abbrev main_v229 : Ref sig .tc := ⟨.hbm, 280, rfl⟩
abbrev main_v230 : Ref sig .tc := ⟨.hbm, 281, rfl⟩
abbrev main_cst_33 : Ref sig .tc := ⟨.hbm, 282, rfl⟩
abbrev main_v231 : Ref sig .tc := ⟨.hbm, 283, rfl⟩
abbrev main_v232 : Ref sig .tc := ⟨.hbm, 284, rfl⟩
abbrev main_v233 : Ref sig .tc := ⟨.hbm, 285, rfl⟩
abbrev main_v234 : Ref sig .tc := ⟨.hbm, 286, rfl⟩
abbrev main_v235 : Ref sig .tc := ⟨.hbm, 287, rfl⟩
abbrev main_v236 : Ref sig .tc := ⟨.hbm, 288, rfl⟩
abbrev main_v237 : Ref sig .tc := ⟨.hbm, 289, rfl⟩
abbrev main_v238 : Ref sig .tc := ⟨.hbm, 290, rfl⟩
abbrev main_v239 : Ref sig .tc := ⟨.hbm, 291, rfl⟩
abbrev main_v240 : Ref sig .tc := ⟨.hbm, 292, rfl⟩
abbrev main_c_34 : Ref sig .tc := ⟨.hbm, 293, rfl⟩
abbrev main_call2_v0 : Ref sig .tc := ⟨.hbm, 294, rfl⟩
abbrev main_v241 : Ref sig .tc := ⟨.hbm, 295, rfl⟩
abbrev main_v242 : Ref sig .tc := ⟨.hbm, 296, rfl⟩
abbrev main_v243 : Ref sig .tc := ⟨.hbm, 297, rfl⟩
abbrev main_v244 : Ref sig .tc := ⟨.hbm, 298, rfl⟩
abbrev main_v245 : Ref sig .tc := ⟨.hbm, 299, rfl⟩
abbrev main_v246 : Ref sig .tc := ⟨.hbm, 300, rfl⟩
abbrev main_v247 : Ref sig .tc := ⟨.hbm, 301, rfl⟩
abbrev main_cst_35 : Ref sig .tc := ⟨.hbm, 302, rfl⟩
abbrev main_v248 : Ref sig .tc := ⟨.hbm, 303, rfl⟩
abbrev main_v249 : Ref sig .tc := ⟨.hbm, 304, rfl⟩
abbrev main_v250 : Ref sig .tc := ⟨.hbm, 305, rfl⟩
abbrev main_v251 : Ref sig .tc := ⟨.hbm, 306, rfl⟩
abbrev main_v252 : Ref sig .tc := ⟨.hbm, 307, rfl⟩
abbrev main_v253 : Ref sig .tc := ⟨.hbm, 308, rfl⟩
abbrev main_v254 : Ref sig .tc := ⟨.hbm, 309, rfl⟩
abbrev main_v255 : Ref sig .tc := ⟨.hbm, 310, rfl⟩
abbrev main_v256 : Ref sig .tc := ⟨.hbm, 311, rfl⟩
abbrev main_v257 : Ref sig .tc := ⟨.hbm, 312, rfl⟩
abbrev main_v258 : Ref sig .tc := ⟨.hbm, 313, rfl⟩
abbrev main_v259 : Ref sig .tc := ⟨.hbm, 314, rfl⟩
abbrev main_v260 : Ref sig .tc := ⟨.hbm, 315, rfl⟩
abbrev main_v261 : Ref sig .tc := ⟨.hbm, 316, rfl⟩
abbrev main_v262 : Ref sig .tc := ⟨.hbm, 317, rfl⟩
abbrev main_v263 : Ref sig .tc := ⟨.hbm, 318, rfl⟩
abbrev main_v264 : Ref sig .tc := ⟨.hbm, 319, rfl⟩
abbrev main_v265 : Ref sig .tc := ⟨.hbm, 320, rfl⟩
abbrev main_v266 : Ref sig .tc := ⟨.hbm, 321, rfl⟩
abbrev main_v267 : Ref sig .tc := ⟨.hbm, 322, rfl⟩
abbrev main_v268 : Ref sig .tc := ⟨.hbm, 323, rfl⟩
abbrev main_v269 : Ref sig .tc := ⟨.hbm, 324, rfl⟩
abbrev main_v270 : Ref sig .tc := ⟨.hbm, 325, rfl⟩
abbrev main_cst_36 : Ref sig .tc := ⟨.hbm, 326, rfl⟩
abbrev main_v271 : Ref sig .tc := ⟨.hbm, 327, rfl⟩
abbrev main_v272 : Ref sig .tc := ⟨.hbm, 328, rfl⟩
abbrev main_cst_37 : Ref sig .tc := ⟨.hbm, 329, rfl⟩
abbrev main_v273 : Ref sig .tc := ⟨.hbm, 330, rfl⟩
abbrev main_v274 : Ref sig .tc := ⟨.hbm, 331, rfl⟩
abbrev main_v275 : Ref sig .tc := ⟨.hbm, 332, rfl⟩
abbrev main_v276 : Ref sig .tc := ⟨.hbm, 333, rfl⟩
abbrev main_v277 : Ref sig .tc := ⟨.hbm, 334, rfl⟩
abbrev main_cst_38 : Ref sig .tc := ⟨.hbm, 335, rfl⟩
abbrev main_v278 : Ref sig .tc := ⟨.hbm, 336, rfl⟩
abbrev main_v279 : Ref sig .tc := ⟨.hbm, 337, rfl⟩
abbrev main_cst_39 : Ref sig .tc := ⟨.hbm, 338, rfl⟩
abbrev main_v280 : Ref sig .tc := ⟨.hbm, 339, rfl⟩
abbrev main_v281 : Ref sig .tc := ⟨.hbm, 340, rfl⟩
abbrev main_v282 : Ref sig .tc := ⟨.hbm, 341, rfl⟩
abbrev main_v283 : Ref sig .tc := ⟨.hbm, 342, rfl⟩
abbrev main_cst_40 : Ref sig .tc := ⟨.hbm, 343, rfl⟩
abbrev main_v284 : Ref sig .tc := ⟨.hbm, 344, rfl⟩
abbrev main_v285 : Ref sig .tc := ⟨.hbm, 345, rfl⟩
abbrev main_v286 : Ref sig .tc := ⟨.hbm, 346, rfl⟩
abbrev main_v287 : Ref sig .tc := ⟨.hbm, 347, rfl⟩
abbrev main_v288 : Ref sig .tc := ⟨.hbm, 348, rfl⟩
abbrev main_v289 : Ref sig .tc := ⟨.hbm, 349, rfl⟩
abbrev main_v290 : Ref sig .tc := ⟨.hbm, 350, rfl⟩
abbrev main_v291 : Ref sig .tc := ⟨.hbm, 351, rfl⟩
abbrev main_v292 : Ref sig .tc := ⟨.hbm, 352, rfl⟩
abbrev main_v293 : Ref sig .tc := ⟨.hbm, 353, rfl⟩
abbrev main_v294 : Ref sig .tc := ⟨.hbm, 354, rfl⟩
abbrev main_cst_41 : Ref sig .tc := ⟨.hbm, 355, rfl⟩
abbrev main_v295 : Ref sig .tc := ⟨.hbm, 356, rfl⟩
abbrev main_v296 : Ref sig .tc := ⟨.hbm, 357, rfl⟩
abbrev main_cst_42 : Ref sig .tc := ⟨.hbm, 358, rfl⟩
abbrev main_v297 : Ref sig .tc := ⟨.hbm, 359, rfl⟩
abbrev main_v298 : Ref sig .tc := ⟨.hbm, 360, rfl⟩
abbrev main_v299 : Ref sig .tc := ⟨.hbm, 361, rfl⟩
abbrev main_cst_43 : Ref sig .tc := ⟨.hbm, 362, rfl⟩
abbrev main_v300 : Ref sig .tc := ⟨.hbm, 363, rfl⟩
abbrev main_v301 : Ref sig .tc := ⟨.hbm, 364, rfl⟩
abbrev main_v302 : Ref sig .tc := ⟨.hbm, 365, rfl⟩
abbrev main_v303 : Ref sig .tc := ⟨.hbm, 366, rfl⟩
abbrev main_v304 : Ref sig .tc := ⟨.hbm, 367, rfl⟩
abbrev main_v305 : Ref sig .tc := ⟨.hbm, 368, rfl⟩
abbrev main_v306 : Ref sig .tc := ⟨.hbm, 369, rfl⟩
abbrev main_v307 : Ref sig .tc := ⟨.hbm, 370, rfl⟩
abbrev main_v308 : Ref sig .tc := ⟨.hbm, 371, rfl⟩
abbrev main_v309 : Ref sig .tc := ⟨.hbm, 372, rfl⟩
abbrev main_v310 : Ref sig .tc := ⟨.hbm, 373, rfl⟩
abbrev main_v311 : Ref sig .tc := ⟨.hbm, 374, rfl⟩
abbrev main_v312 : Ref sig .tc := ⟨.hbm, 375, rfl⟩
abbrev main_v313 : Ref sig .tc := ⟨.hbm, 376, rfl⟩
abbrev main_v314 : Ref sig .tc := ⟨.hbm, 377, rfl⟩
abbrev main_v315 : Ref sig .tc := ⟨.hbm, 378, rfl⟩
abbrev main_cst_44 : Ref sig .tc := ⟨.hbm, 379, rfl⟩
abbrev main_v316 : Ref sig .tc := ⟨.hbm, 380, rfl⟩
abbrev main_v317 : Ref sig .tc := ⟨.hbm, 381, rfl⟩
abbrev main_cst_45 : Ref sig .tc := ⟨.hbm, 382, rfl⟩
abbrev main_v318 : Ref sig .tc := ⟨.hbm, 383, rfl⟩
abbrev main_v319 : Ref sig .tc := ⟨.hbm, 384, rfl⟩
abbrev main_v320 : Ref sig .tc := ⟨.hbm, 385, rfl⟩
abbrev main_v321 : Ref sig .tc := ⟨.hbm, 386, rfl⟩
abbrev main_v322 : Ref sig .tc := ⟨.hbm, 387, rfl⟩
abbrev main_cst_46 : Ref sig .tc := ⟨.hbm, 388, rfl⟩
abbrev main_v323 : Ref sig .tc := ⟨.hbm, 389, rfl⟩
abbrev main_v324 : Ref sig .tc := ⟨.hbm, 390, rfl⟩
abbrev main_cst_47 : Ref sig .tc := ⟨.hbm, 391, rfl⟩
abbrev main_v325 : Ref sig .tc := ⟨.hbm, 392, rfl⟩
abbrev main_v326 : Ref sig .tc := ⟨.hbm, 393, rfl⟩
abbrev main_v327 : Ref sig .tc := ⟨.hbm, 394, rfl⟩
abbrev main_v328 : Ref sig .tc := ⟨.hbm, 395, rfl⟩
abbrev main_cst_48 : Ref sig .tc := ⟨.hbm, 396, rfl⟩
abbrev main_v329 : Ref sig .tc := ⟨.hbm, 397, rfl⟩
abbrev main_v330 : Ref sig .tc := ⟨.hbm, 398, rfl⟩
abbrev main_v331 : Ref sig .tc := ⟨.hbm, 399, rfl⟩
abbrev main_v332 : Ref sig .tc := ⟨.hbm, 400, rfl⟩
abbrev main_v333 : Ref sig .tc := ⟨.hbm, 401, rfl⟩
abbrev main_v334 : Ref sig .tc := ⟨.hbm, 402, rfl⟩
abbrev main_v335 : Ref sig .tc := ⟨.hbm, 403, rfl⟩
abbrev main_v336 : Ref sig .tc := ⟨.hbm, 404, rfl⟩
abbrev main_v337 : Ref sig .tc := ⟨.hbm, 405, rfl⟩
abbrev main_v338 : Ref sig .tc := ⟨.hbm, 406, rfl⟩
abbrev main_v339 : Ref sig .tc := ⟨.hbm, 407, rfl⟩
abbrev main_cst_49 : Ref sig .tc := ⟨.hbm, 408, rfl⟩
abbrev main_v340 : Ref sig .tc := ⟨.hbm, 409, rfl⟩
abbrev main_v341 : Ref sig .tc := ⟨.hbm, 410, rfl⟩
abbrev main_cst_50 : Ref sig .tc := ⟨.hbm, 411, rfl⟩
abbrev main_v342 : Ref sig .tc := ⟨.hbm, 412, rfl⟩
abbrev main_v343 : Ref sig .tc := ⟨.hbm, 413, rfl⟩
abbrev main_v344 : Ref sig .tc := ⟨.hbm, 414, rfl⟩
abbrev main_cst_51 : Ref sig .tc := ⟨.hbm, 415, rfl⟩
abbrev main_v345 : Ref sig .tc := ⟨.hbm, 416, rfl⟩
abbrev main_v346 : Ref sig .tc := ⟨.hbm, 417, rfl⟩
abbrev main_v347 : Ref sig .tc := ⟨.hbm, 418, rfl⟩
abbrev main_v348 : Ref sig .tc := ⟨.hbm, 419, rfl⟩
abbrev main_v349 : Ref sig .tc := ⟨.hbm, 420, rfl⟩
abbrev main_v350 : Ref sig .tc := ⟨.hbm, 421, rfl⟩
abbrev main_v351 : Ref sig .tc := ⟨.hbm, 422, rfl⟩
abbrev main_v352 : Ref sig .tc := ⟨.hbm, 423, rfl⟩
abbrev main_v353 : Ref sig .tc := ⟨.hbm, 424, rfl⟩
abbrev main_v354 : Ref sig .tc := ⟨.hbm, 425, rfl⟩
abbrev main_v355 : Ref sig .tc := ⟨.hbm, 426, rfl⟩
abbrev main_v356 : Ref sig .tc := ⟨.hbm, 427, rfl⟩
abbrev main_v357 : Ref sig .tc := ⟨.hbm, 428, rfl⟩
abbrev main_v358 : Ref sig .tc := ⟨.hbm, 429, rfl⟩
abbrev main_v359 : Ref sig .tc := ⟨.hbm, 430, rfl⟩
abbrev main_cst_52 : Ref sig .tc := ⟨.hbm, 431, rfl⟩
abbrev main_v360 : Ref sig .tc := ⟨.hbm, 432, rfl⟩
abbrev main_cst_53 : Ref sig .tc := ⟨.hbm, 433, rfl⟩
abbrev main_v361 : Ref sig .tc := ⟨.hbm, 434, rfl⟩
abbrev main_v362 : Ref sig .tc := ⟨.hbm, 435, rfl⟩
abbrev main_v363 : Ref sig .tc := ⟨.hbm, 436, rfl⟩
abbrev main_v364 : Ref sig .tc := ⟨.hbm, 437, rfl⟩
abbrev main_v365 : Ref sig .tc := ⟨.hbm, 438, rfl⟩
abbrev main_v366 : Ref sig .tc := ⟨.hbm, 439, rfl⟩
abbrev main_v367 : Ref sig .tc := ⟨.hbm, 440, rfl⟩
abbrev main_v368 : Ref sig .tc := ⟨.hbm, 441, rfl⟩
abbrev main_cst_54 : Ref sig .tc := ⟨.hbm, 442, rfl⟩
abbrev main_v369 : Ref sig .tc := ⟨.hbm, 443, rfl⟩
abbrev main_v370 : Ref sig .tc := ⟨.hbm, 444, rfl⟩
abbrev main_cst_55 : Ref sig .tc := ⟨.hbm, 445, rfl⟩
abbrev main_v371 : Ref sig .tc := ⟨.hbm, 446, rfl⟩
abbrev main_v372 : Ref sig .tc := ⟨.hbm, 447, rfl⟩
abbrev main_v373 : Ref sig .tc := ⟨.hbm, 448, rfl⟩
abbrev main_cst_56 : Ref sig .tc := ⟨.hbm, 449, rfl⟩
abbrev main_call3_v0 : Ref sig .tc := ⟨.hbm, 450, rfl⟩
abbrev main_v374 : Ref sig .tc := ⟨.hbm, 451, rfl⟩
abbrev main_cst_57 : Ref sig .tc := ⟨.hbm, 452, rfl⟩
abbrev main_v375 : Ref sig .tc := ⟨.hbm, 453, rfl⟩
abbrev main_cst_58 : Ref sig .tc := ⟨.hbm, 454, rfl⟩
abbrev main_v376 : Ref sig .tc := ⟨.hbm, 455, rfl⟩
abbrev main_cst_59 : Ref sig .tc := ⟨.hbm, 456, rfl⟩
abbrev main_cst_60 : Ref sig .tc := ⟨.hbm, 457, rfl⟩
abbrev main_v377 : Ref sig .tc := ⟨.hbm, 458, rfl⟩
abbrev main_cst_61 : Ref sig .tc := ⟨.hbm, 459, rfl⟩
abbrev main_v378 : Ref sig .tc := ⟨.hbm, 460, rfl⟩
abbrev main_cst_62 : Ref sig .tc := ⟨.hbm, 461, rfl⟩
abbrev main_v379 : Ref sig .tc := ⟨.hbm, 462, rfl⟩
abbrev main_cst_63 : Ref sig .tc := ⟨.hbm, 463, rfl⟩
abbrev main_v380 : Ref sig .tc := ⟨.hbm, 464, rfl⟩
abbrev main_cst_64 : Ref sig .tc := ⟨.hbm, 465, rfl⟩
abbrev main_v381 : Ref sig .tc := ⟨.hbm, 466, rfl⟩
abbrev main_v382 : Ref sig .tc := ⟨.hbm, 467, rfl⟩
abbrev main_v383 : Ref sig .tc := ⟨.hbm, 468, rfl⟩
abbrev main_v384 : Ref sig .tc := ⟨.hbm, 469, rfl⟩
abbrev main_v385 : Ref sig .tc := ⟨.hbm, 470, rfl⟩
abbrev main_v386 : Ref sig .tc := ⟨.hbm, 471, rfl⟩
abbrev main_cst_65 : Ref sig .tc := ⟨.hbm, 472, rfl⟩
abbrev main_v387 : Ref sig .tc := ⟨.hbm, 473, rfl⟩
abbrev main_v388 : Ref sig .tc := ⟨.hbm, 474, rfl⟩
abbrev main_v389 : Ref sig .tc := ⟨.hbm, 475, rfl⟩
abbrev main_v390 : Ref sig .tc := ⟨.hbm, 476, rfl⟩
abbrev main_v391 : Ref sig .tc := ⟨.hbm, 477, rfl⟩
abbrev main_v392 : Ref sig .tc := ⟨.hbm, 478, rfl⟩
abbrev main_v393 : Ref sig .tc := ⟨.hbm, 479, rfl⟩
abbrev main_v394 : Ref sig .tc := ⟨.hbm, 480, rfl⟩
abbrev main_v395 : Ref sig .tc := ⟨.hbm, 481, rfl⟩
abbrev main_cst_66 : Ref sig .tc := ⟨.hbm, 482, rfl⟩
abbrev main_v396 : Ref sig .tc := ⟨.hbm, 483, rfl⟩
abbrev main_cst_67 : Ref sig .tc := ⟨.hbm, 484, rfl⟩
abbrev main_v397 : Ref sig .tc := ⟨.hbm, 485, rfl⟩
abbrev main_v398 : Ref sig .tc := ⟨.hbm, 486, rfl⟩
abbrev main_cst_68 : Ref sig .tc := ⟨.hbm, 487, rfl⟩
abbrev main_v399 : Ref sig .tc := ⟨.hbm, 488, rfl⟩
abbrev main_v400 : Ref sig .tc := ⟨.hbm, 489, rfl⟩
abbrev main_v401 : Ref sig .tc := ⟨.hbm, 490, rfl⟩
abbrev main_cst_69 : Ref sig .tc := ⟨.hbm, 491, rfl⟩
abbrev main_v402 : Ref sig .tc := ⟨.hbm, 492, rfl⟩
abbrev main_cst_70 : Ref sig .tc := ⟨.hbm, 493, rfl⟩
abbrev main_v403 : Ref sig .tc := ⟨.hbm, 494, rfl⟩
abbrev main_v404 : Ref sig .tc := ⟨.hbm, 495, rfl⟩
abbrev main_cst_71 : Ref sig .tc := ⟨.hbm, 496, rfl⟩
abbrev main_v405 : Ref sig .tc := ⟨.hbm, 497, rfl⟩
abbrev main_v406 : Ref sig .tc := ⟨.hbm, 498, rfl⟩
abbrev main_v407 : Ref sig .tc := ⟨.hbm, 499, rfl⟩
abbrev main_cst_72 : Ref sig .tc := ⟨.hbm, 500, rfl⟩
abbrev main_v408 : Ref sig .tc := ⟨.hbm, 501, rfl⟩
abbrev main_cst_73 : Ref sig .tc := ⟨.hbm, 502, rfl⟩
abbrev main_v409 : Ref sig .tc := ⟨.hbm, 503, rfl⟩
abbrev main_v410 : Ref sig .tc := ⟨.hbm, 504, rfl⟩
abbrev main_cst_74 : Ref sig .tc := ⟨.hbm, 505, rfl⟩
abbrev main_v411 : Ref sig .tc := ⟨.hbm, 506, rfl⟩
abbrev main_v412 : Ref sig .tc := ⟨.hbm, 507, rfl⟩
abbrev main_v413 : Ref sig .tc := ⟨.hbm, 508, rfl⟩
abbrev main_cst_75 : Ref sig .tc := ⟨.hbm, 509, rfl⟩
abbrev main_v414 : Ref sig .tc := ⟨.hbm, 510, rfl⟩
abbrev main_cst_76 : Ref sig .tc := ⟨.hbm, 511, rfl⟩
abbrev main_v415 : Ref sig .tc := ⟨.hbm, 512, rfl⟩
abbrev main_v416 : Ref sig .tc := ⟨.hbm, 513, rfl⟩
abbrev main_cst_77 : Ref sig .tc := ⟨.hbm, 514, rfl⟩
abbrev main_v417 : Ref sig .tc := ⟨.hbm, 515, rfl⟩
abbrev main_v418 : Ref sig .tc := ⟨.hbm, 516, rfl⟩
abbrev main_v419 : Ref sig .tc := ⟨.hbm, 517, rfl⟩
abbrev main_cst_78 : Ref sig .tc := ⟨.hbm, 518, rfl⟩
abbrev main_v420 : Ref sig .tc := ⟨.hbm, 519, rfl⟩
abbrev main_cst_79 : Ref sig .tc := ⟨.hbm, 520, rfl⟩
abbrev main_v421 : Ref sig .tc := ⟨.hbm, 521, rfl⟩
abbrev main_v422 : Ref sig .tc := ⟨.hbm, 522, rfl⟩
abbrev main_cst_80 : Ref sig .tc := ⟨.hbm, 523, rfl⟩
abbrev main_v423 : Ref sig .tc := ⟨.hbm, 524, rfl⟩
abbrev main_v424 : Ref sig .tc := ⟨.hbm, 525, rfl⟩
abbrev main_v425 : Ref sig .tc := ⟨.hbm, 526, rfl⟩
abbrev main_cst_81 : Ref sig .tc := ⟨.hbm, 527, rfl⟩
abbrev main_v426 : Ref sig .tc := ⟨.hbm, 528, rfl⟩
abbrev main_cst_82 : Ref sig .tc := ⟨.hbm, 529, rfl⟩
abbrev main_v427 : Ref sig .tc := ⟨.hbm, 530, rfl⟩
abbrev main_v428 : Ref sig .tc := ⟨.hbm, 531, rfl⟩
abbrev main_cst_83 : Ref sig .tc := ⟨.hbm, 532, rfl⟩
abbrev main_v429 : Ref sig .tc := ⟨.hbm, 533, rfl⟩
abbrev main_v430 : Ref sig .tc := ⟨.hbm, 534, rfl⟩
abbrev main_v431 : Ref sig .tc := ⟨.hbm, 535, rfl⟩
abbrev main_cst_84 : Ref sig .tc := ⟨.hbm, 536, rfl⟩
abbrev main_v432 : Ref sig .tc := ⟨.hbm, 537, rfl⟩
abbrev main_cst_85 : Ref sig .tc := ⟨.hbm, 538, rfl⟩
abbrev main_v433 : Ref sig .tc := ⟨.hbm, 539, rfl⟩
abbrev main_v434 : Ref sig .tc := ⟨.hbm, 540, rfl⟩
abbrev main_cst_86 : Ref sig .tc := ⟨.hbm, 541, rfl⟩
abbrev main_v435 : Ref sig .tc := ⟨.hbm, 542, rfl⟩
abbrev main_v436 : Ref sig .tc := ⟨.hbm, 543, rfl⟩
abbrev main_v437 : Ref sig .tc := ⟨.hbm, 544, rfl⟩
abbrev main_cst_87 : Ref sig .tc := ⟨.hbm, 545, rfl⟩
abbrev main_v438 : Ref sig .tc := ⟨.hbm, 546, rfl⟩
abbrev main_cst_88 : Ref sig .tc := ⟨.hbm, 547, rfl⟩
abbrev main_v439 : Ref sig .tc := ⟨.hbm, 548, rfl⟩
abbrev main_v440 : Ref sig .tc := ⟨.hbm, 549, rfl⟩
abbrev main_cst_89 : Ref sig .tc := ⟨.hbm, 550, rfl⟩
abbrev main_v441 : Ref sig .tc := ⟨.hbm, 551, rfl⟩
abbrev main_v442 : Ref sig .tc := ⟨.hbm, 552, rfl⟩
abbrev main_v443 : Ref sig .tc := ⟨.hbm, 553, rfl⟩
abbrev main_cst_90 : Ref sig .tc := ⟨.hbm, 554, rfl⟩
abbrev main_v444 : Ref sig .tc := ⟨.hbm, 555, rfl⟩
abbrev main_cst_91 : Ref sig .tc := ⟨.hbm, 556, rfl⟩
abbrev main_v445 : Ref sig .tc := ⟨.hbm, 557, rfl⟩
abbrev main_v446 : Ref sig .tc := ⟨.hbm, 558, rfl⟩
abbrev main_cst_92 : Ref sig .tc := ⟨.hbm, 559, rfl⟩
abbrev main_v447 : Ref sig .tc := ⟨.hbm, 560, rfl⟩
abbrev main_v448 : Ref sig .tc := ⟨.hbm, 561, rfl⟩
abbrev main_v449 : Ref sig .tc := ⟨.hbm, 562, rfl⟩
abbrev main_v450 : Ref sig .tc := ⟨.hbm, 563, rfl⟩
abbrev main_v451 : Ref sig .tc := ⟨.hbm, 564, rfl⟩
abbrev main_v452 : Ref sig .tc := ⟨.hbm, 565, rfl⟩
abbrev main_v453 : Ref sig .tc := ⟨.hbm, 566, rfl⟩
abbrev main_v454 : Ref sig .tc := ⟨.hbm, 567, rfl⟩
abbrev main_v455 : Ref sig .tc := ⟨.hbm, 568, rfl⟩
abbrev main_v456 : Ref sig .tc := ⟨.hbm, 569, rfl⟩
abbrev main_v457 : Ref sig .tc := ⟨.hbm, 570, rfl⟩
abbrev main_v458 : Ref sig .tc := ⟨.hbm, 571, rfl⟩
abbrev main_v459 : Ref sig .tc := ⟨.hbm, 572, rfl⟩
abbrev main_v460 : Ref sig .tc := ⟨.hbm, 573, rfl⟩
abbrev main_v461 : Ref sig .tc := ⟨.hbm, 574, rfl⟩
abbrev main_v462 : Ref sig .tc := ⟨.hbm, 575, rfl⟩
abbrev main_v463 : Ref sig .tc := ⟨.hbm, 576, rfl⟩
abbrev main_cst_93 : Ref sig .tc := ⟨.hbm, 577, rfl⟩
abbrev main_v464 : Ref sig .tc := ⟨.hbm, 578, rfl⟩
abbrev main_cst_94 : Ref sig .tc := ⟨.hbm, 579, rfl⟩
abbrev main_v465 : Ref sig .tc := ⟨.hbm, 580, rfl⟩
abbrev main_cst_95 : Ref sig .tc := ⟨.hbm, 581, rfl⟩
abbrev main_v466 : Ref sig .tc := ⟨.hbm, 582, rfl⟩
abbrev main_cst_96 : Ref sig .tc := ⟨.hbm, 583, rfl⟩
abbrev main_v467 : Ref sig .tc := ⟨.hbm, 584, rfl⟩
abbrev main_v468 : Ref sig .tc := ⟨.hbm, 585, rfl⟩
abbrev main_v469 : Ref sig .tc := ⟨.hbm, 586, rfl⟩
abbrev main_v470 : Ref sig .tc := ⟨.hbm, 587, rfl⟩
abbrev main_v471 : Ref sig .tc := ⟨.hbm, 588, rfl⟩
abbrev main_v472 : Ref sig .tc := ⟨.hbm, 589, rfl⟩
abbrev main_cst_97 : Ref sig .tc := ⟨.hbm, 590, rfl⟩
abbrev main_v473 : Ref sig .tc := ⟨.hbm, 591, rfl⟩
abbrev main_v474 : Ref sig .tc := ⟨.hbm, 592, rfl⟩
abbrev main_v475 : Ref sig .tc := ⟨.hbm, 593, rfl⟩
abbrev main_v476 : Ref sig .tc := ⟨.hbm, 594, rfl⟩
abbrev main_v477 : Ref sig .tc := ⟨.hbm, 595, rfl⟩
abbrev main_v478 : Ref sig .tc := ⟨.hbm, 596, rfl⟩
abbrev main_v479 : Ref sig .tc := ⟨.hbm, 597, rfl⟩
abbrev main_v480 : Ref sig .tc := ⟨.hbm, 598, rfl⟩
abbrev main_v481 : Ref sig .tc := ⟨.hbm, 599, rfl⟩
abbrev main_cst_98 : Ref sig .tc := ⟨.hbm, 600, rfl⟩
abbrev main_v482 : Ref sig .tc := ⟨.hbm, 601, rfl⟩
abbrev main_cst_99 : Ref sig .tc := ⟨.hbm, 602, rfl⟩
abbrev main_v483 : Ref sig .tc := ⟨.hbm, 603, rfl⟩
abbrev main_v484 : Ref sig .tc := ⟨.hbm, 604, rfl⟩
abbrev main_cst_100 : Ref sig .tc := ⟨.hbm, 605, rfl⟩
abbrev main_v485 : Ref sig .tc := ⟨.hbm, 606, rfl⟩
abbrev main_v486 : Ref sig .tc := ⟨.hbm, 607, rfl⟩
abbrev main_v487 : Ref sig .tc := ⟨.hbm, 608, rfl⟩
abbrev main_cst_101 : Ref sig .tc := ⟨.hbm, 609, rfl⟩
abbrev main_v488 : Ref sig .tc := ⟨.hbm, 610, rfl⟩
abbrev main_cst_102 : Ref sig .tc := ⟨.hbm, 611, rfl⟩
abbrev main_v489 : Ref sig .tc := ⟨.hbm, 612, rfl⟩
abbrev main_v490 : Ref sig .tc := ⟨.hbm, 613, rfl⟩
abbrev main_cst_103 : Ref sig .tc := ⟨.hbm, 614, rfl⟩
abbrev main_v491 : Ref sig .tc := ⟨.hbm, 615, rfl⟩
abbrev main_v492 : Ref sig .tc := ⟨.hbm, 616, rfl⟩
abbrev main_v493 : Ref sig .tc := ⟨.hbm, 617, rfl⟩
abbrev main_cst_104 : Ref sig .tc := ⟨.hbm, 618, rfl⟩
abbrev main_v494 : Ref sig .tc := ⟨.hbm, 619, rfl⟩
abbrev main_cst_105 : Ref sig .tc := ⟨.hbm, 620, rfl⟩
abbrev main_v495 : Ref sig .tc := ⟨.hbm, 621, rfl⟩
abbrev main_v496 : Ref sig .tc := ⟨.hbm, 622, rfl⟩
abbrev main_cst_106 : Ref sig .tc := ⟨.hbm, 623, rfl⟩
abbrev main_v497 : Ref sig .tc := ⟨.hbm, 624, rfl⟩
abbrev main_v498 : Ref sig .tc := ⟨.hbm, 625, rfl⟩
abbrev main_v499 : Ref sig .tc := ⟨.hbm, 626, rfl⟩
abbrev main_cst_107 : Ref sig .tc := ⟨.hbm, 627, rfl⟩
abbrev main_v500 : Ref sig .tc := ⟨.hbm, 628, rfl⟩
abbrev main_cst_108 : Ref sig .tc := ⟨.hbm, 629, rfl⟩
abbrev main_v501 : Ref sig .tc := ⟨.hbm, 630, rfl⟩
abbrev main_v502 : Ref sig .tc := ⟨.hbm, 631, rfl⟩
abbrev main_cst_109 : Ref sig .tc := ⟨.hbm, 632, rfl⟩
abbrev main_v503 : Ref sig .tc := ⟨.hbm, 633, rfl⟩
abbrev main_v504 : Ref sig .tc := ⟨.hbm, 634, rfl⟩
abbrev main_v505 : Ref sig .tc := ⟨.hbm, 635, rfl⟩
abbrev main_cst_110 : Ref sig .tc := ⟨.hbm, 636, rfl⟩
abbrev main_v506 : Ref sig .tc := ⟨.hbm, 637, rfl⟩
abbrev main_cst_111 : Ref sig .tc := ⟨.hbm, 638, rfl⟩
abbrev main_v507 : Ref sig .tc := ⟨.hbm, 639, rfl⟩
abbrev main_v508 : Ref sig .tc := ⟨.hbm, 640, rfl⟩
abbrev main_cst_112 : Ref sig .tc := ⟨.hbm, 641, rfl⟩
abbrev main_v509 : Ref sig .tc := ⟨.hbm, 642, rfl⟩
abbrev main_v510 : Ref sig .tc := ⟨.hbm, 643, rfl⟩
abbrev main_v511 : Ref sig .tc := ⟨.hbm, 644, rfl⟩
abbrev main_cst_113 : Ref sig .tc := ⟨.hbm, 645, rfl⟩
abbrev main_v512 : Ref sig .tc := ⟨.hbm, 646, rfl⟩
abbrev main_cst_114 : Ref sig .tc := ⟨.hbm, 647, rfl⟩
abbrev main_v513 : Ref sig .tc := ⟨.hbm, 648, rfl⟩
abbrev main_v514 : Ref sig .tc := ⟨.hbm, 649, rfl⟩
abbrev main_cst_115 : Ref sig .tc := ⟨.hbm, 650, rfl⟩
abbrev main_v515 : Ref sig .tc := ⟨.hbm, 651, rfl⟩
abbrev main_v516 : Ref sig .tc := ⟨.hbm, 652, rfl⟩
abbrev main_v517 : Ref sig .tc := ⟨.hbm, 653, rfl⟩
abbrev main_cst_116 : Ref sig .tc := ⟨.hbm, 654, rfl⟩
abbrev main_v518 : Ref sig .tc := ⟨.hbm, 655, rfl⟩
abbrev main_cst_117 : Ref sig .tc := ⟨.hbm, 656, rfl⟩
abbrev main_v519 : Ref sig .tc := ⟨.hbm, 657, rfl⟩
abbrev main_v520 : Ref sig .tc := ⟨.hbm, 658, rfl⟩
abbrev main_cst_118 : Ref sig .tc := ⟨.hbm, 659, rfl⟩
abbrev main_v521 : Ref sig .tc := ⟨.hbm, 660, rfl⟩
abbrev main_v522 : Ref sig .tc := ⟨.hbm, 661, rfl⟩
abbrev main_v523 : Ref sig .tc := ⟨.hbm, 662, rfl⟩
abbrev main_cst_119 : Ref sig .tc := ⟨.hbm, 663, rfl⟩
abbrev main_v524 : Ref sig .tc := ⟨.hbm, 664, rfl⟩
abbrev main_cst_120 : Ref sig .tc := ⟨.hbm, 665, rfl⟩
abbrev main_v525 : Ref sig .tc := ⟨.hbm, 666, rfl⟩
abbrev main_v526 : Ref sig .tc := ⟨.hbm, 667, rfl⟩
abbrev main_cst_121 : Ref sig .tc := ⟨.hbm, 668, rfl⟩
abbrev main_v527 : Ref sig .tc := ⟨.hbm, 669, rfl⟩
abbrev main_v528 : Ref sig .tc := ⟨.hbm, 670, rfl⟩
abbrev main_v529 : Ref sig .tc := ⟨.hbm, 671, rfl⟩
abbrev main_cst_122 : Ref sig .tc := ⟨.hbm, 672, rfl⟩
abbrev main_v530 : Ref sig .tc := ⟨.hbm, 673, rfl⟩
abbrev main_cst_123 : Ref sig .tc := ⟨.hbm, 674, rfl⟩
abbrev main_v531 : Ref sig .tc := ⟨.hbm, 675, rfl⟩
abbrev main_v532 : Ref sig .tc := ⟨.hbm, 676, rfl⟩
abbrev main_cst_124 : Ref sig .tc := ⟨.hbm, 677, rfl⟩
abbrev main_v533 : Ref sig .tc := ⟨.hbm, 678, rfl⟩
abbrev main_v534 : Ref sig .tc := ⟨.hbm, 679, rfl⟩
abbrev main_v535 : Ref sig .tc := ⟨.hbm, 680, rfl⟩
abbrev main_v536 : Ref sig .tc := ⟨.hbm, 681, rfl⟩
abbrev main_v537 : Ref sig .tc := ⟨.hbm, 682, rfl⟩
abbrev main_v538 : Ref sig .tc := ⟨.hbm, 683, rfl⟩
abbrev main_v539 : Ref sig .tc := ⟨.hbm, 684, rfl⟩
abbrev main_v540 : Ref sig .tc := ⟨.hbm, 685, rfl⟩
abbrev main_v541 : Ref sig .tc := ⟨.hbm, 686, rfl⟩
abbrev main_v542 : Ref sig .tc := ⟨.hbm, 687, rfl⟩
abbrev main_v543 : Ref sig .tc := ⟨.hbm, 688, rfl⟩
abbrev main_v544 : Ref sig .tc := ⟨.hbm, 689, rfl⟩
abbrev main_v545 : Ref sig .tc := ⟨.hbm, 690, rfl⟩
abbrev main_v546 : Ref sig .tc := ⟨.hbm, 691, rfl⟩
abbrev main_v547 : Ref sig .tc := ⟨.hbm, 692, rfl⟩
abbrev main_v548 : Ref sig .tc := ⟨.hbm, 693, rfl⟩
abbrev main_v549 : Ref sig .tc := ⟨.hbm, 694, rfl⟩
abbrev main_call4_cst : Ref sig .tc := ⟨.hbm, 695, rfl⟩
abbrev main_call4_v0 : Ref sig .tc := ⟨.hbm, 696, rfl⟩
abbrev main_call4_v1 : Ref sig .tc := ⟨.hbm, 697, rfl⟩
abbrev main_call4_v2 : Ref sig .tc := ⟨.hbm, 698, rfl⟩
abbrev main_call4_v3 : Ref sig .tc := ⟨.hbm, 699, rfl⟩
abbrev main_call4_v4 : Ref sig .tc := ⟨.hbm, 700, rfl⟩
abbrev main_call4_v5 : Ref sig .tc := ⟨.hbm, 701, rfl⟩
abbrev main_call4_v6 : Ref sig .tc := ⟨.hbm, 702, rfl⟩
abbrev main_call4_v7 : Ref sig .tc := ⟨.hbm, 703, rfl⟩
abbrev main_call4_v8 : Ref sig .tc := ⟨.hbm, 704, rfl⟩
abbrev main_call4_v9 : Ref sig .tc := ⟨.hbm, 705, rfl⟩
abbrev main_call4_v10 : Ref sig .tc := ⟨.hbm, 706, rfl⟩
abbrev main_call4_v11 : Ref sig .tc := ⟨.hbm, 707, rfl⟩
abbrev main_v550 : Ref sig .tc := ⟨.hbm, 708, rfl⟩
abbrev main_v551 : Ref sig .tc := ⟨.hbm, 709, rfl⟩
abbrev main_v552 : Ref sig .tc := ⟨.hbm, 710, rfl⟩
abbrev main_cst_125 : Ref sig .tc := ⟨.hbm, 711, rfl⟩
abbrev main_cst_126 : Ref sig .tc := ⟨.hbm, 712, rfl⟩
abbrev main_call5_v0 : Ref sig .tc := ⟨.hbm, 713, rfl⟩
abbrev main_call5_v1 : Ref sig .tc := ⟨.hbm, 714, rfl⟩
abbrev main_call5_v2 : Ref sig .tc := ⟨.hbm, 715, rfl⟩
abbrev main_call5_v3 : Ref sig .tc := ⟨.hbm, 716, rfl⟩
abbrev main_call5_v4 : Ref sig .tc := ⟨.hbm, 717, rfl⟩
abbrev main_v553 : Ref sig .tc := ⟨.hbm, 718, rfl⟩
abbrev main_v554 : Ref sig .tc := ⟨.hbm, 719, rfl⟩
abbrev main_v555 : Ref sig .tc := ⟨.hbm, 720, rfl⟩
abbrev main_v556 : Ref sig .tc := ⟨.hbm, 721, rfl⟩
abbrev main_v557 : Ref sig .tc := ⟨.hbm, 722, rfl⟩
abbrev main_c_127 : Ref sig .tc := ⟨.hbm, 723, rfl⟩
abbrev main_v558 : Ref sig .tc := ⟨.hbm, 724, rfl⟩
abbrev main_c_128 : Ref sig .tc := ⟨.hbm, 725, rfl⟩
abbrev main_v559 : Ref sig .tc := ⟨.hbm, 726, rfl⟩
abbrev main_v560 : Ref sig .tc := ⟨.hbm, 727, rfl⟩
abbrev main_c_129 : Ref sig .tc := ⟨.hbm, 728, rfl⟩
abbrev main_c_130 : Ref sig .tc := ⟨.hbm, 729, rfl⟩
abbrev main_call6_v0 : Ref sig .tc := ⟨.hbm, 730, rfl⟩
abbrev main_call6_v1 : Ref sig .tc := ⟨.hbm, 731, rfl⟩
abbrev main_call6_v2 : Ref sig .tc := ⟨.hbm, 732, rfl⟩
abbrev main_call6_v3 : Ref sig .tc := ⟨.hbm, 733, rfl⟩
abbrev main_call6_v4 : Ref sig .tc := ⟨.hbm, 734, rfl⟩
abbrev main_v561 : Ref sig .tc := ⟨.hbm, 735, rfl⟩
abbrev main_v562 : Ref sig .tc := ⟨.hbm, 736, rfl⟩
abbrev main_v563 : Ref sig .tc := ⟨.hbm, 737, rfl⟩
abbrev main_v564 : Ref sig .tc := ⟨.hbm, 738, rfl⟩
abbrev main_v565 : Ref sig .tc := ⟨.hbm, 739, rfl⟩
abbrev main_v566 : Ref sig .tc := ⟨.hbm, 740, rfl⟩
abbrev main_v567 : Ref sig .tc := ⟨.hbm, 741, rfl⟩
abbrev main_cst_131 : Ref sig .tc := ⟨.hbm, 742, rfl⟩
abbrev main_call7_v0 : Ref sig .tc := ⟨.hbm, 743, rfl⟩
abbrev main_call7_v1 : Ref sig .tc := ⟨.hbm, 744, rfl⟩
abbrev main_v568 : Ref sig .tc := ⟨.hbm, 745, rfl⟩
abbrev main_cst_132 : Ref sig .tc := ⟨.hbm, 746, rfl⟩
abbrev main_v569 : Ref sig .tc := ⟨.hbm, 747, rfl⟩
abbrev main_v570 : Ref sig .tc := ⟨.hbm, 748, rfl⟩
abbrev main_v571 : Ref sig .tc := ⟨.hbm, 749, rfl⟩
abbrev main_v572 : Ref sig .tc := ⟨.hbm, 750, rfl⟩
abbrev main_v573 : Ref sig .tc := ⟨.hbm, 751, rfl⟩
abbrev main_v574 : Ref sig .tc := ⟨.hbm, 752, rfl⟩
abbrev main_v575 : Ref sig .tc := ⟨.hbm, 753, rfl⟩
abbrev main_cst_133 : Ref sig .tc := ⟨.hbm, 754, rfl⟩
abbrev main_call8_v0 : Ref sig .tc := ⟨.hbm, 755, rfl⟩
abbrev main_call8_v1 : Ref sig .tc := ⟨.hbm, 756, rfl⟩
abbrev main_v576 : Ref sig .tc := ⟨.hbm, 757, rfl⟩
abbrev main_cst_134 : Ref sig .tc := ⟨.hbm, 758, rfl⟩
abbrev main_v577 : Ref sig .tc := ⟨.hbm, 759, rfl⟩
abbrev main_v578 : Ref sig .tc := ⟨.hbm, 760, rfl⟩
abbrev main_v579 : Ref sig .tc := ⟨.hbm, 761, rfl⟩
abbrev main_v580 : Ref sig .tc := ⟨.hbm, 762, rfl⟩
abbrev main_v581 : Ref sig .tc := ⟨.hbm, 763, rfl⟩
abbrev main_v582 : Ref sig .tc := ⟨.hbm, 764, rfl⟩
abbrev main_v583 : Ref sig .tc := ⟨.hbm, 765, rfl⟩
abbrev main_cst_135 : Ref sig .tc := ⟨.hbm, 766, rfl⟩
abbrev main_call9_v0 : Ref sig .tc := ⟨.hbm, 767, rfl⟩
abbrev main_call9_v1 : Ref sig .tc := ⟨.hbm, 768, rfl⟩
abbrev main_v584 : Ref sig .tc := ⟨.hbm, 769, rfl⟩
abbrev main_cst_136 : Ref sig .tc := ⟨.hbm, 770, rfl⟩
abbrev main_v585 : Ref sig .tc := ⟨.hbm, 771, rfl⟩
abbrev main_v586 : Ref sig .tc := ⟨.hbm, 772, rfl⟩
abbrev main_v587 : Ref sig .tc := ⟨.hbm, 773, rfl⟩
abbrev main_v588 : Ref sig .tc := ⟨.hbm, 774, rfl⟩
abbrev main_v589 : Ref sig .tc := ⟨.hbm, 775, rfl⟩
abbrev main_v590 : Ref sig .tc := ⟨.hbm, 776, rfl⟩
abbrev main_v591 : Ref sig .tc := ⟨.hbm, 777, rfl⟩
abbrev main_cst_137 : Ref sig .tc := ⟨.hbm, 778, rfl⟩
abbrev main_call10_v0 : Ref sig .tc := ⟨.hbm, 779, rfl⟩
abbrev main_call10_v1 : Ref sig .tc := ⟨.hbm, 780, rfl⟩
abbrev main_v592 : Ref sig .tc := ⟨.hbm, 781, rfl⟩
abbrev main_cst_138 : Ref sig .tc := ⟨.hbm, 782, rfl⟩
abbrev main_v593 : Ref sig .tc := ⟨.hbm, 783, rfl⟩
abbrev main_v594 : Ref sig .tc := ⟨.hbm, 784, rfl⟩
abbrev main_v595 : Ref sig .tc := ⟨.hbm, 785, rfl⟩
abbrev main_v596 : Ref sig .tc := ⟨.hbm, 786, rfl⟩
abbrev main_v597 : Ref sig .tc := ⟨.hbm, 787, rfl⟩
abbrev main_v598 : Ref sig .tc := ⟨.hbm, 788, rfl⟩
abbrev main_v599 : Ref sig .tc := ⟨.hbm, 789, rfl⟩
abbrev main_v600 : Ref sig .tc := ⟨.hbm, 790, rfl⟩
abbrev main_cst_139 : Ref sig .tc := ⟨.hbm, 791, rfl⟩
abbrev main_call11_v0 : Ref sig .tc := ⟨.hbm, 792, rfl⟩
abbrev main_call11_v1 : Ref sig .tc := ⟨.hbm, 793, rfl⟩
abbrev main_v601 : Ref sig .tc := ⟨.hbm, 794, rfl⟩
abbrev main_cst_140 : Ref sig .tc := ⟨.hbm, 795, rfl⟩
abbrev main_v602 : Ref sig .tc := ⟨.hbm, 796, rfl⟩
abbrev main_c_141 : Ref sig .tc := ⟨.hbm, 797, rfl⟩
abbrev main_v603 : Ref sig .tc := ⟨.hbm, 798, rfl⟩
abbrev main_v604 : Ref sig .tc := ⟨.hbm, 799, rfl⟩
abbrev main_v605 : Ref sig .tc := ⟨.hbm, 800, rfl⟩
abbrev main_v606 : Ref sig .tc := ⟨.hbm, 801, rfl⟩
abbrev main_v607 : Ref sig .tc := ⟨.hbm, 802, rfl⟩
abbrev main_v608 : Ref sig .tc := ⟨.hbm, 803, rfl⟩
abbrev main_v609 : Ref sig .tc := ⟨.hbm, 804, rfl⟩
abbrev main_v610 : Ref sig .tc := ⟨.hbm, 805, rfl⟩
abbrev main_cst_142 : Ref sig .tc := ⟨.hbm, 806, rfl⟩
abbrev main_call12_v0 : Ref sig .tc := ⟨.hbm, 807, rfl⟩
abbrev main_call12_v1 : Ref sig .tc := ⟨.hbm, 808, rfl⟩
abbrev main_v611 : Ref sig .tc := ⟨.hbm, 809, rfl⟩
abbrev main_cst_143 : Ref sig .tc := ⟨.hbm, 810, rfl⟩
abbrev main_v612 : Ref sig .tc := ⟨.hbm, 811, rfl⟩
abbrev main_v613 : Ref sig .tc := ⟨.hbm, 812, rfl⟩
abbrev main_v614 : Ref sig .tc := ⟨.hbm, 813, rfl⟩
abbrev main_cst_144 : Ref sig .tc := ⟨.hbm, 814, rfl⟩
abbrev main_v615 : Ref sig .tc := ⟨.hbm, 815, rfl⟩
abbrev main_v616 : Ref sig .tc := ⟨.hbm, 816, rfl⟩
abbrev main_v617 : Ref sig .tc := ⟨.hbm, 817, rfl⟩
abbrev main_v618 : Ref sig .tc := ⟨.hbm, 818, rfl⟩
abbrev main_cst_145 : Ref sig .tc := ⟨.hbm, 819, rfl⟩
abbrev main_v619 : Ref sig .tc := ⟨.hbm, 820, rfl⟩
abbrev main_v620 : Ref sig .tc := ⟨.hbm, 821, rfl⟩
abbrev main_v621 : Ref sig .tc := ⟨.hbm, 822, rfl⟩
abbrev main_v622 : Ref sig .tc := ⟨.hbm, 823, rfl⟩
abbrev main_v623 : Ref sig .tc := ⟨.hbm, 824, rfl⟩
abbrev main_v624 : Ref sig .tc := ⟨.hbm, 825, rfl⟩
abbrev main_v625 : Ref sig .tc := ⟨.hbm, 826, rfl⟩
abbrev main_v626 : Ref sig .tc := ⟨.hbm, 827, rfl⟩
abbrev main_v627 : Ref sig .tc := ⟨.hbm, 828, rfl⟩
abbrev main_v628 : Ref sig .tc := ⟨.hbm, 829, rfl⟩
abbrev main_v629 : Ref sig .tc := ⟨.hbm, 830, rfl⟩
abbrev main_v630 : Ref sig .tc := ⟨.hbm, 831, rfl⟩
abbrev main_v631 : Ref sig .tc := ⟨.hbm, 832, rfl⟩
abbrev main_v632 : Ref sig .tc := ⟨.hbm, 833, rfl⟩
abbrev main_v633 : Ref sig .tc := ⟨.hbm, 834, rfl⟩
abbrev main_cst_146 : Ref sig .tc := ⟨.hbm, 835, rfl⟩
abbrev main_v634 : Ref sig .tc := ⟨.hbm, 836, rfl⟩
abbrev main_v635 : Ref sig .tc := ⟨.hbm, 837, rfl⟩
abbrev main_v636 : Ref sig .tc := ⟨.hbm, 838, rfl⟩
abbrev main_v637 : Ref sig .tc := ⟨.hbm, 839, rfl⟩
abbrev main_cst_147 : Ref sig .tc := ⟨.hbm, 840, rfl⟩
abbrev main_v638 : Ref sig .tc := ⟨.hbm, 841, rfl⟩
abbrev main_v639 : Ref sig .tc := ⟨.hbm, 842, rfl⟩
abbrev main_v640 : Ref sig .tc := ⟨.hbm, 843, rfl⟩
abbrev main_v641 : Ref sig .tc := ⟨.hbm, 844, rfl⟩
abbrev main_v642 : Ref sig .tc := ⟨.hbm, 845, rfl⟩
abbrev main_v643 : Ref sig .tc := ⟨.hbm, 846, rfl⟩
abbrev main_v644 : Ref sig .tc := ⟨.hbm, 847, rfl⟩
abbrev main_v645 : Ref sig .tc := ⟨.hbm, 848, rfl⟩
abbrev main_cst_148 : Ref sig .tc := ⟨.hbm, 849, rfl⟩
abbrev main_v646 : Ref sig .tc := ⟨.hbm, 850, rfl⟩
abbrev main_v647 : Ref sig .tc := ⟨.hbm, 851, rfl⟩
abbrev main_v648 : Ref sig .tc := ⟨.hbm, 852, rfl⟩
abbrev main_v649 : Ref sig .tc := ⟨.hbm, 853, rfl⟩
abbrev main_cst_149 : Ref sig .tc := ⟨.hbm, 854, rfl⟩
abbrev main_call14_v0 : Ref sig .tc := ⟨.hbm, 855, rfl⟩
abbrev main_call14_v1 : Ref sig .tc := ⟨.hbm, 856, rfl⟩
abbrev main_v650 : Ref sig .tc := ⟨.hbm, 857, rfl⟩
abbrev main_v651 : Ref sig .tc := ⟨.hbm, 858, rfl⟩
abbrev main_v652 : Ref sig .tc := ⟨.hbm, 859, rfl⟩
abbrev main_v653 : Ref sig .tc := ⟨.hbm, 860, rfl⟩
abbrev main_v654 : Ref sig .tc := ⟨.hbm, 861, rfl⟩
abbrev main_v655 : Ref sig .tc := ⟨.hbm, 862, rfl⟩
abbrev main_cst_150 : Ref sig .tc := ⟨.hbm, 863, rfl⟩
abbrev main_v656 : Ref sig .tc := ⟨.hbm, 864, rfl⟩

abbrev nD : Nat := 1
abbrev τ : Topo := Topo.v7x

variable {F : FTy → Type} [FloatOps F]
-- ==== Proof.Frame.KernelIdeal.lean ====
/- The run of `KernelIdeal`: two pallas_calls (the convolution stack, then the projection with the spline) between stretches
   of host operations. For each call: the block of each window at a grid point, the body's run with the pieces it stores,
   each output's buffer after the body, and the body's obligation. Then the buffer contents at every boundary between the
   pieces of @main (`W0` … `W4`), every argument read back through them, and the frame: every execution terminates, the
   arguments are unchanged and every semaphore counter is zero at the end. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.TableIdle

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_spline_conv_stack` (pipeline 0), at the entry contents `V` — class R -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 4, through which its contents are stated (`View.read_writes_of_cover`: the
    choice does not matter). -/
abbrev VO0_4 : View sig .tc .vmem S1x256x2048 .f32 := (Memref.whole cc0_stg4_0 : Memref sig .tc .vmem S1x256x2048 .f32).view
/-- Each window's current staging memref at point `t`, spelled as the pipeline passes it (`bodyAt0`), and its wholeness. -/
abbrev ms0_0 (t : Fin cfg0.N) : Memref sig .tc .vmem S1x96x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x96 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x3x256x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x2048 .f32 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S256x2048 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f)) ∗ (∃ r, prngReg c r)) := by
  unfold Pipeline.ΦA; rw [scopedRest0_eq]; simp only [scM0_0, owns_whole]; try rfl

-- (the run's proof term is large: the definition's epilogue — `abstractNestedProofs` — walks it past the default budget)
set_option maxHeartbeats 1000000 in set_option sl_exec.squeezeSlice true in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S1x96x2048 .f32) (harg1 : arg1.IsWhole) (arg2 : Memref sig .tc .vmem S256x96 .f32) (harg2 : arg2.IsWhole) (arg3 : Memref sig .tc .vmem S3x3x256x128 .f32) (harg3 : arg3.IsWhole) (arg4 : Memref sig .tc .vmem S3x256x256 .f32) (harg4 : arg4.IsWhole) (arg5 : Memref sig .tc .vmem S1x256x2048 .f32) (harg5 : arg5.IsWhole) (arg6 : Memref sig .tc .vmem S256x2048 .f32) (harg6 : arg6.IsWhole)
    (x0 : Vec F S1x96x2048 .f32) (x1 : Vec F S256x96 .f32) (x2 : Vec F S3x3x256x128 .f32) (x3 : Vec F S3x256x256 .f32) :
    Σ' (L4 : List (View.Piece (Elt F) S1x256x2048 .f32)), { LT0 : List (View.Piece (Elt F) S256x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LT0)) -∗ K ⟨⟩))
          ⊢ wp frame (wpE (defs₀ (F := F)) Variants.none c none) E (cc0_spline_conv_stack i arg1 harg1 arg2 harg2 arg3 harg3 arg4 harg4 arg5 harg5 arg6 harg6) K } := by
  refine ⟨?_, ?_, fun E K => ?run⟩
  case run =>
    simp only [cc0_spline_conv_stack_eq_skeleton]; unfold cc0_spline_conv_stack_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

/-- The run's pieces for output 4 tile its block (4 stores of `S1x256x1024`, checked by the kernel's evaluation: Lib/Ring.lean `Piece.tiledL`, linear in the pieces, through a loop's `@[irreducible]` trip theorem too), so they cover it. -/
theorem cover0_A_4 (c : Dev nD) (i : grid0.Coords) (arg1 : Memref sig .tc .vmem S1x96x2048 .f32) (harg1 : arg1.IsWhole) (arg2 : Memref sig .tc .vmem S256x96 .f32) (harg2 : arg2.IsWhole) (arg3 : Memref sig .tc .vmem S3x3x256x128 .f32) (harg3 : arg3.IsWhole) (arg4 : Memref sig .tc .vmem S3x256x256 .f32) (harg4 : arg4.IsWhole) (arg5 : Memref sig .tc .vmem S1x256x2048 .f32) (harg5 : arg5.IsWhole) (arg6 : Memref sig .tc .vmem S256x2048 .f32) (harg6 : arg6.IsWhole)
    (x0 : Vec F S1x96x2048 .f32) (x1 : Vec F S256x96 .f32) (x2 : Vec F S3x3x256x128 .f32) (x3 : Vec F S3x256x256 .f32) (y : S1x256x2048.Idx) :
    ∃ pc ∈ (kernelRun0_A c i arg1 harg1 arg2 harg2 arg3 harg3 arg4 harg4 arg5 harg5 arg6 harg6 x0 x1 x2 x3).1, y ∈ pc.1.set :=
  View.cover_of_tiledL (kernelRun0_A c i arg1 harg1 arg2 harg2 arg3 harg3 arg4 harg4 arg5 harg5 arg6 harg6 x0 x1 x2 x3).1 S1x256x1024.size (by sl_kernel_rfl) y

/-- What the run leaves in output 4's staging buffer: its pieces read back over junk. -/
def out0_A_4 (c : Dev nD) (i : grid0.Coords) (arg1 : Memref sig .tc .vmem S1x96x2048 .f32) (harg1 : arg1.IsWhole) (arg2 : Memref sig .tc .vmem S256x96 .f32) (harg2 : arg2.IsWhole) (arg3 : Memref sig .tc .vmem S3x3x256x128 .f32) (harg3 : arg3.IsWhole) (arg4 : Memref sig .tc .vmem S3x256x256 .f32) (harg4 : arg4.IsWhole) (arg5 : Memref sig .tc .vmem S1x256x2048 .f32) (harg5 : arg5.IsWhole) (arg6 : Memref sig .tc .vmem S256x2048 .f32) (harg6 : arg6.IsWhole)
    (x0 : Vec F S1x96x2048 .f32) (x1 : Vec F S256x96 .f32) (x2 : Vec F S3x3x256x128 .f32) (x3 : Vec F S3x256x256 .f32) : Vec F S1x256x2048 .f32 :=
  VO0_4.read (Elt F) (VO0_4.writes (Elt F) VO0_4.junk (kernelRun0_A c i arg1 harg1 arg2 harg2 arg3 harg3 arg4 harg4 arg5 harg5 arg6 harg6 x0 x1 x2 x3).1)

/-! ## What the outputs hold after each point -/

/-- What the outputs' staging buffers hold after the body at point `t`: the run's contents at
    the point's memrefs and input blocks. -/
def outsAt0 (c : Dev nD) (t : Fin cfg0.N) : Vec F S1x256x2048 .f32 :=
  out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) (iblk0 V c 0 t) (iblk0 V c 1 t) (iblk0 V c 2 t) (iblk0 V c 3 t)

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

/-- The body at any point: the inputs' memrefs hold their blocks (`before0_W`); so the
    run applies; the invariant hands the body its scratch buffers at some contents (and the generator register) and takes them back at some contents (`PhiA_eq`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  rw [show (dat0 V c).Φ t.castSucc = Pipeline.ΦA spec0 c from rfl, PhiA0_eq]
  unfold outsAt0
  unfold out0_A_4
  iintro ⟨⟨⟨HS0, HR1, HR2, HR3, HR4, HR5, HR6, HR7, HR8, HR9, HR10, HR11, HR12, HR13, HR14⟩, Hg⟩, Ho, ⟨%d0, H0⟩, ⟨%d1, H1⟩, ⟨%d2, H2⟩, ⟨%d3, H3⟩, ⟨%d4, H4⟩⟩
  iapply ((kernelRun0_A c (grid0.coords t) _ _ _ _ _ _ _ _ _ _ _ _ (iblk0 V c 0 t) (iblk0 V c 1 t) (iblk0 V c 2 t) (iblk0 V c 3 t)).2.2 Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, ⟨%e4, H4⟩, ⟨%fT0, HS0⟩⟩
  isplitl [HS0 HR1 HR2 HR3 HR4 HR5 HR6 HR7 HR8 HR9 HR10 HR11 HR12 HR13 HR14 Hg]
  · isplitl [HS0 HR1 HR2 HR3 HR4 HR5 HR6 HR7 HR8 HR9 HR10 HR11 HR12 HR13 HR14]
    · isplitl [HS0]
      · iexists _; unfold owns; iexists _; isplitr
        swap; · iexact HS0
        ipureintro; rfl
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HR12]
      · iexact HR12
      isplitl [HR13]
      · iexact HR13
      iexact HR14
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0_A_4 c _ _ _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_spline_proj_rqs` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := k1_cond1 i = 1#1
/-- It holds at the points ≡ 0 (mod 2) — by arithmetic of the point. -/
theorem hcond1_0 : ∀ t : Fin cfg1.N, cond1_0 (grid1.coords t) ↔ t.val % 2 = 0 :=
  (fun t => by
    have ht : t.val < 32 := Nat.lt_of_lt_of_eq t.isLt N_1
    have e0 : (grid1.coords t 0).val = t.val / 2 % 16 := Pipeline.Grid.coords_val t 0 (by decide) rfl
    have e1 : (grid1.coords t 1).val = t.val / 1 % 2 := Pipeline.Grid.coords_val t 1 (by decide) rfl
    simp only [cond1_0, k1_cond1, e0, e1]
    word_cmp
   : ∀ t : Fin grid1.N, cond1_0 (grid1.coords t) ↔ t.val % 2 = 0)

/-- The condition of the body's `scf.if` 1 (`k1_h2`), from the grid coordinates (the skeleton's scalar
    chain substituted). -/
abbrev cond1_1 (i : grid1.Coords) : Prop := k1_cond2 i = 1#1
/-- It holds at the points ≡ 1 (mod 2) — by arithmetic of the point. -/
theorem hcond1_1 : ∀ t : Fin cfg1.N, cond1_1 (grid1.coords t) ↔ t.val % 2 = 1 :=
  (fun t => by
    have ht : t.val < 32 := Nat.lt_of_lt_of_eq t.isLt N_1
    have e0 : (grid1.coords t 0).val = t.val / 2 % 16 := Pipeline.Grid.coords_val t 0 (by decide) rfl
    have e1 : (grid1.coords t 1).val = t.val / 1 % 2 := Pipeline.Grid.coords_val t 1 (by decide) rfl
    simp only [cond1_1, k1_cond2, e0, e1]
    word_cmp
   : ∀ t : Fin grid1.N, cond1_1 (grid1.coords t) ↔ t.val % 2 = 1)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an input). -/
theorem liveAt1_4 : ∀ t : Fin cfg1.N, cfg1.idle 4 (grid1.coords t) = false := fun _ => rfl
/-- Window 5 is never idle (an output stored at every point, under no condition). -/
theorem liveAt1_5 : ∀ t : Fin cfg1.N, cfg1.idle 5 (grid1.coords t) = false := fun _ => rfl
/-- Whether output 6's buffer is FRESH at each position `1 ‥ N` — holds nothing the body stored since the region's entry or the
    last write-back (written back at the point before, or idle there and fresh before it) —, as a bitmask the classifier
    computed, bit `n` for position `n + 1`; position 0 is fresh. `freshTab1_6_step` checks it against the configuration's own
    step point by point and Lib/Pipeline/TableIdle.lean `Cfg.fresh_tab` makes it `Cfg.fresh` (`fresh1_6_eq`). -/
def freshTab1_6 : ℕ → Bool
  | 0 => true
  | n + 1 => (0xaaaaaaaa : ℕ).testBit n
theorem freshTab1_6_step : ∀ t : Fin cfg1.N,
    freshTab1_6 (t.val + 1) = ((cfg1.win 6).flush t || (cfg1.idle 6 (cfg1.grid.coords t) && freshTab1_6 t.val)) := by decide +kernel
theorem fresh1_6_eq (t : Fin cfg1.N) : cfg1.fresh 6 t.val = freshTab1_6 t.val :=
  Pipeline.Cfg.fresh_tab cfg1 6 freshTab1_6 rfl freshTab1_6_step t.val (Nat.le_of_lt t.isLt)
/-- At the points of case A the printed configuration (`Cfg.idle`) calls output 6 live: the case stores into it. -/
theorem liveAt1_6_A : ∀ t : Fin cfg1.N, cond1_0 (grid1.coords t) → ¬cond1_1 (grid1.coords t) → cfg1.idle 6 (grid1.coords t) = false := by decide +kernel
/-- At the points of case B the printed configuration (`Cfg.idle`) calls output 6 live: the case stores into it. -/
theorem liveAt1_6_B : ∀ t : Fin cfg1.N, ¬cond1_0 (grid1.coords t) → cond1_1 (grid1.coords t) → cfg1.idle 6 (grid1.coords t) = false := by decide +kernel
/-- At the points of case B, which keeps output 6's prior contents (reads it before covering, or covers it in part), the
    window's buffer is not FRESH: something was stored into it since the region's entry or its last write-back, idle points
    between or not (Lib/Pipeline/TableIdle.lean `Cfg.fresh`, by the table `freshTab1_6`). -/
theorem notFresh1_6_B : ∀ t : Fin cfg1.N, ¬cond1_0 (grid1.coords t) → cond1_1 (grid1.coords t) → cfg1.fresh 6 t.val = false := by
  intro t; rw [fresh1_6_eq t]; revert t; decide +kernel

/-! ## The kernel body on any staging memrefs: a subtype the run finds -/

/-- One staging buffer of output window 5, through which its contents are stated (`View.read_writes_of_cover`: the
    choice does not matter). -/
abbrev VO1_5 : View sig .tc .vmem S1x192x1024 .f32 := (Memref.whole cc1_stg5_0 : Memref sig .tc .vmem S1x192x1024 .f32).view
/-- One staging buffer of output window 6, through which its contents are stated (`View.read_writes_of_cover`: the
    choice does not matter). -/
abbrev VO1_6 : View sig .tc .vmem S1x1x1 .f32 := (Memref.whole cc1_stg6_0 : Memref sig .tc .vmem S1x1x1 .f32).view
/-- Each window's current staging memref at point `t`, spelled as the pipeline passes it (`bodyAt1`), and its wholeness. -/
abbrev ms1_0 (t : Fin cfg1.N) : Memref sig .tc .vmem S1x192x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S10x96x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S10x96x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S9x96x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x192x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1x1 .f32 := win1_6.stage (cfg1.slots t 6)
abbrev hs1_6 (t : Fin cfg1.N) : (ms1_6 t).IsWhole := hstage1_6 ((cfg1.slots t 6).cast nbuf1_6)
/-- The scratch operands: whole scoped buffers of the kernel's own, passed beside the windows. -/
abbrev scM1_0 : Memref sig .tc .vmem S10x96x1024 .f32 := Memref.whole cc1_scratch0
abbrev scM1_1 : Memref sig .tc .vmem S10x96x1024 .f32 := Memref.whole cc1_scratch1
abbrev scM1_2 : Memref sig .tc .vmem S9x96x1024 .f32 := Memref.whole cc1_scratch2

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

-- (the run's proof term is large: the definition's epilogue — `abstractNestedProofs` — walks it past the default budget)
set_option maxHeartbeats 1268000 in
/-- What the body's stores leave in each output's staging memref, as pieces (last first) IN CASE A (`scf.if` 0 taken, `scf.if` 1 not taken: points 0, 2, … 30: 16 of 32), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .vmem S1x192x1024 .f32) (harg2 : arg2.IsWhole) (arg3 : Memref sig .tc .vmem S1x256x1024 .f32) (harg3 : arg3.IsWhole) (arg4 : Memref sig .tc .vmem S10x96x256 .f32) (harg4 : arg4.IsWhole) (arg5 : Memref sig .tc .vmem S10x96x256 .f32) (harg5 : arg5.IsWhole) (arg6 : Memref sig .tc .vmem S9x96x256 .f32) (harg6 : arg6.IsWhole) (arg7 : Memref sig .tc .vmem S1x192x1024 .f32) (harg7 : arg7.IsWhole) (arg8 : Memref sig .tc .vmem S1x1x1 .f32) (harg8 : arg8.IsWhole) (arg9 : Memref sig .tc .vmem S10x96x1024 .f32) (harg9 : arg9.IsWhole) (arg10 : Memref sig .tc .vmem S10x96x1024 .f32) (harg10 : arg10.IsWhole) (arg11 : Memref sig .tc .vmem S9x96x1024 .f32) (harg11 : arg11.IsWhole) (hc0 : cond1_0 i) (hc1 : ¬cond1_1 i)
    (x0 : Vec F S1x192x1024 .f32) (x1 : Vec F S1x256x1024 .f32) (x2 : Vec F S10x96x256 .f32) (x3 : Vec F S10x96x256 .f32) (x4 : Vec F S9x96x256 .f32) :
    Σ' (L5 : List (View.Piece (Elt F) S1x192x1024 .f32)), Σ' (L6 : List (View.Piece (Elt F) S1x1x1 .f32)), Σ' (LT0 : List (View.Piece (Elt F) S10x96x1024 .f32)), Σ' (LT1 : List (View.Piece (Elt F) S10x96x1024 .f32)), { LT2 : List (View.Piece (Elt F) S9x96x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LT0) ∗ (∃ f, arg10.view.loc (c : Thread nD τ) ↦[arg10.view.set]{fullShare} arg10.view.writes (Elt F) f LT1) ∗ (∃ f, arg11.view.loc (c : Thread nD τ) ↦[arg11.view.set]{fullShare} arg11.view.writes (Elt F) f LT2)) -∗ K ⟨⟩))
          ⊢ wp frame (wpE (defs₀ (F := F)) Variants.none c none) E (cc1_spline_proj_rqs i arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc1_spline_proj_rqs_eq_skeleton]; unfold cc1_spline_proj_rqs_skel
    simp only [k1_part22_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]; · iexists _; iexact HS0
    isplitl [HS1]; · iexists _; iexact HS1
    iexists _; iexact HS2

/-- Case A's pieces for output 5 tile its block (2 stores of `S1x96x1024`, checked by the kernel's evaluation: Lib/Ring.lean `Piece.tiledL`, linear in the pieces, through a loop's `@[irreducible]` trip theorem too), so they cover it. -/
theorem cover1_A_5 (c : Dev nD) (i : grid1.Coords) (arg2 : Memref sig .tc .vmem S1x192x1024 .f32) (harg2 : arg2.IsWhole) (arg3 : Memref sig .tc .vmem S1x256x1024 .f32) (harg3 : arg3.IsWhole) (arg4 : Memref sig .tc .vmem S10x96x256 .f32) (harg4 : arg4.IsWhole) (arg5 : Memref sig .tc .vmem S10x96x256 .f32) (harg5 : arg5.IsWhole) (arg6 : Memref sig .tc .vmem S9x96x256 .f32) (harg6 : arg6.IsWhole) (arg7 : Memref sig .tc .vmem S1x192x1024 .f32) (harg7 : arg7.IsWhole) (arg8 : Memref sig .tc .vmem S1x1x1 .f32) (harg8 : arg8.IsWhole) (arg9 : Memref sig .tc .vmem S10x96x1024 .f32) (harg9 : arg9.IsWhole) (arg10 : Memref sig .tc .vmem S10x96x1024 .f32) (harg10 : arg10.IsWhole) (arg11 : Memref sig .tc .vmem S9x96x1024 .f32) (harg11 : arg11.IsWhole) (hc0 : cond1_0 i) (hc1 : ¬cond1_1 i)
    (x0 : Vec F S1x192x1024 .f32) (x1 : Vec F S1x256x1024 .f32) (x2 : Vec F S10x96x256 .f32) (x3 : Vec F S10x96x256 .f32) (x4 : Vec F S9x96x256 .f32) (y : S1x192x1024.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4).1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4).1 S1x96x1024.size (by sl_kernel_rfl) y

/-- What case A leaves in output 5's staging buffer: its pieces read back over junk. -/
def out1_A_5 (c : Dev nD) (i : grid1.Coords) (arg2 : Memref sig .tc .vmem S1x192x1024 .f32) (harg2 : arg2.IsWhole) (arg3 : Memref sig .tc .vmem S1x256x1024 .f32) (harg3 : arg3.IsWhole) (arg4 : Memref sig .tc .vmem S10x96x256 .f32) (harg4 : arg4.IsWhole) (arg5 : Memref sig .tc .vmem S10x96x256 .f32) (harg5 : arg5.IsWhole) (arg6 : Memref sig .tc .vmem S9x96x256 .f32) (harg6 : arg6.IsWhole) (arg7 : Memref sig .tc .vmem S1x192x1024 .f32) (harg7 : arg7.IsWhole) (arg8 : Memref sig .tc .vmem S1x1x1 .f32) (harg8 : arg8.IsWhole) (arg9 : Memref sig .tc .vmem S10x96x1024 .f32) (harg9 : arg9.IsWhole) (arg10 : Memref sig .tc .vmem S10x96x1024 .f32) (harg10 : arg10.IsWhole) (arg11 : Memref sig .tc .vmem S9x96x1024 .f32) (harg11 : arg11.IsWhole) (hc0 : cond1_0 i) (hc1 : ¬cond1_1 i)
    (x0 : Vec F S1x192x1024 .f32) (x1 : Vec F S1x256x1024 .f32) (x2 : Vec F S10x96x256 .f32) (x3 : Vec F S10x96x256 .f32) (x4 : Vec F S9x96x256 .f32) : Vec F S1x192x1024 .f32 :=
  VO1_5.read (Elt F) (VO1_5.writes (Elt F) VO1_5.junk (kernelRun1_A c i arg2 harg2 arg3 harg3 arg4 harg4 arg5 harg5 arg6 harg6 arg7 harg7 arg8 harg8 arg9 harg9 arg10 harg10 arg11 harg11 hc0 hc1 x0 x1 x2 x3 x4).1)

/-- Case A's pieces for output 6 tile its block (1 store of `S1x1x1`, checked by the kernel's evaluation: Lib/Ring.lean `Piece.tiledL`, linear in the pieces, through a loop's `@[irreducible]` trip theorem too), so they cover it. -/
theorem cover1_A_6 (c : Dev nD) (i : grid1.Coords) (arg2 : Memref sig .tc .vmem S1x192x1024 .f32) (harg2 : arg2.IsWhole) (arg3 : Memref sig .tc .vmem S1x256x1024 .f32) (harg3 : arg3.IsWhole) (arg4 : Memref sig .tc .vmem S10x96x256 .f32) (harg4 : arg4.IsWhole) (arg5 : Memref sig .tc .vmem S10x96x256 .f32) (harg5 : arg5.IsWhole) (arg6 : Memref sig .tc .vmem S9x96x256 .f32) (harg6 : arg6.IsWhole) (arg7 : Memref sig .tc .vmem S1x192x1024 .f32) (harg7 : arg7.IsWhole) (arg8 : Memref sig .tc .vmem S1x1x1 .f32) (harg8 : arg8.IsWhole) (arg9 : Memref sig .tc .vmem S10x96x1024 .f32) (harg9 : arg9.IsWhole) (arg10 : Memref sig .tc .vmem S10x96x1024 .f32) (harg10 : arg10.IsWhole) (arg11 : Memref sig .tc .vmem S9x96x1024 .f32) (harg11 : arg11.IsWhole) (hc0 : cond1_0 i) (hc1 : ¬cond1_1 i)
    (x0 : Vec F S1x192x1024 .f32) (x1 : Vec F S1x256x1024 .f32) (x2 : Vec F S10x96x256 .f32) (x3 : Vec F S10x96x256 .f32) (x4 : Vec F S9x96x256 .f32) (y : S1x1x1.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4).2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4).2.1 S1x1x1.size (by sl_kernel_rfl) y

/-- What case A leaves in output 6's staging buffer: its pieces read back over junk. -/
def out1_A_6 (c : Dev nD) (i : grid1.Coords) (arg2 : Memref sig .tc .vmem S1x192x1024 .f32) (harg2 : arg2.IsWhole) (arg3 : Memref sig .tc .vmem S1x256x1024 .f32) (harg3 : arg3.IsWhole) (arg4 : Memref sig .tc .vmem S10x96x256 .f32) (harg4 : arg4.IsWhole) (arg5 : Memref sig .tc .vmem S10x96x256 .f32) (harg5 : arg5.IsWhole) (arg6 : Memref sig .tc .vmem S9x96x256 .f32) (harg6 : arg6.IsWhole) (arg7 : Memref sig .tc .vmem S1x192x1024 .f32) (harg7 : arg7.IsWhole) (arg8 : Memref sig .tc .vmem S1x1x1 .f32) (harg8 : arg8.IsWhole) (arg9 : Memref sig .tc .vmem S10x96x1024 .f32) (harg9 : arg9.IsWhole) (arg10 : Memref sig .tc .vmem S10x96x1024 .f32) (harg10 : arg10.IsWhole) (arg11 : Memref sig .tc .vmem S9x96x1024 .f32) (harg11 : arg11.IsWhole) (hc0 : cond1_0 i) (hc1 : ¬cond1_1 i)
    (x0 : Vec F S1x192x1024 .f32) (x1 : Vec F S1x256x1024 .f32) (x2 : Vec F S10x96x256 .f32) (x3 : Vec F S10x96x256 .f32) (x4 : Vec F S9x96x256 .f32) : Vec F S1x1x1 .f32 :=
  VO1_6.read (Elt F) (VO1_6.writes (Elt F) VO1_6.junk (kernelRun1_A c i arg2 harg2 arg3 harg3 arg4 harg4 arg5 harg5 arg6 harg6 arg7 harg7 arg8 harg8 arg9 harg9 arg10 harg10 arg11 harg11 hc0 hc1 x0 x1 x2 x3 x4).2.1)

-- (the run's proof term is large: the definition's epilogue — `abstractNestedProofs` — walks it past the default budget)
set_option maxHeartbeats 1272000 in
/-- What the body's stores leave in each output's staging memref, as pieces (last first) IN CASE B (`scf.if` 0 not taken, `scf.if` 1 taken: points 1, 3, … 31: 16 of 32), WITH the
    proof that on whole staging memrefs — the inputs' at their contents, the outputs it reads before covering (6) at their running contents `xo·`, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .vmem S1x192x1024 .f32) (harg2 : arg2.IsWhole) (arg3 : Memref sig .tc .vmem S1x256x1024 .f32) (harg3 : arg3.IsWhole) (arg4 : Memref sig .tc .vmem S10x96x256 .f32) (harg4 : arg4.IsWhole) (arg5 : Memref sig .tc .vmem S10x96x256 .f32) (harg5 : arg5.IsWhole) (arg6 : Memref sig .tc .vmem S9x96x256 .f32) (harg6 : arg6.IsWhole) (arg7 : Memref sig .tc .vmem S1x192x1024 .f32) (harg7 : arg7.IsWhole) (arg8 : Memref sig .tc .vmem S1x1x1 .f32) (harg8 : arg8.IsWhole) (arg9 : Memref sig .tc .vmem S10x96x1024 .f32) (harg9 : arg9.IsWhole) (arg10 : Memref sig .tc .vmem S10x96x1024 .f32) (harg10 : arg10.IsWhole) (arg11 : Memref sig .tc .vmem S9x96x1024 .f32) (harg11 : arg11.IsWhole) (hc0 : ¬cond1_0 i) (hc1 : cond1_1 i)
    (x0 : Vec F S1x192x1024 .f32) (x1 : Vec F S1x256x1024 .f32) (x2 : Vec F S10x96x256 .f32) (x3 : Vec F S10x96x256 .f32) (x4 : Vec F S9x96x256 .f32) (xo6 : Vec F S1x1x1 .f32) :
    Σ' (L5 : List (View.Piece (Elt F) S1x192x1024 .f32)), Σ' (L6 : List (View.Piece (Elt F) S1x1x1 .f32)), Σ' (LT0 : List (View.Piece (Elt F) S10x96x1024 .f32)), Σ' (LT1 : List (View.Piece (Elt F) S10x96x1024 .f32)), { LT2 : List (View.Piece (Elt F) S9x96x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xo6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LT0) ∗ (∃ f, arg10.view.loc (c : Thread nD τ) ↦[arg10.view.set]{fullShare} arg10.view.writes (Elt F) f LT1) ∗ (∃ f, arg11.view.loc (c : Thread nD τ) ↦[arg11.view.set]{fullShare} arg11.view.writes (Elt F) f LT2)) -∗ K ⟨⟩))
          ⊢ wp frame (wpE (defs₀ (F := F)) Variants.none c none) E (cc1_spline_proj_rqs i arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc1_spline_proj_rqs_eq_skeleton]; unfold cc1_spline_proj_rqs_skel
    simp only [k1_part22_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]; · iexists _; iexact HS0
    isplitl [HS1]; · iexists _; iexact HS1
    iexists _; iexact HS2

/-- Case B's pieces for output 5 tile its block (2 stores of `S1x96x1024`, checked by the kernel's evaluation: Lib/Ring.lean `Piece.tiledL`, linear in the pieces, through a loop's `@[irreducible]` trip theorem too), so they cover it. -/
theorem cover1_B_5 (c : Dev nD) (i : grid1.Coords) (arg2 : Memref sig .tc .vmem S1x192x1024 .f32) (harg2 : arg2.IsWhole) (arg3 : Memref sig .tc .vmem S1x256x1024 .f32) (harg3 : arg3.IsWhole) (arg4 : Memref sig .tc .vmem S10x96x256 .f32) (harg4 : arg4.IsWhole) (arg5 : Memref sig .tc .vmem S10x96x256 .f32) (harg5 : arg5.IsWhole) (arg6 : Memref sig .tc .vmem S9x96x256 .f32) (harg6 : arg6.IsWhole) (arg7 : Memref sig .tc .vmem S1x192x1024 .f32) (harg7 : arg7.IsWhole) (arg8 : Memref sig .tc .vmem S1x1x1 .f32) (harg8 : arg8.IsWhole) (arg9 : Memref sig .tc .vmem S10x96x1024 .f32) (harg9 : arg9.IsWhole) (arg10 : Memref sig .tc .vmem S10x96x1024 .f32) (harg10 : arg10.IsWhole) (arg11 : Memref sig .tc .vmem S9x96x1024 .f32) (harg11 : arg11.IsWhole) (hc0 : ¬cond1_0 i) (hc1 : cond1_1 i)
    (x0 : Vec F S1x192x1024 .f32) (x1 : Vec F S1x256x1024 .f32) (x2 : Vec F S10x96x256 .f32) (x3 : Vec F S10x96x256 .f32) (x4 : Vec F S9x96x256 .f32) (xo6 : Vec F S1x1x1 .f32) (y : S1x192x1024.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 xo6).1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 xo6).1 S1x96x1024.size (by sl_kernel_rfl) y

/-- What case B leaves in output 5's staging buffer: its pieces read back over junk. -/
def out1_B_5 (c : Dev nD) (i : grid1.Coords) (arg2 : Memref sig .tc .vmem S1x192x1024 .f32) (harg2 : arg2.IsWhole) (arg3 : Memref sig .tc .vmem S1x256x1024 .f32) (harg3 : arg3.IsWhole) (arg4 : Memref sig .tc .vmem S10x96x256 .f32) (harg4 : arg4.IsWhole) (arg5 : Memref sig .tc .vmem S10x96x256 .f32) (harg5 : arg5.IsWhole) (arg6 : Memref sig .tc .vmem S9x96x256 .f32) (harg6 : arg6.IsWhole) (arg7 : Memref sig .tc .vmem S1x192x1024 .f32) (harg7 : arg7.IsWhole) (arg8 : Memref sig .tc .vmem S1x1x1 .f32) (harg8 : arg8.IsWhole) (arg9 : Memref sig .tc .vmem S10x96x1024 .f32) (harg9 : arg9.IsWhole) (arg10 : Memref sig .tc .vmem S10x96x1024 .f32) (harg10 : arg10.IsWhole) (arg11 : Memref sig .tc .vmem S9x96x1024 .f32) (harg11 : arg11.IsWhole) (hc0 : ¬cond1_0 i) (hc1 : cond1_1 i)
    (x0 : Vec F S1x192x1024 .f32) (x1 : Vec F S1x256x1024 .f32) (x2 : Vec F S10x96x256 .f32) (x3 : Vec F S10x96x256 .f32) (x4 : Vec F S9x96x256 .f32) (xo6 : Vec F S1x1x1 .f32) : Vec F S1x192x1024 .f32 :=
  VO1_5.read (Elt F) (VO1_5.writes (Elt F) VO1_5.junk (kernelRun1_B c i arg2 harg2 arg3 harg3 arg4 harg4 arg5 harg5 arg6 harg6 arg7 harg7 arg8 harg8 arg9 harg9 arg10 harg10 arg11 harg11 hc0 hc1 x0 x1 x2 x3 x4 xo6).1)

/-- Case B's pieces for output 6 tile its block (1 store of `S1x1x1`, checked by the kernel's evaluation: Lib/Ring.lean `Piece.tiledL`, linear in the pieces, through a loop's `@[irreducible]` trip theorem too), so they cover it. -/
theorem cover1_B_6 (c : Dev nD) (i : grid1.Coords) (arg2 : Memref sig .tc .vmem S1x192x1024 .f32) (harg2 : arg2.IsWhole) (arg3 : Memref sig .tc .vmem S1x256x1024 .f32) (harg3 : arg3.IsWhole) (arg4 : Memref sig .tc .vmem S10x96x256 .f32) (harg4 : arg4.IsWhole) (arg5 : Memref sig .tc .vmem S10x96x256 .f32) (harg5 : arg5.IsWhole) (arg6 : Memref sig .tc .vmem S9x96x256 .f32) (harg6 : arg6.IsWhole) (arg7 : Memref sig .tc .vmem S1x192x1024 .f32) (harg7 : arg7.IsWhole) (arg8 : Memref sig .tc .vmem S1x1x1 .f32) (harg8 : arg8.IsWhole) (arg9 : Memref sig .tc .vmem S10x96x1024 .f32) (harg9 : arg9.IsWhole) (arg10 : Memref sig .tc .vmem S10x96x1024 .f32) (harg10 : arg10.IsWhole) (arg11 : Memref sig .tc .vmem S9x96x1024 .f32) (harg11 : arg11.IsWhole) (hc0 : ¬cond1_0 i) (hc1 : cond1_1 i)
    (x0 : Vec F S1x192x1024 .f32) (x1 : Vec F S1x256x1024 .f32) (x2 : Vec F S10x96x256 .f32) (x3 : Vec F S10x96x256 .f32) (x4 : Vec F S9x96x256 .f32) (xo6 : Vec F S1x1x1 .f32) (y : S1x1x1.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 xo6).2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 xo6).2.1 S1x1x1.size (by sl_kernel_rfl) y

/-- What case B leaves in output 6's staging buffer: its pieces read back over junk. -/
def out1_B_6 (c : Dev nD) (i : grid1.Coords) (arg2 : Memref sig .tc .vmem S1x192x1024 .f32) (harg2 : arg2.IsWhole) (arg3 : Memref sig .tc .vmem S1x256x1024 .f32) (harg3 : arg3.IsWhole) (arg4 : Memref sig .tc .vmem S10x96x256 .f32) (harg4 : arg4.IsWhole) (arg5 : Memref sig .tc .vmem S10x96x256 .f32) (harg5 : arg5.IsWhole) (arg6 : Memref sig .tc .vmem S9x96x256 .f32) (harg6 : arg6.IsWhole) (arg7 : Memref sig .tc .vmem S1x192x1024 .f32) (harg7 : arg7.IsWhole) (arg8 : Memref sig .tc .vmem S1x1x1 .f32) (harg8 : arg8.IsWhole) (arg9 : Memref sig .tc .vmem S10x96x1024 .f32) (harg9 : arg9.IsWhole) (arg10 : Memref sig .tc .vmem S10x96x1024 .f32) (harg10 : arg10.IsWhole) (arg11 : Memref sig .tc .vmem S9x96x1024 .f32) (harg11 : arg11.IsWhole) (hc0 : ¬cond1_0 i) (hc1 : cond1_1 i)
    (x0 : Vec F S1x192x1024 .f32) (x1 : Vec F S1x256x1024 .f32) (x2 : Vec F S10x96x256 .f32) (x3 : Vec F S10x96x256 .f32) (x4 : Vec F S9x96x256 .f32) (xo6 : Vec F S1x1x1 .f32) : Vec F S1x1x1 .f32 :=
  VO1_6.read (Elt F) (VO1_6.writes (Elt F) VO1_6.junk (kernelRun1_B c i arg2 harg2 arg3 harg3 arg4 harg4 arg5 harg5 arg6 harg6 arg7 harg7 arg8 harg8 arg9 harg9 arg10 harg10 arg11 harg11 hc0 hc1 x0 x1 x2 x3 x4 xo6).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before1_W_κ`); an output it leaves idle whose contents another case keeps stays
    what this leaves at `n - 1`, carried. An assignment of the conditions no point meets is no case (`False.elim`). -/
def outsAt1 (c : Dev nD) : (n : ℕ) → n < cfg1.N → Vec F S1x192x1024 .f32 × Vec F S1x1x1 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 2 = 0 then
      if h1 : (n + 1) % 2 = 1 then
        False.elim (by have hN : n + 1 < 32 := lt_of_lt_of_eq hn (show cfg1.N = 32 from N_1); omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 2 = 1 then
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        False.elim (by have hN : n + 1 < 32 := lt_of_lt_of_eq hn (show cfg1.N = 32 from N_1); omega)

/-- `outsAt1` at a point of case A: that case's contents. -/
theorem outsAt1_A (c : Dev nD) (t : Fin cfg1.N) (h0 : t.val % 2 = 0) (h1 : ¬t.val % 2 = 1) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t), out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 2 = 0) (h1 : t.val % 2 = 1) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
    | ⟨6, _⟩ => (outsAt1 V c t.val t.isLt).2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem after1_6 (c : Dev nD) (t : Fin cfg1.N) : (dat1 V c).after 6 t = (outsAt1 V c t.val t.isLt).2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- Output 6's contents CARRY through the points that leave it idle: at such a point, its buffer not fresh, the proof data's
    `after` is the point before's (the case there stores nothing into the window and its term says so; a case that stores
    into it is not idle there by `liveAt1_6_κ`) — the hypothesis of Lib/Pipeline/TableIdle.lean `Dat.before_out_traj`. -/
theorem hcarry1_6 (c : Dev nD) : ∀ (t : Fin cfg1.N) (_ : t.val ≠ 0), cfg1.idle 6 (grid1.coords t) = true → cfg1.fresh 6 t.val = false →
    (dat1 V c).after 6 t = (dat1 V c).after 6 ⟨t.val - 1, by omega⟩ := by
  intro t _ hi _
  have hN : t.val < 32 := lt_of_lt_of_eq t.isLt (show cfg1.N = 32 from N_1)
  rw [after1_6, after1_6]
  by_cases h0 : t.val % 2 = 0
  · by_cases h1 : t.val % 2 = 1
    · exfalso; omega
    · rw [liveAt1_6_A t ((hcond1_0 t).mpr h0) (fun h => h1 ((hcond1_1 t).mp h))] at hi
      exact absurd hi Bool.false_ne_true
  · by_cases h1 : t.val % 2 = 1
    · rw [liveAt1_6_B t (fun h => h0 ((hcond1_0 t).mp h)) ((hcond1_1 t).mpr h1)] at hi
      exact absurd hi Bool.false_ne_true
    · exfalso; omega
/-- At a point of case B output 6's current staging buffer holds what the point before left: the buffer is not fresh
    there (`notFresh1_6_B`: stored into since the region's entry or the last write-back, carried through the points that
    leave it idle by `hcarry1_6`; Lib/Pipeline/TableIdle.lean `Dat.before_out_traj`). -/
theorem before1_6_B (c : Dev nD) (t : Fin cfg1.N) (h0 : ¬t.val % 2 = 0) (h1 : t.val % 2 = 1) (d) :
    (dat1 V c).before 6 t d = (outsAt1 V c (t.val - 1) (Nat.lt_of_le_of_lt (Nat.sub_le _ _) t.isLt)).2 := by
  rw [Dat.before_out_traj _ 6 rfl (fun _ _ => rfl) (hcarry1_6 V c) t.val t rfl d,
    if_neg (by rw [notFresh1_6_B t (fun h => h0 ((hcond1_0 t).mp h)) ((hcond1_1 t).mpr h1)]; exact Bool.false_ne_true)]
  dsimp only [dat1]

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 1600000 in
/-- The body at any point: the inputs' memrefs hold their blocks (`before1_W`); the closed forms say which case the point is in (`by_cases`), an output the case reads before covering holds what the point before left (`before1_W_κ`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl]
  rw [show (dat1 V c).Φ t.castSucc = Pipeline.ΦA spec1 c from rfl, PhiA1_eq]
  have hN : t.val < 32 := lt_of_lt_of_eq t.isLt (show cfg1.N = 32 from N_1)
  by_cases h0 : t.val % 2 = 0
  · by_cases h1 : t.val % 2 = 1
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6_A t ((hcond1_0 t).mpr h0) (fun h => h1 ((hcond1_1 t).mp h))], after1_6]
      rw [outsAt1_A V c t h0 h1]
      unfold out1_A_5 out1_A_6; (try dsimp only)
      iintro ⟨⟨⟨HR0, HR1, HR2, HR3, HR4, HR5, HR6, HR7, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, H4, ⟨%e5, H5⟩, ⟨%e6, H6⟩, ⟨%fT0, HS0⟩, ⟨%fT1, HS1⟩, ⟨%fT2, HS2⟩⟩
      isplitl [HR0 HR1 HR2 HR3 HR4 HR5 HR6 HR7 HS0 HS1 HS2 Hg]
      · isplitl [HR0 HR1 HR2 HR3 HR4 HR5 HR6 HR7 HS0 HS1 HS2]
        · isplitl [HR0]
          · iexact HR0
          isplitl [HR1]
          · iexact HR1
          isplitl [HR2]
          · iexact HR2
          isplitl [HR3]
          · iexact HR3
          isplitl [HR4]
          · iexact HR4
          isplitl [HR5]
          · iexact HR5
          isplitl [HR6]
          · iexact HR6
          isplitl [HR7]
          · iexact HR7
          isplitl [HS0]
          · iexists _; unfold owns; iexists _; isplitr
            swap; · iexact HS0
            ipureintro; rfl
          isplitl [HS1]
          · iexists _; unfold owns; iexists _; isplitr
            swap; · iexact HS1
            ipureintro; rfl
          iexists _; unfold owns; iexists _; isplitr
          swap; · iexact HS2
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover1_A_5 c _ _ _ _ _ _ _ _ _ _ _ _ _ _ _ _ _ _ _ _ _ _ _ _ _ _ _ _)
      unfold owns; iexists _; isplitr
      swap; · iexact H6
      ipureintro; exact View.read_writes_of_cover _ _ _ _ _ (cover1_A_6 c _ _ _ _ _ _ _ _ _ _ _ _ _ _ _ _ _ _ _ _ _ _ _ _ _ _ _ _)
  · by_cases h1 : t.val % 2 = 1
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6_B t (fun h => h0 ((hcond1_0 t).mp h)) ((hcond1_1 t).mpr h1)], after1_6]
      rw [outsAt1_B V c t h0 h1]
      simp only [before1_6_B V c t h0 h1]
      unfold out1_B_5 out1_B_6; (try dsimp only)
      iintro ⟨⟨⟨HR0, HR1, HR2, HR3, HR4, HR5, HR6, HR7, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      isplitl [HS1]; · iexact HS1
      isplitl [HS2]; · iexact HS2
      iintro ⟨H0, H1, H2, H3, H4, ⟨%e5, H5⟩, ⟨%e6, H6⟩, ⟨%fT0, HS0⟩, ⟨%fT1, HS1⟩, ⟨%fT2, HS2⟩⟩
      isplitl [HR0 HR1 HR2 HR3 HR4 HR5 HR6 HR7 HS0 HS1 HS2 Hg]
      · isplitl [HR0 HR1 HR2 HR3 HR4 HR5 HR6 HR7 HS0 HS1 HS2]
        · isplitl [HR0]
          · iexact HR0
          isplitl [HR1]
          · iexact HR1
          isplitl [HR2]
          · iexact HR2
          isplitl [HR3]
          · iexact HR3
          isplitl [HR4]
          · iexact HR4
          isplitl [HR5]
          · iexact HR5
          isplitl [HR6]
          · iexact HR6
          isplitl [HR7]
          · iexact HR7
          isplitl [HS0]
          · iexists _; unfold owns; iexists _; isplitr
            swap; · iexact HS0
            ipureintro; rfl
          isplitl [HS1]
          · iexists _; unfold owns; iexists _; isplitr
            swap; · iexact HS1
            ipureintro; rfl
          iexists _; unfold owns; iexists _; isplitr
          swap; · iexact HS2
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover1_B_5 c _ _ _ _ _ _ _ _ _ _ _ _ _ _ _ _ _ _ _ _ _ _ _ _ _ _ _ _ _)
      unfold owns; iexists _; isplitr
      swap; · iexact H6
      ipureintro; exact View.read_writes_of_cover _ _ _ _ _ (cover1_B_6 c _ _ _ _ _ _ _ _ _ _ _ _ _ _ _ _ _ _ _ _ _ _ _ _ _ _ _ _ _)
    · exfalso; omega

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_cst, main_v6, main_v7, main_v8, main_cst_0, main_v9, main_v10, main_v11]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v14]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)
theorem W4_main_arg5 (c : Dev nD) : W4 m ρ c (Proc.devRef .tc main_arg5) = m ((c : Thread nD τ).loc main_arg5) :=
  W4_args m ρ c main_arg5 (by decide)
theorem W4_main_arg6 (c : Dev nD) : W4 m ρ c (Proc.devRef .tc main_arg6) = m ((c : Thread nD τ).loc main_arg6) :=
  W4_args m ρ c main_arg6 (by decide)
theorem W4_main_arg7 (c : Dev nD) : W4 m ρ c (Proc.devRef .tc main_arg7) = m ((c : Thread nD τ).loc main_arg7) :=
  W4_args m ρ c main_arg7 (by decide)
theorem W4_main_arg8 (c : Dev nD) : W4 m ρ c (Proc.devRef .tc main_arg8) = m ((c : Thread nD τ).loc main_arg8) :=
  W4_args m ρ c main_arg8 (by decide)
theorem W4_main_arg9 (c : Dev nD) : W4 m ρ c (Proc.devRef .tc main_arg9) = m ((c : Thread nD τ).loc main_arg9) :=
  W4_args m ρ c main_arg9 (by decide)
theorem W4_main_arg10 (c : Dev nD) : W4 m ρ c (Proc.devRef .tc main_arg10) = m ((c : Thread nD τ).loc main_arg10) :=
  W4_args m ρ c main_arg10 (by decide)
theorem W4_main_arg11 (c : Dev nD) : W4 m ρ c (Proc.devRef .tc main_arg11) = m ((c : Thread nD τ).loc main_arg11) :=
  W4_args m ρ c main_arg11 (by decide)
theorem W4_main_arg12 (c : Dev nD) : W4 m ρ c (Proc.devRef .tc main_arg12) = m ((c : Thread nD τ).loc main_arg12) :=
  W4_args m ρ c main_arg12 (by decide)
theorem W4_main_arg13 (c : Dev nD) : W4 m ρ c (Proc.devRef .tc main_arg13) = m ((c : Thread nD τ).loc main_arg13) :=
  W4_args m ρ c main_arg13 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE FRAME: `Cert.quiescent_KernelIdeal`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W4_<arg>`;
    the kit shows every counter at zero except the TensorCores' unscoped ones, of which there are none. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c)⟩), funext fun g => hz g (.inr (no_unscoped g.2))⟩)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h => h.1) (frame m ρ)

end Cert.KernelIdeal.Gen

end
-- ==== Proof.Value.Run.lean ====
/-
  A run of the kernel's program, with what its two results hold.
-/
module

public import proofs.«01_k».proof.Proof.Frame.KernelIdeal

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- A run of @main ends with the two results as the last boundary has them and every argument as it was. -/
theorem run_values : θ_run defs (onTc (τ := τ) (main (F := F))) ⟨m, fun _ => 0, ρ⟩ (fun r => (∀ c : Dev nD,
      r.2.mem ((c.tc : Thread nD τ).loc main_v13_0) = W4 m ρ c (Proc.devRef .tc main_v13_0)
      ∧ r.2.mem ((c.tc : Thread nD τ).loc main_v14) = W4 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨h c _ (mem_uc main_v13_0 (by decide)), h c _ (mem_uc main_v14 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c)⟩), funext fun g => hz g (.inr (no_unscoped g.2))⟩)

end Cert.KernelIdeal.Gen

end
-- ==== Proof.Value.Consts.lean ====
/- The float constants of the two programs, as the reals that their words denote, and how the ideal operations act on
   real numbers. -/
module

public import Idealize.ShloMosaic.PureOps.Ideal
public import Idealize.ShloMosaic.PureOps.Ideal.Laws

@[expose] public section

noncomputable section

namespace Cert.Flow

open Idealize.ShloMosaic

/-- The small number added to a variance. -/
def epsR : ℝ := 10995116 / 1099511627776
/-- The factor inside the error function. -/
def rootR : ℝ := 11863283 / 16777216
/-- The least share of a bin. -/
def leastR : ℝ := 1 / 1000
/-- The share of a knot interval that the softmax distributes. -/
def shareR : ℝ := 99 / 100
/-- The unconstrained derivative at the two ends. -/
def endR : ℝ := 9055375 / 16777216

/-- The word of zero. -/
theorem word_zero : Ideal.ofBits .f32 0x00000000#32 = ((0 : ℝ) : EReal) := by
  simp [Ideal.ofBits, Ideal.ieee]
/-- The word added to a variance is the real `epsR`. -/
theorem word_eps : Ideal.ofBits .f32 0x3727C5AC#32 = (epsR : EReal) := by
  simp [Ideal.ofBits, Ideal.ieee, -EReal.coe_mul, epsR]; norm_num
/-- The word of one half. -/
theorem word_half : Ideal.ofBits .f32 0x3F000000#32 = ((1 / 2 : ℝ) : EReal) := by
  simp [Ideal.ofBits, Ideal.ieee, -EReal.coe_mul]; norm_num
/-- The word of the slope kept at both ends is the real `endR`. -/
theorem word_end : Ideal.ofBits .f32 0x3F0A2C8F#32 = (endR : EReal) := by
  simp [Ideal.ofBits, Ideal.ieee, -EReal.coe_mul, endR]; norm_num
/-- The word of the root of one half is the real `rootR`. -/
theorem word_root : Ideal.ofBits .f32 0x3F3504F3#32 = (rootR : EReal) := by
  simp [Ideal.ofBits, Ideal.ieee, -EReal.coe_mul, rootR]; norm_num
/-- The word of one. -/
theorem word_one : Ideal.ofBits .f32 0x3F800000#32 = ((1 : ℝ) : EReal) := by
  simp [Ideal.ofBits, Ideal.ieee, -EReal.coe_mul]; norm_num
/-- The word of one thousand. -/
theorem word_thousand : Ideal.ofBits .f32 0x447A0000#32 = ((1000 : ℝ) : EReal) := by
  simp [Ideal.ofBits, Ideal.ieee, -EReal.coe_mul]; norm_num
/-- The word of two. -/
theorem word_two : Ideal.ofBits .f32 0x40000000#32 = ((2 : ℝ) : EReal) := by
  simp [Ideal.ofBits, Ideal.ieee, -EReal.coe_mul]; norm_num
/-- The word of five. -/
theorem word_five : Ideal.ofBits .f32 0x40A00000#32 = ((5 : ℝ) : EReal) := by
  simp [Ideal.ofBits, Ideal.ieee, -EReal.coe_mul]; norm_num
/-- The word of ten. -/
theorem word_ten : Ideal.ofBits .f32 0x41200000#32 = ((10 : ℝ) : EReal) := by
  simp [Ideal.ofBits, Ideal.ieee, -EReal.coe_mul]; norm_num
/-- The word of minus five. -/
theorem word_neg_five : Ideal.ofBits .f32 0xC0A00000#32 = ((-5 : ℝ) : EReal) := by
  simp [Ideal.ofBits, Ideal.ieee, -EReal.coe_mul, -EReal.coe_neg]; norm_num
/-- The word of the number of channels. -/
theorem word_256 : Ideal.ofBits .f32 0x43800000#32 = ((256 : ℝ) : EReal) := by
  simp [Ideal.ofBits, Ideal.ieee, -EReal.coe_mul]; norm_num
/-- The word of one sixteenth. -/
theorem word_sixteenth : Ideal.ofBits .f32 0x3D800000#32 = ((1 / 16 : ℝ) : EReal) := by
  simp [Ideal.ofBits, Ideal.ieee, -EReal.coe_mul]; norm_num
/-- The word of minus infinity. -/
theorem word_bot : Ideal.ofBits .f32 0xFF800000#32 = (⊥ : EReal) := by
  simp [Ideal.ofBits, Ideal.ieee]
/-- The word of infinity. -/
theorem word_top : Ideal.ofBits .f32 0x7F800000#32 = (⊤ : EReal) := by
  simp [Ideal.ofBits, Ideal.ieee]

/-- A finite sum of reals is a real. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A quotient of reals with a nonzero divisor. -/
theorem div_real {x y : ℝ} (h : y ≠ 0) : Ideal.div (x : EReal) (y : EReal) = ((x / y : ℝ) : EReal) := by
  rw [Ideal.div_coe h, ← EReal.coe_mul, mul_one_div]

/-- The reciprocal root of a positive real. -/
theorem rsqrt_real {x : ℝ} (h : 0 < x) : Ideal.rsqrt (x : EReal) = (((Real.sqrt x)⁻¹ : ℝ) : EReal) := by
  rw [Ideal.rsqrt_coe, if_neg (not_lt.2 h.le), if_neg h.ne']

/-- The root of a real that is not negative. -/
theorem sqrt_real {x : ℝ} (h : 0 ≤ x) : Ideal.sqrt (x : EReal) = ((Real.sqrt x : ℝ) : EReal) := by
  rw [Ideal.sqrt_coe, if_neg (not_lt.2 h)]

/-- The logarithm of a positive real. -/
theorem log_real {x : ℝ} (h : 0 < x) : Ideal.log (x : EReal) = ((Real.log x : ℝ) : EReal) := by
  rw [Ideal.log_coe, if_neg (not_le.2 h)]

/-- The error function on the reals. -/
def erfR (x : ℝ) : ℝ := 2 / Real.sqrt Real.pi * ∫ t in (0 : ℝ)..x, Real.exp (-(t ^ 2))

/-- The error function of a real number. -/
theorem erf_real (x : ℝ) : Ideal.erf (x : EReal) = (erfR x : EReal) := rfl

/-- The larger of two reals. -/
theorem max_real (x y : ℝ) : max (x : EReal) (y : EReal) = ((max x y : ℝ) : EReal) :=
  (Monotone.map_max EReal.coe_strictMono.monotone).symm

/-- The smaller of two reals. -/
theorem min_real (x y : ℝ) : min (x : EReal) (y : EReal) = ((min x y : ℝ) : EReal) :=
  (Monotone.map_min EReal.coe_strictMono.monotone).symm

end Cert.Flow

end
-- ==== Proof.Value.Real.lean ====
/- The coupling layer on the reals: the norm over the channels, the gelu, the convolution stack and one element of the
   rational-quadratic spline. -/
module

public import proofs.«01_k».proof.Proof.Value.Consts

@[expose] public section

noncomputable section

namespace Cert.Flow

open Idealize.ShloMosaic

/-- The gelu. -/
def gelu (x : ℝ) : ℝ := x * (1 / 2) * (1 + erfR (x * rootR))

/-- The mean over the channels. -/
def mean (v : Fin 256 → ℝ) : ℝ := (∑ k, v k) / 256

/-- The variance over the channels. -/
def var (v : Fin 256 → ℝ) : ℝ := (∑ k, (v k - mean v) * (v k - mean v)) / 256

/-- The norm over the channels. -/
def nrm (v : Fin 256 → ℝ) (f : Fin 256) : ℝ := (v f - mean v) * (Real.sqrt (var v + epsR))⁻¹

/-- What is added to a variance is positive. -/
theorem epsR_pos : 0 < epsR := by norm_num [epsR]

/-- A variance is not negative. -/
theorem var_nonneg (v : Fin 256 → ℝ) : 0 ≤ var v :=
  div_nonneg (Finset.sum_nonneg fun _ _ => mul_self_nonneg _) (by norm_num)

/-- A variance with what is added to it is positive. -/
theorem var_eps_pos (v : Fin 256 → ℝ) : 0 < var v + epsR := add_pos_of_nonneg_of_pos (var_nonneg v) epsR_pos

/-- The variance is the mean of the squares less the square of the mean. -/
theorem var_eq (v : Fin 256 → ℝ) : (∑ k, v k * v k) / 256 - mean v * mean v = var v := by
  have h : ∑ k, (v k - mean v) * (v k - mean v)
      = (∑ k, v k * v k) - 2 * mean v * (∑ k, v k) + 256 * (mean v * mean v) := by
    have e : ∀ k, (v k - mean v) * (v k - mean v) = v k * v k - 2 * mean v * v k + mean v * mean v := fun k => by ring
    simp only [e, Finset.sum_add_distrib, Finset.sum_sub_distrib, ← Finset.mul_sum, Finset.sum_const, Finset.card_univ,
      Fintype.card_fin, nsmul_eq_mul]
    norm_num
    ring
  have hm : ∑ k, v k = 256 * mean v := by unfold mean; ring
  unfold var; rw [h, hm]; ring

/-- The norm over the channels, as the kernel forms it, is the norm of the reals. -/
theorem nrm_kernel (v : Fin 256 → ℝ) (f : Fin 256) :
    ((v f : EReal) - Ideal.div (∑ k, (v k : EReal)) ((256 : ℝ) : EReal))
      * Ideal.rsqrt (Ideal.div (∑ k, (v k : EReal) * (v k : EReal)) ((256 : ℝ) : EReal)
          - Ideal.div (∑ k, (v k : EReal)) ((256 : ℝ) : EReal) * Ideal.div (∑ k, (v k : EReal)) ((256 : ℝ) : EReal)
          + (epsR : EReal)) = (nrm v f : EReal) := by
  have h256 : (256 : ℝ) ≠ 0 := by norm_num
  have hm : Ideal.div (∑ k, (v k : EReal)) ((256 : ℝ) : EReal) = (mean v : EReal) := by
    rw [coe_sum, div_real h256]; rfl
  have hs : Ideal.div (∑ k, (v k : EReal) * (v k : EReal)) ((256 : ℝ) : EReal)
      = (((∑ k, v k * v k) / 256 : ℝ) : EReal) := by
    simp only [← EReal.coe_mul]; rw [coe_sum, div_real h256]
  rw [hm, hs, ← EReal.coe_mul, ← EReal.coe_sub, ← EReal.coe_sub, var_eq, ← EReal.coe_add, rsqrt_real (var_eps_pos v),
    ← EReal.coe_mul]
  rfl

/-- The gelu, as the kernel forms it. -/
theorem gelu_kernel (x : ℝ) :
    (x : EReal) * ((1 / 2 : ℝ) : EReal) * (((1 : ℝ) : EReal) + Ideal.erf ((x : EReal) * (rootR : EReal)))
      = (gelu x : EReal) := by
  rw [← EReal.coe_mul, ← EReal.coe_mul, erf_real, ← EReal.coe_add, ← EReal.coe_mul]; rfl

/-- The gelu, as the reference forms it. -/
theorem gelu_ref (x : ℝ) :
    ((1 / 2 : ℝ) : EReal) * (x : EReal) * (((1 : ℝ) : EReal) + Ideal.erf ((x : EReal) * (rootR : EReal)))
      = (gelu x : EReal) := by
  rw [mul_comm ((1 / 2 : ℝ) : EReal), gelu_kernel]

/-- The signal with zeros on both sides, at a place counted from 128 places before its first. -/
def ext (h : Fin 2048 → ℝ) (n : ℕ) : ℝ := if hn : 128 ≤ n ∧ n < 2176 then h ⟨n - 128, by omega⟩ else 0

/-- The depthwise convolution at dilation `d`. -/
def conv (d : ℕ) (w : Fin 3 → ℝ) (h : Fin 2048 → ℝ) (t : ℕ) : ℝ :=
  w 0 * ext h (128 - d + t) + w 1 * ext h (128 + t) + w 2 * ext h (128 + d + t)

/-- One column of a layer: convolve, norm, gelu, mix the channels, norm, gelu, add. -/
def layer (d : ℕ) (w : Fin 256 → Fin 3 → ℝ) (pw : Fin 256 → Fin 256 → ℝ) (h : Fin 256 → Fin 2048 → ℝ)
    (f : Fin 256) (t : Fin 2048) : ℝ :=
  h f t + gelu (nrm (fun o => ∑ c, pw o c * gelu (nrm (fun g => conv d (w g) (h g) t) c)) f)

/-- The first product. -/
def pre (w : Fin 256 → Fin 96 → ℝ) (x : Fin 96 → Fin 2048 → ℝ) (f : Fin 256) (t : Fin 2048) : ℝ := ∑ c, w f c * x c t

/-- The convolution stack. -/
def stack (w : Fin 256 → Fin 96 → ℝ) (dw : Fin 3 → Fin 256 → Fin 3 → ℝ) (pw : Fin 3 → Fin 256 → Fin 256 → ℝ)
    (x : Fin 96 → Fin 2048 → ℝ) : Fin 256 → Fin 2048 → ℝ :=
  layer 9 (dw 2) (pw 2) (layer 3 (dw 1) (pw 1) (layer 1 (dw 0) (pw 0) (pre w x)))

end Cert.Flow

end
-- ==== Proof.Value.Spline.lean ====
/- The spline of one entry, as real numbers: the knots that ten logits cut the unit interval at, the bin a point falls into, and the
   rational quadratic through that bin with the logarithm of its slope. -/
module

public import proofs.«01_k».proof.Proof.Value.Real

@[expose] public section

noncomputable section

namespace Cert.Flow

open Idealize.ShloMosaic

/-- The sum of the exponentials of the first `k` logits. -/
def part (a : Fin 10 → ℝ) (k : ℕ) : ℝ := ∑ i : Fin 10, if i.val < k then Real.exp (a i) else 0

/-- Knot `k` of the unit interval: each bin has a least share, and its logit's share of the rest. -/
def knot (a : Fin 10 → ℝ) (k : ℕ) : ℝ :=
  if k = 0 then 0 else if 10 ≤ k then 1 else (k : ℝ) * leastR + shareR * (part a k * (1 / part a 10))

/-- The sum gains one exponential at a time. -/
theorem part_succ (a : Fin 10 → ℝ) (k : ℕ) (hk : k < 10) : part a (k + 1) = part a k + Real.exp (a ⟨k, hk⟩) := by
  unfold part
  interval_cases k <;> simp [Fin.sum_univ_succ] <;> ring_nf <;> simp [Fin.succ, add_comm, add_left_comm, add_assoc]

/-- Nothing is summed before the first. -/
theorem part_zero (a : Fin 10 → ℝ) : part a 0 = 0 := by simp [part]

/-- The sum grows with each logit. -/
theorem part_lt (a : Fin 10 → ℝ) (k : ℕ) (hk : k < 10) : part a k < part a (k + 1) := by
  rw [part_succ a k hk]; linarith [Real.exp_pos (a ⟨k, hk⟩)]

/-- A sum of exponentials is nonnegative. -/
theorem part_nonneg (a : Fin 10 → ℝ) (k : ℕ) : 0 ≤ part a k :=
  Finset.sum_nonneg fun i _ => by split <;> positivity

/-- The whole sum is positive. -/
theorem part_pos (a : Fin 10 → ℝ) : 0 < part a 10 := lt_of_le_of_lt (part_nonneg a 9) (part_lt a 9 (by norm_num))

/-- An inner knot. -/
theorem knot_mid (a : Fin 10 → ℝ) (k : ℕ) (h1 : 1 ≤ k) (h9 : k ≤ 9) :
    knot a k = (k : ℝ) * leastR + shareR * (part a k * (1 / part a 10)) := by
  rw [knot, if_neg (by omega), if_neg (by omega)]

/-- The first knot. -/
theorem knot_zero (a : Fin 10 → ℝ) : knot a 0 = 0 := by simp [knot]

/-- The last knot. -/
theorem knot_ten (a : Fin 10 → ℝ) : knot a 10 = 1 := by simp [knot]

/-- The knots increase. -/
theorem knot_lt (a : Fin 10 → ℝ) (k : ℕ) (hk : k < 10) : knot a k < knot a (k + 1) := by
  have hp := part_pos a
  have hs : (0 : ℝ) < shareR := by norm_num [shareR]
  have hs' : 9 * leastR + shareR < 1 := by norm_num [shareR, leastR]
  have hs'' : 0 < leastR := by norm_num [leastR]
  have hl := part_lt a k hk
  have hd : part a k * (1 / part a 10) < part a (k + 1) * (1 / part a 10) := mul_lt_mul_of_pos_right hl (by positivity)
  have hm := mul_lt_mul_of_pos_left hd hs
  by_cases h0 : k = 0
  · subst h0
    have : 0 ≤ shareR * (part a 0 * (1 / part a 10)) := mul_nonneg hs.le (mul_nonneg (part_nonneg a 0) (by positivity))
    rw [knot_zero, knot_mid a 1 le_rfl (by norm_num)]
    push_cast at hm ⊢
    linarith
  by_cases h9 : k = 9
  · subst h9
    rw [knot_ten, knot_mid a 9 (by norm_num) le_rfl]
    have : part a (9 + 1) * (1 / part a 10) = 1 := by field_simp
    rw [this] at hm
    push_cast
    linarith
  rw [knot_mid a k (by omega) (by omega), knot_mid a (k + 1) (by omega) (by omega)]
  push_cast
  linarith

/-- The knots increase over any number of steps. -/
theorem knot_mono (a : Fin 10 → ℝ) {k l : ℕ} (hkl : k ≤ l) (hl : l ≤ 10) : knot a k ≤ knot a l := by
  induction l, hkl using Nat.le_induction with
  | base => exact le_rfl
  | succ n _ ih => exact (ih (by omega)).trans (knot_lt a n (by omega)).le

/-- Of increasing knots the ones at or below a point are the first so many. -/
theorem exists_bin (a : Fin 10 → ℝ) (x : ℝ) (n : ℕ) (hn : n ≤ 9) :
    ∃ j ≤ n, ∀ k, 1 ≤ k → k ≤ n → (knot a k ≤ x ↔ k ≤ j) := by
  induction n with
  | zero => exact ⟨0, le_rfl, fun k h1 h2 => absurd h1 (by omega)⟩
  | succ n ih =>
    obtain ⟨j, hj, h⟩ := ih (by omega)
    by_cases hx : knot a (n + 1) ≤ x
    · exact ⟨n + 1, le_rfl, fun k h1 h2 => ⟨fun _ => h2, fun _ => (knot_mono a h2 (by omega)).trans hx⟩⟩
    · refine ⟨j, by omega, fun k h1 h2 => ?_⟩
      rcases Nat.lt_or_ge k (n + 1) with hk | hk
      · exact h k h1 (by omega)
      · have : k = n + 1 := by omega
        subst this
        exact ⟨fun h' => absurd h' hx, fun h' => by omega⟩

/-- The bin of a point. -/
def bin (a : Fin 10 → ℝ) (x : ℝ) : ℕ := (exists_bin a x 9 le_rfl).choose

/-- A bin is one of the ten. -/
theorem bin_le (a : Fin 10 → ℝ) (x : ℝ) : bin a x ≤ 9 := (exists_bin a x 9 le_rfl).choose_spec.1

/-- The inner knots at or below a point are those up to its bin. -/
theorem bin_iff (a : Fin 10 → ℝ) (x : ℝ) (k : ℕ) (h1 : 1 ≤ k) (h9 : k ≤ 9) : knot a k ≤ x ↔ k ≤ bin a x :=
  (exists_bin a x 9 le_rfl).choose_spec.2 k h1 h9

/-- The bin's left knot is at or below the point. -/
theorem bin_left (a : Fin 10 → ℝ) (x : ℝ) (h0 : 0 ≤ x) : knot a (bin a x) ≤ x := by
  rcases Nat.eq_zero_or_pos (bin a x) with h | h
  · rw [h, knot_zero]; exact h0
  · exact (bin_iff a x _ h (bin_le a x)).2 le_rfl

/-- The bin's right knot is at or above the point. -/
theorem bin_right (a : Fin 10 → ℝ) (x : ℝ) (h1 : x ≤ 1) : x ≤ knot a (bin a x + 1) := by
  rcases Nat.lt_or_ge (bin a x) 9 with h | h
  · exact (not_le.1 fun hx => absurd ((bin_iff a x (bin a x + 1) (by omega) (by omega)).1 hx) (by omega)).le
  · have : bin a x = 9 := le_antisymm (bin_le a x) h
    rw [this, knot_ten]; exact h1

/-- Softplus. -/
def sp (v : ℝ) : ℝ := max v 0 + Real.log (1 + Real.exp (0 - |v|))

/-- The slope at a knot: the least share more than softplus of its number. -/
def slope (v : ℝ) : ℝ := leastR + sp v

/-- A slope is positive. -/
theorem slope_pos (v : ℝ) : 0 < slope v := by
  have : 0 ≤ Real.log (1 + Real.exp (0 - |v|)) := Real.log_nonneg (by linarith [Real.exp_pos (0 - |v|)])
  have := le_max_right v 0
  have : 0 < leastR := by norm_num [leastR]
  unfold slope sp; linarith

/-- The number behind the slope at knot `k`: the two ends have one that is fixed. -/
def raw (d : Fin 9 → ℝ) (k : ℕ) : ℝ := if h : 1 ≤ k ∧ k ≤ 9 then d ⟨k - 1, by omega⟩ else endR

/-- How far into the bin `[q, qn]` the point `x` lies. -/
def theta (q qn x : ℝ) : ℝ := (x - q) * (1 / (qn - q))

/-- The bin's rise over its run. -/
def rise (q qn r rn : ℝ) : ℝ := (rn - r) * (1 / (qn - q))

/-- What the rational quadratic divides by. -/
def under (q qn r rn e0 e1 x : ℝ) : ℝ :=
  rise q qn r rn + (e0 + e1 - 2 * rise q qn r rn) * (theta q qn x * (1 - theta q qn x))

/-- The rational quadratic, on the interval from minus five to five. -/
def bend (q qn r rn e0 e1 x : ℝ) : ℝ :=
  10 * (r + (rn - r) * ((rise q qn r rn * theta q qn x * theta q qn x + e0 * (theta q qn x * (1 - theta q qn x))) /
    under q qn r rn e0 e1 x)) - 5

/-- The top of the slope's fraction. -/
def over (q qn r rn e0 e1 x : ℝ) : ℝ :=
  rise q qn r rn * rise q qn r rn * (e1 * theta q qn x * theta q qn x +
    2 * rise q qn r rn * (theta q qn x * (1 - theta q qn x)) + e0 * (1 - theta q qn x) * (1 - theta q qn x))

/-- The logarithm of the slope. -/
def steep (q qn r rn e0 e1 x : ℝ) : EReal :=
  Ideal.log (over q qn r rn e0 e1 x : EReal) - ((2 : ℝ) : EReal) * Ideal.log (under q qn r rn e0 e1 x : EReal)

/-- The denominator is positive. -/
theorem under_pos {q qn r rn e0 e1 x : ℝ} (hq : q < qn) (hr : r < rn) (h0 : 0 < e0) (h1 : 0 < e1) (hl : q ≤ x) (hx : x ≤ qn) :
    0 < under q qn r rn e0 e1 x := by
  have hd : 0 < rise q qn r rn := mul_pos (by linarith) (by have : 0 < qn - q := by linarith
                                                            positivity)
  have hw : 0 < qn - q := by linarith
  have ht0 : 0 ≤ theta q qn x := mul_nonneg (by linarith) (by positivity)
  have ht1 : theta q qn x ≤ 1 := by
    unfold theta; rw [mul_one_div, div_le_one hw]; linarith
  unfold under
  generalize theta q qn x = t at *
  generalize rise q qn r rn = s at *
  have hu : 0 ≤ t * (1 - t) := mul_nonneg ht0 (by linarith)
  have hv : t * (1 - t) ≤ 1 / 4 := by nlinarith [sq_nonneg (t - 1 / 2)]
  nlinarith [mul_nonneg (add_pos h0 h1).le hu, mul_le_mul_of_nonneg_left hv hd.le]

/-- The point an entry is looked up at. -/
def unit (y : ℝ) : ℝ := (min 5 (max (-5) y) + 5) * (1 / 10)

/-- A clipped argument, brought to the unit interval, is not negative. -/
theorem unit_nonneg (y : ℝ) : 0 ≤ unit y := by
  have : -5 ≤ min 5 (max (-5) y) := le_min (by norm_num) (le_max_left _ _)
  unfold unit; linarith

/-- A clipped argument, brought to the unit interval, is at most one. -/
theorem unit_le (y : ℝ) : unit y ≤ 1 := by
  have : min 5 (max (-5) y) ≤ 5 := min_le_left _ _
  unfold unit; linarith

/-- The spline's value at an entry. -/
def spl (a b : Fin 10 → ℝ) (d : Fin 9 → ℝ) (y : ℝ) : ℝ :=
  if -5 ≤ y ∧ y ≤ 5 then
    bend (knot a (bin a (unit y))) (knot a (bin a (unit y) + 1)) (knot b (bin a (unit y))) (knot b (bin a (unit y) + 1))
      (slope (raw d (bin a (unit y)))) (slope (raw d (bin a (unit y) + 1))) (unit y)
  else y

/-- The logarithm of the spline's slope at an entry. -/
def lad (a b : Fin 10 → ℝ) (d : Fin 9 → ℝ) (y : ℝ) : EReal :=
  if -5 ≤ y ∧ y ≤ 5 then
    steep (knot a (bin a (unit y))) (knot a (bin a (unit y) + 1)) (knot b (bin a (unit y))) (knot b (bin a (unit y) + 1))
      (slope (raw d (bin a (unit y)))) (slope (raw d (bin a (unit y) + 1))) (unit y)
  else 0

/-- The denominator an entry meets is positive. -/
theorem under_bin_pos (a b : Fin 10 → ℝ) (d : Fin 9 → ℝ) (y : ℝ) :
    0 < under (knot a (bin a (unit y))) (knot a (bin a (unit y) + 1)) (knot b (bin a (unit y))) (knot b (bin a (unit y) + 1))
      (slope (raw d (bin a (unit y)))) (slope (raw d (bin a (unit y) + 1))) (unit y) :=
  under_pos (knot_lt a _ (Nat.lt_succ_of_le (bin_le _ _))) (knot_lt b _ (Nat.lt_succ_of_le (bin_le _ _))) (slope_pos _) (slope_pos _)
    (bin_left a _ (unit_nonneg y)) (bin_right a _ (unit_le y))

end Cert.Flow
-- ==== Proof.Value.Net.lean ====
/-
  The two results as real functions of the arguments.
-/
module

public import proofs.«01_k».proof.Proof.Value.Real
public import proofs.«01_k».proof.Proof.Value.Spline

@[expose] public section

noncomputable section

namespace Cert.Flow

/-- The hidden channels of a member of the batch: the convolution stack at the earlier half of the channels. -/
def hid (x : Fin 16 → Fin 192 → Fin 2048 → ℝ) (PW : Fin 256 → Fin 96 → ℝ) (DW : Fin 3 → Fin 256 → Fin 3 → ℝ)
    (P : Fin 3 → Fin 256 → Fin 256 → ℝ) (b : Fin 16) : Fin 256 → Fin 2048 → ℝ :=
  stack PW DW P fun i t => x b ⟨i.val, by omega⟩ t

/-- The rows of the projection that give the widths of the bins. -/
def rowsW (J : Fin 2784 → Fin 256 → ℝ) (k : Fin 10) (i : Fin 96) (f : Fin 256) : ℝ := J ⟨29 * i.val + k.val, by omega⟩ f * (1 / 16)

/-- The rows of the projection that give the heights of the bins. -/
def rowsH (J : Fin 2784 → Fin 256 → ℝ) (k : Fin 10) (i : Fin 96) (f : Fin 256) : ℝ := J ⟨29 * i.val + 10 + k.val, by omega⟩ f * (1 / 16)

/-- The rows of the projection that give the inner slopes. -/
def rowsD (J : Fin 2784 → Fin 256 → ℝ) (k : Fin 9) (i : Fin 96) (f : Fin 256) : ℝ := J ⟨29 * i.val + 20 + k.val, by omega⟩ f

/-- The projection of the hidden channels, for one transformed channel at one time. -/
def proj {n : ℕ} (A : Fin n → Fin 96 → Fin 256 → ℝ) (h : Fin 256 → Fin 2048 → ℝ) (i : Fin 96) (t : Fin 2048) (k : Fin n) : ℝ :=
  ∑ f : Fin 256, A k i f * h f t

/-- The first result. -/
def outR (x : Fin 16 → Fin 192 → Fin 2048 → ℝ) (h : Fin 16 → Fin 256 → Fin 2048 → ℝ) (J : Fin 2784 → Fin 256 → ℝ)
    (b : Fin 16) (j : Fin 192) (t : Fin 2048) : ℝ :=
  if hj : j.val < 96 then x b j t
  else spl (proj (rowsW J) (h b) ⟨j - 96, by omega⟩ t) (proj (rowsH J) (h b) ⟨j - 96, by omega⟩ t)
    (proj (rowsD J) (h b) ⟨j - 96, by omega⟩ t) (x b j t)

/-- The logarithm of the slope at a transformed element. -/
def ladR (x : Fin 16 → Fin 192 → Fin 2048 → ℝ) (h : Fin 16 → Fin 256 → Fin 2048 → ℝ) (J : Fin 2784 → Fin 256 → ℝ)
    (b : Fin 16) (i : Fin 96) (t : Fin 2048) : EReal :=
  lad (proj (rowsW J) (h b) i t) (proj (rowsH J) (h b) i t) (proj (rowsD J) (h b) i t) (x b ⟨96 + i.val, by omega⟩ t)

/-- The second result: the sum of the logarithms over a member of the batch. -/
def sumR (x : Fin 16 → Fin 192 → Fin 2048 → ℝ) (h : Fin 16 → Fin 256 → Fin 2048 → ℝ) (J : Fin 2784 → Fin 256 → ℝ)
    (b : Fin 16) : EReal :=
  ∑ i : Fin 96, ∑ t : Fin 2048, ladR x h J b i t

/-- The sum over time as two halves. -/
theorem sumR_halves (x : Fin 16 → Fin 192 → Fin 2048 → ℝ) (h : Fin 16 → Fin 256 → Fin 2048 → ℝ) (J : Fin 2784 → Fin 256 → ℝ)
    (b : Fin 16) :
    sumR x h J b = (∑ i : Fin 96, ∑ t : Fin 1024, ladR x h J b i ⟨t.val, by omega⟩)
      + ∑ i : Fin 96, ∑ t : Fin 1024, ladR x h J b i ⟨1024 + t.val, by omega⟩ := by
  unfold sumR
  rw [← Finset.sum_add_distrib]
  exact Finset.sum_congr rfl fun i _ => Fin.sum_univ_add (a := 1024) (b := 1024) fun t => ladR x h J b i t

end Cert.Flow

end
-- ==== Proof.Value.Chunk.lean ====
/- One chunk of one layer of the convolution stack, as the kernel's operations on whole vectors, and what it holds at an
   index when its operands hold reals. -/
module

public import proofs.«01_k».proof.Proof.Gen.KernelIdeal
public import proofs.«01_k».proof.Proof.Value.Real
public import Idealize.ShloMosaic.Lib.Pointwise

@[expose] public section

set_option maxRecDepth 16384

noncomputable section

namespace Cert.KernelIdeal.Gen

open Idealize.ShloMosaic Idealize.SL.Sem Cert.Flow

section Tensor

variable {F : FTy → Type} [FloatOps F]

/-- The sum over the channels, divided by their number. -/
def meanT (v : FVec F S256x1024 .f32) : FVec F S1x1024 .f32 :=
  divf (shapeCast S1x1024 (multiReduction .add [0] S1024 v 0x00000000#32 reduces_S256x1024_S1024 (.inl rfl) rfl)
    shapeCasts_S1024_S1x1024) (broadcast S1x1024 (Scalar.ofBits .f32 0x43800000#32))

/-- The norm over the channels. -/
def normT (v : FVec F S256x1024 .f32) : FVec F S256x1024 .f32 :=
  mulf (subf v (broadcastTo S256x1024 (meanT v) broadcasts_S1x1024_S256x1024))
    (broadcastTo S256x1024
      (rsqrt (addf (subf (meanT (mulf v v)) (mulf (meanT v) (meanT v)))
        (broadcast S1x1024 (Scalar.ofBits .f32 0x3727C5AC#32)))) broadcasts_S1x1024_S256x1024)

/-- The gelu. -/
def geluT (v : FVec F S256x1024 .f32) : FVec F S256x1024 .f32 :=
  mulf (mulf v (broadcast S256x1024 (Scalar.ofBits .f32 0x3F000000#32)))
    (addf (broadcast S256x1024 (Scalar.ofBits .f32 0x3F800000#32))
      (erf (mulf v (broadcast S256x1024 (Scalar.ofBits .f32 0x3F3504F3#32)))))

/-- Three products summed. -/
def convT (w0 w1 w2 a b c : FVec F S256x1024 .f32) : FVec F S256x1024 .f32 :=
  addf (addf (mulf w0 a) (mulf w1 b)) (mulf w2 c)

/-- The channels mixed. -/
def mixT (p : Vec F S1x256x256 .f32) (y : FVec F S256x1024 .f32) : FVec F S256x1024 .f32 :=
  matmul dot_S256x256_S256x1024_S256x1024_1_0_0_1_n_n none (shapeCast S256x256 p shapeCasts_S1x256x256_S256x256) y
    (constant S256x1024 .f32 0x00000000#32)

/-- A chunk of a layer. -/
def chunkT (w0 w1 w2 a b c : FVec F S256x1024 .f32) (p : Vec F S1x256x256 .f32) : FVec F S256x1024 .f32 :=
  addf b (geluT (normT (mixT p (geluT (normT (convT w0 w1 w2 a b c))))))

end Tensor

/-- The mean over the channels in column `t`. -/
theorem meanT_at (v : FVec Ideal S256x1024 .f32) (t : Fin 1024) :
    meanT v (ix2 0 t) = Ideal.div (∑ k : Fin 256, v (ix2 k t)) ((256 : ℝ) : EReal) := by
  rw [← word_256]
  pointwise [meanT]

/-- The norm over the channels, of a real column. -/
theorem normT_at (v : FVec Ideal S256x1024 .f32) (R : Fin 256 → ℝ) (t : Fin 1024)
    (h : ∀ f, v (ix2 f t) = (R f : EReal)) (f : Fin 256) : normT v (ix2 f t) = (nrm R f : EReal) := by
  rw [← nrm_kernel]
  simp only [← h, ← meanT_at, ← word_eps, ← word_256]
  pointwise [normT, meanT]

/-- The gelu at an index holding a real number. -/
theorem geluT_at (v : FVec Ideal S256x1024 .f32) (r : ℝ) (f : Fin 256) (t : Fin 1024) (h : v (ix2 f t) = (r : EReal)) :
    geluT v (ix2 f t) = (gelu r : EReal) := by
  rw [← gelu_kernel, ← h, ← word_half, ← word_one, ← word_root]
  pointwise [geluT]
  rfl

/-- The mixed channels at an index, of a real column. -/
theorem mixT_at (p : Vec Ideal S1x256x256 .f32) (y : FVec Ideal S256x1024 .f32) (P : Fin 256 → Fin 256 → ℝ)
    (R : Fin 256 → ℝ) (t : Fin 1024) (hp : ∀ o c, p (ix3 0 o c) = (P o c : EReal)) (hy : ∀ c, y (ix2 c t) = (R c : EReal))
    (o : Fin 256) : mixT p y (ix2 o t) = ((∑ c, P o c * R c : ℝ) : EReal) := by
  rw [← coe_sum]
  simp only [EReal.coe_mul, ← hp, ← hy]
  pointwise [mixT]

/-- The three products summed at an index, of real entries. -/
theorem convT_at (w0 w1 w2 a b c : FVec Ideal S256x1024 .f32) (r0 r1 r2 A B C : ℝ) (f : Fin 256) (t : Fin 1024)
    (h0 : w0 (ix2 f t) = (r0 : EReal)) (h1 : w1 (ix2 f t) = (r1 : EReal)) (h2 : w2 (ix2 f t) = (r2 : EReal))
    (ha : a (ix2 f t) = (A : EReal)) (hb : b (ix2 f t) = (B : EReal)) (hc : c (ix2 f t) = (C : EReal)) :
    convT w0 w1 w2 a b c (ix2 f t) = ((r0 * A + r1 * B + r2 * C : ℝ) : EReal) := by
  rw [EReal.coe_add, EReal.coe_add, EReal.coe_mul, EReal.coe_mul, EReal.coe_mul, ← h0, ← h1, ← h2, ← ha, ← hb, ← hc]
  pointwise [convT]

/-- What a chunk of a layer holds in column `t`. -/
theorem chunkT_at (w0 w1 w2 a b c : FVec Ideal S256x1024 .f32) (p : Vec Ideal S1x256x256 .f32) (W : Fin 256 → Fin 3 → ℝ)
    (P : Fin 256 → Fin 256 → ℝ) (A B C : Fin 256 → ℝ) (t : Fin 1024)
    (h0 : ∀ f, w0 (ix2 f t) = (W f 0 : EReal)) (h1 : ∀ f, w1 (ix2 f t) = (W f 1 : EReal))
    (h2 : ∀ f, w2 (ix2 f t) = (W f 2 : EReal)) (ha : ∀ f, a (ix2 f t) = (A f : EReal))
    (hb : ∀ f, b (ix2 f t) = (B f : EReal)) (hc : ∀ f, c (ix2 f t) = (C f : EReal))
    (hp : ∀ o c, p (ix3 0 o c) = (P o c : EReal)) (f : Fin 256) :
    chunkT w0 w1 w2 a b c p (ix2 f t)
      = ((B f + gelu (nrm (fun o => ∑ k, P o k * gelu (nrm (fun g => W g 0 * A g + W g 1 * B g + W g 2 * C g) k)) f) : ℝ)
          : EReal) := by
  have e1 := fun g => convT_at w0 w1 w2 a b c _ _ _ _ _ _ g t (h0 g) (h1 g) (h2 g) (ha g) (hb g) (hc g)
  have e2 := fun g => geluT_at _ _ g t (normT_at _ _ t e1 g)
  have e3 := fun o => mixT_at p _ P _ t hp e2 o
  have e4 := geluT_at _ _ f t (normT_at _ _ t e3 f)
  rw [EReal.coe_add, ← hb, ← e4]
  pointwise [chunkT]

end Cert.KernelIdeal.Gen

end
-- ==== Proof.Value.Stores.lean ====
/- What the convolution stack's two arrays hold after a layer's two stores, and what a segment of one read back holds. -/
module

public import proofs.«01_k».proof.Proof.Frame.KernelIdeal
public import proofs.«01_k».proof.Proof.Value.Chunk
public import Idealize.ShloMosaic.Lib.Pipeline.ReadBack
public import Idealize.ShloMosaic.Lib.Pipeline.ValueKit

@[expose] public section

set_option maxRecDepth 16384

noncomputable section

namespace Cert.KernelIdeal.Gen

open Idealize.ShloMosaic Idealize.SL.Sem Cert.Flow

section Tensor

variable {F : FTy → Type} [FloatOps F]

/-- The first chunk's segment: zeros, then what was read. -/
def segL (v : Vec F S256x1152 .f32) : FVec F S256x1280 .f32 :=
  concatenate S256x1280 1 [⟨S256x128, broadcast S256x128 (Scalar.ofBits .f32 0x00000000#32)⟩, ⟨S256x1152, v⟩]
    concatenates_S256x128_S256x1152_S256x1280_d1

/-- The last chunk's segment: what was read, then zeros. -/
def segR (v : Vec F S256x1152 .f32) : FVec F S256x1280 .f32 :=
  concatenate S256x1280 1 [⟨S256x1152, v⟩, ⟨S256x128, broadcast S256x128 (Scalar.ofBits .f32 0x00000000#32)⟩]
    concatenates_S256x1152_S256x128_S256x1280_d1

/-- A column of weights, repeated. -/
def repT (v : Vec F S1x1x256x128 .f32) : FVec F S256x1024 .f32 :=
  let w := shapeCast S256x128 v shapeCasts_S1x1x256x128_S256x128
  concatenate S256x1024 1 [⟨S256x128, w⟩, ⟨S256x128, w⟩, ⟨S256x128, w⟩, ⟨S256x128, w⟩, ⟨S256x128, w⟩, ⟨S256x128, w⟩, ⟨S256x128, w⟩, ⟨S256x128, w⟩]
    concatenates_S256x128_S256x128_S256x128_S256x128_S256x128_S256x128_S256x128_S256x128_S256x1024_d1

end Tensor

/-- A slice of a segment at an index. -/
theorem slice_at (o : ℕ) (ho : o ≤ 256) (h : S256x1280.Slices ![0, o] S256x1024) (s : FVec Ideal S256x1280 .f32) (f : Fin 256)
    (t : Fin 1024) : extractStridedSlice S256x1024 ![0, o] s h (ix2 f t) = s (ix2 f ⟨o + t, by omega⟩) := by
  refine congrArg s (funext fun a => ?_)
  fin_cases a
  · exact Fin.ext (Nat.zero_add _)
  · rfl

/-- The first segment at an index. -/
theorem segL_at (v : Vec Ideal S256x1152 .f32) (G : Fin 256 → Fin 2048 → ℝ)
    (h : ∀ f (n : Fin 1152), v (ix2 f n) = (G f ⟨n, by omega⟩ : EReal)) (f : Fin 256) (j : Fin 1280) :
    segL v (ix2 f j) = (ext (G f) j : EReal) := by
  pointwise [segL]
  unfold ext
  split
  · rw [dif_neg (by omega)]; rfl
  · rw [dif_pos (by omega)]
    exact h f ⟨j - 128, _⟩

/-- The last segment at an index. -/
theorem segR_at (v : Vec Ideal S256x1152 .f32) (G : Fin 256 → Fin 2048 → ℝ)
    (h : ∀ f (n : Fin 1152), v (ix2 f n) = (G f ⟨896 + n, by omega⟩ : EReal)) (f : Fin 256) (j : Fin 1280) :
    segR v (ix2 f j) = (ext (G f) (1024 + j) : EReal) := by
  pointwise [segR]
  unfold ext
  split
  · rename_i hj
    rw [dif_pos (by omega)]
    refine (h f ⟨j, hj⟩).trans ?_
    congr 3
    show 896 + j.val = 1024 + j.val - 128
    omega
  · rw [dif_neg (by omega)]; rfl

/-- The repeated weights at an index. -/
theorem repT_at (v : Vec Ideal S1x1x256x128 .f32) (r : Fin 256 → ℝ) (h : ∀ f n, v (ix4 0 0 f n) = (r f : EReal)) (f : Fin 256)
    (t : Fin 1024) : repT v (ix2 f t) = (r f : EReal) := by
  have hw : ∀ f n, shapeCast S256x128 v shapeCasts_S1x1x256x128_S256x128 (ix2 f n) = (r f : EReal) := fun f n => by
    rw [← h f n]; pointwise
  pointwise [repT]
  simp only [h, ite_self, dite_eq_ite]

section Stores

variable (G : Fin 256 → Fin 2048 → ℝ)

/-- The first half of the columns. -/
abbrev half0 : Rect S256x2048 := Rect.unit ![0, 0] S256x1024.size inb_S256x2048_S256x1024_0_0

/-- The second half of the columns. -/
abbrev half1 : Rect S256x2048 := Rect.unit ![0, 1024] S256x1024.size inb_S256x2048_S256x1024_0_1024

/-- The whole under a leading unit axis. -/
abbrev full3 : Rect S1x256x2048 := Rect.unit ![0, 0, 0] S1x256x2048.size inb_S1x256x2048_S1x256x2048_0_0_0

/-- An array of reals as the array of the extended reals. -/
def arr2 (y : S256x2048.Idx) : EReal := (G (y 0) (y 1) : EReal)

/-- The same under a leading unit axis. -/
def arr3 (y : S1x256x2048.Idx) : EReal := (G (y 1) (y 2) : EReal)

/-- After the stores of the two halves the array holds `G`. -/
theorem stored2 (p0 p1 : FVec Ideal S256x1024 .f32) (L : List (View.Piece (Elt Ideal) S256x2048 .f32))
    (h0 : ∀ f (t : Fin 1024), p0 (ix2 f t) = (G f ⟨t, by omega⟩ : EReal))
    (h1 : ∀ f (t : Fin 1024), p1 (ix2 f t) = (G f ⟨1024 + t, by omega⟩ : EReal)) (y : S256x2048.Idx) :
    View.canon (Val := Elt Ideal) (e := .f32)
      ((⟨half1, p1⟩ : View.Piece (Elt Ideal) S256x2048 .f32) :: (⟨half0, p0⟩ : View.Piece (Elt Ideal) S256x2048 .f32) :: L) y
      = (G (y 0) (y 1) : EReal) := by
  refine View.canon_append_of_piecesOf (Val := Elt Ideal) (e := .f32) (arr2 G) L [_, _] ⟨?_, ?_, trivial⟩ y ?_
  · intro x
    refine (congrArg p1 (show x = ix2 (x 0) (x 1) from by funext a; fin_cases a <;> rfl)).trans ((h1 (x 0) (x 1)).trans ?_)
    unfold arr2
    congr 2
    · apply Fin.ext; simp [Rect.emb_apply]
    · apply Fin.ext; simp [Rect.emb_apply]
  · intro x
    refine (congrArg p0 (show x = ix2 (x 0) (x 1) from by funext a; fin_cases a <;> rfl)).trans ((h0 (x 0) (x 1)).trans ?_)
    unfold arr2
    congr 2
    · apply Fin.ext; simp [Rect.emb_apply]
    · apply Fin.ext; simp [Rect.emb_apply]
  · exact View.cover_of_tiledL _ ![256, 1024] (by rfl) y

/-- The same for the array under a leading unit axis. -/
theorem stored3 (p0 p1 : FVec Ideal S256x1024 .f32) (L : List (View.Piece (Elt Ideal) S1x256x2048 .f32))
    (h0 : ∀ f (t : Fin 1024), p0 (ix2 f t) = (G f ⟨t, by omega⟩ : EReal))
    (h1 : ∀ f (t : Fin 1024), p1 (ix2 f t) = (G f ⟨1024 + t, by omega⟩ : EReal))
    (hw : ∀ a, full3.stride a = 1) (e0 e1 e2 e3)
    (g0 : (full3.within (half0.consLift ![1, 256, 2048] e2 e3) hw).shape.numel = half0.shape.numel)
    (g1 : (full3.within (half1.consLift ![1, 256, 2048] e0 e1) hw).shape.numel = half1.shape.numel) (y : S1x256x2048.Idx) :
    View.canon (Val := Elt Ideal) (e := .f32)
      ((⟨full3.within (half1.consLift ![1, 256, 2048] e0 e1) hw,
          Rect.payAlong (r := half1) (R := full3.within (half1.consLift ![1, 256, 2048] e0 e1) hw) g1 p1⟩
          : View.Piece (Elt Ideal) S1x256x2048 .f32)
        :: (⟨full3.within (half0.consLift ![1, 256, 2048] e2 e3) hw,
          Rect.payAlong (r := half0) (R := full3.within (half0.consLift ![1, 256, 2048] e2 e3) hw) g0 p0⟩
          : View.Piece (Elt Ideal) S1x256x2048 .f32) :: L) y = (G (y 1) (y 2) : EReal) := by
  refine View.canon_append_of_piecesOf (Val := Elt Ideal) (e := .f32) (arr3 G) L [_, _] ⟨?_, ?_, trivial⟩ y ?_
  · intro x
    have := h1 (x 1) (x 2)
    refine (Rect.payAlong_consLift half1 _ e0 e1 p1 _ x (ix2 (x 1) (x 2)) ?_).trans (this.trans ?_)
    · intro i; fin_cases i <;> rfl
    unfold arr3
    congr 2
    · refine Fin.ext (Eq.symm (show 0 + 0 + 1 * (x 1).val = (x 1).val from ?_)); omega
    · refine Fin.ext (Eq.symm (show 0 + 1024 + 1 * (x 2).val = 1024 + (x 2).val from ?_)); omega
  · intro x
    have := h0 (x 1) (x 2)
    refine (Rect.payAlong_consLift half0 _ e2 e3 p0 _ x (ix2 (x 1) (x 2)) ?_).trans (this.trans ?_)
    · intro i; fin_cases i <;> rfl
    unfold arr3
    congr 2
    · refine Fin.ext (Eq.symm (show 0 + 0 + 1 * (x 1).val = (x 1).val from ?_)); omega
    · refine Fin.ext (Eq.symm (show 0 + 0 + 1 * (x 2).val = (x 2).val from ?_)); omega
  · exact View.cover_of_tiledL _ ![1, 256, 1024] (by rfl) y

end Stores

end Cert.KernelIdeal.Gen

end
-- ==== Proof.Value.Region0.lean ====
/- The array that the convolution stack's call leaves, element by element. -/
module

public import proofs.«01_k».proof.Proof.Value.Stores

@[expose] public section

set_option maxRecDepth 16384

noncomputable section

namespace Cert.KernelIdeal.Gen

open Idealize.ShloMosaic Idealize.SL.Sem Cert.Flow

/-- Three slices of a segment, convolved, normed and mixed. -/
def layT {F : FTy → Type} [FloatOps F] (o0 o2 : ℕ) (g0 : S256x1280.Slices ![0, o0] S256x1024)
    (g2 : S256x1280.Slices ![0, o2] S256x1024) (w0 w1 w2 : Vec F S1x1x256x128 .f32) (s : FVec F S256x1280 .f32)
    (p : Vec F S1x256x256 .f32) : FVec F S256x1024 .f32 :=
  chunkT (repT w0) (repT w1) (repT w2) (extractStridedSlice S256x1024 ![0, o0] s g0)
    (extractStridedSlice S256x1024 ![0, 128] s slices_S256x1280_o0_128_S256x1024)
    (extractStridedSlice S256x1024 ![0, o2] s g2) p

/-- A chunk of a layer at an index: the layer's own column. -/
theorem layT_at (d k : ℕ) (hd : d ≤ 128) (o0 o2 : ℕ) (e0 : o0 = 128 - d) (e2 : o2 = 128 + d)
    (g0 : S256x1280.Slices ![0, o0] S256x1024) (g2 : S256x1280.Slices ![0, o2] S256x1024) (w0 w1 w2 : Vec Ideal S1x1x256x128 .f32)
    (s : FVec Ideal S256x1280 .f32) (p : Vec Ideal S1x256x256 .f32) (W : Fin 256 → Fin 3 → ℝ) (P : Fin 256 → Fin 256 → ℝ)
    (G : Fin 256 → Fin 2048 → ℝ) (h0 : ∀ f n, w0 (ix4 0 0 f n) = (W f 0 : EReal)) (h1 : ∀ f n, w1 (ix4 0 0 f n) = (W f 1 : EReal))
    (h2 : ∀ f n, w2 (ix4 0 0 f n) = (W f 2 : EReal)) (hs : ∀ f (j : Fin 1280), s (ix2 f j) = (ext (G f) (k + j) : EReal))
    (hp : ∀ o c, p (ix3 0 o c) = (P o c : EReal)) (f : Fin 256) (t : Fin 1024) (ht : k + t.val < 2048) :
    layT o0 o2 g0 g2 w0 w1 w2 s p (ix2 f t) = (layer d W P G f ⟨k + t, ht⟩ : EReal) := by
  refine (chunkT_at _ _ _ _ _ _ p W P (fun f => ext (G f) (k + (o0 + t))) (fun f => ext (G f) (k + (128 + t)))
    (fun f => ext (G f) (k + (o2 + t))) t (fun f => repT_at _ _ h0 f t) (fun f => repT_at _ _ h1 f t)
    (fun f => repT_at _ _ h2 f t) ?_ ?_ ?_ hp f).trans ?_
  · intro f; rw [slice_at _ (by omega)]; exact hs f _
  · intro f; rw [slice_at _ (by omega)]; exact hs f _
  · intro f; rw [slice_at _ (by omega)]; exact hs f _
  · have e : ∀ f, ext (G f) (k + (128 + t)) = G f ⟨k + t, ht⟩ := fun f => by
      unfold ext
      rw [dif_pos (by omega)]
      congr 2
      omega
    unfold layer conv
    simp only [e]
    subst e0 e2
    congr 7
    funext o
    refine Finset.sum_congr rfl fun c _ => ?_
    congr 3
    funext g
    rw [show 128 - d + (k + t.val) = k + (128 - d + t) from by omega, show 128 + (k + t.val) = k + (128 + t) from by omega,
      show 128 + d + (k + t.val) = k + (128 + d + t) from by omega, e]

/-- The first product at an index. -/
theorem pay2_at (v0 : Vec Ideal S256x96 .f32) (v1 : Vec Ideal S1x96x1024 .f32) (PW : Fin 256 → Fin 96 → ℝ) (X : Fin 96 → ℝ)
    (t : Fin 1024) (h0 : ∀ f i, v0 (ix2 f i) = (PW f i : EReal)) (h1 : ∀ i, v1 (ix3 0 i t) = (X i : EReal)) (f : Fin 256) :
    k0_pay2 v0 v1 (ix2 f t) = ((∑ c, PW f c * X c : ℝ) : EReal) := by
  rw [← coe_sum]
  simp only [EReal.coe_mul, ← h0, ← h1]
  pointwise [k0_pay2]

/-- The second half's product is the same operation. -/
theorem pay3_eq {F : FTy → Type} [FloatOps F] (v0 : Vec F S256x96 .f32) (v1 : Vec F S1x96x1024 .f32) :
    k0_pay3 v0 v1 = k0_pay2 v0 v1 := rfl

/-- The first segment's box. -/
abbrev boxL : LoadRect S256x2048 := (Rect.unit (s := S256x2048) ![0, 0] S256x1152.size inb_S256x2048_S256x1152_0_0).toLoadRect

/-- The last segment's box. -/
abbrev boxR : LoadRect S256x2048 := (Rect.unit (s := S256x2048) ![0, 896] S256x1152.size inb_S256x2048_S256x1152_0_896).toLoadRect

/-- A box under a leading unit axis. -/
abbrev lift3 (b : LoadRect S256x2048) : LoadRect S1x256x2048 :=
  full3.withinL (b.consLift ![1, 256, 2048] rfl (by decide)) (fun _ => rfl)

/-- What a box under a leading unit axis holds, without it. -/
abbrev dropV {V : Type} (b : LoadRect S256x2048) (v : (lift3 b).shape.Idx → V) : b.shape.Idx → V :=
  LoadRect.valAlong (lr := b) (LR := lift3 b) (b.numel_consLift ![1, 256, 2048] rfl (by decide)) v

section Words

variable {F : FTy → Type} [FloatOps F] [Named F] (c : Dev nD)
  (arg1 : Memref sig Kind.tc Space.vmem S1x96x2048 EltTy.f32) (harg1 : arg1.IsWhole)
  (arg2 : Memref sig Kind.tc Space.vmem S256x96 EltTy.f32) (harg2 : arg2.IsWhole)
  (arg3 : Memref sig Kind.tc Space.vmem S3x3x256x128 EltTy.f32) (harg3 : arg3.IsWhole)
  (arg4 : Memref sig Kind.tc Space.vmem S3x256x256 EltTy.f32) (harg4 : arg4.IsWhole)
  (arg5 : Memref sig Kind.tc Space.vmem S1x256x2048 EltTy.f32) (harg5 : arg5.IsWhole)
  (arg6 : Memref sig Kind.tc Space.vmem S256x2048 EltTy.f32) (harg6 : arg6.IsWhole) (x0 : Vec F S1x96x2048 EltTy.f32)
  (x1 : Vec F S256x96 EltTy.f32) (x2 : Vec F S3x3x256x128 EltTy.f32) (x3 : Vec F S3x256x256 EltTy.f32)

/-- The weights of a layer's tap. -/
abbrev tap (i k : ℕ) (h : ∀ a : Fin 4, ![i, k, 0, 0] a + S1x1x256x128.size a ≤ S3x3x256x128.size a) : Vec F S1x1x256x128 .f32 :=
  View.readAt (Elt F) arg3.view (Rect.unit (s := S3x3x256x128) ![i, k, 0, 0] S1x1x256x128.size h).toLoadRect (harg3.unread x2)

/-- The mixing weights of a layer. -/
abbrev mixw (i : ℕ) (h : ∀ a : Fin 3, ![i, 0, 0] a + S1x256x256.size a ≤ S3x256x256.size a) : Vec F S1x256x256 .f32 :=
  View.readAt (Elt F) arg4.view (Rect.unit (s := S3x256x256) ![i, 0, 0] S1x256x256.size h).toLoadRect (harg4.unread x3)

/-- The first layer's first chunk. -/
theorem piece00 : k0_pay12 (kernelRun0_A.sl.r_4 c arg1 harg1 arg2 harg2 arg6 x0 x1)
      (kernelRun0_A.sl.r_5 c arg1 harg1 arg2 harg2 arg3 harg3 arg4 harg4 arg6 x0 x1 x2 x3)
      (kernelRun0_A.sl.r_6 c arg1 harg1 arg2 harg2 arg3 harg3 arg4 harg4 arg6 x0 x1 x2 x3)
      (kernelRun0_A.sl.r_7 c arg1 harg1 arg2 harg2 arg3 harg3 arg4 harg4 arg6 x0 x1 x2 x3) kernelRun0_A.sl.cst_41
    = layT 127 129 slices_S256x1280_o0_127_S256x1024 slices_S256x1280_o0_129_S256x1024
        (tap arg3 harg3 x2 0 0 inb_S3x3x256x128_S1x1x256x128_0_0_0_0) (tap arg3 harg3 x2 0 1 inb_S3x3x256x128_S1x1x256x128_0_1_0_0)
        (tap arg3 harg3 x2 0 2 inb_S3x3x256x128_S1x1x256x128_0_2_0_0)
        (segL (kernelRun0_A.sl.v24 c arg1 harg1 arg2 harg2 arg6 x0 x1))
        (mixw arg4 harg4 x3 0 inb_S3x256x256_S1x256x256_0_0_0) := rfl

/-- The first layer's second chunk. -/
theorem piece01 : k0_pay22 (kernelRun0_A.sl.r_8 c arg1 harg1 arg2 harg2 arg6 x0 x1)
      (kernelRun0_A.sl.r_12 c arg1 harg1 arg2 harg2 arg3 harg3 arg4 harg4 arg6 x0 x1 x2 x3)
      (kernelRun0_A.sl.r_13 c arg1 harg1 arg2 harg2 arg3 harg3 arg4 harg4 arg6 x0 x1 x2 x3) k0_pay21
    = layT 127 129 slices_S256x1280_o0_127_S256x1024 slices_S256x1280_o0_129_S256x1024
        (tap arg3 harg3 x2 0 0 inb_S3x3x256x128_S1x1x256x128_0_0_0_0) (tap arg3 harg3 x2 0 1 inb_S3x3x256x128_S1x1x256x128_0_1_0_0)
        (tap arg3 harg3 x2 0 2 inb_S3x3x256x128_S1x1x256x128_0_2_0_0)
        (segR (kernelRun0_A.sl.v93 c arg1 harg1 arg2 harg2 arg6 x0 x1))
        (mixw arg4 harg4 x3 0 inb_S3x256x256_S1x256x256_0_0_0) := rfl

/-- The last layer's first chunk. -/
theorem piece20 : k0_pay47 (kernelRun0_A.sl.r_28 c arg1 harg1 arg2 harg2 arg3 harg3 arg4 harg4 arg5 arg6 x0 x1 x2 x3)
      (kernelRun0_A.sl.r_29 c arg1 harg1 arg2 harg2 arg3 harg3 arg4 harg4 arg5 arg6 x0 x1 x2 x3)
      (kernelRun0_A.sl.r_30 c arg1 harg1 arg2 harg2 arg3 harg3 arg4 harg4 arg5 arg6 x0 x1 x2 x3) k0_pay46
      (mixw arg4 harg4 x3 2 inb_S3x256x256_S1x256x256_2_0_0)
    = layT 119 137 slices_S256x1280_o0_119_S256x1024 slices_S256x1280_o0_137_S256x1024
        (tap arg3 harg3 x2 2 0 inb_S3x3x256x128_S1x1x256x128_2_0_0_0) (tap arg3 harg3 x2 2 1 inb_S3x3x256x128_S1x1x256x128_2_1_0_0)
        (tap arg3 harg3 x2 2 2 inb_S3x3x256x128_S1x1x256x128_2_2_0_0)
        (segL (kernelRun0_A.sl.v328 c arg1 harg1 arg2 harg2 arg3 harg3 arg4 harg4 arg5 arg6 x0 x1 x2 x3))
        (mixw arg4 harg4 x3 2 inb_S3x256x256_S1x256x256_2_0_0) := rfl

/-- The last layer's second chunk. -/
theorem piece21 : k0_pay1 (kernelRun0_A.sl.r_31 c arg1 harg1 arg2 harg2 arg3 harg3 arg4 harg4 arg5 arg6 x0 x1 x2 x3)
      (kernelRun0_A.sl.r_32 c arg1 harg1 arg2 harg2 arg3 harg3 arg4 harg4 arg5 arg6 x0 x1 x2 x3)
      (kernelRun0_A.sl.r_33 c arg1 harg1 arg2 harg2 arg3 harg3 arg4 harg4 arg5 arg6 x0 x1 x2 x3)
      (kernelRun0_A.sl.r_34 c arg1 harg1 arg2 harg2 arg3 harg3 arg4 harg4 arg5 arg6 x0 x1 x2 x3)
    = layT 119 137 slices_S256x1280_o0_119_S256x1024 slices_S256x1280_o0_137_S256x1024
        (tap arg3 harg3 x2 2 0 inb_S3x3x256x128_S1x1x256x128_2_0_0_0) (tap arg3 harg3 x2 2 1 inb_S3x3x256x128_S1x1x256x128_2_1_0_0)
        (tap arg3 harg3 x2 2 2 inb_S3x3x256x128_S1x1x256x128_2_2_0_0)
        (segR (kernelRun0_A.sl.v c arg1 harg1 arg2 harg2 arg3 harg3 arg4 harg4 arg5 arg6 x0 x1 x2 x3))
        (mixw arg4 harg4 x3 2 inb_S3x256x256_S1x256x256_2_0_0) := rfl

/-- The second layer's first chunk. -/
theorem piece10 : k0_pay33 (kernelRun0_A.sl.r_17 c arg1 harg1 arg2 harg2 arg3 harg3 arg4 harg4 arg5 arg6 x0 x1 x2 x3)
      (kernelRun0_A.sl.r_21 c arg1 harg1 arg2 harg2 arg3 harg3 arg4 harg4 arg5 arg6 x0 x1 x2 x3)
      (kernelRun0_A.sl.r_22 c arg1 harg1 arg2 harg2 arg3 harg3 arg4 harg4 arg5 arg6 x0 x1 x2 x3)
    = shapeCast S256x1024 (layT 125 131 slices_S256x1280_o0_125_S256x1024 slices_S256x1280_o0_131_S256x1024
        (tap arg3 harg3 x2 1 0 inb_S3x3x256x128_S1x1x256x128_1_0_0_0) (tap arg3 harg3 x2 1 1 inb_S3x3x256x128_S1x1x256x128_1_1_0_0)
        (tap arg3 harg3 x2 1 2 inb_S3x3x256x128_S1x1x256x128_1_2_0_0)
        (segL (shapeCast S256x1152 (dropV boxL (kernelRun0_A.sl.v175 c arg1 harg1 arg2 harg2 arg3 harg3 arg4 harg4 arg5 arg6 x0 x1 x2 x3)) shapeCasts_S256x1152_S256x1152))
        (mixw arg4 harg4 x3 1 inb_S3x256x256_S1x256x256_1_0_0)) shapeCasts_S256x1024_S256x1024 := rfl

/-- The second layer's second chunk. -/
theorem piece11 : k0_pay38 (kernelRun0_A.sl.r_23 c arg1 harg1 arg2 harg2 arg3 harg3 arg4 harg4 arg5 arg6 x0 x1 x2 x3)
      (kernelRun0_A.sl.r_24 c arg1 harg1 arg2 harg2 arg3 harg3 arg4 harg4 arg5 arg6 x0 x1 x2 x3) k0_pay37
      (mixw arg4 harg4 x3 1 inb_S3x256x256_S1x256x256_1_0_0)
    = shapeCast S256x1024 (layT 125 131 slices_S256x1280_o0_125_S256x1024 slices_S256x1280_o0_131_S256x1024
        (tap arg3 harg3 x2 1 0 inb_S3x3x256x128_S1x1x256x128_1_0_0_0) (tap arg3 harg3 x2 1 1 inb_S3x3x256x128_S1x1x256x128_1_1_0_0)
        (tap arg3 harg3 x2 1 2 inb_S3x3x256x128_S1x1x256x128_1_2_0_0)
        (segR (shapeCast S256x1152 (dropV boxR (kernelRun0_A.sl.v247 c arg1 harg1 arg2 harg2 arg3 harg3 arg4 harg4 arg5 arg6 x0 x1 x2 x3)) shapeCasts_S256x1152_S256x1152))
        (mixw arg4 harg4 x3 1 inb_S3x256x256_S1x256x256_1_0_0)) shapeCasts_S256x1024_S256x1024 := rfl

end Words

section Arrays

variable (c : Dev nD)
  (arg1 : Memref sig Kind.tc Space.vmem S1x96x2048 EltTy.f32) (harg1 : arg1.IsWhole)
  (arg2 : Memref sig Kind.tc Space.vmem S256x96 EltTy.f32) (harg2 : arg2.IsWhole)
  (arg3 : Memref sig Kind.tc Space.vmem S3x3x256x128 EltTy.f32) (harg3 : arg3.IsWhole)
  (arg4 : Memref sig Kind.tc Space.vmem S3x256x256 EltTy.f32) (harg4 : arg4.IsWhole)
  (arg5 : Memref sig Kind.tc Space.vmem S1x256x2048 EltTy.f32) (harg5 : arg5.IsWhole)
  (arg6 : Memref sig Kind.tc Space.vmem S256x2048 EltTy.f32) (harg6 : arg6.IsWhole) (x0 : Vec Ideal S1x96x2048 EltTy.f32)
  (x1 : Vec Ideal S256x96 EltTy.f32) (x2 : Vec Ideal S3x3x256x128 EltTy.f32) (x3 : Vec Ideal S3x256x256 EltTy.f32)
  (X : Fin 96 → Fin 2048 → ℝ) (PW : Fin 256 → Fin 96 → ℝ) (DW : Fin 3 → Fin 256 → Fin 3 → ℝ) (P : Fin 3 → Fin 256 → Fin 256 → ℝ)

include DW in
/-- A tap's weights at an index. -/
theorem tap_at (i k : ℕ) (hi : i < 3) (hk : k < 3) (h) (h2 : ∀ i f k n, x2 (ix4 i k f n) = (DW i f k : EReal)) (f : Fin 256) (n : Fin 128) :
    tap (F := Ideal) arg3 harg3 x2 i k h (ix4 0 0 f n) = (DW ⟨i, hi⟩ f ⟨k, hk⟩ : EReal) := by
  rw [← h2 _ _ _ n]
  unfold tap
  rw [View.readAt_eq_ld, harg3.read_unread]
  refine View.ld_unit_apply_of _ _ _ _ _ _ fun a => ?_
  fin_cases a <;> simp

/-- The mixing weights at an index. -/
theorem mixw_at (i : ℕ) (hi : i < 3) (h) (h3 : ∀ i o k, x3 (ix3 i o k) = (P i o k : EReal)) (o k : Fin 256) :
    mixw (F := Ideal) arg4 harg4 x3 i h (ix3 0 o k) = (P ⟨i, hi⟩ o k : EReal) := by
  rw [← h3]
  unfold mixw
  rw [View.readAt_eq_ld, harg4.read_unread]
  refine View.ld_unit_apply_of _ _ _ _ _ _ fun a => ?_
  fin_cases a <;> simp

/-- What a box holds of an array of reals. -/
theorem dropV_at (b : LoadRect S256x2048) (G : Fin 256 → Fin 2048 → ℝ) (v : (lift3 b).shape.Idx → EReal)
    (h : ∀ j, v j = (G ((lift3 b).idx j 1) ((lift3 b).idx j 2) : EReal)) (j : b.shape.Idx) :
    dropV b v j = (G (b.idx j 0) (b.idx j 1) : EReal) := by
  refine (h _).trans ?_
  have e : Shape.reshapeEquiv (b.numel_consLift ![1, 256, 2048] rfl (by decide)) j = Fin.cons ⟨0, Nat.one_pos⟩ j :=
    Shape.reshapeEquiv_cons_one (d := b.size) _ _
  refine (congrArg (fun z : (lift3 b).shape.Idx => ((G ((lift3 b).idx z 1) ((lift3 b).idx z 2) : ℝ) : EReal)) e).trans ?_
  congr 2
  · refine Fin.ext (show 0 + b.off 0 + b.stride 0 * (j 0).val = b.off 0 + b.stride 0 * (j 0).val from ?_); omega
  · refine Fin.ext (show 0 + b.off 1 + b.stride 1 * (j 1).val = b.off 1 + b.stride 1 * (j 1).val from ?_); omega

variable (hx0 : ∀ i t, x0 (ix3 0 i t) = (X i t : EReal)) (hx1 : ∀ f i, x1 (ix2 f i) = (PW f i : EReal))
  (hx2 : ∀ i f k n, x2 (ix4 i k f n) = (DW i f k : EReal)) (hx3 : ∀ i o k, x3 (ix3 i o k) = (P i o k : EReal))

include hx0 hx1 in
/-- The array after the first product. -/
theorem HS0_2_at (y : S256x2048.Idx) : View.canon (kernelRun0_A.sl.HS0_2 (F := Ideal) c arg1 harg1 arg2 harg2 x0 x1) y
    = (pre PW X (y 0) (y 1) : EReal) := by
  refine stored2 (pre PW X) _ _ [] ?_ ?_ y
  · intro f t
    refine pay2_at _ _ PW (fun i => X i ⟨t, by omega⟩) t ?_ ?_ f
    · intro f i
      rw [← hx1, View.readAt_eq_ld, harg2.read_unread]
      refine View.ld_unit_apply_of _ _ _ _ _ _ fun a => ?_
      fin_cases a <;> simp
    · intro i
      rw [← hx0, View.readAt_eq_ld, harg1.read_unread]
      refine View.ld_unit_apply_of _ _ _ _ _ _ fun a => ?_
      fin_cases a <;> simp
  · intro f t
    refine pay2_at _ _ PW (fun i => X i ⟨1024 + t, by omega⟩) t ?_ ?_ f
    · intro f i
      rw [← hx1, View.readAt_eq_ld, harg2.read_unread]
      refine View.ld_unit_apply_of _ _ _ _ _ _ fun a => ?_
      fin_cases a <;> simp
    · intro i
      rw [← hx0, View.readAt_eq_ld, harg1.read_unread]
      refine View.ld_unit_apply_of _ _ _ _ _ _ fun a => ?_
      fin_cases a <;> simp

/-- A read of a segment of an array that holds `G`. -/
theorem box_at (L : List (View.Piece (Elt Ideal) S256x2048 .f32)) (G : Fin 256 → Fin 2048 → ℝ)
    (h : ∀ y, View.canon L y = (G (y 0) (y 1) : EReal)) :
    (∀ f (n : Fin 1152), arg6.view.readCov (Val := Elt Ideal) L boxL (ix2 f n) = (G f ⟨n, by omega⟩ : EReal))
      ∧ ∀ f (n : Fin 1152), arg6.view.readCov (Val := Elt Ideal) L boxR (ix2 f n) = (G f ⟨896 + n, by omega⟩ : EReal) := by
  constructor
  · intro f n
    rw [View.readCov_eq_canon']
    refine (h _).trans ?_
    congr 2
    · refine Fin.ext (show 0 + 1 * f.val = f.val from ?_); omega
    · refine Fin.ext (show 0 + 1 * n.val = n.val from ?_); omega
  · intro f n
    rw [View.readCov_eq_canon']
    refine (h _).trans ?_
    congr 2
    · refine Fin.ext (show 0 + 1 * f.val = f.val from ?_); omega
    · refine Fin.ext (show 896 + 1 * n.val = 896 + n.val from ?_); omega

/-- The same of the array under a leading unit axis. -/
theorem box3_at (L : List (View.Piece (Elt Ideal) S1x256x2048 .f32)) (G : Fin 256 → Fin 2048 → ℝ)
    (h : ∀ y, View.canon L y = (G (y 1) (y 2) : EReal)) :
    (∀ f (n : Fin 1152), shapeCast S256x1152 (dropV boxL (arg5.view.readCov (Val := Elt Ideal) L (lift3 boxL)))
        shapeCasts_S256x1152_S256x1152 (ix2 f n) = (G f ⟨n, by omega⟩ : EReal))
      ∧ ∀ f (n : Fin 1152), shapeCast S256x1152 (dropV boxR (arg5.view.readCov (Val := Elt Ideal) L (lift3 boxR)))
        shapeCasts_S256x1152_S256x1152 (ix2 f n) = (G f ⟨896 + n, by omega⟩ : EReal) := by
  constructor
  · intro f n
    refine (congrFun (shapeCast_self _ _) _).trans ?_
    refine (dropV_at boxL G _ (fun j => ?_) _).trans ?_
    · rw [View.readCov_eq_canon']; exact h _
    congr 2
    · refine Fin.ext (show 0 + 1 * f.val = f.val from ?_); omega
    · refine Fin.ext (show 0 + 1 * n.val = n.val from ?_); omega
  · intro f n
    refine (congrFun (shapeCast_self _ _) _).trans ?_
    refine (dropV_at boxR G _ (fun j => ?_) _).trans ?_
    · rw [View.readCov_eq_canon']; exact h _
    congr 2
    · refine Fin.ext (show 0 + 1 * f.val = f.val from ?_); omega
    · refine Fin.ext (show 896 + 1 * n.val = 896 + n.val from ?_); omega

include hx2 hx3 in
/-- A chunk of layer `i` of an array that holds `G`, from its segment. -/
theorem lay_at (i : ℕ) (hi : i < 3) (d k : ℕ) (hd : d ≤ 128) (o0 o2 : ℕ) (e0 : o0 = 128 - d) (e2 : o2 = 128 + d)
    (g0 : S256x1280.Slices ![0, o0] S256x1024) (g2 : S256x1280.Slices ![0, o2] S256x1024) (a0 a1 a2 a3)
    (G : Fin 256 → Fin 2048 → ℝ) (s : FVec Ideal S256x1280 .f32)
    (hs : ∀ f (j : Fin 1280), s (ix2 f j) = (ext (G f) (k + j) : EReal)) (f : Fin 256) (t : Fin 1024) (ht : k + t.val < 2048) :
    layT o0 o2 g0 g2 (tap (F := Ideal) arg3 harg3 x2 i 0 a0) (tap (F := Ideal) arg3 harg3 x2 i 1 a1)
      (tap (F := Ideal) arg3 harg3 x2 i 2 a2) s (mixw (F := Ideal) arg4 harg4 x3 i a3) (ix2 f t)
      = (layer d (DW ⟨i, hi⟩) (P ⟨i, hi⟩) G f ⟨k + t, ht⟩ : EReal) :=
  layT_at d k hd o0 o2 e0 e2 g0 g2 _ _ _ s _ (DW ⟨i, hi⟩) (P ⟨i, hi⟩) G
    (tap_at arg3 harg3 x2 DW i 0 hi (by omega) a0 hx2) (tap_at arg3 harg3 x2 DW i 1 hi (by omega) a1 hx2)
    (tap_at arg3 harg3 x2 DW i 2 hi (by omega) a2 hx2) hs (mixw_at arg4 harg4 x3 P i hi a3 hx3) f t ht

include hx0 hx1 hx2 hx3 in
/-- The array after the first layer. -/
theorem H4_2_at (y : S1x256x2048.Idx) :
    View.canon (kernelRun0_A.sl.H4_2 (F := Ideal) c arg1 harg1 arg2 harg2 arg3 harg3 arg4 harg4 arg6 x0 x1 x2 x3) y
      = (layer 1 (DW 0) (P 0) (pre PW X) (y 1) (y 2) : EReal) := by
  have hb := box_at arg6 _ _ (HS0_2_at c arg1 harg1 arg2 harg2 x0 x1 X PW hx0 hx1)
  refine stored3 (layer 1 (DW 0) (P 0) (pre PW X)) _ _ [] ?_ ?_ _ _ _ _ _ _ _ y
  · intro f t
    rw [piece00]
    refine (lay_at arg3 harg3 arg4 harg4 x2 x3 DW P hx2 hx3 0 (by omega) 1 0 (by omega) _ _ rfl rfl _ _ _ _ _ _ (pre PW X) _
      (fun f j => ?_) f t (by omega)).trans ?_
    · rw [Nat.zero_add]; exact segL_at _ _ hb.1 f j
    · simp only [Nat.zero_add]; rfl
  · intro f t
    rw [piece01]
    exact lay_at arg3 harg3 arg4 harg4 x2 x3 DW P hx2 hx3 0 (by omega) 1 1024 (by omega) _ _ rfl rfl _ _ _ _ _ _ (pre PW X) _
      (fun f j => segR_at _ _ hb.2 f j) f t (by omega)

include hx0 hx1 hx2 hx3 in
/-- The array after the second layer. -/
theorem HS0_4_at (y : S256x2048.Idx) :
    View.canon (kernelRun0_A.sl.HS0_4 (F := Ideal) c arg1 harg1 arg2 harg2 arg3 harg3 arg4 harg4 arg5 arg6 x0 x1 x2 x3) y
      = (layer 3 (DW 1) (P 1) (layer 1 (DW 0) (P 0) (pre PW X)) (y 0) (y 1) : EReal) := by
  have hb := box3_at arg5 _ _ (H4_2_at c arg1 harg1 arg2 harg2 arg3 harg3 arg4 harg4 arg6 x0 x1 x2 x3 X PW DW P hx0 hx1 hx2 hx3)
  refine stored2 (layer 3 (DW 1) (P 1) (layer 1 (DW 0) (P 0) (pre PW X))) _ _ _ ?_ ?_ y
  · intro f t
    rw [piece10, shapeCast_self]
    refine (lay_at arg3 harg3 arg4 harg4 x2 x3 DW P hx2 hx3 1 (by omega) 3 0 (by omega) _ _ rfl rfl _ _ _ _ _ _
      (layer 1 (DW 0) (P 0) (pre PW X)) _ (fun f j => ?_) f t (by omega)).trans ?_
    · rw [Nat.zero_add]; exact segL_at _ _ hb.1 f j
    · simp only [Nat.zero_add]; rfl
  · intro f t
    rw [piece11, shapeCast_self]
    exact lay_at arg3 harg3 arg4 harg4 x2 x3 DW P hx2 hx3 1 (by omega) 3 1024 (by omega) _ _ rfl rfl _ _ _ _ _ _
      (layer 1 (DW 0) (P 0) (pre PW X)) _ (fun f j => segR_at _ _ hb.2 f j) f t (by omega)

include hx0 hx1 hx2 hx3 in
/-- The array that a grid point of the call leaves. -/
theorem out0_A_4_at (i : grid0.Coords) (y : S1x256x2048.Idx) :
    out0_A_4 (F := Ideal) c i arg1 harg1 arg2 harg2 arg3 harg3 arg4 harg4 arg5 harg5 arg6 harg6 x0 x1 x2 x3 y
      = (stack PW DW P X (y 1) (y 2) : EReal) := by
  have hb := box_at arg6 _ _ (HS0_4_at c arg1 harg1 arg2 harg2 arg3 harg3 arg4 harg4 arg5 arg6 x0 x1 x2 x3 X PW DW P hx0 hx1 hx2 hx3)
  unfold out0_A_4
  rw [View.read_writes_junk_eq_canon]
  unfold kernelRun0_A
  dsimp only
  refine stored3 (stack PW DW P X) _ _ _ ?_ ?_ _ _ _ _ _ _ _ y
  · intro f t
    refine (congrFun (piece20 c arg1 harg1 arg2 harg2 arg3 harg3 arg4 harg4 arg5 arg6 x0 x1 x2 x3) (ix2 f t)).trans ?_
    refine (lay_at arg3 harg3 arg4 harg4 x2 x3 DW P hx2 hx3 2 (by omega) 9 0 (by omega) _ _ rfl rfl _ _ _ _ _ _
      (layer 3 (DW 1) (P 1) (layer 1 (DW 0) (P 0) (pre PW X))) _ (fun f j => ?_) f t (by omega)).trans ?_
    · rw [Nat.zero_add]; exact segL_at _ _ hb.1 f j
    · simp only [Nat.zero_add]; rfl
  · intro f t
    refine (congrFun (piece21 c arg1 harg1 arg2 harg2 arg3 harg3 arg4 harg4 arg5 arg6 x0 x1 x2 x3) (ix2 f t)).trans ?_
    exact lay_at arg3 harg3 arg4 harg4 x2 x3 DW P hx2 hx3 2 (by omega) 9 1024 (by omega) _ _ rfl rfl _ _ _ _ _ _
      (layer 3 (DW 1) (P 1) (layer 1 (DW 0) (P 0) (pre PW X))) _ (fun f j => segR_at _ _ hb.2 f j) f t (by omega)

end Arrays

end Cert.KernelIdeal.Gen

end
-- ==== Proof.Value.Tail.lean ====
/- The spline's call as functions of whole chunks: exponentials of a product and their running sum, a knot's row, the bin's numbers picked
   by comparing, and what the call stores, each with its value at an index. -/
module

public import proofs.«01_k».proof.Proof.Value.Stores
public import proofs.«01_k».proof.Proof.Value.Spline

@[expose] public section

set_option maxRecDepth 16384

noncomputable section

namespace Cert.KernelIdeal.Gen

open Idealize.ShloMosaic Idealize.SL.Sem Cert.Flow

section Functions

variable {F : FTy → Type} [FloatOps F] [Named F]

/-- A product with one bin's weights. -/
def dotT (w : Vec F S1x96x256 .f32) (h : FVec F S256x1024 .f32) : FVec F S96x1024 .f32 :=
  matmul dot_S96x256_S256x1024_S96x1024_1_0_0_1_n_n none (shapeCast S96x256 w shapeCasts_S1x96x256_S96x256) h
    (constant S96x1024 .f32 0x00000000#32)

/-- The running sum of the exponentials of the products. -/
def runT (w : Fin 10 → Vec F S1x96x256 .f32) (h : FVec F S256x1024 .f32) : ℕ → FVec F S96x1024 .f32
  | 0 => exp (dotT (w 0) h)
  | n + 1 => addf (runT w h n) (exp (dotT (w (Fin.ofNat 10 (n + 1))) h))

/-- One over the whole sum. -/
def rcpT (w : Fin 10 → Vec F S1x96x256 .f32) (h : FVec F S256x1024 .f32) : FVec F S96x1024 .f32 :=
  divf (broadcast S96x1024 (Scalar.ofBits .f32 0x3F800000#32)) (runT w h 9)

/-- A row of the scratch without its leading axis. -/
def rowT (p : Vec F S1x96x1024 .f32) : FVec F S96x1024 .f32 := shapeCast S96x1024 p shapeCasts_S1x96x1024_S96x1024

/-- A row with a leading axis. -/
def liftT (p : FVec F S96x1024 .f32) : FVec F S1x96x1024 .f32 := shapeCast S1x96x1024 p shapeCasts_S96x1024_S1x96x1024

/-- A knot's row from its running sum. -/
def scaleT (m : F .f32) (r : FVec F S96x1024 .f32) (p : Vec F S1x96x1024 .f32) : FVec F S1x96x1024 .f32 :=
  liftT (addf (broadcast S96x1024 m) (mulf (broadcast S96x1024 (Named.named (F := F) (φ := .f32) κ "share" 0x3F7D70A4#32)) (mulf (rowT p) r)))

/-- A value picked by comparing a point with nine knots. -/
def pickT (x : FVec F S96x1024 .f32) (q : Fin 9 → FVec F S96x1024 .f32) (v : Fin 10 → FVec F S96x1024 .f32) : FVec F S96x1024 .f32 :=
  select (cmpf .oge x (q 8)) (v 9) (select (cmpf .oge x (q 7)) (v 8) (select (cmpf .oge x (q 6)) (v 7)
    (select (cmpf .oge x (q 5)) (v 6) (select (cmpf .oge x (q 4)) (v 5) (select (cmpf .oge x (q 3)) (v 4)
      (select (cmpf .oge x (q 2)) (v 3) (select (cmpf .oge x (q 1)) (v 2) (select (cmpf .oge x (q 0)) (v 1) (v 0)))))))))

/-- Nine rows and a constant before them. -/
def beforeT (w : BitVec 32) (q : Fin 9 → FVec F S96x1024 .f32) : Fin 10 → FVec F S96x1024 .f32 :=
  ![broadcast S96x1024 (Scalar.ofBits .f32 w), q 0, q 1, q 2, q 3, q 4, q 5, q 6, q 7, q 8]

/-- Nine rows and a constant after them. -/
def afterT (w : BitVec 32) (q : Fin 9 → FVec F S96x1024 .f32) : Fin 10 → FVec F S96x1024 .f32 :=
  ![q 0, q 1, q 2, q 3, q 4, q 5, q 6, q 7, q 8, broadcast S96x1024 (Scalar.ofBits .f32 w)]

/-- What the call stores for the second half of the channels. -/
def bendT (x : Vec F S1x96x1024 .f32) (q r d : Fin 9 → FVec F S96x1024 .f32) : FVec F S96x1024 .f32 :=
  k1_pay142 (k1_pay78 x) (k1_pay79 x) (k1_pay140 (k1_pay80 x) (pickT (k1_pay80 x) q (beforeT 0x00000000#32 q))
    (pickT (k1_pay80 x) q (beforeT 0x00000000#32 r)) (pickT (k1_pay80 x) q (afterT 0x3F800000#32 q))
    (pickT (k1_pay80 x) q (afterT 0x3F800000#32 r)) (pickT (k1_pay80 x) q (afterT 0x3F0A2C8F#32 d))
    (pickT (k1_pay80 x) q (beforeT 0x3F0A2C8F#32 d)) (Scalar.ofBits .f32 0x00000000#32))

/-- The logarithms of slopes that the call sums. -/
def steepT (x : Vec F S1x96x1024 .f32) (q r d : Fin 9 → FVec F S96x1024 .f32) : FVec F S96x1024 .f32 :=
  k1_pay143 (k1_pay79 x) (k1_pay132 (pickT (k1_pay80 x) q (beforeT 0x3F0A2C8F#32 d)) (Scalar.ofBits .f32 0x00000000#32))
    (k1_pay133 (pickT (k1_pay80 x) q (afterT 0x3F0A2C8F#32 d)))
    (k1_pay136 (k1_pay80 x) (pickT (k1_pay80 x) q (beforeT 0x00000000#32 q)) (pickT (k1_pay80 x) q (afterT 0x3F800000#32 q)))
    (k1_pay137 (k1_pay80 x) (pickT (k1_pay80 x) q (beforeT 0x00000000#32 q)) (pickT (k1_pay80 x) q (afterT 0x3F800000#32 q)))
    (k1_pay138 (pickT (k1_pay80 x) q (beforeT 0x00000000#32 q)) (pickT (k1_pay80 x) q (beforeT 0x00000000#32 r))
      (pickT (k1_pay80 x) q (afterT 0x3F800000#32 q)) (pickT (k1_pay80 x) q (afterT 0x3F800000#32 r)))
    (k1_pay139 (k1_pay80 x) (pickT (k1_pay80 x) q (beforeT 0x00000000#32 q))
      (pickT (k1_pay80 x) q (beforeT 0x00000000#32 r)) (pickT (k1_pay80 x) q (afterT 0x3F800000#32 q))
      (pickT (k1_pay80 x) q (afterT 0x3F800000#32 r)) (pickT (k1_pay80 x) q (afterT 0x3F0A2C8F#32 d))
      (pickT (k1_pay80 x) q (beforeT 0x3F0A2C8F#32 d)) (Scalar.ofBits .f32 0x00000000#32))
    (k1_pay141 (k1_pay80 x) (pickT (k1_pay80 x) q (beforeT 0x00000000#32 q)) (pickT (k1_pay80 x) q (afterT 0x3F800000#32 q)))

end Functions

section At

/-- A product at an index. -/
theorem dotT_at (w : Vec Ideal S1x96x256 .f32) (h : FVec Ideal S256x1024 .f32) (W H : Fin 256 → ℝ) (i : Fin 96) (t : Fin 1024)
    (hw : ∀ f, w (ix3 0 i f) = (W f : EReal)) (hh : ∀ f, h (ix2 f t) = (H f : EReal)) :
    dotT w h (ix2 i t) = ((∑ f, W f * H f : ℝ) : EReal) := by
  rw [← coe_sum]
  simp only [EReal.coe_mul, ← hw, ← hh]
  pointwise [dotT]

/-- A running sum at an index. -/
theorem runT_at (w : Fin 10 → Vec Ideal S1x96x256 .f32) (h : FVec Ideal S256x1024 .f32) (W : Fin 10 → Fin 256 → ℝ) (H : Fin 256 → ℝ)
    (i : Fin 96) (t : Fin 1024) (hw : ∀ k f, w k (ix3 0 i f) = (W k f : EReal)) (hh : ∀ f, h (ix2 f t) = (H f : EReal)) (n : ℕ)
    (hn : n < 10) : runT w h n (ix2 i t) = (part (fun k => ∑ f, W k f * H f) (n + 1) : EReal) := by
  induction n with
  | zero =>
    rw [part_succ _ 0 (by omega), part_zero, zero_add]
    refine (show _ = Ideal.exp (dotT (w 0) h (ix2 i t)) from rfl).trans ?_
    rw [dotT_at _ _ (W 0) H i t (hw 0) hh]
    rfl
  | succ n ih =>
    rw [part_succ _ (n + 1) hn, EReal.coe_add, ← ih (by omega)]
    refine (show _ = runT w h n (ix2 i t) + Ideal.exp (dotT (w (Fin.ofNat 10 (n + 1))) h (ix2 i t)) from rfl).trans ?_
    have e : Fin.ofNat 10 (n + 1) = ⟨n + 1, hn⟩ := Fin.ext (Nat.mod_eq_of_lt hn)
    rw [e, dotT_at _ _ (W ⟨n + 1, hn⟩) H i t (hw _) hh]
    rfl

/-- One over the whole sum at an index. -/
theorem rcpT_at (w : Fin 10 → Vec Ideal S1x96x256 .f32) (h : FVec Ideal S256x1024 .f32) (W : Fin 10 → Fin 256 → ℝ) (H : Fin 256 → ℝ)
    (i : Fin 96) (t : Fin 1024) (hw : ∀ k f, w k (ix3 0 i f) = (W k f : EReal)) (hh : ∀ f, h (ix2 f t) = (H f : EReal)) :
    rcpT w h (ix2 i t) = ((1 / part (fun k => ∑ f, W k f * H f) 10 : ℝ) : EReal) := by
  refine (show _ = Ideal.div (Ideal.ofBits .f32 0x3F800000#32) (runT w h 9 (ix2 i t)) from rfl).trans ?_
  rw [runT_at w h W H i t hw hh 9 (by omega), word_one, div_real (part_pos _).ne']

/-- A lifted row at an index. -/
theorem liftT_at (p : FVec Ideal S96x1024 .f32) (i : Fin 96) (t : Fin 1024) : liftT p (ix3 0 i t) = p (ix2 i t) := by
  pointwise [liftT]

/-- A lowered row at an index. -/
theorem rowT_at (p : Vec Ideal S1x96x1024 .f32) (i : Fin 96) (t : Fin 1024) : rowT p (ix2 i t) = p (ix3 0 i t) := by
  pointwise [rowT]

/-- A knot's row at an index. -/
theorem scaleT_at (m : EReal) (r : FVec Ideal S96x1024 .f32) (p : FVec Ideal S96x1024 .f32) (M R P : ℝ) (i : Fin 96) (t : Fin 1024)
    (hm : m = (M : EReal)) (hr : r (ix2 i t) = (R : EReal)) (hp : p (ix2 i t) = (P : EReal)) :
    scaleT (F := Ideal) m r (liftT p) (ix3 0 i t) = ((M + shareR * (P * R) : ℝ) : EReal) := by
  rw [scaleT, liftT_at]
  refine (show _ = m + Named.named (F := Ideal) (φ := .f32) κ "share" 0x3F7D70A4#32 * (rowT (F := Ideal) (liftT p) (ix2 i t) * r (ix2 i t)) from rfl).trans ?_
  rw [rowT_at, liftT_at, hm, hr, hp, show Named.named (F := Ideal) (φ := .f32) κ "share" 0x3F7D70A4#32 = (shareR : EReal) from
    (IdealRules.named_const.ideal_named_scalar _ _ _ _ rfl).trans rfl]
  norm_cast

/-- A choice by a comparison, at an index. -/
theorem sel_at (x q A B : FVec Ideal S96x1024 .f32) (X Q : ℝ) (y : S96x1024.Idx) (hx : x y = (X : EReal)) (hq : q y = (Q : EReal)) :
    select (cmpf .oge x q) A B y = if Q ≤ X then A y else B y := by
  refine (show _ = Scalar.select (FloatOps.cmpf (F := Ideal) (φ := .f32) .oge (x y) (q y)) (A y) (B y) from rfl).trans ?_
  rw [hx, hq, Ideal.cmpf_def, Ideal.cmp_oge]
  by_cases h : Q ≤ X
  · simp [Scalar.select, h]
  · simp [Scalar.select, h]

/-- A picked value at an index: the bin's. -/
theorem pickT_at (x : FVec Ideal S96x1024 .f32) (q : Fin 9 → FVec Ideal S96x1024 .f32) (v : Fin 10 → FVec Ideal S96x1024 .f32)
    (a : Fin 10 → ℝ) (X : ℝ) (V : ℕ → ℝ) (y : S96x1024.Idx) (hx : x y = (X : EReal))
    (hq : ∀ k : Fin 9, q k y = (knot a (k.val + 1) : EReal)) (hv : ∀ k : Fin 10, v k y = (V k.val : EReal)) :
    pickT x q v y = (V (bin a X) : EReal) := by
  have hl := bin_le a X
  have hb : ∀ k : Fin 9, (knot a (k.val + 1) ≤ X) = (k.val + 1 ≤ bin a X) := fun k =>
    propext (bin_iff a X (k.val + 1) (by omega) (by omega))
  unfold pickT
  rw [sel_at x (q 8) _ _ X _ y hx (hq 8), sel_at x (q 7) _ _ X _ y hx (hq 7), sel_at x (q 6) _ _ X _ y hx (hq 6),
    sel_at x (q 5) _ _ X _ y hx (hq 5), sel_at x (q 4) _ _ X _ y hx (hq 4), sel_at x (q 3) _ _ X _ y hx (hq 3),
    sel_at x (q 2) _ _ X _ y hx (hq 2), sel_at x (q 1) _ _ X _ y hx (hq 1), sel_at x (q 0) _ _ X _ y hx (hq 0)]
  simp only [hb, hv]
  generalize bin a X = j at hl
  interval_cases j <;> rfl

/-- A constant and nine rows at an index. -/
theorem beforeT_at (w : BitVec 32) (q : Fin 9 → FVec Ideal S96x1024 .f32) (U : ℕ → ℝ) (y : S96x1024.Idx)
    (hw : Ideal.ofBits .f32 w = (U 0 : EReal)) (hq : ∀ k : Fin 9, q k y = (U (k.val + 1) : EReal)) (k : Fin 10) :
    beforeT w q k y = (U k.val : EReal) := by
  fin_cases k
  · exact hw
  all_goals exact hq _

/-- Nine rows and a constant at an index. -/
theorem afterT_at (w : BitVec 32) (q : Fin 9 → FVec Ideal S96x1024 .f32) (U : ℕ → ℝ) (y : S96x1024.Idx)
    (hw : Ideal.ofBits .f32 w = (U 10 : EReal)) (hq : ∀ k : Fin 9, q k y = (U (k.val + 1) : EReal)) (k : Fin 10) :
    afterT w q k y = (U (k.val + 1) : EReal) := by
  fin_cases k
  on_goal 10 => exact hw
  all_goals exact hq _

section Last

variable (x : Vec Ideal S1x96x1024 .f32) (q r d : Fin 9 → FVec Ideal S96x1024 .f32) (a b : Fin 10 → ℝ) (e : Fin 9 → ℝ) (X : ℝ)
  (i : Fin 96) (t : Fin 1024) (hx : x (ix3 0 i t) = (X : EReal))
  (hq : ∀ k : Fin 9, q k (ix2 i t) = (knot a (k.val + 1) : EReal)) (hr : ∀ k : Fin 9, r k (ix2 i t) = (knot b (k.val + 1) : EReal))
  (hd : ∀ k : Fin 9, d k (ix2 i t) = (e k : EReal))

include hx in
/-- The point looked up, at an index. -/
theorem pay80_at : k1_pay80 x (ix2 i t) = (unit X : EReal) := by
  have h : Named.named (F := Ideal) (φ := .f32) κ "tenth" 0x3DCCCCCD#32 = ((1 / 10 : ℝ) : EReal) :=
    IdealRules.named_const.ideal_named_scalar _ _ _ _ rfl
  have h1 : k1_pay80 x (ix2 i t) = (min (Ideal.ofBits .f32 0x40A00000#32) (max (Ideal.ofBits .f32 0xC0A00000#32) (x (ix3 0 i t)))
      + Ideal.ofBits .f32 0x40A00000#32) * ((1 / 10 : ℝ) : EReal) := by
    pointwise [k1_pay80, k1_pay78]
    rw [h]
  rw [h1, hx, word_five, word_neg_five, max_real, min_real, unit]
  norm_cast

include hx in
/-- Whether the point lies inside, at an index. -/
theorem pay79_at (A B : EReal) : Scalar.select (k1_pay79 x (ix2 i t)) A B = if -5 ≤ X ∧ X ≤ 5 then A else B := by
  pointwise [k1_pay79, k1_pay78]
  rw [hx, word_five, word_neg_five]
  simp only [EReal.coe_le_coe_iff]
  by_cases h1 : -5 ≤ X <;> by_cases h2 : X ≤ 5 <;> simp [h1, h2, Scalar.select, IntOp.andi]

/-- The slope at the right knot, at an index. -/
theorem pay132_at (v : FVec Ideal S96x1024 .f32) (V : ℝ) (y : S96x1024.Idx) (hv : v y = (V : EReal)) :
    k1_pay132 v (Scalar.ofBits .f32 0x00000000#32) y = (slope V : EReal) := by
  have h : Named.named (F := Ideal) (φ := .f32) κ "milli1" 0x3A83126F#32 = (leastR : EReal) :=
    (IdealRules.named_const.ideal_named_scalar _ _ _ _ rfl).trans rfl
  have h1 : k1_pay132 v (Scalar.ofBits .f32 0x00000000#32) y = (leastR : EReal) + (max (v y) (Ideal.ofBits .f32 0x00000000#32)
      + Ideal.log1p (Ideal.exp (Ideal.ofBits .f32 0x00000000#32 - max (v y) (-(v y))))) := by
    pointwise [k1_pay132]
    rw [h]
    rfl
  rw [h1, hv, word_zero, max_real, ← EReal.coe_neg, max_real, ← EReal.coe_sub, Ideal.exp_coe, Ideal.log1p, ← EReal.coe_one,
    ← EReal.coe_add, log_real (by positivity), ← EReal.coe_add, ← EReal.coe_add]
  rfl

/-- The same with the zero written as a number. -/
theorem pay132_at' (v : FVec Ideal S96x1024 .f32) (V : ℝ) (y : S96x1024.Idx) (hv : v y = (V : EReal)) :
    k1_pay132 (F := Ideal) v (0 : EReal) y = (slope V : EReal) := by
  rw [← pay132_at v V y hv, show (0 : EReal) = Ideal.ofBits .f32 0x00000000#32 from word_zero.symm]
  rfl

/-- The slope at the left knot is the same operation. -/
theorem pay133_eq (v : FVec Ideal S96x1024 .f32) : k1_pay133 v = k1_pay132 v (Scalar.ofBits .f32 0x00000000#32) := rfl

variable (P SQ SQN SR SRN SA SB : FVec Ideal S96x1024 .f32) (p vq vqn vr vrn va vb : ℝ) (y : S96x1024.Idx)
  (hp : P y = (p : EReal)) (h1 : SQ y = (vq : EReal)) (h2 : SQN y = (vqn : EReal)) (h3 : SR y = (vr : EReal))
  (h4 : SRN y = (vrn : EReal)) (h5 : SA y = (va : EReal)) (h6 : SB y = (vb : EReal)) (hlt : vq < vqn)

include h1 h2 hlt in
/-- One over the bin's width, at an index. -/
theorem pay135_at : k1_pay135 SQ SQN y = ((1 / (vqn - vq) : ℝ) : EReal) := by
  pointwise [k1_pay135]
  rw [h1, h2, ← EReal.coe_sub, ← EReal.coe_one, div_real (by linarith)]

include hp h1 h2 hlt in
/-- How far into the bin, at an index. -/
theorem pay136_at : k1_pay136 P SQ SQN y = (theta vq vqn p : EReal) := by
  pointwise [k1_pay136]
  rw [pay135_at SQ SQN vq vqn y h1 h2 hlt, hp, h1, ← EReal.coe_sub, ← EReal.coe_mul]
  rfl

include hp h1 h2 hlt in
/-- The product of the two parts, at an index. -/
theorem pay137_at : k1_pay137 P SQ SQN y = (theta vq vqn p * (1 - theta vq vqn p) : ℝ) := by
  pointwise [k1_pay137]
  rw [pay136_at P SQ SQN p vq vqn y hp h1 h2 hlt, ← EReal.coe_one, ← EReal.coe_sub, ← EReal.coe_mul]

include hp h1 h2 hlt in
/-- The other part, at an index. -/
theorem pay141_at : k1_pay141 P SQ SQN y = (1 - theta vq vqn p : ℝ) := by
  pointwise [k1_pay141]
  rw [pay136_at P SQ SQN p vq vqn y hp h1 h2 hlt, ← EReal.coe_one, ← EReal.coe_sub]

include h3 h4 in
/-- The bin's rise, at an index. -/
theorem pay134_at : k1_pay134 SR SRN y = (vrn - vr : ℝ) := by
  pointwise [k1_pay134]
  rw [h3, h4, ← EReal.coe_sub]

include h1 h2 h3 h4 hlt in
/-- The bin's rise over its run, at an index. -/
theorem pay138_at : k1_pay138 SQ SR SQN SRN y = (rise vq vqn vr vrn : ℝ) := by
  pointwise [k1_pay138]
  rw [pay134_at SR SRN vr vrn y h3 h4, pay135_at SQ SQN vq vqn y h1 h2 hlt, ← EReal.coe_mul]
  rfl

include hp h1 h2 h3 h4 h5 h6 hlt in
/-- The denominator, at an index. -/
theorem pay139_at : k1_pay139 P SQ SR SQN SRN SA SB (Scalar.ofBits .f32 0x00000000#32) y
    = (under vq vqn vr vrn (slope vb) (slope va) p : ℝ) := by
  pointwise [k1_pay139]
  rw [pay138_at SQ SQN SR SRN vq vqn vr vrn y h1 h2 h3 h4 hlt, pay137_at P SQ SQN p vq vqn y hp h1 h2 hlt, pay133_eq]
  rw [pay132_at' SB vb y h6, pay132_at SA va y h5, word_two, ← EReal.coe_add, ← EReal.coe_mul, ← EReal.coe_sub, ← EReal.coe_mul,
    ← EReal.coe_add]
  rfl

include hp h1 h2 h3 h4 h5 h6 hlt in
/-- The quotient, at an index. -/
theorem pay140_at (hu : 0 < under vq vqn vr vrn (slope vb) (slope va) p) :
    k1_pay140 P SQ SR SQN SRN SA SB (Scalar.ofBits .f32 0x00000000#32) y
    = (bend vq vqn vr vrn (slope vb) (slope va) p : ℝ) := by
  have hu' := pay139_at P SQ SQN SR SRN SA SB p vq vqn vr vrn va vb y hp h1 h2 h3 h4 h5 h6 hlt
  have hz : (Scalar.ofBits .f32 0x00000000#32 : Ideal .f32) = (0 : EReal) := word_zero
  rw [hz] at hu'
  pointwise [k1_pay140]
  rw [hu', pay138_at SQ SQN SR SRN vq vqn vr vrn y h1 h2 h3 h4 hlt, pay137_at P SQ SQN p vq vqn y hp h1 h2 hlt,
    pay136_at P SQ SQN p vq vqn y hp h1 h2 hlt, pay134_at SR SRN vr vrn y h3 h4, pay132_at' SB vb y h6, h3, word_ten, word_five]
  simp only [← EReal.coe_mul, ← EReal.coe_add]
  rw [div_real hu.ne']
  simp only [← EReal.coe_mul, ← EReal.coe_add, ← EReal.coe_sub]
  rfl

include hx hq hr hd in
/-- What the call stores, at an index. -/
theorem bendT_at : bendT x q r d (ix2 i t) = (spl a b e X : EReal) := by
  have hX := pay80_at x X i t hx
  have hraw : ∀ k : Fin 9, d k (ix2 i t) = (raw e (k.val + 1) : EReal) := fun k => by
    rw [hd, raw, dif_pos ⟨by omega, by omega⟩]
    rfl
  have e1 := pickT_at _ q _ a _ _ _ hX hq (beforeT_at 0x00000000#32 q (knot a) _ (by rw [knot_zero]; exact word_zero) hq)
  have e2 := pickT_at _ q _ a _ (fun k => knot a (k + 1)) _ hX hq
    (afterT_at 0x3F800000#32 q (knot a) _ (by rw [knot_ten]; exact word_one) hq)
  have e3 := pickT_at _ q _ a _ _ _ hX hq (beforeT_at 0x00000000#32 r (knot b) _ (by rw [knot_zero]; exact word_zero) hr)
  have e4 := pickT_at _ q _ a _ (fun k => knot b (k + 1)) _ hX hq
    (afterT_at 0x3F800000#32 r (knot b) _ (by rw [knot_ten]; exact word_one) hr)
  have e5 := pickT_at _ q _ a _ (fun k => raw e (k + 1)) _ hX hq (afterT_at 0x3F0A2C8F#32 d (raw e) _ word_end hraw)
  have e6 := pickT_at _ q _ a _ _ _ hX hq (beforeT_at 0x3F0A2C8F#32 d (raw e) _ word_end hraw)
  refine (show _ = Scalar.select (k1_pay79 x (ix2 i t)) _ (k1_pay78 x (ix2 i t)) from rfl).trans ?_
  rw [pay79_at x X i t hx]
  unfold spl
  split
  · exact pay140_at _ _ _ _ _ _ _ _ _ _ _ _ _ _ _ hX e1 e2 e3 e4 e5 e6 (knot_lt a _ (Nat.lt_succ_of_le (bin_le _ _)))
      (under_bin_pos a b e X)
  · refine Eq.trans ?_ hx
    pointwise [k1_pay78]

include hx hq hr hd in
/-- The logarithm of the slope, at an index. -/
theorem steepT_at : steepT x q r d (ix2 i t) = lad a b e X := by
  have hX := pay80_at x X i t hx
  have hraw : ∀ k : Fin 9, d k (ix2 i t) = (raw e (k.val + 1) : EReal) := fun k => by
    rw [hd, raw, dif_pos ⟨by omega, by omega⟩]
    rfl
  have e1 := pickT_at _ q _ a _ _ _ hX hq (beforeT_at 0x00000000#32 q (knot a) _ (by rw [knot_zero]; exact word_zero) hq)
  have e2 := pickT_at _ q _ a _ (fun k => knot a (k + 1)) _ hX hq
    (afterT_at 0x3F800000#32 q (knot a) _ (by rw [knot_ten]; exact word_one) hq)
  have e3 := pickT_at _ q _ a _ _ _ hX hq (beforeT_at 0x00000000#32 r (knot b) _ (by rw [knot_zero]; exact word_zero) hr)
  have e4 := pickT_at _ q _ a _ (fun k => knot b (k + 1)) _ hX hq
    (afterT_at 0x3F800000#32 r (knot b) _ (by rw [knot_ten]; exact word_one) hr)
  have e5 := pickT_at _ q _ a _ (fun k => raw e (k + 1)) _ hX hq (afterT_at 0x3F0A2C8F#32 d (raw e) _ word_end hraw)
  have e6 := pickT_at _ q _ a _ _ _ hX hq (beforeT_at 0x3F0A2C8F#32 d (raw e) _ word_end hraw)
  have hlt := knot_lt a _ (Nat.lt_succ_of_le (bin_le a (unit X)))
  have g1 := pay139_at _ _ _ _ _ _ _ _ _ _ _ _ _ _ _ hX e1 e2 e3 e4 e5 e6 hlt
  have g2 := pay138_at _ _ _ _ _ _ _ _ _ e1 e2 e3 e4 hlt
  have g3 := pay137_at _ _ _ _ _ _ _ hX e1 e2 hlt
  have g4 := pay136_at _ _ _ _ _ _ _ hX e1 e2 hlt
  have g5 := pay141_at _ _ _ _ _ _ _ hX e1 e2 hlt
  have g6 := pay132_at _ _ _ e6
  have g7 := pay132_at _ _ _ e5
  rw [← pay133_eq] at g7
  unfold steepT
  generalize k1_pay139 (F := Ideal) _ _ _ _ _ _ _ _ = A1 at *
  generalize k1_pay138 (F := Ideal) _ _ _ _ = A2 at *
  generalize k1_pay137 (F := Ideal) _ _ _ = A3 at *
  generalize k1_pay136 (F := Ideal) _ _ _ = A4 at *
  generalize k1_pay141 (F := Ideal) _ _ _ = A5 at *
  generalize k1_pay132 (F := Ideal) _ _ = A6 at *
  generalize k1_pay133 (F := Ideal) _ = A7 at *
  pointwise [k1_pay143]
  rw [pay79_at x X i t hx, g1, g2, g3, g4, g5, g6, g7, word_two]
  simp only [← EReal.coe_mul, ← EReal.coe_add]
  rfl

end Last

end At

end Cert.KernelIdeal.Gen

end
-- ==== Proof.Value.Words.lean ====
/- The words that the spline's call leaves in its scratch and stores, as the functions of whole chunks, for each of the call's two cases. -/
module

public import proofs.«01_k».proof.Proof.Value.Tail
public import proofs.«01_k».proof.Proof.Frame.KernelIdeal

@[expose] public section

set_option maxRecDepth 16384

noncomputable section

namespace Cert.KernelIdeal.Gen

open Idealize.ShloMosaic Idealize.SL.Sem Cert.Flow

variable {F : FTy → Type} [FloatOps F] [Named F] (c : Dev nD)
  (arg2 : Memref sig Kind.tc Space.vmem S1x192x1024 EltTy.f32) (harg2 : arg2.IsWhole)
  (arg3 : Memref sig Kind.tc Space.vmem S1x256x1024 EltTy.f32) (harg3 : arg3.IsWhole)
  (arg4 : Memref sig Kind.tc Space.vmem S10x96x256 EltTy.f32) (harg4 : arg4.IsWhole)
  (arg5 : Memref sig Kind.tc Space.vmem S10x96x256 EltTy.f32) (harg5 : arg5.IsWhole)
  (arg6 : Memref sig Kind.tc Space.vmem S9x96x256 EltTy.f32) (harg6 : arg6.IsWhole)
  (arg9 : Memref sig Kind.tc Space.vmem S10x96x1024 EltTy.f32) (arg10 : Memref sig Kind.tc Space.vmem S10x96x1024 EltTy.f32)
  (arg11 : Memref sig Kind.tc Space.vmem S9x96x1024 EltTy.f32) (x0 : Vec F S1x192x1024 EltTy.f32)
  (x1 : Vec F S1x256x1024 EltTy.f32) (x2 : Vec F S10x96x256 EltTy.f32) (x3 : Vec F S10x96x256 EltTy.f32)
  (x4 : Vec F S9x96x256 EltTy.f32)

/-- A row lies inside. -/
theorem wts_inb (k : Fin 10) : ∀ a : Fin 3, ![k.val, 0, 0] a + S1x96x256.size a ≤ S10x96x256.size a := by
  revert k; decide

/-- A row lies inside. -/
theorem wts9_inb (k : Fin 9) : ∀ a : Fin 3, ![k.val, 0, 0] a + S1x96x256.size a ≤ S9x96x256.size a := by
  revert k; decide

/-- The weights of bin `k`. -/
abbrev wts (a : Memref sig Kind.tc Space.vmem S10x96x256 EltTy.f32) (ha : a.IsWhole) (x : Vec F S10x96x256 EltTy.f32) (k : Fin 10) :
    Vec F S1x96x256 .f32 :=
  View.readAt (Elt F) a.view (Rect.unit (s := S10x96x256) ![k.val, 0, 0] S1x96x256.size (wts_inb k)).toLoadRect (ha.unread x)

/-- The weights of slope `k`. -/
abbrev wts9 (a : Memref sig Kind.tc Space.vmem S9x96x256 EltTy.f32) (ha : a.IsWhole) (x : Vec F S9x96x256 EltTy.f32) (k : Fin 9) :
    Vec F S1x96x256 .f32 :=
  View.readAt (Elt F) a.view (Rect.unit (s := S9x96x256) ![k.val, 0, 0] S1x96x256.size (wts9_inb k)).toLoadRect (ha.unread x)

/-- The second half of the channels. -/
abbrev half (a : Memref sig Kind.tc Space.vmem S1x192x1024 EltTy.f32) (ha : a.IsWhole) (x : Vec F S1x192x1024 EltTy.f32) :
    Vec F S1x96x1024 .f32 :=
  View.readAt (Elt F) a.view (Rect.unit (s := S1x192x1024) ![0, 96, 0] S1x96x1024.size inb_S1x192x1024_S1x96x1024_0_96_0).toLoadRect
    (ha.unread x)

/-- The first running sum of the widths, in the first case. -/
theorem runW1A : (kernelRun1_A.sl.v80 c arg3 harg3 arg4 harg4 arg9 x1 x2) = liftT (runT (wts arg4 harg4 x2) (kernelRun1_A.sl.v1 c arg3 harg3 x1) 0) :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _

/-- The second running sum of the widths, in the first case. -/
theorem runW2A : (kernelRun1_A.sl.v90 c arg3 harg3 arg4 harg4 arg9 x1 x2) = liftT (runT (wts arg4 harg4 x2) (kernelRun1_A.sl.v1 c arg3 harg3 x1) 1) :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _

/-- The third running sum of the widths, in the first case. -/
theorem runW3A : (kernelRun1_A.sl.v100 c arg3 harg3 arg4 harg4 arg9 x1 x2) = liftT (runT (wts arg4 harg4 x2) (kernelRun1_A.sl.v1 c arg3 harg3 x1) 2) :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _

/-- The fourth running sum of the widths, in the first case. -/
theorem runW4A : (kernelRun1_A.sl.v110 c arg3 harg3 arg4 harg4 arg9 x1 x2) = liftT (runT (wts arg4 harg4 x2) (kernelRun1_A.sl.v1 c arg3 harg3 x1) 3) :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _

/-- The fifth running sum of the widths, in the first case. -/
theorem runW5A : (kernelRun1_A.sl.v120 c arg3 harg3 arg4 harg4 arg9 x1 x2) = liftT (runT (wts arg4 harg4 x2) (kernelRun1_A.sl.v1 c arg3 harg3 x1) 4) :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _

/-- The sixth running sum of the widths, in the first case. -/
theorem runW6A : (kernelRun1_A.sl.v130 c arg3 harg3 arg4 harg4 arg9 x1 x2) = liftT (runT (wts arg4 harg4 x2) (kernelRun1_A.sl.v1 c arg3 harg3 x1) 5) :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _

/-- The seventh running sum of the widths, in the first case. -/
theorem runW7A : (kernelRun1_A.sl.v140 c arg3 harg3 arg4 harg4 arg9 x1 x2) = liftT (runT (wts arg4 harg4 x2) (kernelRun1_A.sl.v1 c arg3 harg3 x1) 6) :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _

/-- The eighth running sum of the widths, in the first case. -/
theorem runW8A : (kernelRun1_A.sl.v150 c arg3 harg3 arg4 harg4 arg9 x1 x2) = liftT (runT (wts arg4 harg4 x2) (kernelRun1_A.sl.v1 c arg3 harg3 x1) 7) :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _

/-- The ninth running sum of the widths, in the first case. -/
theorem runW9A : (kernelRun1_A.sl.v160 c arg3 harg3 arg4 harg4 arg9 x1 x2) = liftT (runT (wts arg4 harg4 x2) (kernelRun1_A.sl.v1 c arg3 harg3 x1) 8) :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _

/-- The first knot of the widths, in the first case. -/
theorem rowW1A : (kernelRun1_A.sl.v408 c arg3 harg3 arg4 harg4 arg9 x1 x2) = scaleT (Named.named κ "milli1" 0x3A83126F#32) (rcpT (wts arg4 harg4 x2) (kernelRun1_A.sl.v1 c arg3 harg3 x1))
    (liftT (runT (wts arg4 harg4 x2) (kernelRun1_A.sl.v1 c arg3 harg3 x1) 0)) :=
  ((View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _ : (kernelRun1_A.sl.v408 c arg3 harg3 arg4 harg4 arg9 x1 x2) = scaleT _ (rcpT (wts arg4 harg4 x2) (kernelRun1_A.sl.v1 c arg3 harg3 x1)) (kernelRun1_A.sl.v80 c arg3 harg3 arg4 harg4 arg9 x1 x2)).trans
    (congrArg (scaleT _ _) (runW1A c arg3 harg3 arg4 harg4 arg9 x1 x2))

/-- The second knot of the widths, in the first case. -/
theorem rowW2A : (kernelRun1_A.sl.v425 c arg3 harg3 arg4 harg4 arg9 x1 x2) = scaleT (Named.named κ "milli2" 0x3B03126F#32) (rcpT (wts arg4 harg4 x2) (kernelRun1_A.sl.v1 c arg3 harg3 x1))
    (liftT (runT (wts arg4 harg4 x2) (kernelRun1_A.sl.v1 c arg3 harg3 x1) 1)) :=
  ((View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _ : (kernelRun1_A.sl.v425 c arg3 harg3 arg4 harg4 arg9 x1 x2) = scaleT _ (rcpT (wts arg4 harg4 x2) (kernelRun1_A.sl.v1 c arg3 harg3 x1)) (kernelRun1_A.sl.v90 c arg3 harg3 arg4 harg4 arg9 x1 x2)).trans
    (congrArg (scaleT _ _) (runW2A c arg3 harg3 arg4 harg4 arg9 x1 x2))

/-- The third knot of the widths, in the first case. -/
theorem rowW3A : (kernelRun1_A.sl.v446 c arg3 harg3 arg4 harg4 arg9 x1 x2) = scaleT (Named.named κ "milli3" 0x3B449BA6#32) (rcpT (wts arg4 harg4 x2) (kernelRun1_A.sl.v1 c arg3 harg3 x1))
    (liftT (runT (wts arg4 harg4 x2) (kernelRun1_A.sl.v1 c arg3 harg3 x1) 2)) :=
  ((View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _ : (kernelRun1_A.sl.v446 c arg3 harg3 arg4 harg4 arg9 x1 x2) = scaleT _ (rcpT (wts arg4 harg4 x2) (kernelRun1_A.sl.v1 c arg3 harg3 x1)) (kernelRun1_A.sl.v100 c arg3 harg3 arg4 harg4 arg9 x1 x2)).trans
    (congrArg (scaleT _ _) (runW3A c arg3 harg3 arg4 harg4 arg9 x1 x2))

/-- The fourth knot of the widths, in the first case. -/
theorem rowW4A : (kernelRun1_A.sl.v467 c arg3 harg3 arg4 harg4 arg9 x1 x2) = scaleT (Named.named κ "milli4" 0x3B83126F#32) (rcpT (wts arg4 harg4 x2) (kernelRun1_A.sl.v1 c arg3 harg3 x1))
    (liftT (runT (wts arg4 harg4 x2) (kernelRun1_A.sl.v1 c arg3 harg3 x1) 3)) :=
  ((View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _ : (kernelRun1_A.sl.v467 c arg3 harg3 arg4 harg4 arg9 x1 x2) = scaleT _ (rcpT (wts arg4 harg4 x2) (kernelRun1_A.sl.v1 c arg3 harg3 x1)) (kernelRun1_A.sl.v110 c arg3 harg3 arg4 harg4 arg9 x1 x2)).trans
    (congrArg (scaleT _ _) (runW4A c arg3 harg3 arg4 harg4 arg9 x1 x2))

/-- The fifth knot of the widths, in the first case. -/
theorem rowW5A : (kernelRun1_A.sl.v488 c arg3 harg3 arg4 harg4 arg9 x1 x2) = scaleT (Named.named κ "milli5" 0x3BA3D70A#32) (rcpT (wts arg4 harg4 x2) (kernelRun1_A.sl.v1 c arg3 harg3 x1))
    (liftT (runT (wts arg4 harg4 x2) (kernelRun1_A.sl.v1 c arg3 harg3 x1) 4)) :=
  ((View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _ : (kernelRun1_A.sl.v488 c arg3 harg3 arg4 harg4 arg9 x1 x2) = scaleT _ (rcpT (wts arg4 harg4 x2) (kernelRun1_A.sl.v1 c arg3 harg3 x1)) (kernelRun1_A.sl.v120 c arg3 harg3 arg4 harg4 arg9 x1 x2)).trans
    (congrArg (scaleT _ _) (runW5A c arg3 harg3 arg4 harg4 arg9 x1 x2))

/-- The sixth knot of the widths, in the first case. -/
theorem rowW6A : (kernelRun1_A.sl.v509 c arg3 harg3 arg4 harg4 arg9 x1 x2) = scaleT (Named.named κ "milli6" 0x3BC49BA6#32) (rcpT (wts arg4 harg4 x2) (kernelRun1_A.sl.v1 c arg3 harg3 x1))
    (liftT (runT (wts arg4 harg4 x2) (kernelRun1_A.sl.v1 c arg3 harg3 x1) 5)) :=
  ((View.readCov_skip _ _ _ _ _ (by decide)).trans <| (View.readCov_skip _ _ _ _ _ (by decide)).trans <| (View.readCov_skip _ _ _ _ _ (by decide)).trans <| View.readCov_cons_toLoadRect _ _ _ _ : (kernelRun1_A.sl.v509 c arg3 harg3 arg4 harg4 arg9 x1 x2) = scaleT _ (rcpT (wts arg4 harg4 x2) (kernelRun1_A.sl.v1 c arg3 harg3 x1)) (kernelRun1_A.sl.v130 c arg3 harg3 arg4 harg4 arg9 x1 x2)).trans
    (congrArg (scaleT _ _) (runW6A c arg3 harg3 arg4 harg4 arg9 x1 x2))

/-- The seventh knot of the widths, in the first case. -/
theorem rowW7A : (kernelRun1_A.sl.v530 c arg3 harg3 arg4 harg4 arg9 x1 x2) = scaleT (Named.named κ "milli7" 0x3BE56042#32) (rcpT (wts arg4 harg4 x2) (kernelRun1_A.sl.v1 c arg3 harg3 x1))
    (liftT (runT (wts arg4 harg4 x2) (kernelRun1_A.sl.v1 c arg3 harg3 x1) 6)) :=
  ((View.readCov_skip _ _ _ _ _ (by decide)).trans <| (View.readCov_skip _ _ _ _ _ (by decide)).trans <| View.readCov_cons_toLoadRect _ _ _ _ : (kernelRun1_A.sl.v530 c arg3 harg3 arg4 harg4 arg9 x1 x2) = scaleT _ (rcpT (wts arg4 harg4 x2) (kernelRun1_A.sl.v1 c arg3 harg3 x1)) (kernelRun1_A.sl.v140 c arg3 harg3 arg4 harg4 arg9 x1 x2)).trans
    (congrArg (scaleT _ _) (runW7A c arg3 harg3 arg4 harg4 arg9 x1 x2))

/-- The eighth knot of the widths, in the first case. -/
theorem rowW8A : (kernelRun1_A.sl.v551 c arg3 harg3 arg4 harg4 arg9 x1 x2) = scaleT (Named.named κ "milli8" 0x3C03126F#32) (rcpT (wts arg4 harg4 x2) (kernelRun1_A.sl.v1 c arg3 harg3 x1))
    (liftT (runT (wts arg4 harg4 x2) (kernelRun1_A.sl.v1 c arg3 harg3 x1) 7)) :=
  ((View.readCov_skip _ _ _ _ _ (by decide)).trans <| View.readCov_cons_toLoadRect _ _ _ _ : (kernelRun1_A.sl.v551 c arg3 harg3 arg4 harg4 arg9 x1 x2) = scaleT _ (rcpT (wts arg4 harg4 x2) (kernelRun1_A.sl.v1 c arg3 harg3 x1)) (kernelRun1_A.sl.v150 c arg3 harg3 arg4 harg4 arg9 x1 x2)).trans
    (congrArg (scaleT _ _) (runW8A c arg3 harg3 arg4 harg4 arg9 x1 x2))

/-- The ninth knot of the widths, in the first case. -/
theorem rowW9A : (kernelRun1_A.sl.v572 c arg3 harg3 arg4 harg4 arg9 x1 x2) = scaleT (Named.named κ "milli9" 0x3C1374BC#32) (rcpT (wts arg4 harg4 x2) (kernelRun1_A.sl.v1 c arg3 harg3 x1))
    (liftT (runT (wts arg4 harg4 x2) (kernelRun1_A.sl.v1 c arg3 harg3 x1) 8)) :=
  (View.readCov_cons_toLoadRect _ _ _ _ : (kernelRun1_A.sl.v572 c arg3 harg3 arg4 harg4 arg9 x1 x2) = scaleT _ (rcpT (wts arg4 harg4 x2) (kernelRun1_A.sl.v1 c arg3 harg3 x1)) (kernelRun1_A.sl.v160 c arg3 harg3 arg4 harg4 arg9 x1 x2)).trans
    (congrArg (scaleT _ _) (runW9A c arg3 harg3 arg4 harg4 arg9 x1 x2))

/-- The first running sum of the heights, in the first case. -/
theorem runH1A : (kernelRun1_A.sl.v248 c arg3 harg3 arg5 harg5 arg10 x1 x3) = liftT (runT (wts arg5 harg5 x3) (kernelRun1_A.sl.v1 c arg3 harg3 x1) 0) :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _

/-- The second running sum of the heights, in the first case. -/
theorem runH2A : (kernelRun1_A.sl.v258 c arg3 harg3 arg5 harg5 arg10 x1 x3) = liftT (runT (wts arg5 harg5 x3) (kernelRun1_A.sl.v1 c arg3 harg3 x1) 1) :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _

/-- The third running sum of the heights, in the first case. -/
theorem runH3A : (kernelRun1_A.sl.v268 c arg3 harg3 arg5 harg5 arg10 x1 x3) = liftT (runT (wts arg5 harg5 x3) (kernelRun1_A.sl.v1 c arg3 harg3 x1) 2) :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _

/-- The fourth running sum of the heights, in the first case. -/
theorem runH4A : (kernelRun1_A.sl.v278 c arg3 harg3 arg5 harg5 arg10 x1 x3) = liftT (runT (wts arg5 harg5 x3) (kernelRun1_A.sl.v1 c arg3 harg3 x1) 3) :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _

/-- The fifth running sum of the heights, in the first case. -/
theorem runH5A : (kernelRun1_A.sl.v288 c arg3 harg3 arg5 harg5 arg10 x1 x3) = liftT (runT (wts arg5 harg5 x3) (kernelRun1_A.sl.v1 c arg3 harg3 x1) 4) :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _

/-- The sixth running sum of the heights, in the first case. -/
theorem runH6A : (kernelRun1_A.sl.v298 c arg3 harg3 arg5 harg5 arg10 x1 x3) = liftT (runT (wts arg5 harg5 x3) (kernelRun1_A.sl.v1 c arg3 harg3 x1) 5) :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _

/-- The seventh running sum of the heights, in the first case. -/
theorem runH7A : (kernelRun1_A.sl.v308 c arg3 harg3 arg5 harg5 arg10 x1 x3) = liftT (runT (wts arg5 harg5 x3) (kernelRun1_A.sl.v1 c arg3 harg3 x1) 6) :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _

/-- The eighth running sum of the heights, in the first case. -/
theorem runH8A : (kernelRun1_A.sl.v318 c arg3 harg3 arg5 harg5 arg10 x1 x3) = liftT (runT (wts arg5 harg5 x3) (kernelRun1_A.sl.v1 c arg3 harg3 x1) 7) :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _

/-- The ninth running sum of the heights, in the first case. -/
theorem runH9A : (kernelRun1_A.sl.v328 c arg3 harg3 arg5 harg5 arg10 x1 x3) = liftT (runT (wts arg5 harg5 x3) (kernelRun1_A.sl.v1 c arg3 harg3 x1) 8) :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _

/-- The first knot of the heights, in the first case. -/
theorem rowH1A : (kernelRun1_A.sl.v411 c arg3 harg3 arg5 harg5 arg10 x1 x3) = scaleT (Named.named κ "milli1" 0x3A83126F#32) (rcpT (wts arg5 harg5 x3) (kernelRun1_A.sl.v1 c arg3 harg3 x1))
    (liftT (runT (wts arg5 harg5 x3) (kernelRun1_A.sl.v1 c arg3 harg3 x1) 0)) :=
  ((View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _ : (kernelRun1_A.sl.v411 c arg3 harg3 arg5 harg5 arg10 x1 x3) = scaleT _ (rcpT (wts arg5 harg5 x3) (kernelRun1_A.sl.v1 c arg3 harg3 x1)) (kernelRun1_A.sl.v248 c arg3 harg3 arg5 harg5 arg10 x1 x3)).trans
    (congrArg (scaleT _ _) (runH1A c arg3 harg3 arg5 harg5 arg10 x1 x3))

/-- The second knot of the heights, in the first case. -/
theorem rowH2A : (kernelRun1_A.sl.v428 c arg3 harg3 arg5 harg5 arg10 x1 x3) = scaleT (Named.named κ "milli2" 0x3B03126F#32) (rcpT (wts arg5 harg5 x3) (kernelRun1_A.sl.v1 c arg3 harg3 x1))
    (liftT (runT (wts arg5 harg5 x3) (kernelRun1_A.sl.v1 c arg3 harg3 x1) 1)) :=
  ((View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _ : (kernelRun1_A.sl.v428 c arg3 harg3 arg5 harg5 arg10 x1 x3) = scaleT _ (rcpT (wts arg5 harg5 x3) (kernelRun1_A.sl.v1 c arg3 harg3 x1)) (kernelRun1_A.sl.v258 c arg3 harg3 arg5 harg5 arg10 x1 x3)).trans
    (congrArg (scaleT _ _) (runH2A c arg3 harg3 arg5 harg5 arg10 x1 x3))

/-- The third knot of the heights, in the first case. -/
theorem rowH3A : (kernelRun1_A.sl.v449 c arg3 harg3 arg5 harg5 arg10 x1 x3) = scaleT (Named.named κ "milli3" 0x3B449BA6#32) (rcpT (wts arg5 harg5 x3) (kernelRun1_A.sl.v1 c arg3 harg3 x1))
    (liftT (runT (wts arg5 harg5 x3) (kernelRun1_A.sl.v1 c arg3 harg3 x1) 2)) :=
  ((View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _ : (kernelRun1_A.sl.v449 c arg3 harg3 arg5 harg5 arg10 x1 x3) = scaleT _ (rcpT (wts arg5 harg5 x3) (kernelRun1_A.sl.v1 c arg3 harg3 x1)) (kernelRun1_A.sl.v268 c arg3 harg3 arg5 harg5 arg10 x1 x3)).trans
    (congrArg (scaleT _ _) (runH3A c arg3 harg3 arg5 harg5 arg10 x1 x3))

/-- The fourth knot of the heights, in the first case. -/
theorem rowH4A : (kernelRun1_A.sl.v470 c arg3 harg3 arg5 harg5 arg10 x1 x3) = scaleT (Named.named κ "milli4" 0x3B83126F#32) (rcpT (wts arg5 harg5 x3) (kernelRun1_A.sl.v1 c arg3 harg3 x1))
    (liftT (runT (wts arg5 harg5 x3) (kernelRun1_A.sl.v1 c arg3 harg3 x1) 3)) :=
  ((View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _ : (kernelRun1_A.sl.v470 c arg3 harg3 arg5 harg5 arg10 x1 x3) = scaleT _ (rcpT (wts arg5 harg5 x3) (kernelRun1_A.sl.v1 c arg3 harg3 x1)) (kernelRun1_A.sl.v278 c arg3 harg3 arg5 harg5 arg10 x1 x3)).trans
    (congrArg (scaleT _ _) (runH4A c arg3 harg3 arg5 harg5 arg10 x1 x3))

/-- The fifth knot of the heights, in the first case. -/
theorem rowH5A : (kernelRun1_A.sl.v491 c arg3 harg3 arg5 harg5 arg10 x1 x3) = scaleT (Named.named κ "milli5" 0x3BA3D70A#32) (rcpT (wts arg5 harg5 x3) (kernelRun1_A.sl.v1 c arg3 harg3 x1))
    (liftT (runT (wts arg5 harg5 x3) (kernelRun1_A.sl.v1 c arg3 harg3 x1) 4)) :=
  ((View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _ : (kernelRun1_A.sl.v491 c arg3 harg3 arg5 harg5 arg10 x1 x3) = scaleT _ (rcpT (wts arg5 harg5 x3) (kernelRun1_A.sl.v1 c arg3 harg3 x1)) (kernelRun1_A.sl.v288 c arg3 harg3 arg5 harg5 arg10 x1 x3)).trans
    (congrArg (scaleT _ _) (runH5A c arg3 harg3 arg5 harg5 arg10 x1 x3))

/-- The sixth knot of the heights, in the first case. -/
theorem rowH6A : (kernelRun1_A.sl.v512 c arg3 harg3 arg5 harg5 arg10 x1 x3) = scaleT (Named.named κ "milli6" 0x3BC49BA6#32) (rcpT (wts arg5 harg5 x3) (kernelRun1_A.sl.v1 c arg3 harg3 x1))
    (liftT (runT (wts arg5 harg5 x3) (kernelRun1_A.sl.v1 c arg3 harg3 x1) 5)) :=
  ((View.readCov_skip _ _ _ _ _ (by decide)).trans <| (View.readCov_skip _ _ _ _ _ (by decide)).trans <| (View.readCov_skip _ _ _ _ _ (by decide)).trans <| View.readCov_cons_toLoadRect _ _ _ _ : (kernelRun1_A.sl.v512 c arg3 harg3 arg5 harg5 arg10 x1 x3) = scaleT _ (rcpT (wts arg5 harg5 x3) (kernelRun1_A.sl.v1 c arg3 harg3 x1)) (kernelRun1_A.sl.v298 c arg3 harg3 arg5 harg5 arg10 x1 x3)).trans
    (congrArg (scaleT _ _) (runH6A c arg3 harg3 arg5 harg5 arg10 x1 x3))

/-- The seventh knot of the heights, in the first case. -/
theorem rowH7A : (kernelRun1_A.sl.v533 c arg3 harg3 arg5 harg5 arg10 x1 x3) = scaleT (Named.named κ "milli7" 0x3BE56042#32) (rcpT (wts arg5 harg5 x3) (kernelRun1_A.sl.v1 c arg3 harg3 x1))
    (liftT (runT (wts arg5 harg5 x3) (kernelRun1_A.sl.v1 c arg3 harg3 x1) 6)) :=
  ((View.readCov_skip _ _ _ _ _ (by decide)).trans <| (View.readCov_skip _ _ _ _ _ (by decide)).trans <| View.readCov_cons_toLoadRect _ _ _ _ : (kernelRun1_A.sl.v533 c arg3 harg3 arg5 harg5 arg10 x1 x3) = scaleT _ (rcpT (wts arg5 harg5 x3) (kernelRun1_A.sl.v1 c arg3 harg3 x1)) (kernelRun1_A.sl.v308 c arg3 harg3 arg5 harg5 arg10 x1 x3)).trans
    (congrArg (scaleT _ _) (runH7A c arg3 harg3 arg5 harg5 arg10 x1 x3))

/-- The eighth knot of the heights, in the first case. -/
theorem rowH8A : (kernelRun1_A.sl.v554 c arg3 harg3 arg5 harg5 arg10 x1 x3) = scaleT (Named.named κ "milli8" 0x3C03126F#32) (rcpT (wts arg5 harg5 x3) (kernelRun1_A.sl.v1 c arg3 harg3 x1))
    (liftT (runT (wts arg5 harg5 x3) (kernelRun1_A.sl.v1 c arg3 harg3 x1) 7)) :=
  ((View.readCov_skip _ _ _ _ _ (by decide)).trans <| View.readCov_cons_toLoadRect _ _ _ _ : (kernelRun1_A.sl.v554 c arg3 harg3 arg5 harg5 arg10 x1 x3) = scaleT _ (rcpT (wts arg5 harg5 x3) (kernelRun1_A.sl.v1 c arg3 harg3 x1)) (kernelRun1_A.sl.v318 c arg3 harg3 arg5 harg5 arg10 x1 x3)).trans
    (congrArg (scaleT _ _) (runH8A c arg3 harg3 arg5 harg5 arg10 x1 x3))

/-- The ninth knot of the heights, in the first case. -/
theorem rowH9A : (kernelRun1_A.sl.v575 c arg3 harg3 arg5 harg5 arg10 x1 x3) = scaleT (Named.named κ "milli9" 0x3C1374BC#32) (rcpT (wts arg5 harg5 x3) (kernelRun1_A.sl.v1 c arg3 harg3 x1))
    (liftT (runT (wts arg5 harg5 x3) (kernelRun1_A.sl.v1 c arg3 harg3 x1) 8)) :=
  (View.readCov_cons_toLoadRect _ _ _ _ : (kernelRun1_A.sl.v575 c arg3 harg3 arg5 harg5 arg10 x1 x3) = scaleT _ (rcpT (wts arg5 harg5 x3) (kernelRun1_A.sl.v1 c arg3 harg3 x1)) (kernelRun1_A.sl.v328 c arg3 harg3 arg5 harg5 arg10 x1 x3)).trans
    (congrArg (scaleT _ _) (runH9A c arg3 harg3 arg5 harg5 arg10 x1 x3))

/-- The first slope's row, in the first case. -/
theorem rowD0A : (kernelRun1_A.sl.v414 c arg3 harg3 arg6 harg6 arg11 x1 x4) = liftT (dotT (wts9 arg6 harg6 x4 0) (kernelRun1_A.sl.v1 c arg3 harg3 x1)) :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _

/-- The second slope's row, in the first case. -/
theorem rowD1A : (kernelRun1_A.sl.v431 c arg3 harg3 arg6 harg6 arg11 x1 x4) = liftT (dotT (wts9 arg6 harg6 x4 1) (kernelRun1_A.sl.v1 c arg3 harg3 x1)) :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _

/-- The third slope's row, in the first case. -/
theorem rowD2A : (kernelRun1_A.sl.v452 c arg3 harg3 arg6 harg6 arg11 x1 x4) = liftT (dotT (wts9 arg6 harg6 x4 2) (kernelRun1_A.sl.v1 c arg3 harg3 x1)) :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _

/-- The fourth slope's row, in the first case. -/
theorem rowD3A : (kernelRun1_A.sl.v473 c arg3 harg3 arg6 harg6 arg11 x1 x4) = liftT (dotT (wts9 arg6 harg6 x4 3) (kernelRun1_A.sl.v1 c arg3 harg3 x1)) :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _

/-- The fifth slope's row, in the first case. -/
theorem rowD4A : (kernelRun1_A.sl.v494 c arg3 harg3 arg6 harg6 arg11 x1 x4) = liftT (dotT (wts9 arg6 harg6 x4 4) (kernelRun1_A.sl.v1 c arg3 harg3 x1)) :=
  (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _

/-- The sixth slope's row, in the first case. -/
theorem rowD5A : (kernelRun1_A.sl.v515 c arg3 harg3 arg6 harg6 arg11 x1 x4) = liftT (dotT (wts9 arg6 harg6 x4 5) (kernelRun1_A.sl.v1 c arg3 harg3 x1)) :=
  (View.readCov_skip _ _ _ _ _ (by decide)).trans <| (View.readCov_skip _ _ _ _ _ (by decide)).trans <| (View.readCov_skip _ _ _ _ _ (by decide)).trans <| View.readCov_cons_toLoadRect _ _ _ _

/-- The seventh slope's row, in the first case. -/
theorem rowD6A : (kernelRun1_A.sl.v536 c arg3 harg3 arg6 harg6 arg11 x1 x4) = liftT (dotT (wts9 arg6 harg6 x4 6) (kernelRun1_A.sl.v1 c arg3 harg3 x1)) :=
  (View.readCov_skip _ _ _ _ _ (by decide)).trans <| (View.readCov_skip _ _ _ _ _ (by decide)).trans <| View.readCov_cons_toLoadRect _ _ _ _

/-- The eighth slope's row, in the first case. -/
theorem rowD7A : (kernelRun1_A.sl.v557 c arg3 harg3 arg6 harg6 arg11 x1 x4) = liftT (dotT (wts9 arg6 harg6 x4 7) (kernelRun1_A.sl.v1 c arg3 harg3 x1)) :=
  (View.readCov_skip _ _ _ _ _ (by decide)).trans <| View.readCov_cons_toLoadRect _ _ _ _

/-- The ninth slope's row, in the first case. -/
theorem rowD8A : (kernelRun1_A.sl.v578 c arg3 harg3 arg6 harg6 arg11 x1 x4) = liftT (dotT (wts9 arg6 harg6 x4 8) (kernelRun1_A.sl.v1 c arg3 harg3 x1)) :=
  View.readCov_cons_toLoadRect _ _ _ _

/-- The first running sum of the widths, in the second case. -/
theorem runW1B : (kernelRun1_B.sl.v80 c arg3 harg3 arg4 harg4 arg9 x1 x2) = liftT (runT (wts arg4 harg4 x2) (kernelRun1_B.sl.v1 c arg3 harg3 x1) 0) :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _

/-- The second running sum of the widths, in the second case. -/
theorem runW2B : (kernelRun1_B.sl.v90 c arg3 harg3 arg4 harg4 arg9 x1 x2) = liftT (runT (wts arg4 harg4 x2) (kernelRun1_B.sl.v1 c arg3 harg3 x1) 1) :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _

/-- The third running sum of the widths, in the second case. -/
theorem runW3B : (kernelRun1_B.sl.v100 c arg3 harg3 arg4 harg4 arg9 x1 x2) = liftT (runT (wts arg4 harg4 x2) (kernelRun1_B.sl.v1 c arg3 harg3 x1) 2) :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _

/-- The fourth running sum of the widths, in the second case. -/
theorem runW4B : (kernelRun1_B.sl.v110 c arg3 harg3 arg4 harg4 arg9 x1 x2) = liftT (runT (wts arg4 harg4 x2) (kernelRun1_B.sl.v1 c arg3 harg3 x1) 3) :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _

/-- The fifth running sum of the widths, in the second case. -/
theorem runW5B : (kernelRun1_B.sl.v120 c arg3 harg3 arg4 harg4 arg9 x1 x2) = liftT (runT (wts arg4 harg4 x2) (kernelRun1_B.sl.v1 c arg3 harg3 x1) 4) :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _

/-- The sixth running sum of the widths, in the second case. -/
theorem runW6B : (kernelRun1_B.sl.v130 c arg3 harg3 arg4 harg4 arg9 x1 x2) = liftT (runT (wts arg4 harg4 x2) (kernelRun1_B.sl.v1 c arg3 harg3 x1) 5) :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _

/-- The seventh running sum of the widths, in the second case. -/
theorem runW7B : (kernelRun1_B.sl.v140 c arg3 harg3 arg4 harg4 arg9 x1 x2) = liftT (runT (wts arg4 harg4 x2) (kernelRun1_B.sl.v1 c arg3 harg3 x1) 6) :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _

/-- The eighth running sum of the widths, in the second case. -/
theorem runW8B : (kernelRun1_B.sl.v150 c arg3 harg3 arg4 harg4 arg9 x1 x2) = liftT (runT (wts arg4 harg4 x2) (kernelRun1_B.sl.v1 c arg3 harg3 x1) 7) :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _

/-- The ninth running sum of the widths, in the second case. -/
theorem runW9B : (kernelRun1_B.sl.v160 c arg3 harg3 arg4 harg4 arg9 x1 x2) = liftT (runT (wts arg4 harg4 x2) (kernelRun1_B.sl.v1 c arg3 harg3 x1) 8) :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _

/-- The first knot of the widths, in the second case. -/
theorem rowW1B : (kernelRun1_B.sl.v408 c arg3 harg3 arg4 harg4 arg9 x1 x2) = scaleT (Named.named κ "milli1" 0x3A83126F#32) (rcpT (wts arg4 harg4 x2) (kernelRun1_B.sl.v1 c arg3 harg3 x1))
    (liftT (runT (wts arg4 harg4 x2) (kernelRun1_B.sl.v1 c arg3 harg3 x1) 0)) :=
  ((View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _ : (kernelRun1_B.sl.v408 c arg3 harg3 arg4 harg4 arg9 x1 x2) = scaleT _ (rcpT (wts arg4 harg4 x2) (kernelRun1_B.sl.v1 c arg3 harg3 x1)) (kernelRun1_B.sl.v80 c arg3 harg3 arg4 harg4 arg9 x1 x2)).trans
    (congrArg (scaleT _ _) (runW1B c arg3 harg3 arg4 harg4 arg9 x1 x2))

/-- The second knot of the widths, in the second case. -/
theorem rowW2B : (kernelRun1_B.sl.v425 c arg3 harg3 arg4 harg4 arg9 x1 x2) = scaleT (Named.named κ "milli2" 0x3B03126F#32) (rcpT (wts arg4 harg4 x2) (kernelRun1_B.sl.v1 c arg3 harg3 x1))
    (liftT (runT (wts arg4 harg4 x2) (kernelRun1_B.sl.v1 c arg3 harg3 x1) 1)) :=
  ((View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _ : (kernelRun1_B.sl.v425 c arg3 harg3 arg4 harg4 arg9 x1 x2) = scaleT _ (rcpT (wts arg4 harg4 x2) (kernelRun1_B.sl.v1 c arg3 harg3 x1)) (kernelRun1_B.sl.v90 c arg3 harg3 arg4 harg4 arg9 x1 x2)).trans
    (congrArg (scaleT _ _) (runW2B c arg3 harg3 arg4 harg4 arg9 x1 x2))

/-- The third knot of the widths, in the second case. -/
theorem rowW3B : (kernelRun1_B.sl.v446 c arg3 harg3 arg4 harg4 arg9 x1 x2) = scaleT (Named.named κ "milli3" 0x3B449BA6#32) (rcpT (wts arg4 harg4 x2) (kernelRun1_B.sl.v1 c arg3 harg3 x1))
    (liftT (runT (wts arg4 harg4 x2) (kernelRun1_B.sl.v1 c arg3 harg3 x1) 2)) :=
  ((View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _ : (kernelRun1_B.sl.v446 c arg3 harg3 arg4 harg4 arg9 x1 x2) = scaleT _ (rcpT (wts arg4 harg4 x2) (kernelRun1_B.sl.v1 c arg3 harg3 x1)) (kernelRun1_B.sl.v100 c arg3 harg3 arg4 harg4 arg9 x1 x2)).trans
    (congrArg (scaleT _ _) (runW3B c arg3 harg3 arg4 harg4 arg9 x1 x2))

/-- The fourth knot of the widths, in the second case. -/
theorem rowW4B : (kernelRun1_B.sl.v467 c arg3 harg3 arg4 harg4 arg9 x1 x2) = scaleT (Named.named κ "milli4" 0x3B83126F#32) (rcpT (wts arg4 harg4 x2) (kernelRun1_B.sl.v1 c arg3 harg3 x1))
    (liftT (runT (wts arg4 harg4 x2) (kernelRun1_B.sl.v1 c arg3 harg3 x1) 3)) :=
  ((View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _ : (kernelRun1_B.sl.v467 c arg3 harg3 arg4 harg4 arg9 x1 x2) = scaleT _ (rcpT (wts arg4 harg4 x2) (kernelRun1_B.sl.v1 c arg3 harg3 x1)) (kernelRun1_B.sl.v110 c arg3 harg3 arg4 harg4 arg9 x1 x2)).trans
    (congrArg (scaleT _ _) (runW4B c arg3 harg3 arg4 harg4 arg9 x1 x2))

/-- The fifth knot of the widths, in the second case. -/
theorem rowW5B : (kernelRun1_B.sl.v488 c arg3 harg3 arg4 harg4 arg9 x1 x2) = scaleT (Named.named κ "milli5" 0x3BA3D70A#32) (rcpT (wts arg4 harg4 x2) (kernelRun1_B.sl.v1 c arg3 harg3 x1))
    (liftT (runT (wts arg4 harg4 x2) (kernelRun1_B.sl.v1 c arg3 harg3 x1) 4)) :=
  ((View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _ : (kernelRun1_B.sl.v488 c arg3 harg3 arg4 harg4 arg9 x1 x2) = scaleT _ (rcpT (wts arg4 harg4 x2) (kernelRun1_B.sl.v1 c arg3 harg3 x1)) (kernelRun1_B.sl.v120 c arg3 harg3 arg4 harg4 arg9 x1 x2)).trans
    (congrArg (scaleT _ _) (runW5B c arg3 harg3 arg4 harg4 arg9 x1 x2))

/-- The sixth knot of the widths, in the second case. -/
theorem rowW6B : (kernelRun1_B.sl.v509 c arg3 harg3 arg4 harg4 arg9 x1 x2) = scaleT (Named.named κ "milli6" 0x3BC49BA6#32) (rcpT (wts arg4 harg4 x2) (kernelRun1_B.sl.v1 c arg3 harg3 x1))
    (liftT (runT (wts arg4 harg4 x2) (kernelRun1_B.sl.v1 c arg3 harg3 x1) 5)) :=
  ((View.readCov_skip _ _ _ _ _ (by decide)).trans <| (View.readCov_skip _ _ _ _ _ (by decide)).trans <| (View.readCov_skip _ _ _ _ _ (by decide)).trans <| View.readCov_cons_toLoadRect _ _ _ _ : (kernelRun1_B.sl.v509 c arg3 harg3 arg4 harg4 arg9 x1 x2) = scaleT _ (rcpT (wts arg4 harg4 x2) (kernelRun1_B.sl.v1 c arg3 harg3 x1)) (kernelRun1_B.sl.v130 c arg3 harg3 arg4 harg4 arg9 x1 x2)).trans
    (congrArg (scaleT _ _) (runW6B c arg3 harg3 arg4 harg4 arg9 x1 x2))

/-- The seventh knot of the widths, in the second case. -/
theorem rowW7B : (kernelRun1_B.sl.v530 c arg3 harg3 arg4 harg4 arg9 x1 x2) = scaleT (Named.named κ "milli7" 0x3BE56042#32) (rcpT (wts arg4 harg4 x2) (kernelRun1_B.sl.v1 c arg3 harg3 x1))
    (liftT (runT (wts arg4 harg4 x2) (kernelRun1_B.sl.v1 c arg3 harg3 x1) 6)) :=
  ((View.readCov_skip _ _ _ _ _ (by decide)).trans <| (View.readCov_skip _ _ _ _ _ (by decide)).trans <| View.readCov_cons_toLoadRect _ _ _ _ : (kernelRun1_B.sl.v530 c arg3 harg3 arg4 harg4 arg9 x1 x2) = scaleT _ (rcpT (wts arg4 harg4 x2) (kernelRun1_B.sl.v1 c arg3 harg3 x1)) (kernelRun1_B.sl.v140 c arg3 harg3 arg4 harg4 arg9 x1 x2)).trans
    (congrArg (scaleT _ _) (runW7B c arg3 harg3 arg4 harg4 arg9 x1 x2))

/-- The eighth knot of the widths, in the second case. -/
theorem rowW8B : (kernelRun1_B.sl.v551 c arg3 harg3 arg4 harg4 arg9 x1 x2) = scaleT (Named.named κ "milli8" 0x3C03126F#32) (rcpT (wts arg4 harg4 x2) (kernelRun1_B.sl.v1 c arg3 harg3 x1))
    (liftT (runT (wts arg4 harg4 x2) (kernelRun1_B.sl.v1 c arg3 harg3 x1) 7)) :=
  ((View.readCov_skip _ _ _ _ _ (by decide)).trans <| View.readCov_cons_toLoadRect _ _ _ _ : (kernelRun1_B.sl.v551 c arg3 harg3 arg4 harg4 arg9 x1 x2) = scaleT _ (rcpT (wts arg4 harg4 x2) (kernelRun1_B.sl.v1 c arg3 harg3 x1)) (kernelRun1_B.sl.v150 c arg3 harg3 arg4 harg4 arg9 x1 x2)).trans
    (congrArg (scaleT _ _) (runW8B c arg3 harg3 arg4 harg4 arg9 x1 x2))

/-- The ninth knot of the widths, in the second case. -/
theorem rowW9B : (kernelRun1_B.sl.v572 c arg3 harg3 arg4 harg4 arg9 x1 x2) = scaleT (Named.named κ "milli9" 0x3C1374BC#32) (rcpT (wts arg4 harg4 x2) (kernelRun1_B.sl.v1 c arg3 harg3 x1))
    (liftT (runT (wts arg4 harg4 x2) (kernelRun1_B.sl.v1 c arg3 harg3 x1) 8)) :=
  (View.readCov_cons_toLoadRect _ _ _ _ : (kernelRun1_B.sl.v572 c arg3 harg3 arg4 harg4 arg9 x1 x2) = scaleT _ (rcpT (wts arg4 harg4 x2) (kernelRun1_B.sl.v1 c arg3 harg3 x1)) (kernelRun1_B.sl.v160 c arg3 harg3 arg4 harg4 arg9 x1 x2)).trans
    (congrArg (scaleT _ _) (runW9B c arg3 harg3 arg4 harg4 arg9 x1 x2))

/-- The first running sum of the heights, in the second case. -/
theorem runH1B : (kernelRun1_B.sl.v248 c arg3 harg3 arg5 harg5 arg10 x1 x3) = liftT (runT (wts arg5 harg5 x3) (kernelRun1_B.sl.v1 c arg3 harg3 x1) 0) :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _

/-- The second running sum of the heights, in the second case. -/
theorem runH2B : (kernelRun1_B.sl.v258 c arg3 harg3 arg5 harg5 arg10 x1 x3) = liftT (runT (wts arg5 harg5 x3) (kernelRun1_B.sl.v1 c arg3 harg3 x1) 1) :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _

/-- The third running sum of the heights, in the second case. -/
theorem runH3B : (kernelRun1_B.sl.v268 c arg3 harg3 arg5 harg5 arg10 x1 x3) = liftT (runT (wts arg5 harg5 x3) (kernelRun1_B.sl.v1 c arg3 harg3 x1) 2) :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _

/-- The fourth running sum of the heights, in the second case. -/
theorem runH4B : (kernelRun1_B.sl.v278 c arg3 harg3 arg5 harg5 arg10 x1 x3) = liftT (runT (wts arg5 harg5 x3) (kernelRun1_B.sl.v1 c arg3 harg3 x1) 3) :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _

/-- The fifth running sum of the heights, in the second case. -/
theorem runH5B : (kernelRun1_B.sl.v288 c arg3 harg3 arg5 harg5 arg10 x1 x3) = liftT (runT (wts arg5 harg5 x3) (kernelRun1_B.sl.v1 c arg3 harg3 x1) 4) :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _

/-- The sixth running sum of the heights, in the second case. -/
theorem runH6B : (kernelRun1_B.sl.v298 c arg3 harg3 arg5 harg5 arg10 x1 x3) = liftT (runT (wts arg5 harg5 x3) (kernelRun1_B.sl.v1 c arg3 harg3 x1) 5) :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _

/-- The seventh running sum of the heights, in the second case. -/
theorem runH7B : (kernelRun1_B.sl.v308 c arg3 harg3 arg5 harg5 arg10 x1 x3) = liftT (runT (wts arg5 harg5 x3) (kernelRun1_B.sl.v1 c arg3 harg3 x1) 6) :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _

/-- The eighth running sum of the heights, in the second case. -/
theorem runH8B : (kernelRun1_B.sl.v318 c arg3 harg3 arg5 harg5 arg10 x1 x3) = liftT (runT (wts arg5 harg5 x3) (kernelRun1_B.sl.v1 c arg3 harg3 x1) 7) :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _

/-- The ninth running sum of the heights, in the second case. -/
theorem runH9B : (kernelRun1_B.sl.v328 c arg3 harg3 arg5 harg5 arg10 x1 x3) = liftT (runT (wts arg5 harg5 x3) (kernelRun1_B.sl.v1 c arg3 harg3 x1) 8) :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _

/-- The first knot of the heights, in the second case. -/
theorem rowH1B : (kernelRun1_B.sl.v411 c arg3 harg3 arg5 harg5 arg10 x1 x3) = scaleT (Named.named κ "milli1" 0x3A83126F#32) (rcpT (wts arg5 harg5 x3) (kernelRun1_B.sl.v1 c arg3 harg3 x1))
    (liftT (runT (wts arg5 harg5 x3) (kernelRun1_B.sl.v1 c arg3 harg3 x1) 0)) :=
  ((View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _ : (kernelRun1_B.sl.v411 c arg3 harg3 arg5 harg5 arg10 x1 x3) = scaleT _ (rcpT (wts arg5 harg5 x3) (kernelRun1_B.sl.v1 c arg3 harg3 x1)) (kernelRun1_B.sl.v248 c arg3 harg3 arg5 harg5 arg10 x1 x3)).trans
    (congrArg (scaleT _ _) (runH1B c arg3 harg3 arg5 harg5 arg10 x1 x3))

/-- The second knot of the heights, in the second case. -/
theorem rowH2B : (kernelRun1_B.sl.v428 c arg3 harg3 arg5 harg5 arg10 x1 x3) = scaleT (Named.named κ "milli2" 0x3B03126F#32) (rcpT (wts arg5 harg5 x3) (kernelRun1_B.sl.v1 c arg3 harg3 x1))
    (liftT (runT (wts arg5 harg5 x3) (kernelRun1_B.sl.v1 c arg3 harg3 x1) 1)) :=
  ((View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _ : (kernelRun1_B.sl.v428 c arg3 harg3 arg5 harg5 arg10 x1 x3) = scaleT _ (rcpT (wts arg5 harg5 x3) (kernelRun1_B.sl.v1 c arg3 harg3 x1)) (kernelRun1_B.sl.v258 c arg3 harg3 arg5 harg5 arg10 x1 x3)).trans
    (congrArg (scaleT _ _) (runH2B c arg3 harg3 arg5 harg5 arg10 x1 x3))

/-- The third knot of the heights, in the second case. -/
theorem rowH3B : (kernelRun1_B.sl.v449 c arg3 harg3 arg5 harg5 arg10 x1 x3) = scaleT (Named.named κ "milli3" 0x3B449BA6#32) (rcpT (wts arg5 harg5 x3) (kernelRun1_B.sl.v1 c arg3 harg3 x1))
    (liftT (runT (wts arg5 harg5 x3) (kernelRun1_B.sl.v1 c arg3 harg3 x1) 2)) :=
  ((View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _ : (kernelRun1_B.sl.v449 c arg3 harg3 arg5 harg5 arg10 x1 x3) = scaleT _ (rcpT (wts arg5 harg5 x3) (kernelRun1_B.sl.v1 c arg3 harg3 x1)) (kernelRun1_B.sl.v268 c arg3 harg3 arg5 harg5 arg10 x1 x3)).trans
    (congrArg (scaleT _ _) (runH3B c arg3 harg3 arg5 harg5 arg10 x1 x3))

/-- The fourth knot of the heights, in the second case. -/
theorem rowH4B : (kernelRun1_B.sl.v470 c arg3 harg3 arg5 harg5 arg10 x1 x3) = scaleT (Named.named κ "milli4" 0x3B83126F#32) (rcpT (wts arg5 harg5 x3) (kernelRun1_B.sl.v1 c arg3 harg3 x1))
    (liftT (runT (wts arg5 harg5 x3) (kernelRun1_B.sl.v1 c arg3 harg3 x1) 3)) :=
  ((View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _ : (kernelRun1_B.sl.v470 c arg3 harg3 arg5 harg5 arg10 x1 x3) = scaleT _ (rcpT (wts arg5 harg5 x3) (kernelRun1_B.sl.v1 c arg3 harg3 x1)) (kernelRun1_B.sl.v278 c arg3 harg3 arg5 harg5 arg10 x1 x3)).trans
    (congrArg (scaleT _ _) (runH4B c arg3 harg3 arg5 harg5 arg10 x1 x3))

/-- The fifth knot of the heights, in the second case. -/
theorem rowH5B : (kernelRun1_B.sl.v491 c arg3 harg3 arg5 harg5 arg10 x1 x3) = scaleT (Named.named κ "milli5" 0x3BA3D70A#32) (rcpT (wts arg5 harg5 x3) (kernelRun1_B.sl.v1 c arg3 harg3 x1))
    (liftT (runT (wts arg5 harg5 x3) (kernelRun1_B.sl.v1 c arg3 harg3 x1) 4)) :=
  ((View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _ : (kernelRun1_B.sl.v491 c arg3 harg3 arg5 harg5 arg10 x1 x3) = scaleT _ (rcpT (wts arg5 harg5 x3) (kernelRun1_B.sl.v1 c arg3 harg3 x1)) (kernelRun1_B.sl.v288 c arg3 harg3 arg5 harg5 arg10 x1 x3)).trans
    (congrArg (scaleT _ _) (runH5B c arg3 harg3 arg5 harg5 arg10 x1 x3))

/-- The sixth knot of the heights, in the second case. -/
theorem rowH6B : (kernelRun1_B.sl.v512 c arg3 harg3 arg5 harg5 arg10 x1 x3) = scaleT (Named.named κ "milli6" 0x3BC49BA6#32) (rcpT (wts arg5 harg5 x3) (kernelRun1_B.sl.v1 c arg3 harg3 x1))
    (liftT (runT (wts arg5 harg5 x3) (kernelRun1_B.sl.v1 c arg3 harg3 x1) 5)) :=
  ((View.readCov_skip _ _ _ _ _ (by decide)).trans <| (View.readCov_skip _ _ _ _ _ (by decide)).trans <| (View.readCov_skip _ _ _ _ _ (by decide)).trans <| View.readCov_cons_toLoadRect _ _ _ _ : (kernelRun1_B.sl.v512 c arg3 harg3 arg5 harg5 arg10 x1 x3) = scaleT _ (rcpT (wts arg5 harg5 x3) (kernelRun1_B.sl.v1 c arg3 harg3 x1)) (kernelRun1_B.sl.v298 c arg3 harg3 arg5 harg5 arg10 x1 x3)).trans
    (congrArg (scaleT _ _) (runH6B c arg3 harg3 arg5 harg5 arg10 x1 x3))

/-- The seventh knot of the heights, in the second case. -/
theorem rowH7B : (kernelRun1_B.sl.v533 c arg3 harg3 arg5 harg5 arg10 x1 x3) = scaleT (Named.named κ "milli7" 0x3BE56042#32) (rcpT (wts arg5 harg5 x3) (kernelRun1_B.sl.v1 c arg3 harg3 x1))
    (liftT (runT (wts arg5 harg5 x3) (kernelRun1_B.sl.v1 c arg3 harg3 x1) 6)) :=
  ((View.readCov_skip _ _ _ _ _ (by decide)).trans <| (View.readCov_skip _ _ _ _ _ (by decide)).trans <| View.readCov_cons_toLoadRect _ _ _ _ : (kernelRun1_B.sl.v533 c arg3 harg3 arg5 harg5 arg10 x1 x3) = scaleT _ (rcpT (wts arg5 harg5 x3) (kernelRun1_B.sl.v1 c arg3 harg3 x1)) (kernelRun1_B.sl.v308 c arg3 harg3 arg5 harg5 arg10 x1 x3)).trans
    (congrArg (scaleT _ _) (runH7B c arg3 harg3 arg5 harg5 arg10 x1 x3))

/-- The eighth knot of the heights, in the second case. -/
theorem rowH8B : (kernelRun1_B.sl.v554 c arg3 harg3 arg5 harg5 arg10 x1 x3) = scaleT (Named.named κ "milli8" 0x3C03126F#32) (rcpT (wts arg5 harg5 x3) (kernelRun1_B.sl.v1 c arg3 harg3 x1))
    (liftT (runT (wts arg5 harg5 x3) (kernelRun1_B.sl.v1 c arg3 harg3 x1) 7)) :=
  ((View.readCov_skip _ _ _ _ _ (by decide)).trans <| View.readCov_cons_toLoadRect _ _ _ _ : (kernelRun1_B.sl.v554 c arg3 harg3 arg5 harg5 arg10 x1 x3) = scaleT _ (rcpT (wts arg5 harg5 x3) (kernelRun1_B.sl.v1 c arg3 harg3 x1)) (kernelRun1_B.sl.v318 c arg3 harg3 arg5 harg5 arg10 x1 x3)).trans
    (congrArg (scaleT _ _) (runH8B c arg3 harg3 arg5 harg5 arg10 x1 x3))

/-- The ninth knot of the heights, in the second case. -/
theorem rowH9B : (kernelRun1_B.sl.v575 c arg3 harg3 arg5 harg5 arg10 x1 x3) = scaleT (Named.named κ "milli9" 0x3C1374BC#32) (rcpT (wts arg5 harg5 x3) (kernelRun1_B.sl.v1 c arg3 harg3 x1))
    (liftT (runT (wts arg5 harg5 x3) (kernelRun1_B.sl.v1 c arg3 harg3 x1) 8)) :=
  (View.readCov_cons_toLoadRect _ _ _ _ : (kernelRun1_B.sl.v575 c arg3 harg3 arg5 harg5 arg10 x1 x3) = scaleT _ (rcpT (wts arg5 harg5 x3) (kernelRun1_B.sl.v1 c arg3 harg3 x1)) (kernelRun1_B.sl.v328 c arg3 harg3 arg5 harg5 arg10 x1 x3)).trans
    (congrArg (scaleT _ _) (runH9B c arg3 harg3 arg5 harg5 arg10 x1 x3))

/-- The first slope's row, in the second case. -/
theorem rowD0B : (kernelRun1_B.sl.v414 c arg3 harg3 arg6 harg6 arg11 x1 x4) = liftT (dotT (wts9 arg6 harg6 x4 0) (kernelRun1_B.sl.v1 c arg3 harg3 x1)) :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _

/-- The second slope's row, in the second case. -/
theorem rowD1B : (kernelRun1_B.sl.v431 c arg3 harg3 arg6 harg6 arg11 x1 x4) = liftT (dotT (wts9 arg6 harg6 x4 1) (kernelRun1_B.sl.v1 c arg3 harg3 x1)) :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _

/-- The third slope's row, in the second case. -/
theorem rowD2B : (kernelRun1_B.sl.v452 c arg3 harg3 arg6 harg6 arg11 x1 x4) = liftT (dotT (wts9 arg6 harg6 x4 2) (kernelRun1_B.sl.v1 c arg3 harg3 x1)) :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _

/-- The fourth slope's row, in the second case. -/
theorem rowD3B : (kernelRun1_B.sl.v473 c arg3 harg3 arg6 harg6 arg11 x1 x4) = liftT (dotT (wts9 arg6 harg6 x4 3) (kernelRun1_B.sl.v1 c arg3 harg3 x1)) :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _

/-- The fifth slope's row, in the second case. -/
theorem rowD4B : (kernelRun1_B.sl.v494 c arg3 harg3 arg6 harg6 arg11 x1 x4) = liftT (dotT (wts9 arg6 harg6 x4 4) (kernelRun1_B.sl.v1 c arg3 harg3 x1)) :=
  (View.readCov_skip _ _ _ _ _ (by decide)).trans <| (View.readCov_skip _ _ _ _ _ (by decide)).trans <| (View.readCov_skip _ _ _ _ _ (by decide)).trans <| (View.readCov_skip _ _ _ _ _ (by decide)).trans <| View.readCov_cons_toLoadRect _ _ _ _

/-- The sixth slope's row, in the second case. -/
theorem rowD5B : (kernelRun1_B.sl.v515 c arg3 harg3 arg6 harg6 arg11 x1 x4) = liftT (dotT (wts9 arg6 harg6 x4 5) (kernelRun1_B.sl.v1 c arg3 harg3 x1)) :=
  (View.readCov_skip _ _ _ _ _ (by decide)).trans <| (View.readCov_skip _ _ _ _ _ (by decide)).trans <| (View.readCov_skip _ _ _ _ _ (by decide)).trans <| View.readCov_cons_toLoadRect _ _ _ _

/-- The seventh slope's row, in the second case. -/
theorem rowD6B : (kernelRun1_B.sl.v536 c arg3 harg3 arg6 harg6 arg11 x1 x4) = liftT (dotT (wts9 arg6 harg6 x4 6) (kernelRun1_B.sl.v1 c arg3 harg3 x1)) :=
  (View.readCov_skip _ _ _ _ _ (by decide)).trans <| (View.readCov_skip _ _ _ _ _ (by decide)).trans <| View.readCov_cons_toLoadRect _ _ _ _

/-- The eighth slope's row, in the second case. -/
theorem rowD7B : (kernelRun1_B.sl.v557 c arg3 harg3 arg6 harg6 arg11 x1 x4) = liftT (dotT (wts9 arg6 harg6 x4 7) (kernelRun1_B.sl.v1 c arg3 harg3 x1)) :=
  (View.readCov_skip _ _ _ _ _ (by decide)).trans <| View.readCov_cons_toLoadRect _ _ _ _

/-- The ninth slope's row, in the second case. -/
theorem rowD8B : (kernelRun1_B.sl.v578 c arg3 harg3 arg6 harg6 arg11 x1 x4) = liftT (dotT (wts9 arg6 harg6 x4 8) (kernelRun1_B.sl.v1 c arg3 harg3 x1)) :=
  View.readCov_cons_toLoadRect _ _ _ _

end Cert.KernelIdeal.Gen

end
-- ==== Proof.Value.Picks.lean ====
/- What the spline's call picks by comparing, and what it stores, for each of the call's two cases. -/
module

public import proofs.«01_k».proof.Proof.Value.Words

@[expose] public section

set_option maxRecDepth 16384

noncomputable section

namespace Cert.KernelIdeal.Gen

open Idealize.ShloMosaic Idealize.SL.Sem Cert.Flow

variable {F : FTy → Type} [FloatOps F] [Named F] (c : Dev nD)
  (arg2 : Memref sig Kind.tc Space.vmem S1x192x1024 EltTy.f32) (harg2 : arg2.IsWhole)
  (arg3 : Memref sig Kind.tc Space.vmem S1x256x1024 EltTy.f32) (harg3 : arg3.IsWhole)
  (arg4 : Memref sig Kind.tc Space.vmem S10x96x256 EltTy.f32) (harg4 : arg4.IsWhole)
  (arg5 : Memref sig Kind.tc Space.vmem S10x96x256 EltTy.f32) (harg5 : arg5.IsWhole)
  (arg6 : Memref sig Kind.tc Space.vmem S9x96x256 EltTy.f32) (harg6 : arg6.IsWhole)
  (arg9 : Memref sig Kind.tc Space.vmem S10x96x1024 EltTy.f32) (arg10 : Memref sig Kind.tc Space.vmem S10x96x1024 EltTy.f32)
  (arg11 : Memref sig Kind.tc Space.vmem S9x96x1024 EltTy.f32) (x0 : Vec F S1x192x1024 EltTy.f32)
  (x1 : Vec F S1x256x1024 EltTy.f32) (x2 : Vec F S10x96x256 EltTy.f32) (x3 : Vec F S10x96x256 EltTy.f32)
  (x4 : Vec F S9x96x256 EltTy.f32)

/-- The rows of the inner knots, in the first case. -/
def knotsA : Fin 9 → FVec F S96x1024 .f32 :=
  ![rowT (kernelRun1_A.sl.v408 c arg3 harg3 arg4 harg4 arg9 x1 x2), rowT (kernelRun1_A.sl.v425 c arg3 harg3 arg4 harg4 arg9 x1 x2), rowT (kernelRun1_A.sl.v446 c arg3 harg3 arg4 harg4 arg9 x1 x2), rowT (kernelRun1_A.sl.v467 c arg3 harg3 arg4 harg4 arg9 x1 x2), rowT (kernelRun1_A.sl.v488 c arg3 harg3 arg4 harg4 arg9 x1 x2), rowT (kernelRun1_A.sl.v509 c arg3 harg3 arg4 harg4 arg9 x1 x2), rowT (kernelRun1_A.sl.v530 c arg3 harg3 arg4 harg4 arg9 x1 x2), rowT (kernelRun1_A.sl.v551 c arg3 harg3 arg4 harg4 arg9 x1 x2), rowT (kernelRun1_A.sl.v572 c arg3 harg3 arg4 harg4 arg9 x1 x2)]

/-- The rows of the inner heights, in the first case. -/
def topsA : Fin 9 → FVec F S96x1024 .f32 :=
  ![rowT (kernelRun1_A.sl.v411 c arg3 harg3 arg5 harg5 arg10 x1 x3), rowT (kernelRun1_A.sl.v428 c arg3 harg3 arg5 harg5 arg10 x1 x3), rowT (kernelRun1_A.sl.v449 c arg3 harg3 arg5 harg5 arg10 x1 x3), rowT (kernelRun1_A.sl.v470 c arg3 harg3 arg5 harg5 arg10 x1 x3), rowT (kernelRun1_A.sl.v491 c arg3 harg3 arg5 harg5 arg10 x1 x3), rowT (kernelRun1_A.sl.v512 c arg3 harg3 arg5 harg5 arg10 x1 x3), rowT (kernelRun1_A.sl.v533 c arg3 harg3 arg5 harg5 arg10 x1 x3), rowT (kernelRun1_A.sl.v554 c arg3 harg3 arg5 harg5 arg10 x1 x3), rowT (kernelRun1_A.sl.v575 c arg3 harg3 arg5 harg5 arg10 x1 x3)]

/-- The rows of the inner slopes, in the first case. -/
def slopesA : Fin 9 → FVec F S96x1024 .f32 :=
  ![rowT (kernelRun1_A.sl.v414 c arg3 harg3 arg6 harg6 arg11 x1 x4), rowT (kernelRun1_A.sl.v431 c arg3 harg3 arg6 harg6 arg11 x1 x4), rowT (kernelRun1_A.sl.v452 c arg3 harg3 arg6 harg6 arg11 x1 x4), rowT (kernelRun1_A.sl.v473 c arg3 harg3 arg6 harg6 arg11 x1 x4), rowT (kernelRun1_A.sl.v494 c arg3 harg3 arg6 harg6 arg11 x1 x4), rowT (kernelRun1_A.sl.v515 c arg3 harg3 arg6 harg6 arg11 x1 x4), rowT (kernelRun1_A.sl.v536 c arg3 harg3 arg6 harg6 arg11 x1 x4), rowT (kernelRun1_A.sl.v557 c arg3 harg3 arg6 harg6 arg11 x1 x4), rowT (kernelRun1_A.sl.v578 c arg3 harg3 arg6 harg6 arg11 x1 x4)]

/-- The left knot that is picked, in the first case. -/
theorem pick589A : (kernelRun1_A.sl.v589 c arg2 harg2 arg3 harg3 arg4 harg4 arg9 x0 x1 x2)
    = pickT (k1_pay80 (half arg2 harg2 x0)) (knotsA c arg3 harg3 arg4 harg4 arg9 x1 x2) (beforeT 0x00000000#32 (knotsA c arg3 harg3 arg4 harg4 arg9 x1 x2)) := by
  simp only [pickT, beforeT, afterT, knotsA, topsA, slopesA, rowT, Matrix.cons_val, kernelRun1_A.sl.v589, kernelRun1_A.sl.v568, kernelRun1_A.sl.v547, kernelRun1_A.sl.v526, kernelRun1_A.sl.v505, kernelRun1_A.sl.v484, kernelRun1_A.sl.v463, kernelRun1_A.sl.v442, kernelRun1_A.sl.v421, kernelRun1_A.sl.v420, kernelRun1_A.sl.r_14, kernelRun1_A.sl.v426, kernelRun1_A.sl.v439, kernelRun1_A.sl.r_10, kernelRun1_A.sl.v447, kernelRun1_A.sl.v460, kernelRun1_A.sl.v468, kernelRun1_A.sl.v481, kernelRun1_A.sl.v489, kernelRun1_A.sl.v502, kernelRun1_A.sl.v510, kernelRun1_A.sl.v523, kernelRun1_A.sl.v531, kernelRun1_A.sl.v544, kernelRun1_A.sl.v552, kernelRun1_A.sl.v565, kernelRun1_A.sl.v573, kernelRun1_A.sl.v586,
    k1_pay81, k1_pay82, k1_pay83, k1_pay84, k1_pay85, k1_pay86, k1_pay87]

/-- The left height that is picked, in the first case. -/
theorem pick592A : (kernelRun1_A.sl.v592 c arg2 harg2 arg3 harg3 arg4 harg4 arg5 harg5 arg9 arg10 x0 x1 x2 x3)
    = pickT (k1_pay80 (half arg2 harg2 x0)) (knotsA c arg3 harg3 arg4 harg4 arg9 x1 x2) (beforeT 0x00000000#32 (topsA c arg3 harg3 arg5 harg5 arg10 x1 x3)) := by
  simp only [pickT, beforeT, afterT, knotsA, topsA, slopesA, rowT, Matrix.cons_val, kernelRun1_A.sl.v592, kernelRun1_A.sl.v571, kernelRun1_A.sl.v550, kernelRun1_A.sl.v529, kernelRun1_A.sl.v508, kernelRun1_A.sl.v487, kernelRun1_A.sl.v466, kernelRun1_A.sl.v445, kernelRun1_A.sl.v424, kernelRun1_A.sl.v423, kernelRun1_A.sl.r_14, kernelRun1_A.sl.v429, kernelRun1_A.sl.v439, kernelRun1_A.sl.v426, kernelRun1_A.sl.r_10, kernelRun1_A.sl.v450, kernelRun1_A.sl.v460, kernelRun1_A.sl.v447, kernelRun1_A.sl.v471, kernelRun1_A.sl.v481, kernelRun1_A.sl.v468, kernelRun1_A.sl.v492, kernelRun1_A.sl.v502, kernelRun1_A.sl.v489, kernelRun1_A.sl.v513, kernelRun1_A.sl.v523, kernelRun1_A.sl.v510, kernelRun1_A.sl.v534, kernelRun1_A.sl.v544, kernelRun1_A.sl.v531, kernelRun1_A.sl.v555, kernelRun1_A.sl.v565, kernelRun1_A.sl.v552, kernelRun1_A.sl.v576, kernelRun1_A.sl.v586, kernelRun1_A.sl.v573,
    k1_pay81, k1_pay82, k1_pay83, k1_pay84, k1_pay85, k1_pay86, k1_pay87]
  rfl

/-- The right knot that is picked, in the first case. -/
theorem pick594A : (kernelRun1_A.sl.v594 c arg2 harg2 arg3 harg3 arg4 harg4 arg9 x0 x1 x2)
    = pickT (k1_pay80 (half arg2 harg2 x0)) (knotsA c arg3 harg3 arg4 harg4 arg9 x1 x2) (afterT 0x3F800000#32 (knotsA c arg3 harg3 arg4 harg4 arg9 x1 x2)) := by
  simp only [pickT, beforeT, afterT, knotsA, topsA, slopesA, rowT, Matrix.cons_val, kernelRun1_A.sl.v594, kernelRun1_A.sl.v574, kernelRun1_A.sl.v553, kernelRun1_A.sl.v532, kernelRun1_A.sl.v511, kernelRun1_A.sl.v490, kernelRun1_A.sl.v469, kernelRun1_A.sl.v448, kernelRun1_A.sl.v427, kernelRun1_A.sl.r_11, kernelRun1_A.sl.v426, kernelRun1_A.sl.r_14, kernelRun1_A.sl.v447, kernelRun1_A.sl.v439, kernelRun1_A.sl.r_10, kernelRun1_A.sl.v468, kernelRun1_A.sl.v460, kernelRun1_A.sl.v489, kernelRun1_A.sl.v481, kernelRun1_A.sl.v510, kernelRun1_A.sl.v502, kernelRun1_A.sl.v531, kernelRun1_A.sl.v523, kernelRun1_A.sl.v552, kernelRun1_A.sl.v544, kernelRun1_A.sl.v573, kernelRun1_A.sl.v565, kernelRun1_A.sl.v593, kernelRun1_A.sl.cst_532, kernelRun1_A.sl.v586,
    k1_pay81, k1_pay82, k1_pay83, k1_pay84, k1_pay85, k1_pay86, k1_pay87]

/-- The right height that is picked, in the first case. -/
theorem pick596A : (kernelRun1_A.sl.v596 c arg2 harg2 arg3 harg3 arg4 harg4 arg5 harg5 arg9 arg10 x0 x1 x2 x3)
    = pickT (k1_pay80 (half arg2 harg2 x0)) (knotsA c arg3 harg3 arg4 harg4 arg9 x1 x2) (afterT 0x3F800000#32 (topsA c arg3 harg3 arg5 harg5 arg10 x1 x3)) := by
  simp only [pickT, beforeT, afterT, knotsA, topsA, slopesA, rowT, Matrix.cons_val, kernelRun1_A.sl.v596, kernelRun1_A.sl.v577, kernelRun1_A.sl.v556, kernelRun1_A.sl.v535, kernelRun1_A.sl.v514, kernelRun1_A.sl.v493, kernelRun1_A.sl.v472, kernelRun1_A.sl.v451, kernelRun1_A.sl.v430, kernelRun1_A.sl.r_12, kernelRun1_A.sl.v429, kernelRun1_A.sl.r_14, kernelRun1_A.sl.v450, kernelRun1_A.sl.v439, kernelRun1_A.sl.v426, kernelRun1_A.sl.r_10, kernelRun1_A.sl.v471, kernelRun1_A.sl.v460, kernelRun1_A.sl.v447, kernelRun1_A.sl.v492, kernelRun1_A.sl.v481, kernelRun1_A.sl.v468, kernelRun1_A.sl.v513, kernelRun1_A.sl.v502, kernelRun1_A.sl.v489, kernelRun1_A.sl.v534, kernelRun1_A.sl.v523, kernelRun1_A.sl.v510, kernelRun1_A.sl.v555, kernelRun1_A.sl.v544, kernelRun1_A.sl.v531, kernelRun1_A.sl.v576, kernelRun1_A.sl.v565, kernelRun1_A.sl.v552, kernelRun1_A.sl.v593, kernelRun1_A.sl.cst_532, kernelRun1_A.sl.v586, kernelRun1_A.sl.v573,
    k1_pay81, k1_pay82, k1_pay83, k1_pay84, k1_pay85, k1_pay86, k1_pay87]

/-- The right knot's slope that is picked, in the first case. -/
theorem pick598A : (kernelRun1_A.sl.v598 c arg2 harg2 arg3 harg3 arg4 harg4 arg6 harg6 arg9 arg11 x0 x1 x2 x4)
    = pickT (k1_pay80 (half arg2 harg2 x0)) (knotsA c arg3 harg3 arg4 harg4 arg9 x1 x2) (afterT 0x3F0A2C8F#32 (slopesA c arg3 harg3 arg6 harg6 arg11 x1 x4)) := by
  simp only [pickT, beforeT, afterT, knotsA, topsA, slopesA, rowT, Matrix.cons_val, kernelRun1_A.sl.v598, kernelRun1_A.sl.v580, kernelRun1_A.sl.v559, kernelRun1_A.sl.v538, kernelRun1_A.sl.v517, kernelRun1_A.sl.v496, kernelRun1_A.sl.v475, kernelRun1_A.sl.v454, kernelRun1_A.sl.v433, kernelRun1_A.sl.r_13, kernelRun1_A.sl.v432, kernelRun1_A.sl.r_14, kernelRun1_A.sl.v453, kernelRun1_A.sl.v439, kernelRun1_A.sl.v426, kernelRun1_A.sl.r_10, kernelRun1_A.sl.v474, kernelRun1_A.sl.v460, kernelRun1_A.sl.v447, kernelRun1_A.sl.v495, kernelRun1_A.sl.v481, kernelRun1_A.sl.v468, kernelRun1_A.sl.v516, kernelRun1_A.sl.v502, kernelRun1_A.sl.v489, kernelRun1_A.sl.v537, kernelRun1_A.sl.v523, kernelRun1_A.sl.v510, kernelRun1_A.sl.v558, kernelRun1_A.sl.v544, kernelRun1_A.sl.v531, kernelRun1_A.sl.v579, kernelRun1_A.sl.v565, kernelRun1_A.sl.v552, kernelRun1_A.sl.v597, kernelRun1_A.sl.cst_534, kernelRun1_A.sl.v586, kernelRun1_A.sl.v573,
    k1_pay81, k1_pay82, k1_pay83, k1_pay84, k1_pay85, k1_pay86, k1_pay87]

/-- The left knot's slope that is picked, in the first case. -/
theorem pick601A : (kernelRun1_A.sl.v601 c arg2 harg2 arg3 harg3 arg4 harg4 arg6 harg6 arg9 arg11 x0 x1 x2 x4)
    = pickT (k1_pay80 (half arg2 harg2 x0)) (knotsA c arg3 harg3 arg4 harg4 arg9 x1 x2) (beforeT 0x3F0A2C8F#32 (slopesA c arg3 harg3 arg6 harg6 arg11 x1 x4)) := by
  simp only [pickT, beforeT, afterT, knotsA, topsA, slopesA, rowT, Matrix.cons_val, kernelRun1_A.sl.v601, kernelRun1_A.sl.v583, kernelRun1_A.sl.v562, kernelRun1_A.sl.v541, kernelRun1_A.sl.v520, kernelRun1_A.sl.v499, kernelRun1_A.sl.v478, kernelRun1_A.sl.v457, kernelRun1_A.sl.v436, kernelRun1_A.sl.v435, kernelRun1_A.sl.r_14, kernelRun1_A.sl.v432, kernelRun1_A.sl.v439, kernelRun1_A.sl.v426, kernelRun1_A.sl.r_10, kernelRun1_A.sl.v453, kernelRun1_A.sl.v460, kernelRun1_A.sl.v447, kernelRun1_A.sl.v474, kernelRun1_A.sl.v481, kernelRun1_A.sl.v468, kernelRun1_A.sl.v495, kernelRun1_A.sl.v502, kernelRun1_A.sl.v489, kernelRun1_A.sl.v516, kernelRun1_A.sl.v523, kernelRun1_A.sl.v510, kernelRun1_A.sl.v537, kernelRun1_A.sl.v544, kernelRun1_A.sl.v531, kernelRun1_A.sl.v558, kernelRun1_A.sl.v565, kernelRun1_A.sl.v552, kernelRun1_A.sl.v579, kernelRun1_A.sl.v586, kernelRun1_A.sl.v573,
    k1_pay81, k1_pay82, k1_pay83, k1_pay84, k1_pay85, k1_pay86, k1_pay87]
  rfl

/-- What is stored for the second half of the channels, in the first case. -/
theorem bendA : (kernelRun1_A.sl.r_23 c arg2 harg2 arg3 harg3 arg4 harg4 arg5 harg5 arg6 harg6 arg9 arg10 arg11 x0 x1 x2 x3 x4)
    = bendT (half arg2 harg2 x0) (knotsA c arg3 harg3 arg4 harg4 arg9 x1 x2) (topsA c arg3 harg3 arg5 harg5 arg10 x1 x3) (slopesA c arg3 harg3 arg6 harg6 arg11 x1 x4) := by
  rw [bendT, ← pick589A c arg2 harg2 arg3 harg3 arg4 harg4 arg9 x0 x1 x2, ← pick592A c arg2 harg2 arg3 harg3 arg4 harg4 arg5 harg5 arg9 arg10 x0 x1 x2 x3, ← pick594A c arg2 harg2 arg3 harg3 arg4 harg4 arg9 x0 x1 x2, ← pick596A c arg2 harg2 arg3 harg3 arg4 harg4 arg5 harg5 arg9 arg10 x0 x1 x2 x3, ← pick598A c arg2 harg2 arg3 harg3 arg4 harg4 arg6 harg6 arg9 arg11 x0 x1 x2 x4, ← pick601A c arg2 harg2 arg3 harg3 arg4 harg4 arg6 harg6 arg9 arg11 x0 x1 x2 x4]
  simp only [kernelRun1_A.sl.r_8, kernelRun1_A.sl.r_9, kernelRun1_A.sl.r_10, kernelRun1_A.sl.r_21, kernelRun1_A.sl.r_23, kernelRun1_A.sl.cst_538]

/-- The logarithms that are summed, in the first case. -/
theorem steepA : (kernelRun1_A.sl.r_24 c arg2 harg2 arg3 harg3 arg4 harg4 arg5 harg5 arg6 harg6 arg9 arg10 arg11 x0 x1 x2 x3 x4)
    = steepT (half arg2 harg2 x0) (knotsA c arg3 harg3 arg4 harg4 arg9 x1 x2) (topsA c arg3 harg3 arg5 harg5 arg10 x1 x3) (slopesA c arg3 harg3 arg6 harg6 arg11 x1 x4) := by
  rw [steepT, ← pick589A c arg2 harg2 arg3 harg3 arg4 harg4 arg9 x0 x1 x2, ← pick592A c arg2 harg2 arg3 harg3 arg4 harg4 arg5 harg5 arg9 arg10 x0 x1 x2 x3, ← pick594A c arg2 harg2 arg3 harg3 arg4 harg4 arg9 x0 x1 x2, ← pick596A c arg2 harg2 arg3 harg3 arg4 harg4 arg5 harg5 arg9 arg10 x0 x1 x2 x3, ← pick598A c arg2 harg2 arg3 harg3 arg4 harg4 arg6 harg6 arg9 arg11 x0 x1 x2 x4, ← pick601A c arg2 harg2 arg3 harg3 arg4 harg4 arg6 harg6 arg9 arg11 x0 x1 x2 x4]
  simp only [kernelRun1_A.sl.r_9, kernelRun1_A.sl.r_10, kernelRun1_A.sl.r_15, kernelRun1_A.sl.r_16, kernelRun1_A.sl.r_17, kernelRun1_A.sl.r_18, kernelRun1_A.sl.r_19, kernelRun1_A.sl.r_20, kernelRun1_A.sl.r_22, kernelRun1_A.sl.r_24, kernelRun1_A.sl.cst_538]

/-- The rows of the inner knots, in the second case. -/
def knotsB : Fin 9 → FVec F S96x1024 .f32 :=
  ![rowT (kernelRun1_B.sl.v408 c arg3 harg3 arg4 harg4 arg9 x1 x2), rowT (kernelRun1_B.sl.v425 c arg3 harg3 arg4 harg4 arg9 x1 x2), rowT (kernelRun1_B.sl.v446 c arg3 harg3 arg4 harg4 arg9 x1 x2), rowT (kernelRun1_B.sl.v467 c arg3 harg3 arg4 harg4 arg9 x1 x2), rowT (kernelRun1_B.sl.v488 c arg3 harg3 arg4 harg4 arg9 x1 x2), rowT (kernelRun1_B.sl.v509 c arg3 harg3 arg4 harg4 arg9 x1 x2), rowT (kernelRun1_B.sl.v530 c arg3 harg3 arg4 harg4 arg9 x1 x2), rowT (kernelRun1_B.sl.v551 c arg3 harg3 arg4 harg4 arg9 x1 x2), rowT (kernelRun1_B.sl.v572 c arg3 harg3 arg4 harg4 arg9 x1 x2)]

/-- The rows of the inner heights, in the second case. -/
def topsB : Fin 9 → FVec F S96x1024 .f32 :=
  ![rowT (kernelRun1_B.sl.v411 c arg3 harg3 arg5 harg5 arg10 x1 x3), rowT (kernelRun1_B.sl.v428 c arg3 harg3 arg5 harg5 arg10 x1 x3), rowT (kernelRun1_B.sl.v449 c arg3 harg3 arg5 harg5 arg10 x1 x3), rowT (kernelRun1_B.sl.v470 c arg3 harg3 arg5 harg5 arg10 x1 x3), rowT (kernelRun1_B.sl.v491 c arg3 harg3 arg5 harg5 arg10 x1 x3), rowT (kernelRun1_B.sl.v512 c arg3 harg3 arg5 harg5 arg10 x1 x3), rowT (kernelRun1_B.sl.v533 c arg3 harg3 arg5 harg5 arg10 x1 x3), rowT (kernelRun1_B.sl.v554 c arg3 harg3 arg5 harg5 arg10 x1 x3), rowT (kernelRun1_B.sl.v575 c arg3 harg3 arg5 harg5 arg10 x1 x3)]

/-- The rows of the inner slopes, in the second case. -/
def slopesB : Fin 9 → FVec F S96x1024 .f32 :=
  ![rowT (kernelRun1_B.sl.v414 c arg3 harg3 arg6 harg6 arg11 x1 x4), rowT (kernelRun1_B.sl.v431 c arg3 harg3 arg6 harg6 arg11 x1 x4), rowT (kernelRun1_B.sl.v452 c arg3 harg3 arg6 harg6 arg11 x1 x4), rowT (kernelRun1_B.sl.v473 c arg3 harg3 arg6 harg6 arg11 x1 x4), rowT (kernelRun1_B.sl.v494 c arg3 harg3 arg6 harg6 arg11 x1 x4), rowT (kernelRun1_B.sl.v515 c arg3 harg3 arg6 harg6 arg11 x1 x4), rowT (kernelRun1_B.sl.v536 c arg3 harg3 arg6 harg6 arg11 x1 x4), rowT (kernelRun1_B.sl.v557 c arg3 harg3 arg6 harg6 arg11 x1 x4), rowT (kernelRun1_B.sl.v578 c arg3 harg3 arg6 harg6 arg11 x1 x4)]

/-- The left knot that is picked, in the second case. -/
theorem pick589B : (kernelRun1_B.sl.v589 c arg2 harg2 arg3 harg3 arg4 harg4 arg9 x0 x1 x2)
    = pickT (k1_pay80 (half arg2 harg2 x0)) (knotsB c arg3 harg3 arg4 harg4 arg9 x1 x2) (beforeT 0x00000000#32 (knotsB c arg3 harg3 arg4 harg4 arg9 x1 x2)) := by
  simp only [pickT, beforeT, afterT, knotsB, topsB, slopesB, rowT, Matrix.cons_val, kernelRun1_B.sl.v589, kernelRun1_B.sl.v568, kernelRun1_B.sl.v547, kernelRun1_B.sl.v526, kernelRun1_B.sl.v505, kernelRun1_B.sl.v484, kernelRun1_B.sl.v463, kernelRun1_B.sl.v442, kernelRun1_B.sl.v421, kernelRun1_B.sl.v420, kernelRun1_B.sl.r_14, kernelRun1_B.sl.v426, kernelRun1_B.sl.v439, kernelRun1_B.sl.r_10, kernelRun1_B.sl.v447, kernelRun1_B.sl.v460, kernelRun1_B.sl.v468, kernelRun1_B.sl.v481, kernelRun1_B.sl.v489, kernelRun1_B.sl.v502, kernelRun1_B.sl.v510, kernelRun1_B.sl.v523, kernelRun1_B.sl.v531, kernelRun1_B.sl.v544, kernelRun1_B.sl.v552, kernelRun1_B.sl.v565, kernelRun1_B.sl.v573, kernelRun1_B.sl.v586,
    k1_pay81, k1_pay82, k1_pay83, k1_pay84, k1_pay85, k1_pay86, k1_pay87]

/-- The left height that is picked, in the second case. -/
theorem pick592B : (kernelRun1_B.sl.v592 c arg2 harg2 arg3 harg3 arg4 harg4 arg5 harg5 arg9 arg10 x0 x1 x2 x3)
    = pickT (k1_pay80 (half arg2 harg2 x0)) (knotsB c arg3 harg3 arg4 harg4 arg9 x1 x2) (beforeT 0x00000000#32 (topsB c arg3 harg3 arg5 harg5 arg10 x1 x3)) := by
  simp only [pickT, beforeT, afterT, knotsB, topsB, slopesB, rowT, Matrix.cons_val, kernelRun1_B.sl.v592, kernelRun1_B.sl.v571, kernelRun1_B.sl.v550, kernelRun1_B.sl.v529, kernelRun1_B.sl.v508, kernelRun1_B.sl.v487, kernelRun1_B.sl.v466, kernelRun1_B.sl.v445, kernelRun1_B.sl.v424, kernelRun1_B.sl.v423, kernelRun1_B.sl.r_14, kernelRun1_B.sl.v429, kernelRun1_B.sl.v439, kernelRun1_B.sl.v426, kernelRun1_B.sl.r_10, kernelRun1_B.sl.v450, kernelRun1_B.sl.v460, kernelRun1_B.sl.v447, kernelRun1_B.sl.v471, kernelRun1_B.sl.v481, kernelRun1_B.sl.v468, kernelRun1_B.sl.v492, kernelRun1_B.sl.v502, kernelRun1_B.sl.v489, kernelRun1_B.sl.v513, kernelRun1_B.sl.v523, kernelRun1_B.sl.v510, kernelRun1_B.sl.v534, kernelRun1_B.sl.v544, kernelRun1_B.sl.v531, kernelRun1_B.sl.v555, kernelRun1_B.sl.v565, kernelRun1_B.sl.v552, kernelRun1_B.sl.v576, kernelRun1_B.sl.v586, kernelRun1_B.sl.v573,
    k1_pay81, k1_pay82, k1_pay83, k1_pay84, k1_pay85, k1_pay86, k1_pay87]
  rfl

/-- The right knot that is picked, in the second case. -/
theorem pick594B : (kernelRun1_B.sl.v594 c arg2 harg2 arg3 harg3 arg4 harg4 arg9 x0 x1 x2)
    = pickT (k1_pay80 (half arg2 harg2 x0)) (knotsB c arg3 harg3 arg4 harg4 arg9 x1 x2) (afterT 0x3F800000#32 (knotsB c arg3 harg3 arg4 harg4 arg9 x1 x2)) := by
  simp only [pickT, beforeT, afterT, knotsB, topsB, slopesB, rowT, Matrix.cons_val, kernelRun1_B.sl.v594, kernelRun1_B.sl.v574, kernelRun1_B.sl.v553, kernelRun1_B.sl.v532, kernelRun1_B.sl.v511, kernelRun1_B.sl.v490, kernelRun1_B.sl.v469, kernelRun1_B.sl.v448, kernelRun1_B.sl.v427, kernelRun1_B.sl.r_11, kernelRun1_B.sl.v426, kernelRun1_B.sl.r_14, kernelRun1_B.sl.v447, kernelRun1_B.sl.v439, kernelRun1_B.sl.r_10, kernelRun1_B.sl.v468, kernelRun1_B.sl.v460, kernelRun1_B.sl.v489, kernelRun1_B.sl.v481, kernelRun1_B.sl.v510, kernelRun1_B.sl.v502, kernelRun1_B.sl.v531, kernelRun1_B.sl.v523, kernelRun1_B.sl.v552, kernelRun1_B.sl.v544, kernelRun1_B.sl.v573, kernelRun1_B.sl.v565, kernelRun1_B.sl.v593, kernelRun1_B.sl.cst_532, kernelRun1_B.sl.v586,
    k1_pay81, k1_pay82, k1_pay83, k1_pay84, k1_pay85, k1_pay86, k1_pay87]

/-- The right height that is picked, in the second case. -/
theorem pick596B : (kernelRun1_B.sl.v596 c arg2 harg2 arg3 harg3 arg4 harg4 arg5 harg5 arg9 arg10 x0 x1 x2 x3)
    = pickT (k1_pay80 (half arg2 harg2 x0)) (knotsB c arg3 harg3 arg4 harg4 arg9 x1 x2) (afterT 0x3F800000#32 (topsB c arg3 harg3 arg5 harg5 arg10 x1 x3)) := by
  simp only [pickT, beforeT, afterT, knotsB, topsB, slopesB, rowT, Matrix.cons_val, kernelRun1_B.sl.v596, kernelRun1_B.sl.v577, kernelRun1_B.sl.v556, kernelRun1_B.sl.v535, kernelRun1_B.sl.v514, kernelRun1_B.sl.v493, kernelRun1_B.sl.v472, kernelRun1_B.sl.v451, kernelRun1_B.sl.v430, kernelRun1_B.sl.r_12, kernelRun1_B.sl.v429, kernelRun1_B.sl.r_14, kernelRun1_B.sl.v450, kernelRun1_B.sl.v439, kernelRun1_B.sl.v426, kernelRun1_B.sl.r_10, kernelRun1_B.sl.v471, kernelRun1_B.sl.v460, kernelRun1_B.sl.v447, kernelRun1_B.sl.v492, kernelRun1_B.sl.v481, kernelRun1_B.sl.v468, kernelRun1_B.sl.v513, kernelRun1_B.sl.v502, kernelRun1_B.sl.v489, kernelRun1_B.sl.v534, kernelRun1_B.sl.v523, kernelRun1_B.sl.v510, kernelRun1_B.sl.v555, kernelRun1_B.sl.v544, kernelRun1_B.sl.v531, kernelRun1_B.sl.v576, kernelRun1_B.sl.v565, kernelRun1_B.sl.v552, kernelRun1_B.sl.v593, kernelRun1_B.sl.cst_532, kernelRun1_B.sl.v586, kernelRun1_B.sl.v573,
    k1_pay81, k1_pay82, k1_pay83, k1_pay84, k1_pay85, k1_pay86, k1_pay87]

/-- The right knot's slope that is picked, in the second case. -/
theorem pick598B : (kernelRun1_B.sl.v598 c arg2 harg2 arg3 harg3 arg4 harg4 arg6 harg6 arg9 arg11 x0 x1 x2 x4)
    = pickT (k1_pay80 (half arg2 harg2 x0)) (knotsB c arg3 harg3 arg4 harg4 arg9 x1 x2) (afterT 0x3F0A2C8F#32 (slopesB c arg3 harg3 arg6 harg6 arg11 x1 x4)) := by
  simp only [pickT, beforeT, afterT, knotsB, topsB, slopesB, rowT, Matrix.cons_val, kernelRun1_B.sl.v598, kernelRun1_B.sl.v580, kernelRun1_B.sl.v559, kernelRun1_B.sl.v538, kernelRun1_B.sl.v517, kernelRun1_B.sl.v496, kernelRun1_B.sl.v475, kernelRun1_B.sl.v454, kernelRun1_B.sl.v433, kernelRun1_B.sl.r_13, kernelRun1_B.sl.v432, kernelRun1_B.sl.r_14, kernelRun1_B.sl.v453, kernelRun1_B.sl.v439, kernelRun1_B.sl.v426, kernelRun1_B.sl.r_10, kernelRun1_B.sl.v474, kernelRun1_B.sl.v460, kernelRun1_B.sl.v447, kernelRun1_B.sl.v495, kernelRun1_B.sl.v481, kernelRun1_B.sl.v468, kernelRun1_B.sl.v516, kernelRun1_B.sl.v502, kernelRun1_B.sl.v489, kernelRun1_B.sl.v537, kernelRun1_B.sl.v523, kernelRun1_B.sl.v510, kernelRun1_B.sl.v558, kernelRun1_B.sl.v544, kernelRun1_B.sl.v531, kernelRun1_B.sl.v579, kernelRun1_B.sl.v565, kernelRun1_B.sl.v552, kernelRun1_B.sl.v597, kernelRun1_B.sl.cst_534, kernelRun1_B.sl.v586, kernelRun1_B.sl.v573,
    k1_pay81, k1_pay82, k1_pay83, k1_pay84, k1_pay85, k1_pay86, k1_pay87]

/-- The left knot's slope that is picked, in the second case. -/
theorem pick601B : (kernelRun1_B.sl.v601 c arg2 harg2 arg3 harg3 arg4 harg4 arg6 harg6 arg9 arg11 x0 x1 x2 x4)
    = pickT (k1_pay80 (half arg2 harg2 x0)) (knotsB c arg3 harg3 arg4 harg4 arg9 x1 x2) (beforeT 0x3F0A2C8F#32 (slopesB c arg3 harg3 arg6 harg6 arg11 x1 x4)) := by
  simp only [pickT, beforeT, afterT, knotsB, topsB, slopesB, rowT, Matrix.cons_val, kernelRun1_B.sl.v601, kernelRun1_B.sl.v583, kernelRun1_B.sl.v562, kernelRun1_B.sl.v541, kernelRun1_B.sl.v520, kernelRun1_B.sl.v499, kernelRun1_B.sl.v478, kernelRun1_B.sl.v457, kernelRun1_B.sl.v436, kernelRun1_B.sl.v435, kernelRun1_B.sl.r_14, kernelRun1_B.sl.v432, kernelRun1_B.sl.v439, kernelRun1_B.sl.v426, kernelRun1_B.sl.r_10, kernelRun1_B.sl.v453, kernelRun1_B.sl.v460, kernelRun1_B.sl.v447, kernelRun1_B.sl.v474, kernelRun1_B.sl.v481, kernelRun1_B.sl.v468, kernelRun1_B.sl.v495, kernelRun1_B.sl.v502, kernelRun1_B.sl.v489, kernelRun1_B.sl.v516, kernelRun1_B.sl.v523, kernelRun1_B.sl.v510, kernelRun1_B.sl.v537, kernelRun1_B.sl.v544, kernelRun1_B.sl.v531, kernelRun1_B.sl.v558, kernelRun1_B.sl.v565, kernelRun1_B.sl.v552, kernelRun1_B.sl.v579, kernelRun1_B.sl.v586, kernelRun1_B.sl.v573,
    k1_pay81, k1_pay82, k1_pay83, k1_pay84, k1_pay85, k1_pay86, k1_pay87]
  rfl

/-- What is stored for the second half of the channels, in the second case. -/
theorem bendB : (kernelRun1_B.sl.r_23 c arg2 harg2 arg3 harg3 arg4 harg4 arg5 harg5 arg6 harg6 arg9 arg10 arg11 x0 x1 x2 x3 x4)
    = bendT (half arg2 harg2 x0) (knotsB c arg3 harg3 arg4 harg4 arg9 x1 x2) (topsB c arg3 harg3 arg5 harg5 arg10 x1 x3) (slopesB c arg3 harg3 arg6 harg6 arg11 x1 x4) := by
  rw [bendT, ← pick589B c arg2 harg2 arg3 harg3 arg4 harg4 arg9 x0 x1 x2, ← pick592B c arg2 harg2 arg3 harg3 arg4 harg4 arg5 harg5 arg9 arg10 x0 x1 x2 x3, ← pick594B c arg2 harg2 arg3 harg3 arg4 harg4 arg9 x0 x1 x2, ← pick596B c arg2 harg2 arg3 harg3 arg4 harg4 arg5 harg5 arg9 arg10 x0 x1 x2 x3, ← pick598B c arg2 harg2 arg3 harg3 arg4 harg4 arg6 harg6 arg9 arg11 x0 x1 x2 x4, ← pick601B c arg2 harg2 arg3 harg3 arg4 harg4 arg6 harg6 arg9 arg11 x0 x1 x2 x4]
  simp only [kernelRun1_B.sl.r_8, kernelRun1_B.sl.r_9, kernelRun1_B.sl.r_10, kernelRun1_B.sl.r_21, kernelRun1_B.sl.r_23, kernelRun1_B.sl.cst_538]

/-- The logarithms that are summed, in the second case. -/
theorem steepB : (kernelRun1_B.sl.r_24 c arg2 harg2 arg3 harg3 arg4 harg4 arg5 harg5 arg6 harg6 arg9 arg10 arg11 x0 x1 x2 x3 x4)
    = steepT (half arg2 harg2 x0) (knotsB c arg3 harg3 arg4 harg4 arg9 x1 x2) (topsB c arg3 harg3 arg5 harg5 arg10 x1 x3) (slopesB c arg3 harg3 arg6 harg6 arg11 x1 x4) := by
  rw [steepT, ← pick589B c arg2 harg2 arg3 harg3 arg4 harg4 arg9 x0 x1 x2, ← pick592B c arg2 harg2 arg3 harg3 arg4 harg4 arg5 harg5 arg9 arg10 x0 x1 x2 x3, ← pick594B c arg2 harg2 arg3 harg3 arg4 harg4 arg9 x0 x1 x2, ← pick596B c arg2 harg2 arg3 harg3 arg4 harg4 arg5 harg5 arg9 arg10 x0 x1 x2 x3, ← pick598B c arg2 harg2 arg3 harg3 arg4 harg4 arg6 harg6 arg9 arg11 x0 x1 x2 x4, ← pick601B c arg2 harg2 arg3 harg3 arg4 harg4 arg6 harg6 arg9 arg11 x0 x1 x2 x4]
  simp only [kernelRun1_B.sl.r_9, kernelRun1_B.sl.r_10, kernelRun1_B.sl.r_15, kernelRun1_B.sl.r_16, kernelRun1_B.sl.r_17, kernelRun1_B.sl.r_18, kernelRun1_B.sl.r_19, kernelRun1_B.sl.r_20, kernelRun1_B.sl.r_22, kernelRun1_B.sl.r_24, kernelRun1_B.sl.cst_538]

end Cert.KernelIdeal.Gen

end
-- ==== Proof.Value.Region1.lean ====
/- The arrays that the spline's call leaves, element by element. -/
module

public import proofs.«01_k».proof.Proof.Value.Picks

@[expose] public section

set_option maxRecDepth 16384

noncomputable section

namespace Cert.KernelIdeal.Gen

open Idealize.ShloMosaic Idealize.SL.Sem Cert.Flow

variable (c : Dev nD)
  (arg2 : Memref sig Kind.tc Space.vmem S1x192x1024 EltTy.f32) (harg2 : arg2.IsWhole)
  (arg3 : Memref sig Kind.tc Space.vmem S1x256x1024 EltTy.f32) (harg3 : arg3.IsWhole)
  (arg4 : Memref sig Kind.tc Space.vmem S10x96x256 EltTy.f32) (harg4 : arg4.IsWhole)
  (arg5 : Memref sig Kind.tc Space.vmem S10x96x256 EltTy.f32) (harg5 : arg5.IsWhole)
  (arg6 : Memref sig Kind.tc Space.vmem S9x96x256 EltTy.f32) (harg6 : arg6.IsWhole)
  (arg7 : Memref sig Kind.tc Space.vmem S1x192x1024 EltTy.f32) (harg7 : arg7.IsWhole)
  (arg8 : Memref sig Kind.tc Space.vmem S1x1x1 EltTy.f32) (harg8 : arg8.IsWhole)
  (arg9 : Memref sig Kind.tc Space.vmem S10x96x1024 EltTy.f32) (harg9 : arg9.IsWhole)
  (arg10 : Memref sig Kind.tc Space.vmem S10x96x1024 EltTy.f32) (harg10 : arg10.IsWhole)
  (arg11 : Memref sig Kind.tc Space.vmem S9x96x1024 EltTy.f32) (harg11 : arg11.IsWhole) (x0 : Vec Ideal S1x192x1024 EltTy.f32)
  (x1 : Vec Ideal S1x256x1024 EltTy.f32) (x2 : Vec Ideal S10x96x256 EltTy.f32) (x3 : Vec Ideal S10x96x256 EltTy.f32)
  (x4 : Vec Ideal S9x96x256 EltTy.f32) (xo6 : Vec Ideal S1x1x1 EltTy.f32)
  (X : Fin 192 → Fin 1024 → ℝ) (H : Fin 256 → Fin 1024 → ℝ) (A B : Fin 10 → Fin 96 → Fin 256 → ℝ) (E : Fin 9 → Fin 96 → Fin 256 → ℝ)

/-- The logits of an entry. -/
abbrev logits {n : ℕ} (A : Fin n → Fin 96 → Fin 256 → ℝ) (H : Fin 256 → Fin 1024 → ℝ) (i : Fin 96) (t : Fin 1024) (k : Fin n) : ℝ :=
  ∑ f, A k i f * H f t

/-- An entry of the second half of the channels. -/
abbrev upper (X : Fin 192 → Fin 1024 → ℝ) (i : Fin 96) (t : Fin 1024) : ℝ := X ⟨96 + i, by omega⟩ t

/-- A knot's weights at an index. -/
theorem wts_at (h : ∀ k i f, x2 (ix3 k i f) = (A k i f : EReal)) (k : Fin 10) (i : Fin 96) (f : Fin 256) :
    wts arg4 harg4 x2 k (ix3 0 i f) = (A k i f : EReal) := by
  rw [← h]
  unfold wts
  rw [View.readAt_eq_ld, harg4.read_unread]
  refine View.ld_unit_apply_of _ _ _ _ _ _ fun a => ?_
  fin_cases a <;> simp

/-- A slope's weights at an index. -/
theorem wts9_at (h : ∀ k i f, x4 (ix3 k i f) = (E k i f : EReal)) (k : Fin 9) (i : Fin 96) (f : Fin 256) :
    wts9 arg6 harg6 x4 k (ix3 0 i f) = (E k i f : EReal) := by
  rw [← h]
  unfold wts9
  rw [View.readAt_eq_ld, harg6.read_unread]
  refine View.ld_unit_apply_of _ _ _ _ _ _ fun a => ?_
  fin_cases a <;> simp

/-- The later channels of a block at an index. -/
theorem half_at (h : ∀ i t, x0 (ix3 0 i t) = (X i t : EReal)) (i : Fin 96) (t : Fin 1024) :
    half arg2 harg2 x0 (ix3 0 i t) = (upper X i t : EReal) := by
  unfold upper
  rw [← h]
  unfold half
  rw [View.readAt_eq_ld, harg2.read_unread]
  refine View.ld_unit_apply_of _ _ _ _ _ _ fun a => ?_
  fin_cases a <;> simp

/-- The hidden channels of a block at an index. -/
theorem v1A_at (h : ∀ f t, x1 (ix3 0 f t) = (H f t : EReal)) (f : Fin 256) (t : Fin 1024) :
    kernelRun1_A.sl.v1 (F := Ideal) c arg3 harg3 x1 (ix2 f t) = (H f t : EReal) := by
  unfold kernelRun1_A.sl.v1
  pointwise []
  rw [← h, View.readAt_eq_ld, harg3.read_unread]
  refine View.ld_unit_apply_of _ _ _ _ _ _ fun a => ?_
  fin_cases a <;> simp

/-- The hidden channels are read alike in both cases. -/
theorem v1_eq : kernelRun1_B.sl.v1 (F := Ideal) c arg3 harg3 x1 = kernelRun1_A.sl.v1 (F := Ideal) c arg3 harg3 x1 := rfl

/-- A knot's row at an index, from its word. -/
theorem knot_row (w : Fin 10 → Vec Ideal S1x96x256 .f32) (h : FVec Ideal S256x1024 .f32) (p : Vec Ideal S1x96x1024 .f32) (m : EReal)
    (n k : ℕ) (hk : k = n + 1) (hn : n < 9) (i : Fin 96) (t : Fin 1024) (hw : ∀ k f, w k (ix3 0 i f) = (A k i f : EReal))
    (hh : ∀ f, h (ix2 f t) = (H f t : EReal)) (hm : m = (((k : ℝ) * leastR : ℝ) : EReal))
    (hp : p = scaleT (F := Ideal) m (rcpT w h) (liftT (runT w h n))) :
    rowT (F := Ideal) p (ix2 i t) = (knot (logits A H i t) k : EReal) := by
  subst hk
  rw [rowT_at, hp, knot_mid _ _ (by omega) (by omega)]
  exact scaleT_at m _ _ _ _ _ i t hm (rcpT_at w h (fun k => A k i) (fun f => H f t) i t hw hh)
    (runT_at w h (fun k => A k i) (fun f => H f t) i t hw hh n (by omega))

/-- A slope's row at an index, from its word. -/
theorem slope_row (w : Vec Ideal S1x96x256 .f32) (h : FVec Ideal S256x1024 .f32) (p : Vec Ideal S1x96x1024 .f32) (k : Fin 9)
    (i : Fin 96) (t : Fin 1024) (hw : ∀ f, w (ix3 0 i f) = (E k i f : EReal)) (hh : ∀ f, h (ix2 f t) = (H f t : EReal))
    (hp : p = liftT (dotT w h)) : rowT (F := Ideal) p (ix2 i t) = (logits E H i t k : EReal) := by
  rw [rowT_at, hp, liftT_at]
  exact dotT_at w h (E k i) (fun f => H f t) i t hw hh

/-- The named constants. -/
theorem milli : (Named.named (F := Ideal) (φ := .f32) κ "milli1" 0x3A83126F#32 = (((1 : ℕ) * leastR : ℝ) : EReal))
    ∧ (Named.named (F := Ideal) (φ := .f32) κ "milli2" 0x3B03126F#32 = (((2 : ℕ) * leastR : ℝ) : EReal))
    ∧ (Named.named (F := Ideal) (φ := .f32) κ "milli3" 0x3B449BA6#32 = (((3 : ℕ) * leastR : ℝ) : EReal))
    ∧ (Named.named (F := Ideal) (φ := .f32) κ "milli4" 0x3B83126F#32 = (((4 : ℕ) * leastR : ℝ) : EReal))
    ∧ (Named.named (F := Ideal) (φ := .f32) κ "milli5" 0x3BA3D70A#32 = (((5 : ℕ) * leastR : ℝ) : EReal))
    ∧ (Named.named (F := Ideal) (φ := .f32) κ "milli6" 0x3BC49BA6#32 = (((6 : ℕ) * leastR : ℝ) : EReal))
    ∧ (Named.named (F := Ideal) (φ := .f32) κ "milli7" 0x3BE56042#32 = (((7 : ℕ) * leastR : ℝ) : EReal))
    ∧ (Named.named (F := Ideal) (φ := .f32) κ "milli8" 0x3C03126F#32 = (((8 : ℕ) * leastR : ℝ) : EReal))
    ∧ (Named.named (F := Ideal) (φ := .f32) κ "milli9" 0x3C1374BC#32 = (((9 : ℕ) * leastR : ℝ) : EReal)) := by
  refine ⟨?_, ?_, ?_, ?_, ?_, ?_, ?_, ?_, ?_⟩ <;>
    refine (IdealRules.named_const.ideal_named_scalar _ _ _ _ rfl).trans (congrArg _ ?_) <;> norm_num [leastR]

variable (hx0 : ∀ i t, x0 (ix3 0 i t) = (X i t : EReal)) (hx1 : ∀ f t, x1 (ix3 0 f t) = (H f t : EReal))
  (hx2 : ∀ k i f, x2 (ix3 k i f) = (A k i f : EReal)) (hx3 : ∀ k i f, x3 (ix3 k i f) = (B k i f : EReal))
  (hx4 : ∀ k i f, x4 (ix3 k i f) = (E k i f : EReal))

include hx1 hx2 in
/-- The rows of the inner knots at an index, in the first case. -/
theorem knotsA_at (i : Fin 96) (t : Fin 1024) (k : Fin 9) :
    knotsA (F := Ideal) c arg3 harg3 arg4 harg4 arg9 x1 x2 k (ix2 i t) = (knot (logits A H i t) (k.val + 1) : EReal) := by
  obtain ⟨m1, m2, m3, m4, m5, m6, m7, m8, m9⟩ := milli
  have hw := fun k f => wts_at arg4 harg4 x2 A hx2 k i f
  have hv := fun f => v1A_at c arg3 harg3 x1 H hx1 f t
  fin_cases k
  · exact knot_row H A _ _ _ _ 0 1 rfl (by omega) i t hw hv m1 (rowW1A c arg3 harg3 arg4 harg4 arg9 x1 x2)
  · exact knot_row H A _ _ _ _ 1 2 rfl (by omega) i t hw hv m2 (rowW2A c arg3 harg3 arg4 harg4 arg9 x1 x2)
  · exact knot_row H A _ _ _ _ 2 3 rfl (by omega) i t hw hv m3 (rowW3A c arg3 harg3 arg4 harg4 arg9 x1 x2)
  · exact knot_row H A _ _ _ _ 3 4 rfl (by omega) i t hw hv m4 (rowW4A c arg3 harg3 arg4 harg4 arg9 x1 x2)
  · exact knot_row H A _ _ _ _ 4 5 rfl (by omega) i t hw hv m5 (rowW5A c arg3 harg3 arg4 harg4 arg9 x1 x2)
  · exact knot_row H A _ _ _ _ 5 6 rfl (by omega) i t hw hv m6 (rowW6A c arg3 harg3 arg4 harg4 arg9 x1 x2)
  · exact knot_row H A _ _ _ _ 6 7 rfl (by omega) i t hw hv m7 (rowW7A c arg3 harg3 arg4 harg4 arg9 x1 x2)
  · exact knot_row H A _ _ _ _ 7 8 rfl (by omega) i t hw hv m8 (rowW8A c arg3 harg3 arg4 harg4 arg9 x1 x2)
  · exact knot_row H A _ _ _ _ 8 9 rfl (by omega) i t hw hv m9 (rowW9A c arg3 harg3 arg4 harg4 arg9 x1 x2)

include hx1 hx3 in
/-- The rows of the inner heights at an index, in the first case. -/
theorem topsA_at (i : Fin 96) (t : Fin 1024) (k : Fin 9) :
    topsA (F := Ideal) c arg3 harg3 arg5 harg5 arg10 x1 x3 k (ix2 i t) = (knot (logits B H i t) (k.val + 1) : EReal) := by
  obtain ⟨m1, m2, m3, m4, m5, m6, m7, m8, m9⟩ := milli
  have hw := fun k f => wts_at arg5 harg5 x3 B hx3 k i f
  have hv := fun f => v1A_at c arg3 harg3 x1 H hx1 f t
  fin_cases k
  · exact knot_row H B _ _ _ _ 0 1 rfl (by omega) i t hw hv m1 (rowH1A c arg3 harg3 arg5 harg5 arg10 x1 x3)
  · exact knot_row H B _ _ _ _ 1 2 rfl (by omega) i t hw hv m2 (rowH2A c arg3 harg3 arg5 harg5 arg10 x1 x3)
  · exact knot_row H B _ _ _ _ 2 3 rfl (by omega) i t hw hv m3 (rowH3A c arg3 harg3 arg5 harg5 arg10 x1 x3)
  · exact knot_row H B _ _ _ _ 3 4 rfl (by omega) i t hw hv m4 (rowH4A c arg3 harg3 arg5 harg5 arg10 x1 x3)
  · exact knot_row H B _ _ _ _ 4 5 rfl (by omega) i t hw hv m5 (rowH5A c arg3 harg3 arg5 harg5 arg10 x1 x3)
  · exact knot_row H B _ _ _ _ 5 6 rfl (by omega) i t hw hv m6 (rowH6A c arg3 harg3 arg5 harg5 arg10 x1 x3)
  · exact knot_row H B _ _ _ _ 6 7 rfl (by omega) i t hw hv m7 (rowH7A c arg3 harg3 arg5 harg5 arg10 x1 x3)
  · exact knot_row H B _ _ _ _ 7 8 rfl (by omega) i t hw hv m8 (rowH8A c arg3 harg3 arg5 harg5 arg10 x1 x3)
  · exact knot_row H B _ _ _ _ 8 9 rfl (by omega) i t hw hv m9 (rowH9A c arg3 harg3 arg5 harg5 arg10 x1 x3)

include hx1 hx4 in
/-- The rows of the inner slopes at an index, in the first case. -/
theorem slopesA_at (i : Fin 96) (t : Fin 1024) (k : Fin 9) :
    slopesA (F := Ideal) c arg3 harg3 arg6 harg6 arg11 x1 x4 k (ix2 i t) = (logits E H i t k : EReal) := by
  have hw := fun k f => wts9_at arg6 harg6 x4 E hx4 k i f
  have hv := fun f => v1A_at c arg3 harg3 x1 H hx1 f t
  fin_cases k
  · exact slope_row H E _ _ _ 0 i t (hw 0) hv (rowD0A c arg3 harg3 arg6 harg6 arg11 x1 x4)
  · exact slope_row H E _ _ _ 1 i t (hw 1) hv (rowD1A c arg3 harg3 arg6 harg6 arg11 x1 x4)
  · exact slope_row H E _ _ _ 2 i t (hw 2) hv (rowD2A c arg3 harg3 arg6 harg6 arg11 x1 x4)
  · exact slope_row H E _ _ _ 3 i t (hw 3) hv (rowD3A c arg3 harg3 arg6 harg6 arg11 x1 x4)
  · exact slope_row H E _ _ _ 4 i t (hw 4) hv (rowD4A c arg3 harg3 arg6 harg6 arg11 x1 x4)
  · exact slope_row H E _ _ _ 5 i t (hw 5) hv (rowD5A c arg3 harg3 arg6 harg6 arg11 x1 x4)
  · exact slope_row H E _ _ _ 6 i t (hw 6) hv (rowD6A c arg3 harg3 arg6 harg6 arg11 x1 x4)
  · exact slope_row H E _ _ _ 7 i t (hw 7) hv (rowD7A c arg3 harg3 arg6 harg6 arg11 x1 x4)
  · exact slope_row H E _ _ _ 8 i t (hw 8) hv (rowD8A c arg3 harg3 arg6 harg6 arg11 x1 x4)

include hx0 hx1 hx2 hx3 hx4 in
/-- What is stored at an index, in the first case. -/
theorem bendA_at (i : Fin 96) (t : Fin 1024) : kernelRun1_A.sl.r_23 (F := Ideal) c arg2 harg2 arg3 harg3 arg4 harg4 arg5 harg5 arg6 harg6 arg9 arg10 arg11 x0 x1 x2 x3 x4 (ix2 i t)
    = (spl (logits A H i t) (logits B H i t) (logits E H i t) (upper X i t) : EReal) := by
  rw [bendA]
  exact bendT_at _ _ _ _ _ _ _ _ i t (half_at arg2 harg2 x0 X hx0 i t)
    (knotsA_at c arg3 harg3 arg4 harg4 arg9 x1 x2 H A hx1 hx2 i t)
    (topsA_at c arg3 harg3 arg5 harg5 arg10 x1 x3 H B hx1 hx3 i t)
    (slopesA_at c arg3 harg3 arg6 harg6 arg11 x1 x4 H E hx1 hx4 i t)

include hx0 hx1 hx2 hx3 hx4 in
/-- What is summed at an index, in the first case. -/
theorem steepA_at (i : Fin 96) (t : Fin 1024) : kernelRun1_A.sl.r_24 (F := Ideal) c arg2 harg2 arg3 harg3 arg4 harg4 arg5 harg5 arg6 harg6 arg9 arg10 arg11 x0 x1 x2 x3 x4 (ix2 i t)
    = lad (logits A H i t) (logits B H i t) (logits E H i t) (upper X i t) := by
  rw [steepA]
  exact steepT_at _ _ _ _ _ _ _ _ i t (half_at arg2 harg2 x0 X hx0 i t)
    (knotsA_at c arg3 harg3 arg4 harg4 arg9 x1 x2 H A hx1 hx2 i t)
    (topsA_at c arg3 harg3 arg5 harg5 arg10 x1 x3 H B hx1 hx3 i t)
    (slopesA_at c arg3 harg3 arg6 harg6 arg11 x1 x4 H E hx1 hx4 i t)

include hx1 hx2 in
/-- The rows of the inner knots at an index, in the second case. -/
theorem knotsB_at (i : Fin 96) (t : Fin 1024) (k : Fin 9) :
    knotsB (F := Ideal) c arg3 harg3 arg4 harg4 arg9 x1 x2 k (ix2 i t) = (knot (logits A H i t) (k.val + 1) : EReal) := by
  obtain ⟨m1, m2, m3, m4, m5, m6, m7, m8, m9⟩ := milli
  have hw := fun k f => wts_at arg4 harg4 x2 A hx2 k i f
  have hv := fun f => v1A_at c arg3 harg3 x1 H hx1 f t
  fin_cases k
  · exact knot_row H A _ _ _ _ 0 1 rfl (by omega) i t hw hv m1 (rowW1B c arg3 harg3 arg4 harg4 arg9 x1 x2)
  · exact knot_row H A _ _ _ _ 1 2 rfl (by omega) i t hw hv m2 (rowW2B c arg3 harg3 arg4 harg4 arg9 x1 x2)
  · exact knot_row H A _ _ _ _ 2 3 rfl (by omega) i t hw hv m3 (rowW3B c arg3 harg3 arg4 harg4 arg9 x1 x2)
  · exact knot_row H A _ _ _ _ 3 4 rfl (by omega) i t hw hv m4 (rowW4B c arg3 harg3 arg4 harg4 arg9 x1 x2)
  · exact knot_row H A _ _ _ _ 4 5 rfl (by omega) i t hw hv m5 (rowW5B c arg3 harg3 arg4 harg4 arg9 x1 x2)
  · exact knot_row H A _ _ _ _ 5 6 rfl (by omega) i t hw hv m6 (rowW6B c arg3 harg3 arg4 harg4 arg9 x1 x2)
  · exact knot_row H A _ _ _ _ 6 7 rfl (by omega) i t hw hv m7 (rowW7B c arg3 harg3 arg4 harg4 arg9 x1 x2)
  · exact knot_row H A _ _ _ _ 7 8 rfl (by omega) i t hw hv m8 (rowW8B c arg3 harg3 arg4 harg4 arg9 x1 x2)
  · exact knot_row H A _ _ _ _ 8 9 rfl (by omega) i t hw hv m9 (rowW9B c arg3 harg3 arg4 harg4 arg9 x1 x2)

include hx1 hx3 in
/-- The rows of the inner heights at an index, in the second case. -/
theorem topsB_at (i : Fin 96) (t : Fin 1024) (k : Fin 9) :
    topsB (F := Ideal) c arg3 harg3 arg5 harg5 arg10 x1 x3 k (ix2 i t) = (knot (logits B H i t) (k.val + 1) : EReal) := by
  obtain ⟨m1, m2, m3, m4, m5, m6, m7, m8, m9⟩ := milli
  have hw := fun k f => wts_at arg5 harg5 x3 B hx3 k i f
  have hv := fun f => v1A_at c arg3 harg3 x1 H hx1 f t
  fin_cases k
  · exact knot_row H B _ _ _ _ 0 1 rfl (by omega) i t hw hv m1 (rowH1B c arg3 harg3 arg5 harg5 arg10 x1 x3)
  · exact knot_row H B _ _ _ _ 1 2 rfl (by omega) i t hw hv m2 (rowH2B c arg3 harg3 arg5 harg5 arg10 x1 x3)
  · exact knot_row H B _ _ _ _ 2 3 rfl (by omega) i t hw hv m3 (rowH3B c arg3 harg3 arg5 harg5 arg10 x1 x3)
  · exact knot_row H B _ _ _ _ 3 4 rfl (by omega) i t hw hv m4 (rowH4B c arg3 harg3 arg5 harg5 arg10 x1 x3)
  · exact knot_row H B _ _ _ _ 4 5 rfl (by omega) i t hw hv m5 (rowH5B c arg3 harg3 arg5 harg5 arg10 x1 x3)
  · exact knot_row H B _ _ _ _ 5 6 rfl (by omega) i t hw hv m6 (rowH6B c arg3 harg3 arg5 harg5 arg10 x1 x3)
  · exact knot_row H B _ _ _ _ 6 7 rfl (by omega) i t hw hv m7 (rowH7B c arg3 harg3 arg5 harg5 arg10 x1 x3)
  · exact knot_row H B _ _ _ _ 7 8 rfl (by omega) i t hw hv m8 (rowH8B c arg3 harg3 arg5 harg5 arg10 x1 x3)
  · exact knot_row H B _ _ _ _ 8 9 rfl (by omega) i t hw hv m9 (rowH9B c arg3 harg3 arg5 harg5 arg10 x1 x3)

include hx1 hx4 in
/-- The rows of the inner slopes at an index, in the second case. -/
theorem slopesB_at (i : Fin 96) (t : Fin 1024) (k : Fin 9) :
    slopesB (F := Ideal) c arg3 harg3 arg6 harg6 arg11 x1 x4 k (ix2 i t) = (logits E H i t k : EReal) := by
  have hw := fun k f => wts9_at arg6 harg6 x4 E hx4 k i f
  have hv := fun f => v1A_at c arg3 harg3 x1 H hx1 f t
  fin_cases k
  · exact slope_row H E _ _ _ 0 i t (hw 0) hv (rowD0B c arg3 harg3 arg6 harg6 arg11 x1 x4)
  · exact slope_row H E _ _ _ 1 i t (hw 1) hv (rowD1B c arg3 harg3 arg6 harg6 arg11 x1 x4)
  · exact slope_row H E _ _ _ 2 i t (hw 2) hv (rowD2B c arg3 harg3 arg6 harg6 arg11 x1 x4)
  · exact slope_row H E _ _ _ 3 i t (hw 3) hv (rowD3B c arg3 harg3 arg6 harg6 arg11 x1 x4)
  · exact slope_row H E _ _ _ 4 i t (hw 4) hv (rowD4B c arg3 harg3 arg6 harg6 arg11 x1 x4)
  · exact slope_row H E _ _ _ 5 i t (hw 5) hv (rowD5B c arg3 harg3 arg6 harg6 arg11 x1 x4)
  · exact slope_row H E _ _ _ 6 i t (hw 6) hv (rowD6B c arg3 harg3 arg6 harg6 arg11 x1 x4)
  · exact slope_row H E _ _ _ 7 i t (hw 7) hv (rowD7B c arg3 harg3 arg6 harg6 arg11 x1 x4)
  · exact slope_row H E _ _ _ 8 i t (hw 8) hv (rowD8B c arg3 harg3 arg6 harg6 arg11 x1 x4)

include hx0 hx1 hx2 hx3 hx4 in
/-- What is stored at an index, in the second case. -/
theorem bendB_at (i : Fin 96) (t : Fin 1024) : kernelRun1_B.sl.r_23 (F := Ideal) c arg2 harg2 arg3 harg3 arg4 harg4 arg5 harg5 arg6 harg6 arg9 arg10 arg11 x0 x1 x2 x3 x4 (ix2 i t)
    = (spl (logits A H i t) (logits B H i t) (logits E H i t) (upper X i t) : EReal) := by
  rw [bendB]
  exact bendT_at _ _ _ _ _ _ _ _ i t (half_at arg2 harg2 x0 X hx0 i t)
    (knotsB_at c arg3 harg3 arg4 harg4 arg9 x1 x2 H A hx1 hx2 i t)
    (topsB_at c arg3 harg3 arg5 harg5 arg10 x1 x3 H B hx1 hx3 i t)
    (slopesB_at c arg3 harg3 arg6 harg6 arg11 x1 x4 H E hx1 hx4 i t)

include hx0 hx1 hx2 hx3 hx4 in
/-- What is summed at an index, in the second case. -/
theorem steepB_at (i : Fin 96) (t : Fin 1024) : kernelRun1_B.sl.r_24 (F := Ideal) c arg2 harg2 arg3 harg3 arg4 harg4 arg5 harg5 arg6 harg6 arg9 arg10 arg11 x0 x1 x2 x3 x4 (ix2 i t)
    = lad (logits A H i t) (logits B H i t) (logits E H i t) (upper X i t) := by
  rw [steepB]
  exact steepT_at _ _ _ _ _ _ _ _ i t (half_at arg2 harg2 x0 X hx0 i t)
    (knotsB_at c arg3 harg3 arg4 harg4 arg9 x1 x2 H A hx1 hx2 i t)
    (topsB_at c arg3 harg3 arg5 harg5 arg10 x1 x3 H B hx1 hx3 i t)
    (slopesB_at c arg3 harg3 arg6 harg6 arg11 x1 x4 H E hx1 hx4 i t)

/-- What a grid point leaves in its block of the result. -/
def block (X : Fin 192 → Fin 1024 → ℝ) (H : Fin 256 → Fin 1024 → ℝ) (A B : Fin 10 → Fin 96 → Fin 256 → ℝ)
    (E : Fin 9 → Fin 96 → Fin 256 → ℝ) (j : Fin 192) (t : Fin 1024) : ℝ :=
  if h : j.val < 96 then X j t
  else spl (logits A H ⟨j - 96, by omega⟩ t) (logits B H ⟨j - 96, by omega⟩ t) (logits E H ⟨j - 96, by omega⟩ t) (X j t)

/-- The sum of the logarithms over a grid point's block. -/
def total (X : Fin 192 → Fin 1024 → ℝ) (H : Fin 256 → Fin 1024 → ℝ) (A B : Fin 10 → Fin 96 → Fin 256 → ℝ)
    (E : Fin 9 → Fin 96 → Fin 256 → ℝ) : EReal :=
  ∑ i : Fin 96, ∑ t : Fin 1024, lad (logits A H i t) (logits B H i t) (logits E H i t) (upper X i t)

/-- The stored block of the later channels at an index. -/
theorem pay1_at (p : FVec Ideal S96x1024 .f32) (i : Fin 96) (t : Fin 1024) : k1_pay1 p (ix3 0 i t) = p (ix2 i t) := by
  pointwise [k1_pay1]

/-- The stored block of the earlier channels at an index. -/
theorem pay144_at (p : Vec Ideal S1x96x1024 .f32) (i : Fin 96) (t : Fin 1024) : k1_pay144 p (ix3 0 i t) = p (ix3 0 i t) := by
  pointwise [k1_pay144]

/-- An index of a block, by its coordinates. -/
theorem idx_eta (y : S1x96x1024.Idx) : y = ix3 0 (y 1) (y 2) := by
  funext a; fin_cases a
  · exact Subsingleton.elim (α := Fin 1) _ _
  · rfl
  · rfl

include hx0 in
/-- The two stores of a block. -/
theorem stored_block (p : FVec Ideal S96x1024 .f32) (hp : ∀ (i : Fin 96) (t : Fin 1024), p (ix2 i t)
      = (spl (logits A H i t) (logits B H i t) (logits E H i t) (upper X i t) : EReal)) (y : S1x192x1024.Idx) :
    View.canon (Val := Elt Ideal) (e := .f32)
      [(⟨Rect.unit (s := S1x192x1024) ![0, 96, 0] ![1, 96, 1024] inb_S1x192x1024_S1x96x1024_0_96_0, k1_pay1 p⟩
          : View.Piece (Elt Ideal) S1x192x1024 .f32),
        (⟨Rect.unit (s := S1x192x1024) ![0, 0, 0] ![1, 96, 1024] inb_S1x192x1024_S1x96x1024_0_0_0,
          k1_pay144 (View.readAt (Elt Ideal) arg2.view
            (Rect.unit (s := S1x192x1024) ![0, 0, 0] ![1, 96, 1024] inb_S1x192x1024_S1x96x1024_0_0_0).toLoadRect (harg2.unread x0))⟩
          : View.Piece (Elt Ideal) S1x192x1024 .f32)] y
      = (block X H A B E (y 1) (y 2) : EReal) := by
  have e1 : ∀ x : S1x96x1024.Idx, k1_pay1 p x
      = (block X H A B E ⟨96 + (x 1).val, by have := (x 1).isLt; simp at this; omega⟩ (x 2) : EReal) := by
    intro x
    refine (congrArg (k1_pay1 p) (idx_eta x)).trans ((pay1_at p _ _).trans ((hp _ _).trans ?_))
    unfold block
    rw [dif_neg (by simp)]
    have : (⟨96 + (x 1).val - 96, by have := (x 1).isLt; simp at this; omega⟩ : Fin 96) = x 1 := Fin.ext (by simp)
    simp only [this]
  have e2 : ∀ x : S1x96x1024.Idx, k1_pay144 (View.readAt (Elt Ideal) arg2.view
            (Rect.unit (s := S1x192x1024) ![0, 0, 0] ![1, 96, 1024] inb_S1x192x1024_S1x96x1024_0_0_0).toLoadRect (harg2.unread x0)) x
      = (block X H A B E ⟨(x 1).val, by have := (x 1).isLt; simp at this; omega⟩ (x 2) : EReal) := by
    intro x
    have := (x 1).isLt
    simp at this
    refine (congrArg (k1_pay144 _) (idx_eta x)).trans ((pay144_at _ _ _).trans ?_)
    unfold block
    rw [dif_pos (by simpa using this)]
    refine Eq.trans ?_ (hx0 _ _)
    rw [View.readAt_eq_ld, harg2.read_unread]
    refine View.ld_unit_apply_of _ _ _ _ _ _ fun a => ?_
    fin_cases a <;> simp
  refine View.canon_append_of_piecesOf (Val := Elt Ideal) (e := .f32) (fun y => (block X H A B E (y 1) (y 2) : EReal)) [] [_, _]
    ⟨?_, ?_, trivial⟩ y ?_
  · intro x
    refine (e1 x).trans (congrArg _ (congrArg₂ (block X H A B E) (Fin.ext ?_) (Fin.ext ?_))) <;> simp [Rect.emb_apply]
  · intro x
    refine (e2 x).trans (congrArg _ (congrArg₂ (block X H A B E) (Fin.ext ?_) (Fin.ext ?_))) <;> simp [Rect.emb_apply]
  · exact View.cover_of_tiledL _ ![1, 96, 1024] (by rfl) y

/-- The sum over a block. -/
theorem sum_block (p : FVec Ideal S96x1024 .f32) : k1_pay2 p (ix2 0 0) = ∑ i : Fin 96, ∑ t : Fin 1024, p (ix2 i t) := by
  pointwise [k1_pay2]

/-- The only index of a running sum. -/
theorem one_eta (y : S1x1x1.Idx) : y = ix3 0 0 0 := by
  funext a; fin_cases a <;> exact Subsingleton.elim (α := Fin 1) _ _

/-- The stored sum, at first. -/
theorem pay3_at (p : FVec Ideal S96x1024 .f32) (y : S1x1x1.Idx) : k1_pay3 p y = ∑ i : Fin 96, ∑ t : Fin 1024, p (ix2 i t) := by
  rw [one_eta y, ← sum_block]
  pointwise [k1_pay3]

/-- The stored sum, afterwards. -/
theorem pay4_at (p : FVec Ideal S96x1024 .f32) (o : Vec Ideal S1x1x1 .f32) (y : S1x1x1.Idx) :
    k1_pay4 p o y = o (ix3 0 0 0) + ∑ i : Fin 96, ∑ t : Fin 1024, p (ix2 i t) := by
  rw [one_eta y, ← sum_block]
  pointwise [k1_pay4]

include hx0 hx1 hx2 hx3 hx4 in
/-- The block of the result, in the first case. -/
theorem out1_A_5_at (i : grid1.Coords) (h0 : cond1_0 i) (h1 : ¬cond1_1 i) (y : S1x192x1024.Idx) :
    out1_A_5 (F := Ideal) c i arg2 harg2 arg3 harg3 arg4 harg4 arg5 harg5 arg6 harg6 arg7 harg7 arg8 harg8 arg9 harg9 arg10 harg10 arg11 harg11 h0 h1 x0 x1 x2 x3 x4 y = (block X H A B E (y 1) (y 2) : EReal) := by
  unfold out1_A_5
  rw [View.read_writes_junk_eq_canon]
  unfold kernelRun1_A
  dsimp only
  exact stored_block arg2 harg2 x0 X H A B E hx0 _
    (bendA_at c arg2 harg2 arg3 harg3 arg4 harg4 arg5 harg5 arg6 harg6 arg9 arg10 arg11 x0 x1 x2 x3 x4 X H A B E hx0 hx1 hx2 hx3 hx4) y

include hx0 hx1 hx2 hx3 hx4 in
/-- The running sum, in the first case. -/
theorem out1_A_6_at (i : grid1.Coords) (h0 : cond1_0 i) (h1 : ¬cond1_1 i) (y : S1x1x1.Idx) :
    out1_A_6 (F := Ideal) c i arg2 harg2 arg3 harg3 arg4 harg4 arg5 harg5 arg6 harg6 arg7 harg7 arg8 harg8 arg9 harg9 arg10 harg10 arg11 harg11 h0 h1 x0 x1 x2 x3 x4 y = total X H A B E := by
  unfold out1_A_6
  rw [View.read_writes_junk_eq_canon]
  unfold kernelRun1_A
  dsimp only
  refine View.canon_append_of_piecesOf (Val := Elt Ideal) (e := .f32) (fun _ => total X H A B E) [] [_]
    ⟨fun x => (pay3_at _ x).trans ?_, trivial⟩ y (View.cover_of_tiledL _ ![1, 1, 1] (by rfl) y)
  exact Finset.sum_congr rfl fun i _ => Finset.sum_congr rfl fun t _ =>
    steepA_at c arg2 harg2 arg3 harg3 arg4 harg4 arg5 harg5 arg6 harg6 arg9 arg10 arg11 x0 x1 x2 x3 x4 X H A B E hx0 hx1 hx2 hx3 hx4 i t

include hx0 hx1 hx2 hx3 hx4 in
/-- The block of the result, in the second case. -/
theorem out1_B_5_at (i : grid1.Coords) (h0 : ¬cond1_0 i) (h1 : cond1_1 i) (y : S1x192x1024.Idx) :
    out1_B_5 (F := Ideal) c i arg2 harg2 arg3 harg3 arg4 harg4 arg5 harg5 arg6 harg6 arg7 harg7 arg8 harg8 arg9 harg9 arg10 harg10 arg11 harg11 h0 h1 x0 x1 x2 x3 x4 xo6 y = (block X H A B E (y 1) (y 2) : EReal) := by
  unfold out1_B_5
  rw [View.read_writes_junk_eq_canon]
  unfold kernelRun1_B
  dsimp only
  exact stored_block arg2 harg2 x0 X H A B E hx0 _
    (bendB_at c arg2 harg2 arg3 harg3 arg4 harg4 arg5 harg5 arg6 harg6 arg9 arg10 arg11 x0 x1 x2 x3 x4 X H A B E hx0 hx1 hx2 hx3 hx4) y

include hx0 hx1 hx2 hx3 hx4 in
/-- The running sum, in the second case. -/
theorem out1_B_6_at (i : grid1.Coords) (h0 : ¬cond1_0 i) (h1 : cond1_1 i) (y : S1x1x1.Idx) :
    out1_B_6 (F := Ideal) c i arg2 harg2 arg3 harg3 arg4 harg4 arg5 harg5 arg6 harg6 arg7 harg7 arg8 harg8 arg9 harg9 arg10 harg10 arg11 harg11 h0 h1 x0 x1 x2 x3 x4 xo6 y = xo6 (ix3 0 0 0) + total X H A B E := by
  unfold out1_B_6
  rw [View.read_writes_junk_eq_canon]
  unfold kernelRun1_B
  dsimp only
  refine View.canon_append_of_piecesOf (Val := Elt Ideal) (e := .f32) (fun _ => xo6 (ix3 0 0 0) + total X H A B E) [] [_]
    ⟨fun x => (pay4_at _ _ x).trans (congrArg₂ (· + ·) ?_ ?_), trivial⟩ y ?_
  · rw [View.readAt_eq_ld, harg8.read_unread]
    refine View.ld_unit_apply_of _ _ _ _ _ _ fun a => ?_
    fin_cases a <;> simp
  · exact Finset.sum_congr rfl fun i _ => Finset.sum_congr rfl fun t _ =>
      steepB_at c arg2 harg2 arg3 harg3 arg4 harg4 arg5 harg5 arg6 harg6 arg9 arg10 arg11 x0 x1 x2 x3 x4 X H A B E hx0 hx1 hx2 hx3 hx4 i t
  · exact View.cover_of_tiledL _ ![1, 1, 1] (by rfl) y

end Cert.KernelIdeal.Gen

end
-- ==== Proof.Value.Host.lean ====
/-
  The arrays that @main makes of its arguments before the first call.
-/
module

public import proofs.«01_k».proof.Proof.Frame.KernelIdeal
public import proofs.«01_k».proof.Proof.Value.Net
public import proofs.«01_k».proof.Proof.Value.Region0
public import proofs.«01_k».proof.Proof.Value.Region1
public import Idealize.ShloMosaic.Lib.Claim
public import Idealize.ShloMosaic.Lib.StableHlo.Run

@[expose] public section

noncomputable section

namespace Cert.KernelIdeal.Gen

open Idealize.ShloMosaic Idealize.ShloMosaic.TcCoe Idealize.ShloMosaic.Tactic
open Cert.Flow

variable (m : (ℓ : Loc nD τ sig) → Buf (Elt Ideal) ℓ) (ρ : Dev nD → PrngReg) (c : Dev nD)

/-- The taps, each over a row of lanes. -/
theorem host_taps (D : Fin 3 → Fin 256 → Fin 3 → ℝ) (h : ∀ i f k, m ((c : Thread nD τ).loc main_arg4) (ix3 i f k) = (D i f k : EReal))
    (i k : Fin 3) (f : Fin 256) (n : Fin 128) : W1 m ρ c (Proc.devRef .tc main_v2) (ix4 i k f n) = (D i f k : EReal) := by
  have e : W1 m ρ c (Proc.devRef .tc main_v2) = (broadcastInDim S3x3x256x128 ![0, 1, 2, 3] bcast_S3x3x256x1_S3x3x256x128_0_1_2_3
      (broadcastInDim S3x3x256x1 ![0, 1, 2] bcast_S3x3x256_S3x3x256x1_0_1_2
        (transpose S3x3x256 [0, 2, 1] (m ((c : Thread nD τ).loc main_arg4)) transposes_S3x256x3_S3x3x256_0_2_1))) := by
    unfold_abbrev_sides
    after_results
  rw [e]
  pointwise []
  exact h i f k

variable (J : Fin 2784 → Fin 256 → ℝ) (h : ∀ r f, m ((c : Thread nD τ).loc main_arg12) (ix2 r f) = (J r f : EReal))

/-- The projection, as twenty-nine rows for each transformed channel. -/
def rows29 (v : FVec Ideal S2784x256 .f32) : FVec Ideal S29x96x256 .f32 :=
  transpose S29x96x256 [1, 0, 2] (shapeCast S96x29x256 v shapeCasts_S2784x256_S96x29x256) transposes_S96x29x256_S29x96x256_1_0_2

/-- Those rows at an index. -/
theorem rows29_at (v : FVec Ideal S2784x256 .f32) (k : Fin 29) (i : Fin 96) (f : Fin 256) :
    rows29 v (ix3 k i f) = v (ix2 ⟨29 * i.val + k.val, by omega⟩ f) := by
  pointwise [rows29]
  exact congrArg v (congrArg (ix2 · f) (Fin.ext (by simp; omega)))

include h in
/-- The rows of the widths. -/
theorem host_widths (k : Fin 10) (i : Fin 96) (f : Fin 256) : W1 m ρ c (Proc.devRef .tc main_v7) (ix3 k i f) = (rowsW J k i f : EReal) := by
  have e : W1 m ρ c (Proc.devRef .tc main_v7) = (mulf (extractStridedSlice S10x96x256 ![0, 0, 0] (rows29 (m ((c : Thread nD τ).loc main_arg12))) slices_S29x96x256_S10x96x256_0_0_0)
        (broadcastInDim S10x96x256 ![] bcast_S_S10x96x256 (constant S_ .f32 0x3D800000#32)) : FVec Ideal S10x96x256 .f32) := by
    unfold_abbrev_sides
    after_results
    rfl
  rw [e]
  pointwise []
  rw [rows29_at]
  refine (congrArg₂ (fun a b : EReal => a * b) (h _ f) word_sixteenth).trans ?_
  dsimp only
  rw [← EReal.coe_mul]
  unfold rowsW
  refine congrArg _ (congrArg (· * _) (congrArg (J · f) (Fin.ext (by simp))))

include h in
/-- The rows of the heights. -/
theorem host_heights (k : Fin 10) (i : Fin 96) (f : Fin 256) : W1 m ρ c (Proc.devRef .tc main_v10) (ix3 k i f) = (rowsH J k i f : EReal) := by
  have e : W1 m ρ c (Proc.devRef .tc main_v10) = (mulf (extractStridedSlice S10x96x256 ![10, 0, 0] (rows29 (m ((c : Thread nD τ).loc main_arg12))) slices_S29x96x256_S10x96x256_10_0_0)
        (broadcastInDim S10x96x256 ![] bcast_S_S10x96x256 (constant S_ .f32 0x3D800000#32)) : FVec Ideal S10x96x256 .f32) := by
    unfold_abbrev_sides
    after_results
    rfl
  rw [e]
  pointwise []
  rw [rows29_at]
  refine (congrArg₂ (fun a b : EReal => a * b) (h _ f) word_sixteenth).trans ?_
  dsimp only
  rw [← EReal.coe_mul]
  unfold rowsH
  refine congrArg _ (congrArg (· * _) (congrArg (J · f) (Fin.ext (by simp; omega))))

include h in
/-- The rows of the slopes. -/
theorem host_slopes (k : Fin 9) (i : Fin 96) (f : Fin 256) : W1 m ρ c (Proc.devRef .tc main_v11) (ix3 k i f) = (rowsD J k i f : EReal) := by
  have e : W1 m ρ c (Proc.devRef .tc main_v11) = (extractStridedSlice S9x96x256 ![20, 0, 0] (rows29 (m ((c : Thread nD τ).loc main_arg12))) slices_S29x96x256_S9x96x256_20_0_0 : FVec Ideal S9x96x256 .f32) := by
    unfold_abbrev_sides
    after_results
    rfl
  rw [e]
  pointwise []
  rw [rows29_at]
  refine (h _ f).trans ?_
  unfold rowsD
  refine congrArg _ (congrArg (J · f) (Fin.ext (by simp; omega)))

end Cert.KernelIdeal.Gen

end
-- ==== Proof.Value.Arrays.lean ====
/-
  The arrays that the two calls leave, and the two results.
-/
module

public import proofs.«01_k».proof.Proof.Value.Host

@[expose] public section

set_option maxRecDepth 16384

noncomputable section

namespace Cert.KernelIdeal.Gen

open Idealize.ShloMosaic Idealize.ShloMosaic.TcCoe Idealize.ShloMosaic.Tactic
open Idealize.ShloMosaic.Pipeline (Dat Cfg Window)
open Cert.Flow

variable (m : (ℓ : Loc nD τ sig) → Buf (Elt Ideal) ℓ) (ρ : Dev nD → PrngReg) (c : Dev nD)
  (x : Fin 16 → Fin 192 → Fin 2048 → ℝ) (PW : Fin 256 → Fin 96 → ℝ) (DW : Fin 3 → Fin 256 → Fin 3 → ℝ)
  (P : Fin 3 → Fin 256 → Fin 256 → ℝ) (J : Fin 2784 → Fin 256 → ℝ)
  (h0 : ∀ b j t, m ((c : Thread nD τ).loc main_arg0) (ix3 b j t) = (x b j t : EReal))
  (h2 : ∀ f i, m ((c : Thread nD τ).loc main_arg2) (ix2 f i) = (PW f i : EReal))
  (h4 : ∀ i f k, m ((c : Thread nD τ).loc main_arg4) (ix3 i f k) = (DW i f k : EReal))
  (h6 : ∀ i o k, m ((c : Thread nD τ).loc main_arg6) (ix3 i o k) = (P i o k : EReal))
  (h12 : ∀ r f, m ((c : Thread nD τ).loc main_arg12) (ix2 r f) = (J r f : EReal))

/-- The blocks' places in the first call. -/
theorem idx0 : ∀ t : Fin cfg0.N, win0_0.index t = ![t.val, 0, 0] ∧ win0_1.index t = ![0, 0] ∧ win0_2.index t = ![0, 0, 0, 0]
    ∧ win0_3.index t = ![0, 0, 0] ∧ win0_4.index t = ![t.val, 0, 0] := by
  decide +kernel

include h0 in
/-- The first call's block of the argument. -/
theorem blk0_0 (t : Fin cfg0.N) (i : Fin 96) (u : Fin 2048) :
    iblk0 (V1 m ρ) c 0 t (ix3 0 i u) = (x ⟨t.val, t.isLt⟩ ⟨i.val, by omega⟩ u : EReal) := by
  obtain ⟨e0, e1, e2, e3, e4⟩ := idx0 t
  refine Eq.trans ?_ (h0 _ _ _)
  refine Eq.trans ?_ (congrFun (W1_args m ρ c main_arg0 (by simp [argRefs])) _)
  blk_ext [iblk0, e0]

include h2 in
/-- The first call's matrix of the first projection. -/
theorem blk0_1 (t : Fin cfg0.N) (f : Fin 256) (i : Fin 96) : iblk0 (V1 m ρ) c 1 t (ix2 f i) = (PW f i : EReal) := by
  obtain ⟨e0, e1, e2, e3, e4⟩ := idx0 t
  refine Eq.trans ?_ (h2 _ _)
  refine Eq.trans ?_ (congrFun (W1_args m ρ c main_arg2 (by simp [argRefs])) _)
  blk_ext [iblk0, e1]

include h4 in
/-- The first call's taps. -/
theorem blk0_2 (t : Fin cfg0.N) (i k : Fin 3) (f : Fin 256) (n : Fin 128) :
    iblk0 (V1 m ρ) c 2 t (ix4 i k f n) = (DW i f k : EReal) := by
  obtain ⟨e0, e1, e2, e3, e4⟩ := idx0 t
  refine Eq.trans ?_ (host_taps m ρ c DW h4 i k f n)
  blk_ext [iblk0, e2]

include h6 in
/-- The first call's mixing matrices. -/
theorem blk0_3 (t : Fin cfg0.N) (i : Fin 3) (o k : Fin 256) : iblk0 (V1 m ρ) c 3 t (ix3 i o k) = (P i o k : EReal) := by
  obtain ⟨e0, e1, e2, e3, e4⟩ := idx0 t
  refine Eq.trans ?_ (h6 _ _ _)
  refine Eq.trans ?_ (congrFun (W1_args m ρ c main_arg6 (by simp [argRefs])) _)
  blk_ext [iblk0, e3]

include h0 h2 h4 h6 in
/-- The hidden channels, as the first call leaves them. -/
theorem hidden_at (y : S16x256x2048.Idx) :
    (dat0 (V1 m ρ) c).arrAt 4 cfg0.N y = (hid x PW DW P (y 0) (y 1) (y 2) : EReal) := by
  suffices e : (dat0 (V1 m ρ) c).arrAt 4 cfg0.N = fun y : S16x256x2048.Idx => (hid x PW DW P (y 0) (y 1) (y 2) : EReal) from congrFun e y
  refine (dat0 (V1 m ρ) c).arrAt_eq_of_covers 4 _ (by decide +kernel) fun t hf y => ?_
  obtain ⟨e0, e1, e2, e3, e4⟩ := idx0 t
  blk_simp [e4]
  rw [after0_4]
  unfold outsAt0
  refine (out0_A_4_at c _ _ _ _ _ _ _ _ _ _ _ _ _ _ _ _ (fun i u => x ⟨t.val, t.isLt⟩ ⟨i.val, by omega⟩ u) PW DW P
    (blk0_0 m ρ c x h0 t) (blk0_1 m ρ c PW h2 t) (fun i f k n => blk0_2 m ρ c DW h4 t i k f n) (blk0_3 m ρ c P h6 t) (grid0.coords t) y).trans ?_
  have i0 : (win0_4.blk t).view.emb y 0 = (⟨t.val, t.isLt⟩ : Fin 16) := Fin.ext (by blk_simp [e4])
  have i1 : (win0_4.blk t).view.emb y 1 = y 1 := Fin.ext (by blk_simp [e4])
  have i2 : (win0_4.blk t).view.emb y 2 = y 2 := Fin.ext (by blk_simp [e4])
  rw [i0, i1, i2]
  rfl

/-- The blocks' places in the second call. -/
theorem idx1 : ∀ t : Fin cfg1.N, win1_0.index t = ![t.val / 2, 0, t.val % 2] ∧ win1_1.index t = ![t.val / 2, 0, t.val % 2]
    ∧ win1_2.index t = ![0, 0, 0] ∧ win1_3.index t = ![0, 0, 0] ∧ win1_4.index t = ![0, 0, 0]
    ∧ win1_5.index t = ![t.val / 2, 0, t.val % 2] ∧ win1_6.index t = ![t.val / 2, 0, 0] := by
  decide +kernel

/-- The time that a place of a chunk stands for. -/
def at1 (t : Fin cfg1.N) (u : Fin 1024) : Fin 2048 := ⟨t.val % 2 * 1024 + u.val, by omega⟩

/-- The member of the batch that a grid point of the second call serves. -/
def mem1 (t : Fin cfg1.N) : Fin 16 := ⟨t.val / 2, by have : t.val < 32 := t.isLt; omega⟩

include h0 in
/-- The second call's block of the argument. -/
theorem blk1_0 (t : Fin cfg1.N) (j : Fin 192) (u : Fin 1024) :
    iblk1 (V2 m ρ) c 0 t (ix3 0 j u) = (x (mem1 t) j (at1 t u) : EReal) := by
  obtain ⟨e0, e1, e2, e3, e4, e5, e6⟩ := idx1 t
  refine Eq.trans ?_ (h0 _ _ _)
  refine Eq.trans ?_ (congrFun (W2_args m ρ c main_arg0 (by simp [argRefs])) _)
  unfold mem1 at1
  blk_ext [iblk1, e0]

include h0 h2 h4 h6 in
/-- The second call's block of the hidden channels. -/
theorem blk1_1 (t : Fin cfg1.N) (f : Fin 256) (u : Fin 1024) :
    iblk1 (V2 m ρ) c 1 t (ix3 0 f u) = (hid x PW DW P (mem1 t) f (at1 t u) : EReal) := by
  obtain ⟨e0, e1, e2, e3, e4, e5, e6⟩ := idx1 t
  refine Eq.trans ?_ (hidden_at m ρ c x PW DW P h0 h2 h4 h6 (ix3 (mem1 t) f (at1 t u)))
  refine Eq.trans ?_ (congrFun (W2_arr m ρ c 4) _)
  unfold mem1 at1
  blk_ext [iblk1, e1]

include h12 in
/-- The second call's rows of the widths. -/
theorem blk1_2 (t : Fin cfg1.N) (k : Fin 10) (i : Fin 96) (f : Fin 256) :
    iblk1 (V2 m ρ) c 2 t (ix3 k i f) = (rowsW J k i f : EReal) := by
  obtain ⟨e0, e1, e2, e3, e4, e5, e6⟩ := idx1 t
  refine Eq.trans ?_ (host_widths m ρ c J h12 k i f)
  refine Eq.trans ?_ (congrFun (W2_of m ρ c main_v7 (by decide)) _)
  blk_ext [iblk1, e2]

include h12 in
/-- The second call's rows of the heights. -/
theorem blk1_3 (t : Fin cfg1.N) (k : Fin 10) (i : Fin 96) (f : Fin 256) :
    iblk1 (V2 m ρ) c 3 t (ix3 k i f) = (rowsH J k i f : EReal) := by
  obtain ⟨e0, e1, e2, e3, e4, e5, e6⟩ := idx1 t
  refine Eq.trans ?_ (host_heights m ρ c J h12 k i f)
  refine Eq.trans ?_ (congrFun (W2_of m ρ c main_v10 (by decide)) _)
  blk_ext [iblk1, e3]

include h12 in
/-- The second call's rows of the slopes. -/
theorem blk1_4 (t : Fin cfg1.N) (k : Fin 9) (i : Fin 96) (f : Fin 256) :
    iblk1 (V2 m ρ) c 4 t (ix3 k i f) = (rowsD J k i f : EReal) := by
  obtain ⟨e0, e1, e2, e3, e4, e5, e6⟩ := idx1 t
  refine Eq.trans ?_ (host_slopes m ρ c J h12 k i f)
  refine Eq.trans ?_ (congrFun (W2_of m ρ c main_v11 (by decide)) _)
  blk_ext [iblk1, e4]

/-- A grid point's block, as a part of the result. -/
theorem block_eq (t : Fin cfg1.N) (h : Fin 16 → Fin 256 → Fin 2048 → ℝ) (y : S1x192x1024.Idx) :
    (block (fun j u => x (mem1 t) j (at1 t u)) (fun f u => h (mem1 t) f (at1 t u)) (rowsW J) (rowsH J) (rowsD J) (y 1) (y 2) : EReal)
      = (outR x h J (mem1 t) (y 1) (at1 t (y 2)) : EReal) := by
  refine congrArg Real.toEReal ?_
  unfold block outR
  rfl

/-- A grid point's sum, as a part of the result. -/
theorem total_eq (t : Fin cfg1.N) (h : Fin 16 → Fin 256 → Fin 2048 → ℝ) :
    total (fun j u => x (mem1 t) j (at1 t u)) (fun f u => h (mem1 t) f (at1 t u)) (rowsW J) (rowsH J) (rowsD J)
      = ∑ i : Fin 96, ∑ u : Fin 1024, ladR x h J (mem1 t) i (at1 t u) := rfl

include h0 h2 h4 h6 h12 in
/-- What a grid point of the first kind leaves in its block of the first result. -/
theorem outsA5 (t : Fin cfg1.N) (h0' : t.val % 2 = 0) (h1 : ¬t.val % 2 = 1) (y : S1x192x1024.Idx) : (outsAt1 (V2 m ρ) c t.val t.isLt).1 y
    = (outR x (hid x PW DW P) J (mem1 t) (y 1) (at1 t (y 2)) : EReal) := by
  have e := out1_A_5_at c (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _)
    (iblk1 (V2 m ρ) c 0 t) (iblk1 (V2 m ρ) c 1 t) (iblk1 (V2 m ρ) c 2 t) (iblk1 (V2 m ρ) c 3 t) (iblk1 (V2 m ρ) c 4 t)
    (fun j u => x (mem1 t) j (at1 t u)) (fun f u => hid x PW DW P (mem1 t) f (at1 t u)) (rowsW J) (rowsH J) (rowsD J)
    (blk1_0 m ρ c x h0 t) (blk1_1 m ρ c x PW DW P h0 h2 h4 h6 t) (blk1_2 m ρ c J h12 t) (blk1_3 m ρ c J h12 t) (blk1_4 m ρ c J h12 t)
    (grid1.coords t) ((hcond1_0 t).mpr h0') (fun h => h1 ((hcond1_1 t).mp h)) y
  replace e := Eq.trans e (block_eq x J t (hid x PW DW P) y)
  have e' := congrFun (congrArg Prod.fst (outsAt1_A (V2 m ρ) c t h0' h1)) y
  dsimp only at e'
  rw [e']
  exact e

include h0 h2 h4 h6 h12 in
/-- What a grid point of the first kind leaves in its block of sums. -/
theorem outsA6 (t : Fin cfg1.N) (h0' : t.val % 2 = 0) (h1 : ¬t.val % 2 = 1) (y : S1x1x1.Idx) : (outsAt1 (V2 m ρ) c t.val t.isLt).2 y
    = ∑ i : Fin 96, ∑ u : Fin 1024, ladR x (hid x PW DW P) J (mem1 t) i (at1 t u) := by
  have e := out1_A_6_at c (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _)
    (iblk1 (V2 m ρ) c 0 t) (iblk1 (V2 m ρ) c 1 t) (iblk1 (V2 m ρ) c 2 t) (iblk1 (V2 m ρ) c 3 t) (iblk1 (V2 m ρ) c 4 t)
    (fun j u => x (mem1 t) j (at1 t u)) (fun f u => hid x PW DW P (mem1 t) f (at1 t u)) (rowsW J) (rowsH J) (rowsD J)
    (blk1_0 m ρ c x h0 t) (blk1_1 m ρ c x PW DW P h0 h2 h4 h6 t) (blk1_2 m ρ c J h12 t) (blk1_3 m ρ c J h12 t) (blk1_4 m ρ c J h12 t)
    (grid1.coords t) ((hcond1_0 t).mpr h0') (fun h => h1 ((hcond1_1 t).mp h)) y
  exact (congrFun (congrArg Prod.snd (outsAt1_A (V2 m ρ) c t h0' h1)) y).trans (e.trans (total_eq x J t (hid x PW DW P)))

include h0 h2 h4 h6 h12 in
/-- What a grid point of the second kind leaves in its block of the first result. -/
theorem outsB5 (t : Fin cfg1.N) (h0' : ¬t.val % 2 = 0) (h1 : t.val % 2 = 1) (y : S1x192x1024.Idx) : (outsAt1 (V2 m ρ) c t.val t.isLt).1 y
    = (outR x (hid x PW DW P) J (mem1 t) (y 1) (at1 t (y 2)) : EReal) := by
  have e := out1_B_5_at c (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _)
    (iblk1 (V2 m ρ) c 0 t) (iblk1 (V2 m ρ) c 1 t) (iblk1 (V2 m ρ) c 2 t) (iblk1 (V2 m ρ) c 3 t) (iblk1 (V2 m ρ) c 4 t) (outsAt1 (V2 m ρ) c (t.val - 1) (Nat.lt_of_le_of_lt (Nat.sub_le _ _) t.isLt)).2
    (fun j u => x (mem1 t) j (at1 t u)) (fun f u => hid x PW DW P (mem1 t) f (at1 t u)) (rowsW J) (rowsH J) (rowsD J)
    (blk1_0 m ρ c x h0 t) (blk1_1 m ρ c x PW DW P h0 h2 h4 h6 t) (blk1_2 m ρ c J h12 t) (blk1_3 m ρ c J h12 t) (blk1_4 m ρ c J h12 t)
    (grid1.coords t) (fun h => h0' ((hcond1_0 t).mp h)) ((hcond1_1 t).mpr h1) y
  replace e := Eq.trans e (block_eq x J t (hid x PW DW P) y)
  have e' := congrFun (congrArg Prod.fst (outsAt1_B (V2 m ρ) c t h0' h1)) y
  dsimp only at e'
  rw [e']
  exact e

include h0 h2 h4 h6 h12 in
/-- What a grid point of the second kind leaves in its block of sums. -/
theorem outsB6 (t : Fin cfg1.N) (h0' : ¬t.val % 2 = 0) (h1 : t.val % 2 = 1) (y : S1x1x1.Idx) : (outsAt1 (V2 m ρ) c t.val t.isLt).2 y
    = (outsAt1 (V2 m ρ) c (t.val - 1) (Nat.lt_of_le_of_lt (Nat.sub_le _ _) t.isLt)).2 (ix3 0 0 0)
      + ∑ i : Fin 96, ∑ u : Fin 1024, ladR x (hid x PW DW P) J (mem1 t) i (at1 t u) := by
  have e := out1_B_6_at c (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _)
    (iblk1 (V2 m ρ) c 0 t) (iblk1 (V2 m ρ) c 1 t) (iblk1 (V2 m ρ) c 2 t) (iblk1 (V2 m ρ) c 3 t) (iblk1 (V2 m ρ) c 4 t) (outsAt1 (V2 m ρ) c (t.val - 1) (Nat.lt_of_le_of_lt (Nat.sub_le _ _) t.isLt)).2
    (fun j u => x (mem1 t) j (at1 t u)) (fun f u => hid x PW DW P (mem1 t) f (at1 t u)) (rowsW J) (rowsH J) (rowsD J)
    (blk1_0 m ρ c x h0 t) (blk1_1 m ρ c x PW DW P h0 h2 h4 h6 t) (blk1_2 m ρ c J h12 t) (blk1_3 m ρ c J h12 t) (blk1_4 m ρ c J h12 t)
    (grid1.coords t) (fun h => h0' ((hcond1_0 t).mp h)) ((hcond1_1 t).mpr h1) y
  exact (congrFun (congrArg Prod.snd (outsAt1_B (V2 m ρ) c t h0' h1)) y).trans (e.trans (congrArg _ (total_eq x J t (hid x PW DW P))))

include h0 h2 h4 h6 h12 in
/-- The first result, as the second call leaves it. -/
theorem result_at (y : S16x192x2048.Idx) :
    (dat1 (V2 m ρ) c).arrAt 5 cfg1.N y = (outR x (hid x PW DW P) J (y 0) (y 1) (y 2) : EReal) := by
  suffices e : (dat1 (V2 m ρ) c).arrAt 5 cfg1.N
      = fun y : S16x192x2048.Idx => (outR x (hid x PW DW P) J (y 0) (y 1) (y 2) : EReal) from congrFun e y
  refine (dat1 (V2 m ρ) c).arrAt_eq_of_covers 5 _ (by decide +kernel) fun t hf y => ?_
  obtain ⟨e0, e1, e2, e3, e4, e5, e6⟩ := idx1 t
  blk_simp [e5]
  rw [after1_5]
  have e : (outsAt1 (V2 m ρ) c t.val t.isLt).1 y = (outR x (hid x PW DW P) J (mem1 t) (y 1) (at1 t (y 2)) : EReal) := by
    rcases Nat.mod_two_eq_zero_or_one t.val with hA | hB
    · exact outsA5 m ρ c x PW DW P J h0 h2 h4 h6 h12 t hA (by omega) y
    · exact outsB5 m ρ c x PW DW P J h0 h2 h4 h6 h12 t (by omega) hB y
  refine e.trans ?_
  have i0 : (win1_5.blk t).view.emb y 0 = mem1 t := Fin.ext (by unfold mem1; blk_simp [e5])
  have i1 : (win1_5.blk t).view.emb y 1 = y 1 := Fin.ext (by blk_simp [e5])
  have i2 : (win1_5.blk t).view.emb y 2 = at1 t (y 2) := Fin.ext (by unfold at1; blk_simp [e5])
  rw [i0, i1, i2]

include h0 h2 h4 h6 h12 in
/-- The sums, as the second call leaves them. -/
theorem sums_at (y : S16x1x1.Idx) :
    (dat1 (V2 m ρ) c).arrAt 6 cfg1.N y = sumR x (hid x PW DW P) J (y 0) := by
  suffices e : (dat1 (V2 m ρ) c).arrAt 6 cfg1.N
      = fun y : S16x1x1.Idx => sumR x (hid x PW DW P) J (y 0) from congrFun e y
  refine (dat1 (V2 m ρ) c).arrAt_eq_of_covers 6 _ (by decide +kernel) fun t hf y => ?_
  obtain ⟨e0, e1, e2, e3, e4, e5, e6⟩ := idx1 t
  have hB : t.val % 2 = 1 := (flush1_6 t).mp hf
  blk_simp [e6]
  rw [after1_6]
  have i0 : (win1_6.blk t).view.emb y 0 = mem1 t := Fin.ext (by unfold mem1; blk_simp [e6])
  rw [i0]
  refine (outsB6 m ρ c x PW DW P J h0 h2 h4 h6 h12 t (by omega) hB y).trans ?_
  have hlt : t.val - 1 < cfg1.N := Nat.lt_of_le_of_lt (Nat.sub_le _ _) t.isLt
  have e := outsA6 m ρ c x PW DW P J h0 h2 h4 h6 h12 ⟨t.val - 1, hlt⟩ (show (t.val - 1) % 2 = 0 by omega)
    (show ¬ (t.val - 1) % 2 = 1 by omega) (ix3 0 0 0)
  refine (congrArg (· + _) e).trans ?_
  have m0 : mem1 ⟨t.val - 1, hlt⟩ = mem1 t := Fin.ext (by unfold mem1; simp only; omega)
  have p0 : ∀ u : Fin 1024, at1 ⟨t.val - 1, hlt⟩ u = ⟨u.val, by omega⟩ := fun u => Fin.ext (by unfold at1; simp only; omega)
  have p1 : ∀ u : Fin 1024, at1 t u = ⟨1024 + u.val, by omega⟩ := fun u => Fin.ext (by unfold at1; simp only; omega)
  simp only [m0, p0, p1]
  exact (sumR_halves x (hid x PW DW P) J (mem1 t)).symm

include h0 h2 h4 h6 h12 in
/-- The first result at the end. -/
theorem final_out : W4 m ρ c (Proc.devRef .tc main_v13_0) = fun y : S16x192x2048.Idx => (outR x (hid x PW DW P) J (y 0) (y 1) (y 2) : EReal) := by
  funext y
  refine (congrFun (W4_of m ρ c main_v13_0 (by decide)) y).trans ((congrFun (W3_arr m ρ c 5) y).trans ?_)
  exact result_at m ρ c x PW DW P J h0 h2 h4 h6 h12 y

include h0 h2 h4 h6 h12 in
/-- The second result at the end. -/
theorem final_sum : W4 m ρ c (Proc.devRef .tc main_v14) = fun y : S16.Idx => sumR x (hid x PW DW P) J (y 0) := by
  have e : W4 m ρ c (Proc.devRef .tc main_v14) = (shapeCast S16 (W3 m ρ c (Proc.devRef .tc main_v13_1)) shapeCasts_S16x1x1_S16 : FVec Ideal S16 .f32) := by
    unfold_abbrev_sides
    after_results
    rfl
  funext y
  rw [e]
  pointwise []
  refine (congrFun (W3_arr m ρ c 6) _).trans ?_
  exact sums_at m ρ c x PW DW P J h0 h2 h4 h6 h12 (ix3 (y 0) 0 0)

end Cert.KernelIdeal.Gen

end
-- ==== Proof.Value.Pre.lean ====
/-
  What the precondition says of the arguments, element by element.
-/
module

public import proofs.«01_k».proof.Pre_plain_arguments
public import proofs.«01_k».proof.Proof.Value.Consts
public import Idealize.ShloMosaic.Lib.ReduceAll
public import Idealize.ShloMosaic.Lib.Affine
public import Idealize.ShloMosaic.Lib.Pointwise

@[expose] public section

noncomputable section

namespace Cert.Pre_plain_arguments

open Idealize.ShloMosaic Cert.Flow

/-- The printed facts about the predicate's shapes. -/
theorem facts : Facts := by
  constructor <;> decide

/-- A scalar has one index. -/
instance : Subsingleton S_.Idx := ⟨fun a b => funext fun k => k.elim0⟩

/-- A comparison that came out true holds. -/
theorem truth {p : Prop} [Decidable p] (h : BitVec.ofBool (decide p) = 1#1) : p := by
  by_contra hn
  rw [decide_eq_false hn] at h
  exact absurd h (by decide)

/-- A conjunction over an array of comparisons with a constant. -/
theorem all_eq {s : Shape} {axes : List (Fin s.rank)} (a : FVec Ideal s .f32) (w : BitVec 32) (hb : S_.BroadcastsInDim s (![] : Fin 0 → Fin s.rank))
    (hr : s.ReducesTo axes S_) (hu : 0 < S_.numel) (j : S_.Idx)
    (h : Host.reduce IntOp.andi (cmpf .oeq a (broadcastInDim s ![] hb (constant S_ .f32 w))) (constantI S_ 1 1#1) hr hu j = 1#1) (i : s.Idx) :
    a i = Ideal.ofBits .f32 w := by
  have e : FloatOps.cmpf (F := Ideal) .oeq (a i) (Ideal.ofBits .f32 w) = 1#1 := Host.reduce_andi_all _ _ hr hu j h i
  rw [Ideal.cmpf_def] at e
  exact truth e

/-- A conjunction over an array of bounds on sizes. -/
theorem all_fin {s : Shape} {axes : List (Fin s.rank)} (a : FVec Ideal s .f32) (hb : S_.BroadcastsInDim s (![] : Fin 0 → Fin s.rank))
    (hr : s.ReducesTo axes S_) (hu : 0 < S_.numel) (j : S_.Idx)
    (h : Host.reduce IntOp.andi (cmpf .olt (Host.absf a) (broadcastInDim s ![] hb (constant S_ .f32 0x7F800000#32))) (constantI S_ 1 1#1) hr hu j = 1#1) (i : s.Idx) :
    a i = ((a i).toReal : EReal) := by
  have e : FloatOps.cmpf (F := Ideal) .olt (max (a i) (-(a i))) (Ideal.ofBits .f32 0x7F800000#32) = 1#1 := Host.reduce_andi_all _ _ hr hu j h i
  rw [Ideal.cmpf_def, word_top] at e
  have e' : max (a i) (-(a i)) < (⊤ : EReal) := truth e
  rw [max_lt_iff] at e'
  refine (EReal.coe_toReal e'.1.ne fun hbot => ?_).symm
  rw [hbot] at e'
  simp at e'

/-- What the precondition says. -/
theorem said [Facts] (a0 : FVec Ideal S16x192x2048 .f32) (a1 : FVec Ideal S16x1x2048 .f32) (a2 : FVec Ideal S256x96 .f32) (a3 : FVec Ideal S256 .f32)
    (a4 : FVec Ideal S3x256x3 .f32) (a5 : FVec Ideal S3x256 .f32) (a6 : FVec Ideal S3x256x256 .f32) (a7 a8 a9 a10 a11 : FVec Ideal S3x256 .f32)
    (a12 : FVec Ideal S2784x256 .f32) (a13 : FVec Ideal S2784 .f32)
    (h : fn a0 a1 a2 a3 a4 a5 a6 a7 a8 a9 a10 a11 a12 a13 = fun _ => 1#1) :
    (∀ i, a1 i = 1) ∧ (∀ i, a8 i = 1) ∧ (∀ i, a10 i = 1)
    ∧ (∀ i, a3 i = 0) ∧ (∀ i, a5 i = 0) ∧ (∀ i, a7 i = 0) ∧ (∀ i, a9 i = 0) ∧ (∀ i, a11 i = 0) ∧ (∀ i, a13 i = 0)
    ∧ (∀ i, a0 i = ((a0 i).toReal : EReal)) ∧ (∀ i, a2 i = ((a2 i).toReal : EReal)) ∧ (∀ i, a4 i = ((a4 i).toReal : EReal))
    ∧ (∀ i, a6 i = ((a6 i).toReal : EReal)) ∧ (∀ i, a12 i = ((a12 i).toReal : EReal)) := by
  have e := congrFun h (fun k => k.elim0)
  unfold fn fn_part1 fn_part2 fn_part3 at e
  dsimp only at e
  have split : ∀ (u v : IVec S_ 1) (j : S_.Idx), andi u v j = 1#1 → u j = 1#1 ∧ v j = 1#1 := fun u v j h => IntOp.andi_eq_one.mp h
  obtain ⟨e, hf⟩ := split _ _ _ e
  obtain ⟨ho, hz⟩ := split _ _ _ e
  obtain ⟨ho, h10⟩ := split _ _ _ ho
  obtain ⟨h1, h8⟩ := split _ _ _ ho
  obtain ⟨hz, h13⟩ := split _ _ _ hz
  obtain ⟨hz, h11⟩ := split _ _ _ hz
  obtain ⟨hz, h9⟩ := split _ _ _ hz
  obtain ⟨hz, h7⟩ := split _ _ _ hz
  obtain ⟨h3, h5⟩ := split _ _ _ hz
  obtain ⟨hf, h12⟩ := split _ _ _ hf
  obtain ⟨hf, h6⟩ := split _ _ _ hf
  obtain ⟨hf, h4⟩ := split _ _ _ hf
  obtain ⟨h0, h2⟩ := split _ _ _ hf
  have one : ∀ {z : EReal}, z = Ideal.ofBits .f32 0x3F800000#32 → z = 1 := fun h => h.trans (word_one.trans (by norm_num))
  have zero : ∀ {z : EReal}, z = Ideal.ofBits .f32 0x00000000#32 → z = 0 := fun h => h.trans word_zero
  exact ⟨fun i => one (all_eq _ _ _ _ _ _ h1 i), fun i => one (all_eq _ _ _ _ _ _ h8 i), fun i => one (all_eq _ _ _ _ _ _ h10 i),
    fun i => zero (all_eq _ _ _ _ _ _ h3 i), fun i => zero (all_eq _ _ _ _ _ _ h5 i), fun i => zero (all_eq _ _ _ _ _ _ h7 i),
    fun i => zero (all_eq _ _ _ _ _ _ h9 i), fun i => zero (all_eq _ _ _ _ _ _ h11 i), fun i => zero (all_eq _ _ _ _ _ _ h13 i),
    fun i => all_fin _ _ _ _ _ h0 i, fun i => all_fin _ _ _ _ _ h2 i, fun i => all_fin _ _ _ _ _ h4 i,
    fun i => all_fin _ _ _ _ _ h6 i, fun i => all_fin _ _ _ _ _ h12 i⟩

end Cert.Pre_plain_arguments

end
-- ==== Proof.Value.RefStack.lean ====
/- The reference's convolution stack, one operation group at a time, read at a place. -/
module

public import proofs.«01_k».proof.Proof.Gen.ReferenceIdeal.Read
public import proofs.«01_k».proof.Proof.Value.Net
public import Idealize.ShloMosaic.Lib.Pointwise

@[expose] public section

noncomputable section

namespace Cert.Ref

open Cert.ReferenceIdeal Cert.ReferenceIdeal.Gen Cert.ReferenceIdeal.Read Idealize.ShloMosaic Idealize.SL.Sem Cert.Flow

/-- The mean over the channels. -/
def meanB (y : FVec Ideal S16x256x2048 .f32) : FVec Ideal S16x1x2048 .f32 :=
  Host.divf (broadcastInDim S16x1x2048 ![0, 2] bcast_S16x2048_S16x1x2048_0_2
      (Host.reduceAdd y (constant S_ .f32 0x00000000#32) reducesTo_S16x256x2048_S16x2048_d1 h_S_))
    (broadcastInDim S16x1x2048 ![] bcast_S_S16x1x2048 (constant S_ .f32 0x43800000#32))

/-- The values less their mean over the channels. -/
def centB (y : FVec Ideal S16x256x2048 .f32) : FVec Ideal S16x256x2048 .f32 :=
  subf y (broadcastInDim S16x256x2048 ![0, 1, 2] bcast_S16x1x2048_S16x256x2048_0_1_2 (meanB y))

/-- The norm over the channels, scaled and shifted. -/
def normB (y : FVec Ideal S16x256x2048 .f32) (g b : FVec Ideal S256 .f32) : FVec Ideal S16x256x2048 .f32 :=
  addf (mulf (Host.divf (centB y) (broadcastInDim S16x256x2048 ![0, 1, 2] bcast_S16x1x2048_S16x256x2048_0_1_2
        (Host.sqrt (addf (meanB (mulf (centB y) (centB y)))
          (broadcastInDim S16x1x2048 ![] bcast_S_S16x1x2048 (constant S_ .f32 0x3727C5AC#32))))))
      (broadcastInDim S16x256x2048 ![0, 1, 2] bcast_S1x256x1_S16x256x2048_0_1_2 (broadcastInDim S1x256x1 ![1] bcast_S256_S1x256x1_1 g)))
    (broadcastInDim S16x256x2048 ![0, 1, 2] bcast_S1x256x1_S16x256x2048_0_1_2 (broadcastInDim S1x256x1 ![1] bcast_S256_S1x256x1_1 b))

/-- The gelu. -/
def geluB (y : FVec Ideal S16x256x2048 .f32) : FVec Ideal S16x256x2048 .f32 :=
  mulf (mulf (broadcastInDim S16x256x2048 ![] bcast_S_S16x256x2048 (constant S_ .f32 0x3F000000#32)) y)
    (addf (broadcastInDim S16x256x2048 ![] bcast_S_S16x256x2048 (constant S_ .f32 0x3F800000#32))
      (Host.erf (mulf y (broadcastInDim S16x256x2048 ![] bcast_S_S16x256x2048 (constant S_ .f32 0x3F3504F3#32)))))

/-- The channels mixed. -/
def mixB (y : FVec Ideal S16x256x2048 .f32) (p : FVec Ideal S256x256 .f32) (b : FVec Ideal S256 .f32) : FVec Ideal S16x256x2048 .f32 :=
  addf (transpose S16x256x2048 [0, 2, 1] (Host.dotGeneral dot_S16x256x2048_S256x256_S16x2048x256_1_1_02_0_n_n none y p)
      transposes_S16x2048x256_S16x256x2048_0_2_1)
    (broadcastInDim S16x256x2048 ![0, 1, 2] bcast_S1x256x1_S16x256x2048_0_1_2 (broadcastInDim S1x256x1 ![1] bcast_S256_S1x256x1_1 b))

/-- The word zero as a real. -/
theorem zero_word : FloatOps.sitofp (F := Ideal) .f32 0#32 = ((0 : ℝ) : EReal) := by
  exact congrArg (fun r : ℝ => (r : EReal)) (by norm_num)

/-- The norm over the channels, as the reference forms it, is the norm of the reals. -/
theorem nrm_ref (v : Fin 256 → ℝ) (f : Fin 256) :
    Ideal.div ((v f : EReal) - Ideal.div (∑ k, (v k : EReal)) ((256 : ℝ) : EReal))
      (Ideal.sqrt (Ideal.div (∑ k, ((v k : EReal) - Ideal.div (∑ k, (v k : EReal)) ((256 : ℝ) : EReal))
          * ((v k : EReal) - Ideal.div (∑ k, (v k : EReal)) ((256 : ℝ) : EReal))) ((256 : ℝ) : EReal) + (epsR : EReal)))
      = (nrm v f : EReal) := by
  have h256 : (256 : ℝ) ≠ 0 := by norm_num
  have hm : Ideal.div (∑ k, (v k : EReal)) ((256 : ℝ) : EReal) = (mean v : EReal) := by
    rw [coe_sum, div_real h256]; rfl
  simp only [hm, ← EReal.coe_sub, ← EReal.coe_mul]
  rw [coe_sum, div_real h256, ← EReal.coe_add]
  change Ideal.div _ (Ideal.sqrt ((var v + epsR : ℝ) : EReal)) = _
  rw [sqrt_real (var_eps_pos v).le, div_real (Real.sqrt_pos.mpr (var_eps_pos v)).ne']
  rfl

/-- The norm over the channels at a place. -/
theorem normB_at (y : FVec Ideal S16x256x2048 .f32) (g s : FVec Ideal S256 .f32) (R : Fin 256 → ℝ) (b : Fin 16) (t : Fin 2048)
    (h : ∀ f, y (ix3 b f t) = (R f : EReal)) (hg : ∀ i, g i = 1) (hs : ∀ i, s i = 0) (f : Fin 256) :
    normB y g s (ix3 b f t) = (nrm R f : EReal) := by
  pointwise [normB, centB, meanB]
  rw [hg, hs, mul_one, add_zero, ← nrm_ref]
  simp only [h, word_256, word_eps]

/-- The gelu at a place. -/
theorem geluB_at (y : FVec Ideal S16x256x2048 .f32) (r : ℝ) (b : Fin 16) (f : Fin 256) (t : Fin 2048) (h : y (ix3 b f t) = (r : EReal)) :
    geluB y (ix3 b f t) = (gelu r : EReal) := by
  rw [← gelu_ref, ← h, ← word_half, ← word_one, ← word_root]
  pointwise [geluB]

/-- The mixed channels at a place. -/
theorem mixB_at (y : FVec Ideal S16x256x2048 .f32) (p : FVec Ideal S256x256 .f32) (s : FVec Ideal S256 .f32) (P : Fin 256 → Fin 256 → ℝ)
    (R : Fin 256 → ℝ) (b : Fin 16) (t : Fin 2048) (hp : ∀ o c, p (ix2 o c) = (P o c : EReal)) (hy : ∀ c, y (ix3 b c t) = (R c : EReal))
    (hs : ∀ i, s i = 0) (o : Fin 256) : mixB y p s (ix3 b o t) = ((∑ c, P o c * R c : ℝ) : EReal) := by
  rw [← coe_sum]
  simp only [EReal.coe_mul, ← hp, ← hy]
  pointwise [mixB]
  rw [hs, add_zero]
  exact Finset.sum_congr rfl fun _ _ => mul_comm _ _

/-- The signal with 1 zeros on both sides. -/
def pad1B (y : FVec Ideal S16x256x2048 .f32) : FVec Ideal S16x256x2050 .f32 :=
  pad S16x256x2050 ![0, 0, 1] ![0, 0, 1] ![0, 0, 0] y (sitofp .f32 (constantI S_ 32 0#32)) pads_S16x256x2048_S16x256x2050_000_000_110 h_S_

/-- The convolution at dilation 1. -/
def conv1B (y : FVec Ideal S16x256x2048 .f32) (w : FVec Ideal S256x3 .f32) (s : FVec Ideal S256 .f32) : FVec Ideal S16x256x2048 .f32 :=
  addf (addf (addf (addf (broadcastInDim S16x256x2048 ![] bcast_S_S16x256x2048 (constant S_ .f32 0x00000000#32))
    (mulf (broadcastInDim S16x256x2048 ![0, 1, 2] bcast_S1x256x1_S16x256x2048_0_1_2 (broadcastInDim S1x256x1 ![1] bcast_S256_S1x256x1_1
        (shapeCast S256 (extractStridedSlice S256x1 ![0, 0] w slices_S256x3_S256x1_0_0) shapeCasts_S256x1_S256)))
      (extractStridedSlice S16x256x2048 ![0, 0, 0] (pad1B y) slices_S16x256x2050_S16x256x2048_0_0_0)))
    (mulf (broadcastInDim S16x256x2048 ![0, 1, 2] bcast_S1x256x1_S16x256x2048_0_1_2 (broadcastInDim S1x256x1 ![1] bcast_S256_S1x256x1_1
        (shapeCast S256 (extractStridedSlice S256x1 ![0, 1] w slices_S256x3_S256x1_0_1) shapeCasts_S256x1_S256)))
      (extractStridedSlice S16x256x2048 ![0, 0, 1] (pad1B y) slices_S16x256x2050_S16x256x2048_0_0_1)))
    (mulf (broadcastInDim S16x256x2048 ![0, 1, 2] bcast_S1x256x1_S16x256x2048_0_1_2 (broadcastInDim S1x256x1 ![1] bcast_S256_S1x256x1_1
        (shapeCast S256 (extractStridedSlice S256x1 ![0, 2] w slices_S256x3_S256x1_0_2) shapeCasts_S256x1_S256)))
      (extractStridedSlice S16x256x2048 ![0, 0, 2] (pad1B y) slices_S16x256x2050_S16x256x2048_0_0_2)))
    (broadcastInDim S16x256x2048 ![0, 1, 2] bcast_S1x256x1_S16x256x2048_0_1_2 (broadcastInDim S1x256x1 ![1] bcast_S256_S1x256x1_1 s))

/-- The padded signal at a place. -/
theorem pad1B_at (y : FVec Ideal S16x256x2048 .f32) (R : Fin 2048 → ℝ) (b : Fin 16) (f : Fin 256)
    (h : ∀ t, y (ix3 b f t) = (R t : EReal)) (n : Fin 2050) : pad1B y (ix3 b f n) = (ext R (127 + n.val) : EReal) := by
  pointwise [pad1B]
  unfold ext
  by_cases hn : 1 ≤ n.val ∧ n.val - 1 < 2048
  · rw [dif_pos hn, dif_pos (by omega), h]
    exact congrArg (fun k => (R k : EReal)) (Fin.ext (by dsimp only; omega))
  · rw [dif_neg hn, dif_neg (by omega)]
    exact zero_word

/-- The convolution at a place. -/
theorem conv1B_at (y : FVec Ideal S16x256x2048 .f32) (w : FVec Ideal S256x3 .f32) (s : FVec Ideal S256 .f32) (W : Fin 3 → ℝ) (R : Fin 2048 → ℝ)
    (b : Fin 16) (f : Fin 256) (hw : ∀ k, w (ix2 f k) = (W k : EReal)) (h : ∀ t, y (ix3 b f t) = (R t : EReal)) (hs : ∀ i, s i = 0) (t : Fin 2048) :
    conv1B y w s (ix3 b f t) = (conv 1 W R t : EReal) := by
  have e := pad1B_at y R b f h
  revert e
  unfold conv1B
  generalize pad1B y = z
  intro e
  pointwise []
  rw [hs, add_zero]
  simp only [hw, e, ← EReal.coe_mul, ← EReal.coe_add]
  refine congrArg (fun r : ℝ => (r : EReal)) ?_
  unfold conv
  refine congrArg₂ (· + ·) (congrArg₂ (· + ·) ?_ ?_) ?_ <;> refine congrArg (_ * ext R ·) ?_ <;> first | omega | (dsimp only; omega)

/-- The signal with 3 zeros on both sides. -/
def pad3B (y : FVec Ideal S16x256x2048 .f32) : FVec Ideal S16x256x2054 .f32 :=
  pad S16x256x2054 ![0, 0, 3] ![0, 0, 3] ![0, 0, 0] y (sitofp .f32 (constantI S_ 32 0#32)) pads_S16x256x2048_S16x256x2054_000_000_330 h_S_

/-- The convolution at dilation 3. -/
def conv3B (y : FVec Ideal S16x256x2048 .f32) (w : FVec Ideal S256x3 .f32) (s : FVec Ideal S256 .f32) : FVec Ideal S16x256x2048 .f32 :=
  addf (addf (addf (addf (broadcastInDim S16x256x2048 ![] bcast_S_S16x256x2048 (constant S_ .f32 0x00000000#32))
    (mulf (broadcastInDim S16x256x2048 ![0, 1, 2] bcast_S1x256x1_S16x256x2048_0_1_2 (broadcastInDim S1x256x1 ![1] bcast_S256_S1x256x1_1
        (shapeCast S256 (extractStridedSlice S256x1 ![0, 0] w slices_S256x3_S256x1_0_0) shapeCasts_S256x1_S256)))
      (extractStridedSlice S16x256x2048 ![0, 0, 0] (pad3B y) slices_S16x256x2054_S16x256x2048_0_0_0)))
    (mulf (broadcastInDim S16x256x2048 ![0, 1, 2] bcast_S1x256x1_S16x256x2048_0_1_2 (broadcastInDim S1x256x1 ![1] bcast_S256_S1x256x1_1
        (shapeCast S256 (extractStridedSlice S256x1 ![0, 1] w slices_S256x3_S256x1_0_1) shapeCasts_S256x1_S256)))
      (extractStridedSlice S16x256x2048 ![0, 0, 3] (pad3B y) slices_S16x256x2054_S16x256x2048_0_0_3)))
    (mulf (broadcastInDim S16x256x2048 ![0, 1, 2] bcast_S1x256x1_S16x256x2048_0_1_2 (broadcastInDim S1x256x1 ![1] bcast_S256_S1x256x1_1
        (shapeCast S256 (extractStridedSlice S256x1 ![0, 2] w slices_S256x3_S256x1_0_2) shapeCasts_S256x1_S256)))
      (extractStridedSlice S16x256x2048 ![0, 0, 6] (pad3B y) slices_S16x256x2054_S16x256x2048_0_0_6)))
    (broadcastInDim S16x256x2048 ![0, 1, 2] bcast_S1x256x1_S16x256x2048_0_1_2 (broadcastInDim S1x256x1 ![1] bcast_S256_S1x256x1_1 s))

/-- The padded signal at a place. -/
theorem pad3B_at (y : FVec Ideal S16x256x2048 .f32) (R : Fin 2048 → ℝ) (b : Fin 16) (f : Fin 256)
    (h : ∀ t, y (ix3 b f t) = (R t : EReal)) (n : Fin 2054) : pad3B y (ix3 b f n) = (ext R (125 + n.val) : EReal) := by
  pointwise [pad3B]
  unfold ext
  by_cases hn : 3 ≤ n.val ∧ n.val - 3 < 2048
  · rw [dif_pos hn, dif_pos (by omega), h]
    exact congrArg (fun k => (R k : EReal)) (Fin.ext (by dsimp only; omega))
  · rw [dif_neg hn, dif_neg (by omega)]
    exact zero_word

/-- The convolution at a place. -/
theorem conv3B_at (y : FVec Ideal S16x256x2048 .f32) (w : FVec Ideal S256x3 .f32) (s : FVec Ideal S256 .f32) (W : Fin 3 → ℝ) (R : Fin 2048 → ℝ)
    (b : Fin 16) (f : Fin 256) (hw : ∀ k, w (ix2 f k) = (W k : EReal)) (h : ∀ t, y (ix3 b f t) = (R t : EReal)) (hs : ∀ i, s i = 0) (t : Fin 2048) :
    conv3B y w s (ix3 b f t) = (conv 3 W R t : EReal) := by
  have e := pad3B_at y R b f h
  revert e
  unfold conv3B
  generalize pad3B y = z
  intro e
  pointwise []
  rw [hs, add_zero]
  simp only [hw, e, ← EReal.coe_mul, ← EReal.coe_add]
  refine congrArg (fun r : ℝ => (r : EReal)) ?_
  unfold conv
  refine congrArg₂ (· + ·) (congrArg₂ (· + ·) ?_ ?_) ?_ <;> refine congrArg (_ * ext R ·) ?_ <;> first | omega | (dsimp only; omega)

/-- The signal with 9 zeros on both sides. -/
def pad9B (y : FVec Ideal S16x256x2048 .f32) : FVec Ideal S16x256x2066 .f32 :=
  pad S16x256x2066 ![0, 0, 9] ![0, 0, 9] ![0, 0, 0] y (sitofp .f32 (constantI S_ 32 0#32)) pads_S16x256x2048_S16x256x2066_000_000_990 h_S_

/-- The convolution at dilation 9. -/
def conv9B (y : FVec Ideal S16x256x2048 .f32) (w : FVec Ideal S256x3 .f32) (s : FVec Ideal S256 .f32) : FVec Ideal S16x256x2048 .f32 :=
  addf (addf (addf (addf (broadcastInDim S16x256x2048 ![] bcast_S_S16x256x2048 (constant S_ .f32 0x00000000#32))
    (mulf (broadcastInDim S16x256x2048 ![0, 1, 2] bcast_S1x256x1_S16x256x2048_0_1_2 (broadcastInDim S1x256x1 ![1] bcast_S256_S1x256x1_1
        (shapeCast S256 (extractStridedSlice S256x1 ![0, 0] w slices_S256x3_S256x1_0_0) shapeCasts_S256x1_S256)))
      (extractStridedSlice S16x256x2048 ![0, 0, 0] (pad9B y) slices_S16x256x2066_S16x256x2048_0_0_0)))
    (mulf (broadcastInDim S16x256x2048 ![0, 1, 2] bcast_S1x256x1_S16x256x2048_0_1_2 (broadcastInDim S1x256x1 ![1] bcast_S256_S1x256x1_1
        (shapeCast S256 (extractStridedSlice S256x1 ![0, 1] w slices_S256x3_S256x1_0_1) shapeCasts_S256x1_S256)))
      (extractStridedSlice S16x256x2048 ![0, 0, 9] (pad9B y) slices_S16x256x2066_S16x256x2048_0_0_9)))
    (mulf (broadcastInDim S16x256x2048 ![0, 1, 2] bcast_S1x256x1_S16x256x2048_0_1_2 (broadcastInDim S1x256x1 ![1] bcast_S256_S1x256x1_1
        (shapeCast S256 (extractStridedSlice S256x1 ![0, 2] w slices_S256x3_S256x1_0_2) shapeCasts_S256x1_S256)))
      (extractStridedSlice S16x256x2048 ![0, 0, 18] (pad9B y) slices_S16x256x2066_S16x256x2048_0_0_18)))
    (broadcastInDim S16x256x2048 ![0, 1, 2] bcast_S1x256x1_S16x256x2048_0_1_2 (broadcastInDim S1x256x1 ![1] bcast_S256_S1x256x1_1 s))

/-- The padded signal at a place. -/
theorem pad9B_at (y : FVec Ideal S16x256x2048 .f32) (R : Fin 2048 → ℝ) (b : Fin 16) (f : Fin 256)
    (h : ∀ t, y (ix3 b f t) = (R t : EReal)) (n : Fin 2066) : pad9B y (ix3 b f n) = (ext R (119 + n.val) : EReal) := by
  pointwise [pad9B]
  unfold ext
  by_cases hn : 9 ≤ n.val ∧ n.val - 9 < 2048
  · rw [dif_pos hn, dif_pos (by omega), h]
    exact congrArg (fun k => (R k : EReal)) (Fin.ext (by dsimp only; omega))
  · rw [dif_neg hn, dif_neg (by omega)]
    exact zero_word

/-- The convolution at a place. -/
theorem conv9B_at (y : FVec Ideal S16x256x2048 .f32) (w : FVec Ideal S256x3 .f32) (s : FVec Ideal S256 .f32) (W : Fin 3 → ℝ) (R : Fin 2048 → ℝ)
    (b : Fin 16) (f : Fin 256) (hw : ∀ k, w (ix2 f k) = (W k : EReal)) (h : ∀ t, y (ix3 b f t) = (R t : EReal)) (hs : ∀ i, s i = 0) (t : Fin 2048) :
    conv9B y w s (ix3 b f t) = (conv 9 W R t : EReal) := by
  have e := pad9B_at y R b f h
  revert e
  unfold conv9B
  generalize pad9B y = z
  intro e
  pointwise []
  rw [hs, add_zero]
  simp only [hw, e, ← EReal.coe_mul, ← EReal.coe_add]
  refine congrArg (fun r : ℝ => (r : EReal)) ?_
  unfold conv
  refine congrArg₂ (· + ·) (congrArg₂ (· + ·) ?_ ?_) ?_ <;> refine congrArg (_ * ext R ·) ?_ <;> first | omega | (dsimp only; omega)

/-- A layer at dilation 1. -/
def layer1B (h m : FVec Ideal S16x256x2048 .f32) (w : FVec Ideal S256x3 .f32) (s0 g1 s1 : FVec Ideal S256 .f32) (p : FVec Ideal S256x256 .f32)
    (s2 g2 s3 : FVec Ideal S256 .f32) : FVec Ideal S16x256x2048 .f32 :=
  addf h (geluB (normB (mixB (geluB (normB (conv1B (mulf h m) w s0) g1 s1)) p s2) g2 s3))

/-- A layer at dilation 1, at a place. -/
theorem layer1B_at (h m : FVec Ideal S16x256x2048 .f32) (w : FVec Ideal S256x3 .f32) (s0 g1 s1 : FVec Ideal S256 .f32) (p : FVec Ideal S256x256 .f32)
    (s2 g2 s3 : FVec Ideal S256 .f32) (b : Fin 16) (H : Fin 256 → Fin 2048 → ℝ) (W : Fin 256 → Fin 3 → ℝ) (P : Fin 256 → Fin 256 → ℝ)
    (hh : ∀ f t, h (ix3 b f t) = (H f t : EReal)) (hm : ∀ f t, m (ix3 b f t) = (1 : EReal)) (hw : ∀ f k, w (ix2 f k) = (W f k : EReal))
    (hp : ∀ o c, p (ix2 o c) = (P o c : EReal)) (e0 : ∀ i, s0 i = 0) (e1 : ∀ i, g1 i = 1) (e2 : ∀ i, s1 i = 0) (e3 : ∀ i, s2 i = 0)
    (e4 : ∀ i, g2 i = 1) (e5 : ∀ i, s3 i = 0) (f : Fin 256) (t : Fin 2048) :
    layer1B h m w s0 g1 s1 p s2 g2 s3 (ix3 b f t) = (layer 1 W P H f t : EReal) := by
  have hhm : ∀ f t, mulf h m (ix3 b f t) = (H f t : EReal) := fun f t => by
    change h (ix3 b f t) * m (ix3 b f t) = _
    rw [hm, mul_one, hh]
  have hc := fun f t => conv1B_at _ w s0 (W f) (H f) b f (hw f) (hhm f) e0 t
  have hn := fun t => normB_at _ g1 s1 _ b t (fun f => hc f t) e1 e2
  have hg := fun f t => geluB_at _ _ b f t (hn t f)
  have hx := fun t => mixB_at _ p s2 P _ b t hp (fun c => hg c t) e3
  have hn2 := fun t => normB_at _ g2 s3 _ b t (fun f => hx t f) e4 e5
  change h (ix3 b f t) + geluB _ (ix3 b f t) = _
  rw [hh, geluB_at _ _ b f t (hn2 t f), ← EReal.coe_add]
  rfl

/-- A layer at dilation 3. -/
def layer3B (h m : FVec Ideal S16x256x2048 .f32) (w : FVec Ideal S256x3 .f32) (s0 g1 s1 : FVec Ideal S256 .f32) (p : FVec Ideal S256x256 .f32)
    (s2 g2 s3 : FVec Ideal S256 .f32) : FVec Ideal S16x256x2048 .f32 :=
  addf h (geluB (normB (mixB (geluB (normB (conv3B (mulf h m) w s0) g1 s1)) p s2) g2 s3))

/-- A layer at dilation 3, at a place. -/
theorem layer3B_at (h m : FVec Ideal S16x256x2048 .f32) (w : FVec Ideal S256x3 .f32) (s0 g1 s1 : FVec Ideal S256 .f32) (p : FVec Ideal S256x256 .f32)
    (s2 g2 s3 : FVec Ideal S256 .f32) (b : Fin 16) (H : Fin 256 → Fin 2048 → ℝ) (W : Fin 256 → Fin 3 → ℝ) (P : Fin 256 → Fin 256 → ℝ)
    (hh : ∀ f t, h (ix3 b f t) = (H f t : EReal)) (hm : ∀ f t, m (ix3 b f t) = (1 : EReal)) (hw : ∀ f k, w (ix2 f k) = (W f k : EReal))
    (hp : ∀ o c, p (ix2 o c) = (P o c : EReal)) (e0 : ∀ i, s0 i = 0) (e1 : ∀ i, g1 i = 1) (e2 : ∀ i, s1 i = 0) (e3 : ∀ i, s2 i = 0)
    (e4 : ∀ i, g2 i = 1) (e5 : ∀ i, s3 i = 0) (f : Fin 256) (t : Fin 2048) :
    layer3B h m w s0 g1 s1 p s2 g2 s3 (ix3 b f t) = (layer 3 W P H f t : EReal) := by
  have hhm : ∀ f t, mulf h m (ix3 b f t) = (H f t : EReal) := fun f t => by
    change h (ix3 b f t) * m (ix3 b f t) = _
    rw [hm, mul_one, hh]
  have hc := fun f t => conv3B_at _ w s0 (W f) (H f) b f (hw f) (hhm f) e0 t
  have hn := fun t => normB_at _ g1 s1 _ b t (fun f => hc f t) e1 e2
  have hg := fun f t => geluB_at _ _ b f t (hn t f)
  have hx := fun t => mixB_at _ p s2 P _ b t hp (fun c => hg c t) e3
  have hn2 := fun t => normB_at _ g2 s3 _ b t (fun f => hx t f) e4 e5
  change h (ix3 b f t) + geluB _ (ix3 b f t) = _
  rw [hh, geluB_at _ _ b f t (hn2 t f), ← EReal.coe_add]
  rfl

/-- A layer at dilation 9. -/
def layer9B (h m : FVec Ideal S16x256x2048 .f32) (w : FVec Ideal S256x3 .f32) (s0 g1 s1 : FVec Ideal S256 .f32) (p : FVec Ideal S256x256 .f32)
    (s2 g2 s3 : FVec Ideal S256 .f32) : FVec Ideal S16x256x2048 .f32 :=
  addf h (geluB (normB (mixB (geluB (normB (conv9B (mulf h m) w s0) g1 s1)) p s2) g2 s3))

/-- A layer at dilation 9, at a place. -/
theorem layer9B_at (h m : FVec Ideal S16x256x2048 .f32) (w : FVec Ideal S256x3 .f32) (s0 g1 s1 : FVec Ideal S256 .f32) (p : FVec Ideal S256x256 .f32)
    (s2 g2 s3 : FVec Ideal S256 .f32) (b : Fin 16) (H : Fin 256 → Fin 2048 → ℝ) (W : Fin 256 → Fin 3 → ℝ) (P : Fin 256 → Fin 256 → ℝ)
    (hh : ∀ f t, h (ix3 b f t) = (H f t : EReal)) (hm : ∀ f t, m (ix3 b f t) = (1 : EReal)) (hw : ∀ f k, w (ix2 f k) = (W f k : EReal))
    (hp : ∀ o c, p (ix2 o c) = (P o c : EReal)) (e0 : ∀ i, s0 i = 0) (e1 : ∀ i, g1 i = 1) (e2 : ∀ i, s1 i = 0) (e3 : ∀ i, s2 i = 0)
    (e4 : ∀ i, g2 i = 1) (e5 : ∀ i, s3 i = 0) (f : Fin 256) (t : Fin 2048) :
    layer9B h m w s0 g1 s1 p s2 g2 s3 (ix3 b f t) = (layer 9 W P H f t : EReal) := by
  have hhm : ∀ f t, mulf h m (ix3 b f t) = (H f t : EReal) := fun f t => by
    change h (ix3 b f t) * m (ix3 b f t) = _
    rw [hm, mul_one, hh]
  have hc := fun f t => conv9B_at _ w s0 (W f) (H f) b f (hw f) (hhm f) e0 t
  have hn := fun t => normB_at _ g1 s1 _ b t (fun f => hc f t) e1 e2
  have hg := fun f t => geluB_at _ _ b f t (hn t f)
  have hx := fun t => mixB_at _ p s2 P _ b t hp (fun c => hg c t) e3
  have hn2 := fun t => normB_at _ g2 s3 _ b t (fun f => hx t f) e4 e5
  change h (ix3 b f t) + geluB _ (ix3 b f t) = _
  rw [hh, geluB_at _ _ b f t (hn2 t f), ← EReal.coe_add]
  rfl

variable (x0 : FVec Ideal S16x192x2048 .f32) (x1 : FVec Ideal S16x1x2048 .f32) (x2 : FVec Ideal S256x96 .f32) (x3 : FVec Ideal S256 .f32)
  (x4 : FVec Ideal S3x256x3 .f32) (x5 : FVec Ideal S3x256 .f32) (x6 : FVec Ideal S3x256x256 .f32) (x7 x8 x9 x10 x11 : FVec Ideal S3x256 .f32)

/-- The values after the layer at dilation 1. -/
theorem step1 : val_main_v120 (F := Ideal) x0 x1 x2 x3 x4 x5 x6 x7 x8 x9 x10 x11
    = layer1B (val_main_v6 (F := Ideal) x0 x2 x3) (val_main_v7 (F := Ideal) x1) (val_main_v10 (F := Ideal) x4) (val_main_v12 (F := Ideal) x5) (val_main_v40 (F := Ideal) x8) (val_main_v42 (F := Ideal) x9) (val_main_v76 (F := Ideal) x6) (val_main_v80 (F := Ideal) x7) (val_main_v85 (F := Ideal) x10) (val_main_v87 (F := Ideal) x11) := by rfl

/-- The mask spread over the channels at a place, before the layer at dilation 1. -/
theorem mask1 (h : ∀ i, x1 i = 1) (b : Fin 16) (f : Fin 256) (t : Fin 2048) : val_main_v7 (F := Ideal) x1 (ix3 b f t) = (1 : EReal) := by
  pointwise [val_main_v7]
  exact h _

/-- The taps of the layer at dilation 1. -/
theorem taps1 (DW : Fin 3 → Fin 256 → Fin 3 → ℝ) (h : ∀ i o k, x4 (ix3 i o k) = (DW i o k : EReal)) (f : Fin 256) (k : Fin 3) :
    val_main_v10 (F := Ideal) x4 (ix2 f k) = (DW 0 f k : EReal) := by
  rw [← h]
  pointwise [val_main_v10, val_main_v9]

/-- The mixing matrix of the layer at dilation 1. -/
theorem mixes1 (P : Fin 3 → Fin 256 → Fin 256 → ℝ) (h : ∀ i o k, x6 (ix3 i o k) = (P i o k : EReal)) (f k : Fin 256) :
    val_main_v76 (F := Ideal) x6 (ix2 f k) = (P 0 f k : EReal) := by
  rw [← h]
  pointwise [val_main_v76, val_main_v75]

/-- A row of argument 5 is all zeros. -/
theorem row12 (h : ∀ i, x5 i = 0) (i : S256.Idx) : val_main_v12 (F := Ideal) x5 i = 0 := h _

/-- A row of argument 8 is all ones. -/
theorem row40 (h : ∀ i, x8 i = 1) (i : S256.Idx) : val_main_v40 (F := Ideal) x8 i = 1 := h _

/-- A row of argument 9 is all zeros. -/
theorem row42 (h : ∀ i, x9 i = 0) (i : S256.Idx) : val_main_v42 (F := Ideal) x9 i = 0 := h _

/-- A row of argument 7 is all zeros. -/
theorem row80 (h : ∀ i, x7 i = 0) (i : S256.Idx) : val_main_v80 (F := Ideal) x7 i = 0 := h _

/-- A row of argument 10 is all ones. -/
theorem row85 (h : ∀ i, x10 i = 1) (i : S256.Idx) : val_main_v85 (F := Ideal) x10 i = 1 := h _

/-- A row of argument 11 is all zeros. -/
theorem row87 (h : ∀ i, x11 i = 0) (i : S256.Idx) : val_main_v87 (F := Ideal) x11 i = 0 := h _

/-- The values after the layer at dilation 3. -/
theorem step3 : val_main_v234 (F := Ideal) x0 x1 x2 x3 x4 x5 x6 x7 x8 x9 x10 x11
    = layer3B (val_main_v120 (F := Ideal) x0 x1 x2 x3 x4 x5 x6 x7 x8 x9 x10 x11) (val_main_v121 (F := Ideal) x1) (val_main_v124 (F := Ideal) x4) (val_main_v126 (F := Ideal) x5) (val_main_v154 (F := Ideal) x8) (val_main_v156 (F := Ideal) x9) (val_main_v190 (F := Ideal) x6) (val_main_v194 (F := Ideal) x7) (val_main_v199 (F := Ideal) x10) (val_main_v201 (F := Ideal) x11) := by rfl

/-- The mask spread over the channels at a place, before the layer at dilation 3. -/
theorem mask3 (h : ∀ i, x1 i = 1) (b : Fin 16) (f : Fin 256) (t : Fin 2048) : val_main_v121 (F := Ideal) x1 (ix3 b f t) = (1 : EReal) := by
  pointwise [val_main_v121]
  exact h _

/-- The taps of the layer at dilation 3. -/
theorem taps3 (DW : Fin 3 → Fin 256 → Fin 3 → ℝ) (h : ∀ i o k, x4 (ix3 i o k) = (DW i o k : EReal)) (f : Fin 256) (k : Fin 3) :
    val_main_v124 (F := Ideal) x4 (ix2 f k) = (DW 1 f k : EReal) := by
  rw [← h]
  pointwise [val_main_v124, val_main_v123]

/-- The mixing matrix of the layer at dilation 3. -/
theorem mixes3 (P : Fin 3 → Fin 256 → Fin 256 → ℝ) (h : ∀ i o k, x6 (ix3 i o k) = (P i o k : EReal)) (f k : Fin 256) :
    val_main_v190 (F := Ideal) x6 (ix2 f k) = (P 1 f k : EReal) := by
  rw [← h]
  pointwise [val_main_v190, val_main_v189]

/-- A row of argument 5 is all zeros. -/
theorem row126 (h : ∀ i, x5 i = 0) (i : S256.Idx) : val_main_v126 (F := Ideal) x5 i = 0 := h _

/-- A row of argument 8 is all ones. -/
theorem row154 (h : ∀ i, x8 i = 1) (i : S256.Idx) : val_main_v154 (F := Ideal) x8 i = 1 := h _

/-- A row of argument 9 is all zeros. -/
theorem row156 (h : ∀ i, x9 i = 0) (i : S256.Idx) : val_main_v156 (F := Ideal) x9 i = 0 := h _

/-- A row of argument 7 is all zeros. -/
theorem row194 (h : ∀ i, x7 i = 0) (i : S256.Idx) : val_main_v194 (F := Ideal) x7 i = 0 := h _

/-- A row of argument 10 is all ones. -/
theorem row199 (h : ∀ i, x10 i = 1) (i : S256.Idx) : val_main_v199 (F := Ideal) x10 i = 1 := h _

/-- A row of argument 11 is all zeros. -/
theorem row201 (h : ∀ i, x11 i = 0) (i : S256.Idx) : val_main_v201 (F := Ideal) x11 i = 0 := h _

/-- The values after the layer at dilation 9. -/
theorem step9 : val_main_v348 (F := Ideal) x0 x1 x2 x3 x4 x5 x6 x7 x8 x9 x10 x11
    = layer9B (val_main_v234 (F := Ideal) x0 x1 x2 x3 x4 x5 x6 x7 x8 x9 x10 x11) (val_main_v235 (F := Ideal) x1) (val_main_v238 (F := Ideal) x4) (val_main_v240 (F := Ideal) x5) (val_main_v268 (F := Ideal) x8) (val_main_v270 (F := Ideal) x9) (val_main_v304 (F := Ideal) x6) (val_main_v308 (F := Ideal) x7) (val_main_v313 (F := Ideal) x10) (val_main_v315 (F := Ideal) x11) := by rfl

/-- The mask spread over the channels at a place, before the layer at dilation 9. -/
theorem mask9 (h : ∀ i, x1 i = 1) (b : Fin 16) (f : Fin 256) (t : Fin 2048) : val_main_v235 (F := Ideal) x1 (ix3 b f t) = (1 : EReal) := by
  pointwise [val_main_v235]
  exact h _

/-- The taps of the layer at dilation 9. -/
theorem taps9 (DW : Fin 3 → Fin 256 → Fin 3 → ℝ) (h : ∀ i o k, x4 (ix3 i o k) = (DW i o k : EReal)) (f : Fin 256) (k : Fin 3) :
    val_main_v238 (F := Ideal) x4 (ix2 f k) = (DW 2 f k : EReal) := by
  rw [← h]
  pointwise [val_main_v238, val_main_v237]

/-- The mixing matrix of the layer at dilation 9. -/
theorem mixes9 (P : Fin 3 → Fin 256 → Fin 256 → ℝ) (h : ∀ i o k, x6 (ix3 i o k) = (P i o k : EReal)) (f k : Fin 256) :
    val_main_v304 (F := Ideal) x6 (ix2 f k) = (P 2 f k : EReal) := by
  rw [← h]
  pointwise [val_main_v304, val_main_v303]

/-- A row of argument 5 is all zeros. -/
theorem row240 (h : ∀ i, x5 i = 0) (i : S256.Idx) : val_main_v240 (F := Ideal) x5 i = 0 := h _

/-- A row of argument 8 is all ones. -/
theorem row268 (h : ∀ i, x8 i = 1) (i : S256.Idx) : val_main_v268 (F := Ideal) x8 i = 1 := h _

/-- A row of argument 9 is all zeros. -/
theorem row270 (h : ∀ i, x9 i = 0) (i : S256.Idx) : val_main_v270 (F := Ideal) x9 i = 0 := h _

/-- A row of argument 7 is all zeros. -/
theorem row308 (h : ∀ i, x7 i = 0) (i : S256.Idx) : val_main_v308 (F := Ideal) x7 i = 0 := h _

/-- A row of argument 10 is all ones. -/
theorem row313 (h : ∀ i, x10 i = 1) (i : S256.Idx) : val_main_v313 (F := Ideal) x10 i = 1 := h _

/-- A row of argument 11 is all zeros. -/
theorem row315 (h : ∀ i, x11 i = 0) (i : S256.Idx) : val_main_v315 (F := Ideal) x11 i = 0 := h _

/-- The values before the first layer, at a place. -/
theorem first_at (x : Fin 16 → Fin 192 → Fin 2048 → ℝ) (PW : Fin 256 → Fin 96 → ℝ) (h0 : ∀ b j t, x0 (ix3 b j t) = (x b j t : EReal))
    (h2 : ∀ f i, x2 (ix2 f i) = (PW f i : EReal)) (h3 : ∀ i, x3 i = 0) (b : Fin 16) (f : Fin 256) (t : Fin 2048) :
    val_main_v6 (F := Ideal) x0 x2 x3 (ix3 b f t) = (pre PW (fun i t => x b ⟨i.val, by omega⟩ t) f t : EReal) := by
  unfold pre
  rw [← coe_sum]
  simp only [EReal.coe_mul, ← h0, ← h2]
  pointwise [val_main_v6, val_main_v5, val_main_v4, val_main_v3, val_main_v2, val_main_v0]
  rw [h3, add_zero]
  exact Finset.sum_congr rfl fun _ _ => mul_comm _ _

/-- The convolution stack at a place. -/
theorem stack_at (x : Fin 16 → Fin 192 → Fin 2048 → ℝ) (PW : Fin 256 → Fin 96 → ℝ) (DW : Fin 3 → Fin 256 → Fin 3 → ℝ)
    (P : Fin 3 → Fin 256 → Fin 256 → ℝ) (h0 : ∀ b j t, x0 (ix3 b j t) = (x b j t : EReal)) (h1 : ∀ i, x1 i = 1)
    (h2 : ∀ f i, x2 (ix2 f i) = (PW f i : EReal)) (h3 : ∀ i, x3 i = 0) (h4 : ∀ i o k, x4 (ix3 i o k) = (DW i o k : EReal)) (h5 : ∀ i, x5 i = 0)
    (h6 : ∀ i o k, x6 (ix3 i o k) = (P i o k : EReal)) (h7 : ∀ i, x7 i = 0) (h8 : ∀ i, x8 i = 1) (h9 : ∀ i, x9 i = 0) (h10 : ∀ i, x10 i = 1)
    (h11 : ∀ i, x11 i = 0) (b : Fin 16) (f : Fin 256) (t : Fin 2048) :
    val_main_v348 (F := Ideal) x0 x1 x2 x3 x4 x5 x6 x7 x8 x9 x10 x11 (ix3 b f t) = (hid x PW DW P b f t : EReal) := by
  have y0 := fun f t => layer1B_at _ _ _ _ _ _ _ _ _ _ b _ _ _ (first_at x0 x2 x3 x PW h0 h2 h3 b) (mask1 x1 h1 b) (taps1 x4 DW h4) (mixes1 x6 P h6)
    (row12 x5 h5) (row40 x8 h8) (row42 x9 h9) (row80 x7 h7) (row85 x10 h10) (row87 x11 h11) f t
  simp only [← step1] at y0
  have y1 := fun f t => layer3B_at _ _ _ _ _ _ _ _ _ _ b _ _ _ (y0) (mask3 x1 h1 b) (taps3 x4 DW h4) (mixes3 x6 P h6)
    (row126 x5 h5) (row154 x8 h8) (row156 x9 h9) (row194 x7 h7) (row199 x10 h10) (row201 x11 h11) f t
  simp only [← step3] at y1
  have y2 := fun f t => layer9B_at _ _ _ _ _ _ _ _ _ _ b _ _ _ (y1) (mask9 x1 h1 b) (taps9 x4 DW h4) (mixes9 x6 P h6)
    (row240 x5 h5) (row268 x8 h8) (row270 x9 h9) (row308 x7 h7) (row313 x10 h10) (row315 x11 h11) f t
  simp only [← step9] at y2
  exact y2 f t

end Cert.Ref

end
-- ==== Proof.Value.RefKnots.lean ====
/- The reference's knots: the softmax of ten logits, the sizes of the bins, and their running sums, each read at a place. -/
module

public import proofs.«01_k».proof.Proof.Gen.ReferenceIdeal.Read
public import proofs.«01_k».proof.Proof.Value.Net
public import Idealize.ShloMosaic.Lib.Pointwise

@[expose] public section

noncomputable section

namespace Cert.Ref

open Cert.ReferenceIdeal Cert.ReferenceIdeal.Gen Cert.ReferenceIdeal.Read Idealize.ShloMosaic Idealize.SL.Sem Cert.Flow

/-- The least share of a bin. -/
def leastB : FVec Ideal S_ .f32 := Host.divf (constant S_ .f32 0x3F800000#32) (constant S_ .f32 0x447A0000#32)

/-- What the least shares leave. -/
def restB : FVec Ideal S_ .f32 := subf (constant S_ .f32 0x3F800000#32) (mulf leastB (constant S_ .f32 0x41200000#32))

/-- The largest logit. -/
def topB (u : FVec Ideal S16x96x2048x10 .f32) : FVec Ideal S16x96x2048 .f32 :=
  maximumf (broadcastInDim S16x96x2048 ![] bcast_S_S16x96x2048 (constant S_ .f32 0xFF800000#32))
    (Host.reduce FloatOps.maximumf u (constant S_ .f32 0xFF800000#32) reducesTo_S16x96x2048x10_S16x96x2048_d3 h_S_)

/-- The exponentials of the logits less the largest. -/
def expB (u : FVec Ideal S16x96x2048x10 .f32) : FVec Ideal S16x96x2048x10 .f32 :=
  Host.exp (subf u (broadcastInDim S16x96x2048x10 ![0, 1, 2, 3] bcast_S16x96x2048x1_S16x96x2048x10_0_1_2_3
    (broadcastInDim S16x96x2048x1 ![0, 1, 2] bcast_S16x96x2048_S16x96x2048x1_0_1_2 (topB u))))

/-- The sizes of the bins. -/
def sizesB (u : FVec Ideal S16x96x2048x10 .f32) : FVec Ideal S16x96x2048x10 .f32 :=
  addf (broadcastInDim S16x96x2048x10 ![] bcast_S_S16x96x2048x10 leastB)
    (mulf (broadcastInDim S16x96x2048x10 ![] bcast_S_S16x96x2048x10 restB)
      (Host.divf (expB u) (broadcastInDim S16x96x2048x10 ![0, 1, 2, 3] bcast_S16x96x2048x1_S16x96x2048x10_0_1_2_3
        (broadcastInDim S16x96x2048x1 ![0, 1, 2] bcast_S16x96x2048_S16x96x2048x1_0_1_2
          (Host.reduceAdd (expB u) (constant S_ .f32 0x00000000#32) reducesTo_S16x96x2048x10_S16x96x2048_d3 h_S_)))))

/-- Knot 1. -/
def knot1B (z : FVec Ideal S16x96x2048x10 .f32) : FVec Ideal S16x96x2048 .f32 :=
  subf (mulf (broadcastInDim S16x96x2048 ![] bcast_S_S16x96x2048 (constant S_ .f32 0x41200000#32))
      (Host.reduceAdd (extractStridedSlice S16x96x2048x1 ![0, 0, 0, 0] z slices_S16x96x2048x10_S16x96x2048x1_0_0_0_0)
        (constant S_ .f32 0x00000000#32) reducesTo_S16x96x2048x1_S16x96x2048_d3 h_S_))
    (broadcastInDim S16x96x2048 ![] bcast_S_S16x96x2048 (constant S_ .f32 0x40A00000#32))

/-- Knot 2. -/
def knot2B (z : FVec Ideal S16x96x2048x10 .f32) : FVec Ideal S16x96x2048 .f32 :=
  subf (mulf (broadcastInDim S16x96x2048 ![] bcast_S_S16x96x2048 (constant S_ .f32 0x41200000#32))
      (Host.reduceAdd (extractStridedSlice S16x96x2048x2 ![0, 0, 0, 0] z slices_S16x96x2048x10_S16x96x2048x2_0_0_0_0)
        (constant S_ .f32 0x00000000#32) reducesTo_S16x96x2048x2_S16x96x2048_d3 h_S_))
    (broadcastInDim S16x96x2048 ![] bcast_S_S16x96x2048 (constant S_ .f32 0x40A00000#32))

/-- Knot 3. -/
def knot3B (z : FVec Ideal S16x96x2048x10 .f32) : FVec Ideal S16x96x2048 .f32 :=
  subf (mulf (broadcastInDim S16x96x2048 ![] bcast_S_S16x96x2048 (constant S_ .f32 0x41200000#32))
      (Host.reduceAdd (extractStridedSlice S16x96x2048x3 ![0, 0, 0, 0] z slices_S16x96x2048x10_S16x96x2048x3_0_0_0_0)
        (constant S_ .f32 0x00000000#32) reducesTo_S16x96x2048x3_S16x96x2048_d3 h_S_))
    (broadcastInDim S16x96x2048 ![] bcast_S_S16x96x2048 (constant S_ .f32 0x40A00000#32))

/-- Knot 4. -/
def knot4B (z : FVec Ideal S16x96x2048x10 .f32) : FVec Ideal S16x96x2048 .f32 :=
  subf (mulf (broadcastInDim S16x96x2048 ![] bcast_S_S16x96x2048 (constant S_ .f32 0x41200000#32))
      (Host.reduceAdd (extractStridedSlice S16x96x2048x4 ![0, 0, 0, 0] z slices_S16x96x2048x10_S16x96x2048x4_0_0_0_0)
        (constant S_ .f32 0x00000000#32) reducesTo_S16x96x2048x4_S16x96x2048_d3 h_S_))
    (broadcastInDim S16x96x2048 ![] bcast_S_S16x96x2048 (constant S_ .f32 0x40A00000#32))

/-- Knot 5. -/
def knot5B (z : FVec Ideal S16x96x2048x10 .f32) : FVec Ideal S16x96x2048 .f32 :=
  subf (mulf (broadcastInDim S16x96x2048 ![] bcast_S_S16x96x2048 (constant S_ .f32 0x41200000#32))
      (Host.reduceAdd (extractStridedSlice S16x96x2048x5 ![0, 0, 0, 0] z slices_S16x96x2048x10_S16x96x2048x5_0_0_0_0)
        (constant S_ .f32 0x00000000#32) reducesTo_S16x96x2048x5_S16x96x2048_d3 h_S_))
    (broadcastInDim S16x96x2048 ![] bcast_S_S16x96x2048 (constant S_ .f32 0x40A00000#32))

/-- Knot 6. -/
def knot6B (z : FVec Ideal S16x96x2048x10 .f32) : FVec Ideal S16x96x2048 .f32 :=
  subf (mulf (broadcastInDim S16x96x2048 ![] bcast_S_S16x96x2048 (constant S_ .f32 0x41200000#32))
      (Host.reduceAdd (extractStridedSlice S16x96x2048x6 ![0, 0, 0, 0] z slices_S16x96x2048x10_S16x96x2048x6_0_0_0_0)
        (constant S_ .f32 0x00000000#32) reducesTo_S16x96x2048x6_S16x96x2048_d3 h_S_))
    (broadcastInDim S16x96x2048 ![] bcast_S_S16x96x2048 (constant S_ .f32 0x40A00000#32))

/-- Knot 7. -/
def knot7B (z : FVec Ideal S16x96x2048x10 .f32) : FVec Ideal S16x96x2048 .f32 :=
  subf (mulf (broadcastInDim S16x96x2048 ![] bcast_S_S16x96x2048 (constant S_ .f32 0x41200000#32))
      (Host.reduceAdd (extractStridedSlice S16x96x2048x7 ![0, 0, 0, 0] z slices_S16x96x2048x10_S16x96x2048x7_0_0_0_0)
        (constant S_ .f32 0x00000000#32) reducesTo_S16x96x2048x7_S16x96x2048_d3 h_S_))
    (broadcastInDim S16x96x2048 ![] bcast_S_S16x96x2048 (constant S_ .f32 0x40A00000#32))

/-- Knot 8. -/
def knot8B (z : FVec Ideal S16x96x2048x10 .f32) : FVec Ideal S16x96x2048 .f32 :=
  subf (mulf (broadcastInDim S16x96x2048 ![] bcast_S_S16x96x2048 (constant S_ .f32 0x41200000#32))
      (Host.reduceAdd (extractStridedSlice S16x96x2048x8 ![0, 0, 0, 0] z slices_S16x96x2048x10_S16x96x2048x8_0_0_0_0)
        (constant S_ .f32 0x00000000#32) reducesTo_S16x96x2048x8_S16x96x2048_d3 h_S_))
    (broadcastInDim S16x96x2048 ![] bcast_S_S16x96x2048 (constant S_ .f32 0x40A00000#32))

/-- Knot 9. -/
def knot9B (z : FVec Ideal S16x96x2048x10 .f32) : FVec Ideal S16x96x2048 .f32 :=
  subf (mulf (broadcastInDim S16x96x2048 ![] bcast_S_S16x96x2048 (constant S_ .f32 0x41200000#32))
      (Host.reduceAdd (extractStridedSlice S16x96x2048x9 ![0, 0, 0, 0] z slices_S16x96x2048x10_S16x96x2048x9_0_0_0_0)
        (constant S_ .f32 0x00000000#32) reducesTo_S16x96x2048x9_S16x96x2048_d3 h_S_))
    (broadcastInDim S16x96x2048 ![] bcast_S_S16x96x2048 (constant S_ .f32 0x40A00000#32))

/-- One knot as a column. -/
def colB (z : FVec Ideal S16x96x2048 .f32) : FVec Ideal S16x96x2048x1 .f32 := broadcastInDim S16x96x2048x1 ![0, 1, 2] bcast_S16x96x2048_S16x96x2048x1_0_1_2 z

/-- The eleven knots. -/
def knotsB (z : FVec Ideal S16x96x2048x10 .f32) : FVec Ideal S16x96x2048x11 .f32 :=
  concatenate S16x96x2048x11 3 [⟨S16x96x2048x1, colB (broadcastInDim S16x96x2048 ![] bcast_S_S16x96x2048 (constant S_ .f32 0xC0A00000#32))⟩,
    ⟨S16x96x2048x1, colB (knot1B z)⟩,
    ⟨S16x96x2048x1, colB (knot2B z)⟩,
    ⟨S16x96x2048x1, colB (knot3B z)⟩,
    ⟨S16x96x2048x1, colB (knot4B z)⟩,
    ⟨S16x96x2048x1, colB (knot5B z)⟩,
    ⟨S16x96x2048x1, colB (knot6B z)⟩,
    ⟨S16x96x2048x1, colB (knot7B z)⟩,
    ⟨S16x96x2048x1, colB (knot8B z)⟩,
    ⟨S16x96x2048x1, colB (knot9B z)⟩,
    ⟨S16x96x2048x1, colB (broadcastInDim S16x96x2048 ![] bcast_S_S16x96x2048 (constant S_ .f32 0x40A00000#32))⟩]
    concatenates_S16x96x2048x1_S16x96x2048x1_S16x96x2048x1_S16x96x2048x1_S16x96x2048x1_S16x96x2048x1_S16x96x2048x1_S16x96x2048x1_S16x96x2048x1_S16x96x2048x1_S16x96x2048x1_S16x96x2048x11_d3

/-- The word a thousand divides, as a real. -/
theorem least_at (j : S_.Idx) : leastB j = (leastR : EReal) := by
  change Ideal.div (Ideal.ofBits .f32 0x3F800000#32) (Ideal.ofBits .f32 0x447A0000#32) = _
  rw [word_one, word_thousand, div_real (by norm_num)]
  rfl

/-- What the least shares leave, as a real. -/
theorem rest_at (j : S_.Idx) : restB j = (shareR : EReal) := by
  change Ideal.ofBits .f32 0x3F800000#32 - leastB j * Ideal.ofBits .f32 0x41200000#32 = _
  rw [word_one, word_ten, least_at, ← EReal.coe_mul, ← EReal.coe_sub]
  exact congrArg _ (by norm_num [leastR, shareR])

/-- The largest of finitely many reals, or of none, starting from a real or from the bottom with one real, is a real. -/
theorem fold_max_real {ι : Type} (s : Finset ι) (hs : s.Nonempty) (f : ι → EReal) (h : ∀ i, ∃ r : ℝ, f i = r) :
    ∃ r : ℝ, s.fold (fun a b : EReal => max a b) ⊥ f = r := by
  change ∃ r : ℝ, s.sup f = r
  obtain ⟨i, -, e⟩ := Finset.exists_mem_eq_sup s hs f
  exact (h i).imp fun r hr => e.trans hr

/-- A maximum along one axis of reals, from the bottom, is a real. -/
theorem reduce_max_real {s t v : Shape} {c : Fin s.rank} (x : FVec Ideal s .f32) (h : ∀ j, ∃ r : ℝ, x j = (r : EReal)) (z : FVec Ideal v .f32)
    (hz : ∀ i, z i = ⊥) (h' : s.ReducesTo [c] t) (hr : s.Reduces [c] t) (hn : 0 < s.size c) (hv : 0 < v.numel) (j : t.Idx) :
    ∃ r : ℝ, Host.reduce FloatOps.maximumf x z h' hv j = (r : EReal) := by
  rw [Host.reduce_eq_fold_single _ _ _ _ hr, hz]
  exact fold_max_real _ ⟨⟨0, hn⟩, Finset.mem_univ _⟩ _ fun k => h _

/-- The last axis taken away. -/
theorem reducesS16x96x2048x10 : S16x96x2048x10.Reduces [3] S16x96x2048 := by decide

/-- The larger of the bottom and a real is that real. -/
theorem top_max (y : FVec Ideal S16x96x2048 .f32) (j : S16x96x2048.Idx) (r : ℝ) (h : y j = (r : EReal)) :
    maximumf (broadcastInDim S16x96x2048 ![] bcast_S_S16x96x2048 (constant S_ .f32 0xFF800000#32)) y j = (r : EReal) := by
  change max (Ideal.ofBits .f32 0xFF800000#32) (y j) = _
  rw [word_bot, h]
  exact max_eq_right bot_le

/-- The largest logit is a real. -/
theorem top_real (u : FVec Ideal S16x96x2048x10 .f32) (h : ∀ j, ∃ r : ℝ, u j = (r : EReal)) (j : S16x96x2048.Idx) :
    ∃ r : ℝ, topB u j = (r : EReal) := by
  have e := reduce_max_real u h (constant S_ .f32 0xFF800000#32) (fun _ => word_bot) reducesTo_S16x96x2048x10_S16x96x2048_d3 reducesS16x96x2048x10 (by decide) h_S_ j
  revert e
  unfold topB
  generalize Host.reduce FloatOps.maximumf u _ reducesTo_S16x96x2048x10_S16x96x2048_d3 h_S_ = y
  rintro ⟨r, hr⟩
  exact ⟨r, top_max y j r hr⟩

/-- The softmax does not depend on what is taken away from the logits. -/
theorem soft_shift (a : Fin 10 → ℝ) (M : ℝ) (k : Fin 10) :
    Ideal.div (Ideal.exp ((a k : EReal) - (M : EReal))) (∑ l : Fin 10, Ideal.exp ((a l : EReal) - (M : EReal)))
      = ((Real.exp (a k) * (1 / part a 10) : ℝ) : EReal) := by
  have he : ∀ l, Ideal.exp ((a l : EReal) - (M : EReal)) = ((Real.exp (a l - M) : ℝ) : EReal) := fun l => by
    rw [← EReal.coe_sub, Ideal.exp_coe]
  have hs : ∑ l : Fin 10, Real.exp (a l - M) = part a 10 * Real.exp (-M) := by
    unfold part
    rw [Finset.sum_mul]
    exact Finset.sum_congr rfl fun l _ => by rw [if_pos l.isLt, ← Real.exp_add, sub_eq_add_neg]
  have hp := part_pos a
  have hm := Real.exp_pos (-M)
  simp only [he]
  rw [coe_sum, hs, div_real (by positivity)]
  refine congrArg _ ?_
  rw [sub_eq_add_neg, Real.exp_add]
  field_simp

/-- The size of a bin at a place. -/
theorem sizes_at (u : FVec Ideal S16x96x2048x10 .f32) (h : ∀ j, ∃ r : ℝ, u j = (r : EReal)) (a : Fin 10 → ℝ) (b : Fin 16) (i : Fin 96) (t : Fin 2048)
    (ha : ∀ k, u (ix4 b i t k) = (a k : EReal)) (k : Fin 10) :
    sizesB u (ix4 b i t k) = ((leastR + shareR * (Real.exp (a k) * (1 / part a 10)) : ℝ) : EReal) := by
  obtain ⟨m, hm⟩ := top_real u h (ix3 b i t)
  have e := soft_shift a m k
  simp only [← ha, ← hm] at e
  rw [EReal.coe_add, EReal.coe_mul, ← e, ← least_at ix0, ← rest_at ix0]
  unfold sizesB expB
  generalize topB u = w
  generalize leastB = l
  generalize restB = r
  pointwise []

/-- The running sum of the sizes is the knot. -/
theorem sizes_sum (a : Fin 10 → ℝ) (k : ℕ) (h1 : 1 ≤ k) (h9 : k ≤ 9) :
    ∑ j : Fin k, (leastR + shareR * (Real.exp (a ⟨j.val, by omega⟩) * (1 / part a 10))) = knot a k := by
  rw [knot_mid a k h1 h9]
  suffices H : ∀ n, (hn : n ≤ 9) → ∑ j : Fin n, (leastR + shareR * (Real.exp (a ⟨j.val, by omega⟩) * (1 / part a 10)))
      = (n : ℝ) * leastR + shareR * (part a n * (1 / part a 10)) from H k h9
  intro n
  induction n with
  | zero => intro _; simp [part_zero]
  | succ n ih =>
    intro hn
    rw [Fin.sum_univ_castSucc]
    have e := ih (by omega)
    simp only [Fin.val_castSucc, Fin.val_last] at e ⊢
    rw [e, part_succ a n (by omega)]
    push_cast
    ring

/-- A knot scaled to the interval from minus five to five. -/
theorem scaled (a : Fin 10 → ℝ) (k : ℕ) (h1 : 1 ≤ k) (h9 : k ≤ 9) :
    Ideal.ofBits .f32 0x41200000#32 * (∑ j : Fin k, ((leastR + shareR * (Real.exp (a ⟨j.val, by omega⟩) * (1 / part a 10)) : ℝ) : EReal))
      - Ideal.ofBits .f32 0x40A00000#32 = ((10 * knot a k - 5 : ℝ) : EReal) := by
  rw [coe_sum, sizes_sum a k h1 h9, word_ten, word_five, ← EReal.coe_mul, ← EReal.coe_sub]

end Cert.Ref

end
-- ==== Proof.Value.RefCorners.lean ====
/- The reference's knots: the running sums of the sizes, read at a place. -/
module

public import proofs.«01_k».proof.Proof.Gen.ReferenceIdeal.Read
public import proofs.«01_k».proof.Proof.Value.RefKnots
public import Idealize.ShloMosaic.Lib.Pointwise

@[expose] public section

noncomputable section

namespace Cert.Ref

open Cert.ReferenceIdeal Cert.ReferenceIdeal.Gen Cert.ReferenceIdeal.Read Idealize.ShloMosaic Idealize.SL.Sem Cert.Flow

/-- Knot 1 at a place. -/
theorem knot1_at (z : FVec Ideal S16x96x2048x10 .f32) (a : Fin 10 → ℝ) (b : Fin 16) (i : Fin 96) (t : Fin 2048)
    (hz : ∀ k, z (ix4 b i t k) = ((leastR + shareR * (Real.exp (a k) * (1 / part a 10)) : ℝ) : EReal)) :
    knot1B z (ix3 b i t) = ((10 * knot a 1 - 5 : ℝ) : EReal) := by
  rw [← scaled a 1 (by norm_num) (by norm_num)]
  simp only [← hz]
  pointwise [knot1B]

/-- Knot 2 at a place. -/
theorem knot2_at (z : FVec Ideal S16x96x2048x10 .f32) (a : Fin 10 → ℝ) (b : Fin 16) (i : Fin 96) (t : Fin 2048)
    (hz : ∀ k, z (ix4 b i t k) = ((leastR + shareR * (Real.exp (a k) * (1 / part a 10)) : ℝ) : EReal)) :
    knot2B z (ix3 b i t) = ((10 * knot a 2 - 5 : ℝ) : EReal) := by
  rw [← scaled a 2 (by norm_num) (by norm_num)]
  simp only [← hz]
  pointwise [knot2B]

/-- Knot 3 at a place. -/
theorem knot3_at (z : FVec Ideal S16x96x2048x10 .f32) (a : Fin 10 → ℝ) (b : Fin 16) (i : Fin 96) (t : Fin 2048)
    (hz : ∀ k, z (ix4 b i t k) = ((leastR + shareR * (Real.exp (a k) * (1 / part a 10)) : ℝ) : EReal)) :
    knot3B z (ix3 b i t) = ((10 * knot a 3 - 5 : ℝ) : EReal) := by
  rw [← scaled a 3 (by norm_num) (by norm_num)]
  simp only [← hz]
  pointwise [knot3B]

/-- Knot 4 at a place. -/
theorem knot4_at (z : FVec Ideal S16x96x2048x10 .f32) (a : Fin 10 → ℝ) (b : Fin 16) (i : Fin 96) (t : Fin 2048)
    (hz : ∀ k, z (ix4 b i t k) = ((leastR + shareR * (Real.exp (a k) * (1 / part a 10)) : ℝ) : EReal)) :
    knot4B z (ix3 b i t) = ((10 * knot a 4 - 5 : ℝ) : EReal) := by
  rw [← scaled a 4 (by norm_num) (by norm_num)]
  simp only [← hz]
  pointwise [knot4B]

/-- Knot 5 at a place. -/
theorem knot5_at (z : FVec Ideal S16x96x2048x10 .f32) (a : Fin 10 → ℝ) (b : Fin 16) (i : Fin 96) (t : Fin 2048)
    (hz : ∀ k, z (ix4 b i t k) = ((leastR + shareR * (Real.exp (a k) * (1 / part a 10)) : ℝ) : EReal)) :
    knot5B z (ix3 b i t) = ((10 * knot a 5 - 5 : ℝ) : EReal) := by
  rw [← scaled a 5 (by norm_num) (by norm_num)]
  simp only [← hz]
  pointwise [knot5B]

/-- Knot 6 at a place. -/
theorem knot6_at (z : FVec Ideal S16x96x2048x10 .f32) (a : Fin 10 → ℝ) (b : Fin 16) (i : Fin 96) (t : Fin 2048)
    (hz : ∀ k, z (ix4 b i t k) = ((leastR + shareR * (Real.exp (a k) * (1 / part a 10)) : ℝ) : EReal)) :
    knot6B z (ix3 b i t) = ((10 * knot a 6 - 5 : ℝ) : EReal) := by
  rw [← scaled a 6 (by norm_num) (by norm_num)]
  simp only [← hz]
  pointwise [knot6B]

/-- Knot 7 at a place. -/
theorem knot7_at (z : FVec Ideal S16x96x2048x10 .f32) (a : Fin 10 → ℝ) (b : Fin 16) (i : Fin 96) (t : Fin 2048)
    (hz : ∀ k, z (ix4 b i t k) = ((leastR + shareR * (Real.exp (a k) * (1 / part a 10)) : ℝ) : EReal)) :
    knot7B z (ix3 b i t) = ((10 * knot a 7 - 5 : ℝ) : EReal) := by
  rw [← scaled a 7 (by norm_num) (by norm_num)]
  simp only [← hz]
  pointwise [knot7B]

/-- Knot 8 at a place. -/
theorem knot8_at (z : FVec Ideal S16x96x2048x10 .f32) (a : Fin 10 → ℝ) (b : Fin 16) (i : Fin 96) (t : Fin 2048)
    (hz : ∀ k, z (ix4 b i t k) = ((leastR + shareR * (Real.exp (a k) * (1 / part a 10)) : ℝ) : EReal)) :
    knot8B z (ix3 b i t) = ((10 * knot a 8 - 5 : ℝ) : EReal) := by
  rw [← scaled a 8 (by norm_num) (by norm_num)]
  simp only [← hz]
  pointwise [knot8B]

/-- Knot 9 at a place. -/
theorem knot9_at (z : FVec Ideal S16x96x2048x10 .f32) (a : Fin 10 → ℝ) (b : Fin 16) (i : Fin 96) (t : Fin 2048)
    (hz : ∀ k, z (ix4 b i t k) = ((leastR + shareR * (Real.exp (a k) * (1 / part a 10)) : ℝ) : EReal)) :
    knot9B z (ix3 b i t) = ((10 * knot a 9 - 5 : ℝ) : EReal) := by
  rw [← scaled a 9 (by norm_num) (by norm_num)]
  simp only [← hz]
  pointwise [knot9B]

/-- The knots at a place. -/
theorem knots_at (z : FVec Ideal S16x96x2048x10 .f32) (a : Fin 10 → ℝ) (b : Fin 16) (i : Fin 96) (t : Fin 2048)
    (hz : ∀ k, z (ix4 b i t k) = ((leastR + shareR * (Real.exp (a k) * (1 / part a 10)) : ℝ) : EReal)) (k : Fin 11) :
    knotsB z (ix4 b i t k) = ((10 * knot a k.val - 5 : ℝ) : EReal) := by
  have e1 := knot1_at z a b i t hz
  have e2 := knot2_at z a b i t hz
  have e3 := knot3_at z a b i t hz
  have e4 := knot4_at z a b i t hz
  have e5 := knot5_at z a b i t hz
  have e6 := knot6_at z a b i t hz
  have e7 := knot7_at z a b i t hz
  have e8 := knot8_at z a b i t hz
  have e9 := knot9_at z a b i t hz
  unfold knotsB
  generalize knot1B z = y1 at *
  generalize knot2B z = y2 at *
  generalize knot3B z = y3 at *
  generalize knot4B z = y4 at *
  generalize knot5B z = y5 at *
  generalize knot6B z = y6 at *
  generalize knot7B z = y7 at *
  generalize knot8B z = y8 at *
  generalize knot9B z = y9 at *
  fin_cases k
  all_goals pointwise [colB]
  · rw [word_neg_five]; exact congrArg _ (by rw [knot_zero]; norm_num)
  · exact e1
  · exact e2
  · exact e3
  · exact e4
  · exact e5
  · exact e6
  · exact e7
  · exact e8
  · exact e9
  · rw [word_five]; exact congrArg _ (by rw [knot_ten]; norm_num)

end Cert.Ref

end
-- ==== Proof.Value.RefPick.lean ====
/- The reference's slopes, the bin it finds for a point, and the entry it picks at a bin, each read at a place. -/
module

public import proofs.«01_k».proof.Proof.Value.RefKnots

@[expose] public section

noncomputable section

namespace Cert.Ref

open Cert.ReferenceIdeal Cert.ReferenceIdeal.Gen Cert.ReferenceIdeal.Read Idealize.ShloMosaic Idealize.SL.Sem Cert.Flow

/-- The numbers behind the slopes, with a fixed one at either end. -/
def rawB (z : FVec Ideal S16x96x2048x9 .f32) : FVec Ideal S16x96x2048x11 .f32 :=
  pad S16x96x2048x11 ![0, 0, 0, 1] ![0, 0, 0, 1] ![0, 0, 0, 0] z (id (constant S_ .f32 0x3F0A2C8F#32)) pads_S16x96x2048x9_S16x96x2048x11_000_000_000_110 h_S_

/-- Zero everywhere. -/
def noneB : FVec Ideal S16x96x2048x11 .f32 := broadcastInDim S16x96x2048x11 ![] bcast_S_S16x96x2048x11 (constant S_ .f32 0x00000000#32)

/-- The slopes at the knots. -/
def slopesB (v : FVec Ideal S16x96x2048x11 .f32) : FVec Ideal S16x96x2048x11 .f32 :=
  addf (broadcastInDim S16x96x2048x11 ![] bcast_S_S16x96x2048x11 leastB)
    (select (cmpf .une (subf v noneB) (subf v noneB)) (addf v noneB)
      (addf (maximumf v noneB) (Host.log1p (Host.exp (Host.negf (Host.absf (subf v noneB)))))))

/-- The number of knots at or below the point. -/
def countB (x : FVec Ideal S16x96x2048 .f32) (kn : FVec Ideal S16x96x2048x11 .f32) : IVec S16x96x2048 32 :=
  Host.reduce IntOp.addi
    (extui 32 (cmpf .oge (broadcastInDim S16x96x2048x11 ![0, 1, 2, 3] bcast_S16x96x2048x1_S16x96x2048x11_0_1_2_3
      (broadcastInDim S16x96x2048x1 ![0, 1, 2] bcast_S16x96x2048_S16x96x2048x1_0_1_2 x)) kn) natLt_1_32)
    (constantI S_ 32 0#32) reducesTo_S16x96x2048x11_S16x96x2048_d3 h_S_

/-- The bin of the point. -/
def binB (x : FVec Ideal S16x96x2048 .f32) (kn : FVec Ideal S16x96x2048x11 .f32) : IVec S16x96x2048 32 :=
  minsi (broadcastInDim S16x96x2048 ![] bcast_S_S16x96x2048 (id (constantI S_ 32 9#32)))
    (maxsi (broadcastInDim S16x96x2048 ![] bcast_S_S16x96x2048 (id (constantI S_ 32 0#32)))
      (subi (countB x kn) (broadcastInDim S16x96x2048 ![] bcast_S_S16x96x2048 (constantI S_ 32 1#32))))

/-- Of 11 entries the one at an index. -/
def pick11B (idx : IVec S16x96x2048 32) (z : FVec Ideal S16x96x2048x11 .f32) : FVec Ideal S16x96x2048 .f32 :=
  Host.reduceAdd (select (cmpi .eq
      (broadcastInDim S16x96x2048x11 ![0, 1, 2, 3] bcast_S1x1x1x11_S16x96x2048x11_0_1_2_3
        (broadcastInDim S1x1x1x11 ![3] bcast_S11_S1x1x1x11_3 (iotaInDim S11 32 0)))
      (broadcastInDim S16x96x2048x11 ![0, 1, 2, 3] bcast_S16x96x2048x1_S16x96x2048x11_0_1_2_3 (broadcastInDim S16x96x2048x1 ![0, 1, 2] bcast_S16x96x2048_S16x96x2048x1_0_1_2 idx)))
    z (broadcastInDim S16x96x2048x11 ![] bcast_S_S16x96x2048x11 (id (constant S_ .f32 0x00000000#32))))
    (constant S_ .f32 0x00000000#32) reducesTo_S16x96x2048x11_S16x96x2048_d3 h_S_

/-- Of 10 entries the one at an index. -/
def pick10B (idx : IVec S16x96x2048 32) (z : FVec Ideal S16x96x2048x10 .f32) : FVec Ideal S16x96x2048 .f32 :=
  Host.reduceAdd (select (cmpi .eq
      (broadcastInDim S16x96x2048x10 ![0, 1, 2, 3] bcast_S1x1x1x10_S16x96x2048x10_0_1_2_3
        (broadcastInDim S1x1x1x10 ![3] bcast_S10_S1x1x1x10_3 (iotaInDim S10 32 0)))
      (broadcastInDim S16x96x2048x10 ![0, 1, 2, 3] bcast_S16x96x2048x1_S16x96x2048x10_0_1_2_3 (broadcastInDim S16x96x2048x1 ![0, 1, 2] bcast_S16x96x2048_S16x96x2048x1_0_1_2 idx)))
    z (broadcastInDim S16x96x2048x10 ![] bcast_S_S16x96x2048x10 (id (constant S_ .f32 0x00000000#32))))
    (constant S_ .f32 0x00000000#32) reducesTo_S16x96x2048x10_S16x96x2048_d3 h_S_

/-- A one-bit word of a proposition is one exactly when it holds. -/
theorem bit_iff (p : Prop) [Decidable p] : BitVec.ofBool (decide p) = 1#1 ↔ p := by
  by_cases h : p <;> simp [h]

/-- The entry picked of 11 at a place. -/
theorem pick11_at (idx : IVec S16x96x2048 32) (z : FVec Ideal S16x96x2048x11 .f32) (b : Fin 16) (i : Fin 96) (t : Fin 2048) (n : Fin 11)
    (h : idx (ix3 b i t) = BitVec.ofNat 32 n.val) : pick11B idx z (ix3 b i t) = z (ix4 b i t n) := by
  pointwise [pick11B]
  rw [h, Finset.sum_eq_single n]
  · exact if_pos ((bit_iff _).2 rfl)
  · intro k _ hk
    refine (if_neg fun e => hk ?_).trans word_zero
    have e' := congrArg BitVec.toNat ((bit_iff _).1 e)
    rw [BitVec.toNat_ofNat, BitVec.toNat_ofNat] at e'
    exact Fin.ext (by omega)
  · intro hn; exact absurd (Finset.mem_univ _) hn

/-- The entry picked of 10 at a place. -/
theorem pick10_at (idx : IVec S16x96x2048 32) (z : FVec Ideal S16x96x2048x10 .f32) (b : Fin 16) (i : Fin 96) (t : Fin 2048) (n : Fin 10)
    (h : idx (ix3 b i t) = BitVec.ofNat 32 n.val) : pick10B idx z (ix3 b i t) = z (ix4 b i t n) := by
  pointwise [pick10B]
  rw [h, Finset.sum_eq_single n]
  · exact if_pos ((bit_iff _).2 rfl)
  · intro k _ hk
    refine (if_neg fun e => hk ?_).trans word_zero
    have e' := congrArg BitVec.toNat ((bit_iff _).1 e)
    rw [BitVec.toNat_ofNat, BitVec.toNat_ofNat] at e'
    exact Fin.ext (by omega)
  · intro hn; exact absurd (Finset.mem_univ _) hn

/-- The numbers behind the slopes at a place. -/
theorem raw_at (z : FVec Ideal S16x96x2048x9 .f32) (d : Fin 9 → ℝ) (b : Fin 16) (i : Fin 96) (t : Fin 2048)
    (hz : ∀ k, z (ix4 b i t k) = (d k : EReal)) (k : Fin 11) : rawB z (ix4 b i t k) = (raw d k.val : EReal) := by
  unfold raw
  pointwise [rawB]
  split
  · rename_i h
    rw [dif_pos (by omega), ← hz]
  · rename_i h
    rw [dif_neg (by omega)]
    exact word_end

/-- Softplus, as the reference forms it. -/
theorem softplus_ref (v : ℝ) : max (v : EReal) 0 + Ideal.log1p (Ideal.exp (-max (v : EReal) (-(v : EReal)))) = (sp v : EReal) := by
  have he : Ideal.exp (-max (v : EReal) (-(v : EReal))) = ((Real.exp (0 - |v|) : ℝ) : EReal) := by
    rw [← EReal.coe_neg, max_real, ← EReal.coe_neg, Ideal.exp_coe, abs_eq_max_neg, zero_sub]
  have hp := Real.exp_pos (0 - |v|)
  rw [he]
  change max (v : EReal) ((0 : ℝ) : EReal) + Ideal.log (((1 : ℝ) : EReal) + ((Real.exp (0 - |v|) : ℝ) : EReal)) = _
  rw [max_real, ← EReal.coe_add, log_real (by linarith), ← EReal.coe_add]
  rfl

/-- The slopes at a place. -/
theorem slopes_val (w : FVec Ideal S16x96x2048x11 .f32) (v : ℝ) (b : Fin 16) (i : Fin 96) (t : Fin 2048) (k : Fin 11)
    (h : w (ix4 b i t k) = (v : EReal)) : slopesB w (ix4 b i t k) = (Flow.slope v : EReal) := by
  unfold Flow.slope
  rw [EReal.coe_add, ← softplus_ref, ← h, ← least_at ix0]
  unfold slopesB noneB
  generalize leastB = l
  pointwise []
  rw [if_neg (by simp)]
  rfl

/-- The count of the first so many of eleven. -/
theorem count_word : ∀ j : Fin 11, Finset.univ.fold IntOp.addi 0#32
    (fun k : Fin 11 => BitVec.setWidth 32 (BitVec.ofBool (decide (k.val ≤ j.val)))) = BitVec.ofNat 32 (j.val + 1) := by decide

/-- The count made a bin. -/
theorem clip_word : ∀ j : Fin 11, IntOp.minsi 9#32 (IntOp.maxsi 0#32 (IntOp.subi (BitVec.ofNat 32 (j.val + 1)) 1#32))
    = BitVec.ofNat 32 (min 9 j.val) := by decide

/-- How many knots lie at or below a point, less one. -/
theorem knots_below (a : Fin 10 → ℝ) (u : ℝ) (h0 : 0 ≤ u) :
    ∃ j : Fin 11, min 9 j.val = bin a u ∧ ∀ k : Fin 11, knot a k.val ≤ u ↔ k.val ≤ j.val := by
  have hb := bin_le a u
  by_cases h1 : 1 ≤ u
  · have h9 : 9 ≤ bin a u := (bin_iff a u 9 (by norm_num) le_rfl).1 ((knot_mono a (by norm_num) le_rfl).trans (by rw [knot_ten]; exact h1))
    refine ⟨⟨10, by norm_num⟩, by dsimp only; omega, fun k => ⟨fun _ => by dsimp only; omega, fun _ => ?_⟩⟩
    exact (knot_mono a (by omega : k.val ≤ 10) le_rfl).trans (by rw [knot_ten]; exact h1)
  · refine ⟨⟨bin a u, by omega⟩, by dsimp only; omega, fun k => ?_⟩
    dsimp only
    by_cases k0 : k.val = 0
    · rw [k0, knot_zero]; exact ⟨fun _ => Nat.zero_le _, fun _ => h0⟩
    by_cases k10 : k.val = 10
    · rw [k10, knot_ten]; exact ⟨fun h => absurd h h1, fun h => by omega⟩
    · exact bin_iff a u k.val (by omega) (by omega)

/-- The bin of a point at a place. -/
theorem bin_at (x : FVec Ideal S16x96x2048 .f32) (kn : FVec Ideal S16x96x2048x11 .f32) (a : Fin 10 → ℝ) (u : ℝ) (h0 : 0 ≤ u)
    (b : Fin 16) (i : Fin 96) (t : Fin 2048) (hx : x (ix3 b i t) = ((10 * u - 5 : ℝ) : EReal))
    (hk : ∀ k, kn (ix4 b i t k) = ((10 * knot a k.val - 5 : ℝ) : EReal)) : binB x kn (ix3 b i t) = BitVec.ofNat 32 (bin a u) := by
  obtain ⟨j, hj, hjk⟩ := knots_below a u h0
  have hc : countB x kn (ix3 b i t) = BitVec.ofNat 32 (j.val + 1) := by
    rw [← count_word j]
    pointwise [countB]
    refine Finset.fold_congr fun k _ => congrArg (fun c : Bool => BitVec.setWidth 32 (BitVec.ofBool c)) (decide_eq_decide.2 ?_)
    rw [hx, hk, ← hjk k, EReal.coe_le_coe_iff]
    constructor <;> intro h <;> linarith
  rw [← hj, ← clip_word j, ← hc]
  unfold binB
  generalize countB x kn = y
  pointwise []
  rfl

end Cert.Ref

end
-- ==== Proof.Value.RefLogits.lean ====
/- The reference's projection of the hidden channels, and the three groups of numbers each transformed entry takes from it. -/
module

public import proofs.«01_k».proof.Proof.Gen.ReferenceIdeal.Read
public import proofs.«01_k».proof.Proof.Value.Net
public import Idealize.ShloMosaic.Lib.Pointwise

@[expose] public section

noncomputable section

namespace Cert.Ref

open Cert.ReferenceIdeal Cert.ReferenceIdeal.Gen Cert.ReferenceIdeal.Read Idealize.ShloMosaic Idealize.SL.Sem Cert.Flow

variable (x0 : FVec Ideal S16x192x2048 .f32) (x1 : FVec Ideal S16x1x2048 .f32) (x2 : FVec Ideal S256x96 .f32) (x3 : FVec Ideal S256 .f32)
  (x4 : FVec Ideal S3x256x3 .f32) (x5 : FVec Ideal S3x256 .f32) (x6 : FVec Ideal S3x256x256 .f32) (x7 x8 x9 x10 x11 : FVec Ideal S3x256 .f32)
  (x12 : FVec Ideal S2784x256 .f32) (x13 : FVec Ideal S2784 .f32)

/-- A row of the projection at a place. -/
theorem row_at (H : Fin 256 → Fin 2048 → ℝ) (J : Fin 2784 → Fin 256 → ℝ) (b : Fin 16) (t : Fin 2048)
    (hh : ∀ f t, val_main_v348 (F := Ideal) x0 x1 x2 x3 x4 x5 x6 x7 x8 x9 x10 x11 (ix3 b f t) = (H f t : EReal)) (h1 : ∀ i, x1 i = 1)
    (h12 : ∀ r f, x12 (ix2 r f) = (J r f : EReal)) (h13 : ∀ i, x13 i = 0) (r : Fin 2784) :
    val_main_v357 (F := Ideal) x0 x1 x2 x3 x4 x5 x6 x7 x8 x9 x10 x11 x12 x13 (ix3 b r t) = ((∑ f : Fin 256, J r f * H f t : ℝ) : EReal) := by
  rw [← coe_sum]
  simp only [EReal.coe_mul, ← hh, ← h12]
  clear hh
  unfold val_main_v357 val_main_v356 val_main_v355 val_main_v354 val_main_v353 val_main_v352 val_main_v351 val_main_v350 val_main_v349
  generalize val_main_v348 (F := Ideal) x0 x1 x2 x3 x4 x5 x6 x7 x8 x9 x10 x11 = y
  pointwise []
  simp only [h1, h13, add_zero, mul_one]
  exact Finset.sum_congr rfl fun _ _ => mul_comm _ _

/-- The numbers of one transformed entry at a place. -/
theorem numbers_at (b : Fin 16) (i : Fin 96) (t : Fin 2048) (k : Fin 29) (r : Fin 2784) (h : r.val = 29 * i.val + k.val) :
    val_main_v359 (F := Ideal) x0 x1 x2 x3 x4 x5 x6 x7 x8 x9 x10 x11 x12 x13 (ix4 b i t k) = val_main_v357 (F := Ideal) x0 x1 x2 x3 x4 x5 x6 x7 x8 x9 x10 x11 x12 x13 (ix3 b r t) := by
  unfold val_main_v359 val_main_v358
  generalize val_main_v357 (F := Ideal) x0 x1 x2 x3 x4 x5 x6 x7 x8 x9 x10 x11 x12 x13 = y
  pointwise []
  exact congrArg (fun r => y (ix3 b r t)) (Fin.ext (by dsimp only; omega))

/-- The scale of the logits. -/
theorem scale_at (j : S_.Idx) : val_main_v361 (F := Ideal) j = ((1 / 16 : ℝ) : EReal) := by
  change Ideal.div (Ideal.ofBits .f32 0x3F800000#32) (Ideal.sqrt (Ideal.ofBits .f32 0x43800000#32)) = _
  have e : Real.sqrt 256 = 16 := by
    rw [show (256 : ℝ) = 16 ^ 2 by norm_num]; exact Real.sqrt_sq (by norm_num)
  rw [word_one, word_256, sqrt_real (by norm_num), e, div_real (by norm_num)]

/-- The logits of the widths at a place. -/
theorem widths_at (H : Fin 256 → Fin 2048 → ℝ) (J : Fin 2784 → Fin 256 → ℝ) (b : Fin 16) (i : Fin 96) (t : Fin 2048)
    (hh : ∀ r, val_main_v357 (F := Ideal) x0 x1 x2 x3 x4 x5 x6 x7 x8 x9 x10 x11 x12 x13 (ix3 b r t) = ((∑ f : Fin 256, J r f * H f t : ℝ) : EReal)) (k : Fin 10) :
    val_main_v364 (F := Ideal) x0 x1 x2 x3 x4 x5 x6 x7 x8 x9 x10 x11 x12 x13 (ix4 b i t k) = (proj (rowsW J) H i t k : EReal) := by
  have e : proj (rowsW J) H i t k = (∑ f : Fin 256, J ⟨29 * i.val + k.val, by omega⟩ f * H f t) * (1 / 16) := by
    unfold proj rowsW
    rw [Finset.sum_mul]
    exact Finset.sum_congr rfl fun _ _ => by ring
  rw [e, EReal.coe_mul, ← hh, ← scale_at ix0]
  have g := numbers_at x0 x1 x2 x3 x4 x5 x6 x7 x8 x9 x10 x11 x12 x13 b i t ⟨k.val, by omega⟩ ⟨29 * i.val + k.val, by omega⟩
    (by rfl)
  revert g
  unfold val_main_v364 val_main_v363 val_main_v362
  generalize val_main_v359 (F := Ideal) x0 x1 x2 x3 x4 x5 x6 x7 x8 x9 x10 x11 x12 x13 = y
  generalize val_main_v361 (F := Ideal) = s
  intro g
  pointwise []
  exact congrArg (fun v : EReal => v * s ix0) g

/-- The logits of the heights at a place. -/
theorem heights_at (H : Fin 256 → Fin 2048 → ℝ) (J : Fin 2784 → Fin 256 → ℝ) (b : Fin 16) (i : Fin 96) (t : Fin 2048)
    (hh : ∀ r, val_main_v357 (F := Ideal) x0 x1 x2 x3 x4 x5 x6 x7 x8 x9 x10 x11 x12 x13 (ix3 b r t) = ((∑ f : Fin 256, J r f * H f t : ℝ) : EReal)) (k : Fin 10) :
    val_main_v367 (F := Ideal) x0 x1 x2 x3 x4 x5 x6 x7 x8 x9 x10 x11 x12 x13 (ix4 b i t k) = (proj (rowsH J) H i t k : EReal) := by
  have e : proj (rowsH J) H i t k = (∑ f : Fin 256, J ⟨29 * i.val + 10 + k.val, by omega⟩ f * H f t) * (1 / 16) := by
    unfold proj rowsH
    rw [Finset.sum_mul]
    exact Finset.sum_congr rfl fun _ _ => by ring
  rw [e, EReal.coe_mul, ← hh, ← scale_at ix0]
  have g := numbers_at x0 x1 x2 x3 x4 x5 x6 x7 x8 x9 x10 x11 x12 x13 b i t ⟨10 + k.val, by omega⟩ ⟨29 * i.val + 10 + k.val, by omega⟩
    (by dsimp only; omega)
  revert g
  unfold val_main_v367 val_main_v366 val_main_v365
  generalize val_main_v359 (F := Ideal) x0 x1 x2 x3 x4 x5 x6 x7 x8 x9 x10 x11 x12 x13 = y
  generalize val_main_v361 (F := Ideal) = s
  intro g
  pointwise []
  exact congrArg (fun v : EReal => v * s ix0) g

/-- The inner slopes' numbers at a place. -/
theorem slopes_at (H : Fin 256 → Fin 2048 → ℝ) (J : Fin 2784 → Fin 256 → ℝ) (b : Fin 16) (i : Fin 96) (t : Fin 2048)
    (hh : ∀ r, val_main_v357 (F := Ideal) x0 x1 x2 x3 x4 x5 x6 x7 x8 x9 x10 x11 x12 x13 (ix3 b r t) = ((∑ f : Fin 256, J r f * H f t : ℝ) : EReal)) (k : Fin 9) :
    val_main_v368 (F := Ideal) x0 x1 x2 x3 x4 x5 x6 x7 x8 x9 x10 x11 x12 x13 (ix4 b i t k) = (proj (rowsD J) H i t k : EReal) := by
  unfold proj rowsD
  rw [← hh]
  have g := numbers_at x0 x1 x2 x3 x4 x5 x6 x7 x8 x9 x10 x11 x12 x13 b i t ⟨20 + k.val, by omega⟩ ⟨29 * i.val + 20 + k.val, by omega⟩
    (by dsimp only; omega)
  revert g
  unfold val_main_v368
  generalize val_main_v359 (F := Ideal) x0 x1 x2 x3 x4 x5 x6 x7 x8 x9 x10 x11 x12 x13 = y
  intro g
  pointwise []
  exact g

end Cert.Ref

end
-- ==== Proof.Value.RefValue.lean ====
/- The reference's spline of one entry, and its two results, as the real functions of the arguments. -/
module

public import proofs.«01_k».proof.Proof.Value.RefCorners
public import proofs.«01_k».proof.Proof.Value.RefPick
public import proofs.«01_k».proof.Proof.Value.RefLogits

@[expose] public section

noncomputable section

namespace Cert.Ref

open Cert.ReferenceIdeal Cert.ReferenceIdeal.Gen Cert.ReferenceIdeal.Read Idealize.ShloMosaic Idealize.SL.Sem Cert.Flow

/-- One everywhere. -/
def oneB : FVec Ideal S16x96x2048 .f32 := broadcastInDim S16x96x2048 ![] bcast_S_S16x96x2048 (constant S_ .f32 0x3F800000#32)

/-- Two everywhere. -/
def twoB : FVec Ideal S16x96x2048 .f32 := broadcastInDim S16x96x2048 ![] bcast_S_S16x96x2048 (constant S_ .f32 0x40000000#32)

/-- How far into its bin the point lies. -/
def thetaB (x q w : FVec Ideal S16x96x2048 .f32) : FVec Ideal S16x96x2048 .f32 := Host.divf (subf x q) w

/-- The product of the parts on either side of the point. -/
def bothB (x q w : FVec Ideal S16x96x2048 .f32) : FVec Ideal S16x96x2048 .f32 := mulf (thetaB x q w) (subf oneB (thetaB x q w))

/-- What the rational quadratic divides by. -/
def underB (x q w h d0 d1 : FVec Ideal S16x96x2048 .f32) : FVec Ideal S16x96x2048 .f32 :=
  addf (Host.divf h w) (mulf (subf (addf d0 d1) (mulf twoB (Host.divf h w))) (bothB x q w))

/-- The rational quadratic. -/
def bendB (x q w r h d0 d1 : FVec Ideal S16x96x2048 .f32) : FVec Ideal S16x96x2048 .f32 :=
  addf r (Host.divf (mulf h (addf (mulf (mulf (Host.divf h w) (thetaB x q w)) (thetaB x q w)) (mulf d0 (bothB x q w))))
    (underB x q w h d0 d1))

/-- The top of the slope's fraction. -/
def overB (x q w h d0 d1 : FVec Ideal S16x96x2048 .f32) : FVec Ideal S16x96x2048 .f32 :=
  mulf (mulf (Host.divf h w) (Host.divf h w))
    (addf (addf (mulf (mulf d1 (thetaB x q w)) (thetaB x q w)) (mulf (mulf twoB (Host.divf h w)) (bothB x q w)))
      (mulf d0 (mulf (subf oneB (thetaB x q w)) (subf oneB (thetaB x q w)))))

/-- The logarithm of the slope. -/
def steepB (x q w h d0 d1 : FVec Ideal S16x96x2048 .f32) : FVec Ideal S16x96x2048 .f32 :=
  subf (Host.log (overB x q w h d0 d1)) (mulf twoB (Host.log (underB x q w h d0 d1)))

section Formula

variable (x q w r h d0 d1 : FVec Ideal S16x96x2048 .f32) (Q Qn R Rn e0 e1 u : ℝ) (j : S16x96x2048.Idx)

/-- One at a place. -/
theorem one_at : oneB j = ((1 : ℝ) : EReal) := word_one

/-- Two at a place. -/
theorem two_at : twoB j = ((2 : ℝ) : EReal) := word_two

/-- The rise over the run at a place. -/
theorem rise_at (hQ : Q < Qn) (hw : w j = ((10 * (Qn - Q) : ℝ) : EReal)) (hh : h j = ((10 * (Rn - R) : ℝ) : EReal)) :
    Host.divf h w j = (rise Q Qn R Rn : EReal) := by
  have hd : Qn - Q ≠ 0 := by linarith
  change Ideal.div (h j) (w j) = _
  rw [hw, hh, div_real (by positivity)]
  refine congrArg _ ?_
  unfold rise
  field_simp

/-- How far into its bin the point lies, at a place. -/
theorem theta_at (hQ : Q < Qn) (hx : x j = ((10 * u - 5 : ℝ) : EReal)) (hq : q j = ((10 * Q - 5 : ℝ) : EReal))
    (hw : w j = ((10 * (Qn - Q) : ℝ) : EReal)) : thetaB x q w j = (theta Q Qn u : EReal) := by
  have hd : Qn - Q ≠ 0 := by linarith
  change Ideal.div (x j - q j) (w j) = _
  rw [hw, hx, hq, ← EReal.coe_sub, div_real (by positivity)]
  refine congrArg _ ?_
  unfold theta
  field_simp
  ring

variable (hQ : Q < Qn) (hx : x j = ((10 * u - 5 : ℝ) : EReal)) (hq : q j = ((10 * Q - 5 : ℝ) : EReal))
    (hw : w j = ((10 * (Qn - Q) : ℝ) : EReal)) (hr : r j = ((10 * R - 5 : ℝ) : EReal)) (hh : h j = ((10 * (Rn - R) : ℝ) : EReal))
    (h0 : d0 j = (e0 : EReal)) (h1 : d1 j = (e1 : EReal))

include hQ hx hq hw in
/-- The product of the parts on either side of the point, at a place. -/
theorem both_at : bothB x q w j = ((theta Q Qn u * (1 - theta Q Qn u) : ℝ) : EReal) := by
  change thetaB x q w j * (oneB j - thetaB x q w j) = _
  rw [theta_at x q w Q Qn u j hQ hx hq hw, one_at, ← EReal.coe_sub, ← EReal.coe_mul]

include hQ hx hq hw hh h0 h1 in
/-- The denominator at a place. -/
theorem under_at : underB x q w h d0 d1 j = (under Q Qn R Rn e0 e1 u : EReal) := by
  change Host.divf h w j + (d0 j + d1 j - twoB j * Host.divf h w j) * bothB x q w j = _
  rw [rise_at w h Q Qn R Rn j hQ hw hh, both_at x q w Q Qn u j hQ hx hq hw, h0, h1, two_at]
  simp only [← EReal.coe_sub, ← EReal.coe_mul, ← EReal.coe_add]
  rfl

include hQ hx hq hw hr hh h0 h1 in
/-- The rational quadratic at a place. -/
theorem bend_at (hp : under Q Qn R Rn e0 e1 u ≠ 0) : bendB x q w r h d0 d1 j = (bend Q Qn R Rn e0 e1 u : EReal) := by
  change r j + Ideal.div (h j * (Host.divf h w j * thetaB x q w j * thetaB x q w j + d0 j * bothB x q w j)) (underB x q w h d0 d1 j) = _
  rw [rise_at w h Q Qn R Rn j hQ hw hh, both_at x q w Q Qn u j hQ hx hq hw, theta_at x q w Q Qn u j hQ hx hq hw,
    under_at x q w h d0 d1 Q Qn R Rn e0 e1 u j hQ hx hq hw hh h0 h1, h0, hr, hh]
  simp only [← EReal.coe_sub, ← EReal.coe_mul, ← EReal.coe_add]
  rw [div_real hp, ← EReal.coe_add]
  refine congrArg _ ?_
  unfold bend
  generalize under Q Qn R Rn e0 e1 u = D
  ring

include hQ hx hq hw hh h0 h1 in
/-- The top of the slope's fraction at a place. -/
theorem over_at : overB x q w h d0 d1 j = (over Q Qn R Rn e0 e1 u : EReal) := by
  change Host.divf h w j * Host.divf h w j * (d1 j * thetaB x q w j * thetaB x q w j + twoB j * Host.divf h w j * bothB x q w j
    + d0 j * ((oneB j - thetaB x q w j) * (oneB j - thetaB x q w j))) = _
  rw [rise_at w h Q Qn R Rn j hQ hw hh, both_at x q w Q Qn u j hQ hx hq hw, theta_at x q w Q Qn u j hQ hx hq hw, h0, h1, two_at, one_at]
  simp only [← EReal.coe_sub, ← EReal.coe_mul, ← EReal.coe_add]
  refine congrArg _ ?_
  unfold over
  ring

include hQ hx hq hw hh h0 h1 in
/-- The logarithm of the slope at a place. -/
theorem steep_at : steepB x q w h d0 d1 j = steep Q Qn R Rn e0 e1 u := by
  change Ideal.log (overB x q w h d0 d1 j) - twoB j * Ideal.log (underB x q w h d0 d1 j) = _
  rw [over_at x q w h d0 d1 Q Qn R Rn e0 e1 u j hQ hx hq hw hh h0 h1,
    under_at x q w h d0 d1 Q Qn R Rn e0 e1 u j hQ hx hq hw hh h0 h1, two_at]
  rfl

end Formula

variable (x0 : FVec Ideal S16x192x2048 .f32) (x1 : FVec Ideal S16x1x2048 .f32) (x2 : FVec Ideal S256x96 .f32) (x3 : FVec Ideal S256 .f32)
  (x4 : FVec Ideal S3x256x3 .f32) (x5 : FVec Ideal S3x256 .f32) (x6 : FVec Ideal S3x256x256 .f32) (x7 x8 x9 x10 x11 : FVec Ideal S3x256 .f32)
  (x12 : FVec Ideal S2784x256 .f32) (x13 : FVec Ideal S2784 .f32)

/-- The knots of the widths. -/
theorem step460 : val_main_v460 (F := Ideal) x0 x1 x2 x3 x4 x5 x6 x7 x8 x9 x10 x11 x12 x13 = knotsB (sizesB (val_main_v364 (F := Ideal) x0 x1 x2 x3 x4 x5 x6 x7 x8 x9 x10 x11 x12 x13)) := by rfl

/-- The knots of the heights. -/
theorem step546 : val_main_v546 (F := Ideal) x0 x1 x2 x3 x4 x5 x6 x7 x8 x9 x10 x11 x12 x13 = knotsB (sizesB (val_main_v367 (F := Ideal) x0 x1 x2 x3 x4 x5 x6 x7 x8 x9 x10 x11 x12 x13)) := by rfl

/-- The slopes at the knots. -/
theorem step552 : val_main_v552 (F := Ideal) x0 x1 x2 x3 x4 x5 x6 x7 x8 x9 x10 x11 x12 x13 = slopesB (rawB (val_main_v368 (F := Ideal) x0 x1 x2 x3 x4 x5 x6 x7 x8 x9 x10 x11 x12 x13)) := by rfl

/-- The bin. -/
theorem step561 : val_main_v561 (F := Ideal) x0 x1 x2 x3 x4 x5 x6 x7 x8 x9 x10 x11 x12 x13 = binB (val_main_v553 (F := Ideal) x0) (val_main_v460 (F := Ideal) x0 x1 x2 x3 x4 x5 x6 x7 x8 x9 x10 x11 x12 x13) := by rfl

/-- The left knot of the bin. -/
theorem step569 : val_main_v569 (F := Ideal) x0 x1 x2 x3 x4 x5 x6 x7 x8 x9 x10 x11 x12 x13 = pick11B (val_main_v561 (F := Ideal) x0 x1 x2 x3 x4 x5 x6 x7 x8 x9 x10 x11 x12 x13) (val_main_v460 (F := Ideal) x0 x1 x2 x3 x4 x5 x6 x7 x8 x9 x10 x11 x12 x13) := by rfl

/-- The width of the bin. -/
theorem step577 : val_main_v577 (F := Ideal) x0 x1 x2 x3 x4 x5 x6 x7 x8 x9 x10 x11 x12 x13 = pick10B (val_main_v561 (F := Ideal) x0 x1 x2 x3 x4 x5 x6 x7 x8 x9 x10 x11 x12 x13) (val_main_v463 (F := Ideal) x0 x1 x2 x3 x4 x5 x6 x7 x8 x9 x10 x11 x12 x13) := by rfl

/-- The lower knot of the bin. -/
theorem step585 : val_main_v585 (F := Ideal) x0 x1 x2 x3 x4 x5 x6 x7 x8 x9 x10 x11 x12 x13 = pick11B (val_main_v561 (F := Ideal) x0 x1 x2 x3 x4 x5 x6 x7 x8 x9 x10 x11 x12 x13) (val_main_v546 (F := Ideal) x0 x1 x2 x3 x4 x5 x6 x7 x8 x9 x10 x11 x12 x13) := by rfl

/-- The height of the bin. -/
theorem step593 : val_main_v593 (F := Ideal) x0 x1 x2 x3 x4 x5 x6 x7 x8 x9 x10 x11 x12 x13 = pick10B (val_main_v561 (F := Ideal) x0 x1 x2 x3 x4 x5 x6 x7 x8 x9 x10 x11 x12 x13) (val_main_v549 (F := Ideal) x0 x1 x2 x3 x4 x5 x6 x7 x8 x9 x10 x11 x12 x13) := by rfl

/-- The left slope of the bin. -/
theorem step602 : val_main_v602 (F := Ideal) x0 x1 x2 x3 x4 x5 x6 x7 x8 x9 x10 x11 x12 x13 = pick11B (val_main_v561 (F := Ideal) x0 x1 x2 x3 x4 x5 x6 x7 x8 x9 x10 x11 x12 x13) (val_main_v552 (F := Ideal) x0 x1 x2 x3 x4 x5 x6 x7 x8 x9 x10 x11 x12 x13) := by rfl

/-- The right slope of the bin. -/
theorem step612 : val_main_v612 (F := Ideal) x0 x1 x2 x3 x4 x5 x6 x7 x8 x9 x10 x11 x12 x13 = pick11B (val_main_v604 (F := Ideal) x0 x1 x2 x3 x4 x5 x6 x7 x8 x9 x10 x11 x12 x13) (val_main_v552 (F := Ideal) x0 x1 x2 x3 x4 x5 x6 x7 x8 x9 x10 x11 x12 x13) := by rfl

/-- The rational quadratic. -/
theorem step630 : val_main_v630 (F := Ideal) x0 x1 x2 x3 x4 x5 x6 x7 x8 x9 x10 x11 x12 x13 = bendB (val_main_v553 (F := Ideal) x0) (val_main_v569 (F := Ideal) x0 x1 x2 x3 x4 x5 x6 x7 x8 x9 x10 x11 x12 x13) (val_main_v577 (F := Ideal) x0 x1 x2 x3 x4 x5 x6 x7 x8 x9 x10 x11 x12 x13) (val_main_v585 (F := Ideal) x0 x1 x2 x3 x4 x5 x6 x7 x8 x9 x10 x11 x12 x13) (val_main_v593 (F := Ideal) x0 x1 x2 x3 x4 x5 x6 x7 x8 x9 x10 x11 x12 x13) (val_main_v602 (F := Ideal) x0 x1 x2 x3 x4 x5 x6 x7 x8 x9 x10 x11 x12 x13) (val_main_v612 (F := Ideal) x0 x1 x2 x3 x4 x5 x6 x7 x8 x9 x10 x11 x12 x13) := by rfl

/-- The logarithm of the slope. -/
theorem step648 : val_main_v648 (F := Ideal) x0 x1 x2 x3 x4 x5 x6 x7 x8 x9 x10 x11 x12 x13 = steepB (val_main_v553 (F := Ideal) x0) (val_main_v569 (F := Ideal) x0 x1 x2 x3 x4 x5 x6 x7 x8 x9 x10 x11 x12 x13) (val_main_v577 (F := Ideal) x0 x1 x2 x3 x4 x5 x6 x7 x8 x9 x10 x11 x12 x13) (val_main_v593 (F := Ideal) x0 x1 x2 x3 x4 x5 x6 x7 x8 x9 x10 x11 x12 x13) (val_main_v602 (F := Ideal) x0 x1 x2 x3 x4 x5 x6 x7 x8 x9 x10 x11 x12 x13) (val_main_v612 (F := Ideal) x0 x1 x2 x3 x4 x5 x6 x7 x8 x9 x10 x11 x12 x13) := by rfl

/-- A gap between neighbouring knots of the widths. -/
theorem gap463 (b : Fin 16) (i : Fin 96) (t : Fin 2048) (k : Fin 10) : val_main_v463 (F := Ideal) x0 x1 x2 x3 x4 x5 x6 x7 x8 x9 x10 x11 x12 x13 (ix4 b i t k)
    = val_main_v460 (F := Ideal) x0 x1 x2 x3 x4 x5 x6 x7 x8 x9 x10 x11 x12 x13 (ix4 b i t ⟨k.val + 1, by omega⟩) - val_main_v460 (F := Ideal) x0 x1 x2 x3 x4 x5 x6 x7 x8 x9 x10 x11 x12 x13 (ix4 b i t ⟨k.val, by omega⟩) := by
  unfold val_main_v463 val_main_v462 val_main_v461
  generalize val_main_v460 (F := Ideal) x0 x1 x2 x3 x4 x5 x6 x7 x8 x9 x10 x11 x12 x13 = y
  pointwise []
  exact congrArg (fun l : Fin 11 => y (ix4 b i t l) - y (ix4 b i t ⟨k.val, by omega⟩)) (Fin.ext (by dsimp only; omega))

/-- A gap between neighbouring knots of the heights. -/
theorem gap549 (b : Fin 16) (i : Fin 96) (t : Fin 2048) (k : Fin 10) : val_main_v549 (F := Ideal) x0 x1 x2 x3 x4 x5 x6 x7 x8 x9 x10 x11 x12 x13 (ix4 b i t k)
    = val_main_v546 (F := Ideal) x0 x1 x2 x3 x4 x5 x6 x7 x8 x9 x10 x11 x12 x13 (ix4 b i t ⟨k.val + 1, by omega⟩) - val_main_v546 (F := Ideal) x0 x1 x2 x3 x4 x5 x6 x7 x8 x9 x10 x11 x12 x13 (ix4 b i t ⟨k.val, by omega⟩) := by
  unfold val_main_v549 val_main_v548 val_main_v547
  generalize val_main_v546 (F := Ideal) x0 x1 x2 x3 x4 x5 x6 x7 x8 x9 x10 x11 x12 x13 = y
  pointwise []
  exact congrArg (fun l : Fin 11 => y (ix4 b i t l) - y (ix4 b i t ⟨k.val, by omega⟩)) (Fin.ext (by dsimp only; omega))

/-- The index of the right slope. -/
theorem next_at (j : S16x96x2048.Idx) (n : ℕ) (h : val_main_v561 (F := Ideal) x0 x1 x2 x3 x4 x5 x6 x7 x8 x9 x10 x11 x12 x13 j = BitVec.ofNat 32 n) : val_main_v604 (F := Ideal) x0 x1 x2 x3 x4 x5 x6 x7 x8 x9 x10 x11 x12 x13 j = BitVec.ofNat 32 (n + 1) := by
  change val_main_v561 (F := Ideal) x0 x1 x2 x3 x4 x5 x6 x7 x8 x9 x10 x11 x12 x13 j + 1#32 = _
  rw [h, BitVec.ofNat_add]

/-- The transformed channels. -/
theorem later_at (b : Fin 16) (i : Fin 96) (t : Fin 2048) : val_main_v1 (F := Ideal) x0 (ix3 b i t) = x0 (ix3 b ⟨96 + i.val, by omega⟩ t) := by
  pointwise [val_main_v1]

/-- The point an entry is looked up at. -/
theorem point_at (y : ℝ) (b : Fin 16) (i : Fin 96) (t : Fin 2048) (h : val_main_v1 (F := Ideal) x0 (ix3 b i t) = (y : EReal)) :
    val_main_v553 (F := Ideal) x0 (ix3 b i t) = ((10 * unit y - 5 : ℝ) : EReal) := by
  change min (Ideal.ofBits .f32 0x40A00000#32) (max (Ideal.ofBits .f32 0xC0A00000#32) (val_main_v1 (F := Ideal) x0 (ix3 b i t))) = _
  rw [h, word_five, word_neg_five, max_real, min_real]
  refine congrArg _ ?_
  unfold unit
  ring

/-- Whether an entry lies between minus five and five. -/
theorem inside_at (y : ℝ) (b : Fin 16) (i : Fin 96) (t : Fin 2048) (h : val_main_v1 (F := Ideal) x0 (ix3 b i t) = (y : EReal)) :
    val_main_v373 (F := Ideal) x0 (ix3 b i t) = 1 ↔ -5 ≤ y ∧ y ≤ 5 := by
  change IntOp.andi (FloatOps.cmpf (F := Ideal) (φ := .f32) .oge (val_main_v1 (F := Ideal) x0 (ix3 b i t)) (Ideal.ofBits .f32 0xC0A00000#32))
    (FloatOps.cmpf (F := Ideal) (φ := .f32) .ole (val_main_v1 (F := Ideal) x0 (ix3 b i t)) (Ideal.ofBits .f32 0x40A00000#32)) = 1#1 ↔ _
  rw [h, word_five, word_neg_five, Ideal.cmpf_def, Ideal.cmpf_def]
  change IntOp.andi (BitVec.ofBool (decide (((-5 : ℝ) : EReal) ≤ (y : EReal)))) (BitVec.ofBool (decide ((y : EReal) ≤ ((5 : ℝ) : EReal)))) = 1#1 ↔ _
  simp only [EReal.coe_le_coe_iff]
  by_cases g : -5 ≤ y <;> by_cases g' : y ≤ 5 <;> simp [g, g', IntOp.andi]

section Entry

variable (a a' : Fin 10 → ℝ) (d : Fin 9 → ℝ) (y : ℝ) (b : Fin 16) (i : Fin 96) (t : Fin 2048)
  (ra : ∀ j, ∃ r : ℝ, val_main_v364 (F := Ideal) x0 x1 x2 x3 x4 x5 x6 x7 x8 x9 x10 x11 x12 x13 j = (r : EReal)) (ra' : ∀ j, ∃ r : ℝ, val_main_v367 (F := Ideal) x0 x1 x2 x3 x4 x5 x6 x7 x8 x9 x10 x11 x12 x13 j = (r : EReal))
  (ha : ∀ k, val_main_v364 (F := Ideal) x0 x1 x2 x3 x4 x5 x6 x7 x8 x9 x10 x11 x12 x13 (ix4 b i t k) = (a k : EReal)) (ha' : ∀ k, val_main_v367 (F := Ideal) x0 x1 x2 x3 x4 x5 x6 x7 x8 x9 x10 x11 x12 x13 (ix4 b i t k) = (a' k : EReal))
  (hd : ∀ k, val_main_v368 (F := Ideal) x0 x1 x2 x3 x4 x5 x6 x7 x8 x9 x10 x11 x12 x13 (ix4 b i t k) = (d k : EReal)) (hy : val_main_v1 (F := Ideal) x0 (ix3 b i t) = (y : EReal))

include ra ha in
/-- The knots of the widths at a place. -/
theorem width_knots (k : Fin 11) : val_main_v460 (F := Ideal) x0 x1 x2 x3 x4 x5 x6 x7 x8 x9 x10 x11 x12 x13 (ix4 b i t k) = ((10 * knot a k.val - 5 : ℝ) : EReal) := by
  rw [step460]
  exact knots_at _ a b i t (sizes_at _ ra a b i t ha) k

include ra' ha' in
/-- The knots of the heights at a place. -/
theorem height_knots (k : Fin 11) : val_main_v546 (F := Ideal) x0 x1 x2 x3 x4 x5 x6 x7 x8 x9 x10 x11 x12 x13 (ix4 b i t k) = ((10 * knot a' k.val - 5 : ℝ) : EReal) := by
  rw [step546]
  exact knots_at _ a' b i t (sizes_at _ ra' a' b i t ha') k

include hd in
/-- The slopes at the knots, at a place. -/
theorem slope_knots (k : Fin 11) : val_main_v552 (F := Ideal) x0 x1 x2 x3 x4 x5 x6 x7 x8 x9 x10 x11 x12 x13 (ix4 b i t k) = (Flow.slope (raw d k.val) : EReal) := by
  rw [step552]
  exact slopes_val _ _ b i t k (raw_at _ d b i t hd k)

include ra ha hy in
/-- The bin of an entry. -/
theorem entry_bin : val_main_v561 (F := Ideal) x0 x1 x2 x3 x4 x5 x6 x7 x8 x9 x10 x11 x12 x13 (ix3 b i t) = BitVec.ofNat 32 (bin a (unit y)) := by
  rw [step561]
  exact bin_at _ _ a (unit y) (unit_nonneg y) b i t (point_at x0 y b i t hy) (width_knots x0 x1 x2 x3 x4 x5 x6 x7 x8 x9 x10 x11 x12 x13 a b i t ra ha)

include ra ha ra' ha' hd hy in
/-- The value and the logarithm of the slope at an entry. -/
theorem entry_at :
    val_main_v630 (F := Ideal) x0 x1 x2 x3 x4 x5 x6 x7 x8 x9 x10 x11 x12 x13 (ix3 b i t) = ((bend (knot a (bin a (unit y))) (knot a (bin a (unit y) + 1)) (knot a' (bin a (unit y))) (knot a' (bin a (unit y) + 1))
      (Flow.slope (raw d (bin a (unit y)))) (Flow.slope (raw d (bin a (unit y) + 1))) (unit y) : ℝ) : EReal)
    ∧ val_main_v648 (F := Ideal) x0 x1 x2 x3 x4 x5 x6 x7 x8 x9 x10 x11 x12 x13 (ix3 b i t) = steep (knot a (bin a (unit y))) (knot a (bin a (unit y) + 1)) (knot a' (bin a (unit y))) (knot a' (bin a (unit y) + 1))
      (Flow.slope (raw d (bin a (unit y)))) (Flow.slope (raw d (bin a (unit y) + 1))) (unit y) := by
  have hb := bin_le a (unit y)
  have hw := width_knots x0 x1 x2 x3 x4 x5 x6 x7 x8 x9 x10 x11 x12 x13 a b i t ra ha
  have hh := height_knots x0 x1 x2 x3 x4 x5 x6 x7 x8 x9 x10 x11 x12 x13 a' b i t ra' ha'
  have hs := slope_knots x0 x1 x2 x3 x4 x5 x6 x7 x8 x9 x10 x11 x12 x13 d b i t hd
  have hi := entry_bin x0 x1 x2 x3 x4 x5 x6 x7 x8 x9 x10 x11 x12 x13 a y b i t ra ha hy
  have hp := under_bin_pos a a' d y
  have hn := next_at x0 x1 x2 x3 x4 x5 x6 x7 x8 x9 x10 x11 x12 x13 (ix3 b i t) _ hi
  generalize hn' : bin a (unit y) = n at *
  have e569 : val_main_v569 (F := Ideal) x0 x1 x2 x3 x4 x5 x6 x7 x8 x9 x10 x11 x12 x13 (ix3 b i t) = ((10 * knot a n - 5 : ℝ) : EReal) := by
    rw [step569, pick11_at _ _ b i t ⟨n, by omega⟩ hi, hw]
  have e585 : val_main_v585 (F := Ideal) x0 x1 x2 x3 x4 x5 x6 x7 x8 x9 x10 x11 x12 x13 (ix3 b i t) = ((10 * knot a' n - 5 : ℝ) : EReal) := by
    rw [step585, pick11_at _ _ b i t ⟨n, by omega⟩ hi, hh]
  have e577 : val_main_v577 (F := Ideal) x0 x1 x2 x3 x4 x5 x6 x7 x8 x9 x10 x11 x12 x13 (ix3 b i t) = ((10 * (knot a (n + 1) - knot a n) : ℝ) : EReal) := by
    rw [step577, pick10_at _ _ b i t ⟨n, by omega⟩ hi, gap463, hw, hw, ← EReal.coe_sub]
    exact congrArg _ (by ring)
  have e593 : val_main_v593 (F := Ideal) x0 x1 x2 x3 x4 x5 x6 x7 x8 x9 x10 x11 x12 x13 (ix3 b i t) = ((10 * (knot a' (n + 1) - knot a' n) : ℝ) : EReal) := by
    rw [step593, pick10_at _ _ b i t ⟨n, by omega⟩ hi, gap549, hh, hh, ← EReal.coe_sub]
    exact congrArg _ (by ring)
  have e602 : val_main_v602 (F := Ideal) x0 x1 x2 x3 x4 x5 x6 x7 x8 x9 x10 x11 x12 x13 (ix3 b i t) = (Flow.slope (raw d n) : EReal) := by
    rw [step602, pick11_at _ _ b i t ⟨n, by omega⟩ hi, hs]
  have e612 : val_main_v612 (F := Ideal) x0 x1 x2 x3 x4 x5 x6 x7 x8 x9 x10 x11 x12 x13 (ix3 b i t) = (Flow.slope (raw d (n + 1)) : EReal) := by
    rw [step612, pick11_at _ _ b i t ⟨n + 1, by omega⟩ hn, hs]
  have hx := point_at x0 y b i t hy
  have hQ := knot_lt a n (by omega)
  constructor
  · rw [step630]
    exact bend_at _ _ _ _ _ _ _ _ _ _ _ _ _ _ _ hQ hx e569 e577 e585 e593 e602 e612 hp.ne'
  · rw [step648]
    exact steep_at _ _ _ _ _ _ _ _ _ _ _ _ _ _ hQ hx e569 e577 e593 e602 e612

include ra ha ra' ha' hd hy in
/-- The first result's entry. -/
theorem out_entry : val_main_v649 (F := Ideal) x0 x1 x2 x3 x4 x5 x6 x7 x8 x9 x10 x11 x12 x13 (ix3 b i t) = (spl a a' d y : EReal) := by
  change Scalar.select (val_main_v373 (F := Ideal) x0 (ix3 b i t)) (val_main_v630 (F := Ideal) x0 x1 x2 x3 x4 x5 x6 x7 x8 x9 x10 x11 x12 x13 (ix3 b i t)) (val_main_v1 (F := Ideal) x0 (ix3 b i t)) = _
  rw [(entry_at x0 x1 x2 x3 x4 x5 x6 x7 x8 x9 x10 x11 x12 x13 a a' d y b i t ra ra' ha ha' hd hy).1, hy]
  unfold spl Scalar.select
  by_cases g : -5 ≤ y ∧ y ≤ 5
  · rw [if_pos ((inside_at x0 y b i t hy).2 g), if_pos g]
  · rw [if_neg fun e => g ((inside_at x0 y b i t hy).1 e), if_neg g]

include ra ha ra' ha' hd hy in
/-- The second result's term. -/
theorem lad_entry : val_main_v650 (F := Ideal) x0 x1 x2 x3 x4 x5 x6 x7 x8 x9 x10 x11 x12 x13 (ix3 b i t) = lad a a' d y := by
  change Scalar.select (val_main_v373 (F := Ideal) x0 (ix3 b i t)) (val_main_v648 (F := Ideal) x0 x1 x2 x3 x4 x5 x6 x7 x8 x9 x10 x11 x12 x13 (ix3 b i t)) (Ideal.ofBits .f32 0x00000000#32) = _
  rw [(entry_at x0 x1 x2 x3 x4 x5 x6 x7 x8 x9 x10 x11 x12 x13 a a' d y b i t ra ra' ha ha' hd hy).2, word_zero]
  unfold lad Scalar.select
  by_cases g : -5 ≤ y ∧ y ≤ 5
  · rw [if_pos ((inside_at x0 y b i t hy).2 g), if_pos g]
  · rw [if_neg fun e => g ((inside_at x0 y b i t hy).1 e), if_neg g]
    rfl

end Entry

/-- The first result at a place: the untouched channels, then the transformed ones. -/
theorem whole_at (h1 : ∀ i, x1 i = 1) (b : Fin 16) (j : Fin 192) (t : Fin 2048) : val_main_v653 (F := Ideal) x0 x1 x2 x3 x4 x5 x6 x7 x8 x9 x10 x11 x12 x13 (ix3 b j t)
    = if h : j.val < 96 then x0 (ix3 b j t) else val_main_v649 (F := Ideal) x0 x1 x2 x3 x4 x5 x6 x7 x8 x9 x10 x11 x12 x13 (ix3 b ⟨j.val - 96, by omega⟩ t) := by
  unfold val_main_v653 val_main_v652 val_main_v651
  have e : ∀ i : Fin 96, val_main_v0 (F := Ideal) x0 (ix3 b i t) = x0 (ix3 b ⟨i.val, by omega⟩ t) := fun i => by
    pointwise [val_main_v0]
  revert e
  generalize val_main_v649 (F := Ideal) x0 x1 x2 x3 x4 x5 x6 x7 x8 x9 x10 x11 x12 x13 = y
  generalize val_main_v0 (F := Ideal) x0 = z
  intro e
  pointwise []
  rw [h1, mul_one]
  split
  · exact e _
  · rfl

/-- The second result at a place. -/
theorem total_at (h1 : ∀ i, x1 i = 1) (b : Fin 16) : val_main_v656 (F := Ideal) x0 x1 x2 x3 x4 x5 x6 x7 x8 x9 x10 x11 x12 x13 (ix1 b)
    = ∑ i : Fin 96, ∑ t : Fin 2048, val_main_v650 (F := Ideal) x0 x1 x2 x3 x4 x5 x6 x7 x8 x9 x10 x11 x12 x13 (ix3 b i t) := by
  unfold val_main_v656 val_main_v655 val_main_v654 val_main_cst_150
  generalize val_main_v650 (F := Ideal) x0 x1 x2 x3 x4 x5 x6 x7 x8 x9 x10 x11 x12 x13 = y
  pointwise []
  simp only [h1, mul_one]

end Cert.Ref

end
-- ==== Proof.Value.Match.lean ====
/- The reference's two results as the real functions of the arguments. -/
module

public import proofs.«01_k».proof.Proof.Value.RefStack
public import proofs.«01_k».proof.Proof.Value.RefValue

@[expose] public section

noncomputable section

namespace Cert.Ref

open Cert.ReferenceIdeal Cert.ReferenceIdeal.Gen Cert.ReferenceIdeal.Read Idealize.ShloMosaic Idealize.SL.Sem Cert.Flow

variable (x0 : FVec Ideal S16x192x2048 .f32) (x1 : FVec Ideal S16x1x2048 .f32) (x2 : FVec Ideal S256x96 .f32) (x3 : FVec Ideal S256 .f32)
  (x4 : FVec Ideal S3x256x3 .f32) (x5 : FVec Ideal S3x256 .f32) (x6 : FVec Ideal S3x256x256 .f32) (x7 x8 x9 x10 x11 : FVec Ideal S3x256 .f32)
  (x12 : FVec Ideal S2784x256 .f32) (x13 : FVec Ideal S2784 .f32)
  (x : Fin 16 → Fin 192 → Fin 2048 → ℝ) (PW : Fin 256 → Fin 96 → ℝ) (DW : Fin 3 → Fin 256 → Fin 3 → ℝ)
  (P : Fin 3 → Fin 256 → Fin 256 → ℝ) (J : Fin 2784 → Fin 256 → ℝ)
  (h0 : ∀ b j t, x0 (ix3 b j t) = (x b j t : EReal)) (h1 : ∀ i, x1 i = 1)
  (h2 : ∀ f i, x2 (ix2 f i) = (PW f i : EReal)) (h3 : ∀ i, x3 i = 0) (h4 : ∀ i o k, x4 (ix3 i o k) = (DW i o k : EReal)) (h5 : ∀ i, x5 i = 0)
  (h6 : ∀ i o k, x6 (ix3 i o k) = (P i o k : EReal)) (h7 : ∀ i, x7 i = 0) (h8 : ∀ i, x8 i = 1) (h9 : ∀ i, x9 i = 0) (h10 : ∀ i, x10 i = 1)
  (h11 : ∀ i, x11 i = 0) (h12 : ∀ r f, x12 (ix2 r f) = (J r f : EReal)) (h13 : ∀ i, x13 i = 0)

include h0 h1 h2 h3 h4 h5 h6 h7 h8 h9 h10 h11 h12 h13

/-- Every row of the projection at a place. -/
theorem rows_at (b : Fin 16) (t : Fin 2048) (r : Fin 2784) : val_main_v357 (F := Ideal) x0 x1 x2 x3 x4 x5 x6 x7 x8 x9 x10 x11 x12 x13 (ix3 b r t)
    = ((∑ f : Fin 256, J r f * hid x PW DW P b f t : ℝ) : EReal) :=
  row_at x0 x1 x2 x3 x4 x5 x6 x7 x8 x9 x10 x11 x12 x13 (hid x PW DW P b) J b t
    (fun f t => stack_at x0 x1 x2 x3 x4 x5 x6 x7 x8 x9 x10 x11 x PW DW P h0 h1 h2 h3 h4 h5 h6 h7 h8 h9 h10 h11 b f t) h1 h12 h13 r

/-- The logits of the widths are reals. -/
theorem widths_real (j : S16x96x2048x10.Idx) : ∃ r : ℝ, val_main_v364 (F := Ideal) x0 x1 x2 x3 x4 x5 x6 x7 x8 x9 x10 x11 x12 x13 j = (r : EReal) := by
  have e := widths_at x0 x1 x2 x3 x4 x5 x6 x7 x8 x9 x10 x11 x12 x13 (hid x PW DW P (j 0)) J (j 0) (j 1) (j 2)
    (fun r => rows_at x0 x1 x2 x3 x4 x5 x6 x7 x8 x9 x10 x11 x12 x13 x PW DW P J h0 h1 h2 h3 h4 h5 h6 h7 h8 h9 h10 h11 h12 h13 (j 0) (j 2) r) (j 3)
  rw [← ix4_eta j]
  exact ⟨_, e⟩

/-- The logits of the heights are reals. -/
theorem heights_real (j : S16x96x2048x10.Idx) : ∃ r : ℝ, val_main_v367 (F := Ideal) x0 x1 x2 x3 x4 x5 x6 x7 x8 x9 x10 x11 x12 x13 j = (r : EReal) := by
  have e := heights_at x0 x1 x2 x3 x4 x5 x6 x7 x8 x9 x10 x11 x12 x13 (hid x PW DW P (j 0)) J (j 0) (j 1) (j 2)
    (fun r => rows_at x0 x1 x2 x3 x4 x5 x6 x7 x8 x9 x10 x11 x12 x13 x PW DW P J h0 h1 h2 h3 h4 h5 h6 h7 h8 h9 h10 h11 h12 h13 (j 0) (j 2) r) (j 3)
  rw [← ix4_eta j]
  exact ⟨_, e⟩

/-- The reference's first result. -/
theorem ref_out : val_main_v653 (F := Ideal) x0 x1 x2 x3 x4 x5 x6 x7 x8 x9 x10 x11 x12 x13 = fun y => (outR x (hid x PW DW P) J (y 0) (y 1) (y 2) : EReal) := by
  funext y
  obtain ⟨b, j, t, rfl⟩ : ∃ (b : Fin 16) (j : Fin 192) (t : Fin 2048), y = ix3 b j t := ⟨y 0, y 1, y 2, (ix3_eta y).symm⟩
  change _ = (outR x (hid x PW DW P) J b j t : EReal)
  rw [whole_at x0 x1 x2 x3 x4 x5 x6 x7 x8 x9 x10 x11 x12 x13 h1 b j t]
  unfold outR
  by_cases hj : j.val < 96
  · rw [dif_pos hj, dif_pos hj, h0]
  · have hy : val_main_v1 (F := Ideal) x0 (ix3 b (⟨j.val - 96, by omega⟩ : Fin 96) t) = (x b j t : EReal) := by
      rw [later_at, h0]
      exact congrArg (fun l => ((x b l t : ℝ) : EReal)) (Fin.ext (by dsimp only; omega))
    rw [dif_neg hj, dif_neg hj]
    exact out_entry x0 x1 x2 x3 x4 x5 x6 x7 x8 x9 x10 x11 x12 x13 _ _ _ _ b ⟨j.val - 96, by omega⟩ t
      (widths_real x0 x1 x2 x3 x4 x5 x6 x7 x8 x9 x10 x11 x12 x13 x PW DW P J h0 h1 h2 h3 h4 h5 h6 h7 h8 h9 h10 h11 h12 h13)
      (heights_real x0 x1 x2 x3 x4 x5 x6 x7 x8 x9 x10 x11 x12 x13 x PW DW P J h0 h1 h2 h3 h4 h5 h6 h7 h8 h9 h10 h11 h12 h13)
      (widths_at x0 x1 x2 x3 x4 x5 x6 x7 x8 x9 x10 x11 x12 x13 (hid x PW DW P b) J b _ t (rows_at x0 x1 x2 x3 x4 x5 x6 x7 x8 x9 x10 x11 x12 x13 x PW DW P J h0 h1 h2 h3 h4 h5 h6 h7 h8 h9 h10 h11 h12 h13 b t))
      (heights_at x0 x1 x2 x3 x4 x5 x6 x7 x8 x9 x10 x11 x12 x13 (hid x PW DW P b) J b _ t (rows_at x0 x1 x2 x3 x4 x5 x6 x7 x8 x9 x10 x11 x12 x13 x PW DW P J h0 h1 h2 h3 h4 h5 h6 h7 h8 h9 h10 h11 h12 h13 b t))
      (slopes_at x0 x1 x2 x3 x4 x5 x6 x7 x8 x9 x10 x11 x12 x13 (hid x PW DW P b) J b _ t (rows_at x0 x1 x2 x3 x4 x5 x6 x7 x8 x9 x10 x11 x12 x13 x PW DW P J h0 h1 h2 h3 h4 h5 h6 h7 h8 h9 h10 h11 h12 h13 b t)) hy

/-- The reference's second result. -/
theorem ref_sum : val_main_v656 (F := Ideal) x0 x1 x2 x3 x4 x5 x6 x7 x8 x9 x10 x11 x12 x13 = fun y => sumR x (hid x PW DW P) J (y 0) := by
  funext y
  obtain ⟨b, rfl⟩ : ∃ b : Fin 16, y = ix1 b := ⟨y 0, (ix1_eta y).symm⟩
  change _ = sumR x (hid x PW DW P) J b
  rw [total_at x0 x1 x2 x3 x4 x5 x6 x7 x8 x9 x10 x11 x12 x13 h1 b]
  unfold sumR
  refine Finset.sum_congr rfl fun i _ => Finset.sum_congr rfl fun t _ => ?_
  have hy : val_main_v1 (F := Ideal) x0 (ix3 b i t) = (x b ⟨96 + i.val, by omega⟩ t : EReal) := by rw [later_at, h0]
  exact lad_entry x0 x1 x2 x3 x4 x5 x6 x7 x8 x9 x10 x11 x12 x13 _ _ _ _ b i t
    (widths_real x0 x1 x2 x3 x4 x5 x6 x7 x8 x9 x10 x11 x12 x13 x PW DW P J h0 h1 h2 h3 h4 h5 h6 h7 h8 h9 h10 h11 h12 h13)
    (heights_real x0 x1 x2 x3 x4 x5 x6 x7 x8 x9 x10 x11 x12 x13 x PW DW P J h0 h1 h2 h3 h4 h5 h6 h7 h8 h9 h10 h11 h12 h13)
    (widths_at x0 x1 x2 x3 x4 x5 x6 x7 x8 x9 x10 x11 x12 x13 (hid x PW DW P b) J b _ t (rows_at x0 x1 x2 x3 x4 x5 x6 x7 x8 x9 x10 x11 x12 x13 x PW DW P J h0 h1 h2 h3 h4 h5 h6 h7 h8 h9 h10 h11 h12 h13 b t))
    (heights_at x0 x1 x2 x3 x4 x5 x6 x7 x8 x9 x10 x11 x12 x13 (hid x PW DW P b) J b _ t (rows_at x0 x1 x2 x3 x4 x5 x6 x7 x8 x9 x10 x11 x12 x13 x PW DW P J h0 h1 h2 h3 h4 h5 h6 h7 h8 h9 h10 h11 h12 h13 b t))
    (slopes_at x0 x1 x2 x3 x4 x5 x6 x7 x8 x9 x10 x11 x12 x13 (hid x PW DW P b) J b _ t (rows_at x0 x1 x2 x3 x4 x5 x6 x7 x8 x9 x10 x11 x12 x13 x PW DW P J h0 h1 h2 h3 h4 h5 h6 h7 h8 h9 h10 h11 h12 h13 b t)) hy

end Cert.Ref

end
-- ==== Proof.Algebraic.lean ====
/- The equality of the kernel's and the reference's results over the extended reals. -/
module

public import proofs.«01_k».proof.Defs
public import proofs.«01_k».proof.Proof.Gen.ReferenceIdeal.Run
public import proofs.«01_k».proof.Proof.Gen.ReferenceIdeal.Read
public import proofs.«01_k».proof.Proof.Value.Run
public import proofs.«01_k».proof.Proof.Value.Arrays
public import proofs.«01_k».proof.Proof.Value.Pre
public import proofs.«01_k».proof.Proof.Value.Match

@[expose] public section

noncomputable section

namespace Cert.Proof

open Idealize.ShloMosaic Idealize.SL.Sem Cert.Flow

section Numbers

variable (m : (ℓ : Loc Cert.KernelIdeal.nD Cert.KernelIdeal.τ Cert.KernelIdeal.sig) → Buf (Elt Ideal) ℓ) (c : Dev Cert.KernelIdeal.nD)

/-- The input as reals. -/
def inX (b : Fin 16) (j : Fin 192) (t : Fin 2048) : ℝ := EReal.toReal (m ((c.tc : Thread Cert.KernelIdeal.nD Cert.KernelIdeal.τ).loc Cert.KernelIdeal.main_arg0) (ix3 b j t))

/-- The first projection as reals. -/
def inW (f : Fin 256) (i : Fin 96) : ℝ := EReal.toReal (m ((c.tc : Thread Cert.KernelIdeal.nD Cert.KernelIdeal.τ).loc Cert.KernelIdeal.main_arg2) (ix2 f i))

/-- The taps as reals. -/
def inD (l : Fin 3) (f : Fin 256) (k : Fin 3) : ℝ := EReal.toReal (m ((c.tc : Thread Cert.KernelIdeal.nD Cert.KernelIdeal.τ).loc Cert.KernelIdeal.main_arg4) (ix3 l f k))

/-- The mixing matrices as reals. -/
def inP (l : Fin 3) (o k : Fin 256) : ℝ := EReal.toReal (m ((c.tc : Thread Cert.KernelIdeal.nD Cert.KernelIdeal.τ).loc Cert.KernelIdeal.main_arg6) (ix3 l o k))

/-- The last projection as reals. -/
def inJ (r : Fin 2784) (f : Fin 256) : ℝ := EReal.toReal (m ((c.tc : Thread Cert.KernelIdeal.nD Cert.KernelIdeal.τ).loc Cert.KernelIdeal.main_arg12) (ix2 r f))

/-- The first result. -/
def res0 : Cert.KernelIdeal.S16x192x2048.Idx → EReal :=
  fun y => ((outR (inX m c) (hid (inX m c) (inW m c) (inD m c) (inP m c)) (inJ m c) (y 0) (y 1) (y 2) : ℝ) : EReal)

/-- The second result. -/
def res1 : Cert.KernelIdeal.S16.Idx → EReal :=
  fun y => sumR (inX m c) (hid (inX m c) (inW m c) (inD m c) (inP m c)) (inJ m c) (y 0)

end Numbers

/-- From arguments that meet the precondition the kernel's run and the reference's run end with the same two results. -/
theorem algebraic [Cert.Pre_plain_arguments.Facts] :
    algebraic_KernelIdeal_ReferenceIdeal_pre_plain_arguments (hKernelIdeal := Cert.KernelIdeal.Gen.facts)
      (hReferenceIdeal := Cert.ReferenceIdeal.Gen.facts) := by
  intro m g m' g' hpre hargs
  have hs : ∀ c : Dev Cert.KernelIdeal.nD, _ := fun c => Cert.Pre_plain_arguments.said (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (hpre c)
  refine ⟨fun c => res0 m c, fun c => res1 m c, ?_, ?_⟩
  · refine (θ_run Cert.KernelIdeal.defs _ _).mono (fun r h => ?_) (Cert.KernelIdeal.Gen.run_values m g)
    intro c
    obtain ⟨e0, e1, rest⟩ := h.1 c
    obtain ⟨s1, s8, s10, s3, s5, s7, s9, s11, s13, s0, s2, s4, s6, s12⟩ := hs c
    refine ⟨e0.trans ?_, e1.trans ?_, rest⟩
    · exact Cert.KernelIdeal.Gen.final_out m g c (inX m c) (inW m c) (inD m c) (inP m c) (inJ m c) (fun _ _ _ => s0 _) (fun _ _ => s2 _)
        (fun _ _ _ => s4 _) (fun _ _ _ => s6 _) (fun _ _ => s12 _)
    · exact Cert.KernelIdeal.Gen.final_sum m g c (inX m c) (inW m c) (inD m c) (inP m c) (inJ m c) (fun _ _ _ => s0 _) (fun _ _ => s2 _)
        (fun _ _ _ => s4 _) (fun _ _ _ => s6 _) (fun _ _ => s12 _)
  · refine (θ_run Cert.ReferenceIdeal.defs _ _).mono (fun r h => ?_) (Cert.ReferenceIdeal.Value.run (F := Ideal) m' g')
    intro c
    obtain ⟨e0, e1, rest⟩ := h c
    obtain ⟨s1, s8, s10, s3, s5, s7, s9, s11, s13, s0, s2, s4, s6, s12⟩ := hs c
    obtain ⟨g0, g1, g2, g3, g4, g5, g6, g7, g8, g9, g10, g11, g12, g13⟩ := hargs c
    rw [Cert.ReferenceIdeal.Read.val_main_v653_eq] at e0
    rw [Cert.ReferenceIdeal.Read.val_main_v656_eq] at e1
    refine ⟨e0.trans ?_, e1.trans ?_, rest⟩
    · change Cert.ReferenceIdeal.Read.val_main_v653 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) = _
      rw [g0, g1, g2, g3, g4, g5, g6, g7, g8, g9, g10, g11, g12, g13]
      exact Cert.Ref.ref_out _ _ _ _ _ _ _ _ _ _ _ _ _ _ (inX m c) (inW m c) (inD m c) (inP m c) (inJ m c) (fun _ _ _ => s0 _) s1 (fun _ _ => s2 _)
        s3 (fun _ _ _ => s4 _) s5 (fun _ _ _ => s6 _) s7 s8 s9 s10 s11 (fun _ _ => s12 _) s13
    · change Cert.ReferenceIdeal.Read.val_main_v656 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) = _
      rw [g0, g1, g2, g3, g4, g5, g6, g7, g8, g9, g10, g11, g12, g13]
      exact Cert.Ref.ref_sum _ _ _ _ _ _ _ _ _ _ _ _ _ _ (inX m c) (inW m c) (inD m c) (inP m c) (inJ m c) (fun _ _ _ => s0 _) s1 (fun _ _ => s2 _)
        s3 (fun _ _ _ => s4 _) s5 (fun _ _ _ => s6 _) s7 s8 s9 s10 s11 (fun _ _ => s12 _) s13

end Cert.Proof

end
-- ==== Proof.lean ====
/- The certificate's proof: the three frames (quiescent runs), the named constants' ledger, and the equality of the
   kernel's and the reference's results over the extended reals (Proof/Algebraic.lean). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Frame.Kernel
public import proofs.«01_k».proof.Proof.Frame.KernelIdeal
public import proofs.«01_k».proof.Proof.Algebraic
public import Idealize.ShloMosaic.Adequacy
public import Idealize.ShloMosaic.Init

@[expose] public section

noncomputable section

namespace Cert.Proof

open Idealize.ShloMosaic Idealize.SL.Sem

/-- The named constants stand for their words: each exact value rounds to the word the kernel carries. -/
theorem preserves : preserves_Kernel_KernelIdeal :=
  ⟨IdealRules.named_const.statement Cert.KernelIdeal.κ "share" .f32 0x3F7D70A4#32 _ rfl,
   IdealRules.named_const.statement Cert.KernelIdeal.κ "milli1" .f32 0x3A83126F#32 _ rfl,
   IdealRules.named_const.statement Cert.KernelIdeal.κ "milli2" .f32 0x3B03126F#32 _ rfl,
   IdealRules.named_const.statement Cert.KernelIdeal.κ "milli3" .f32 0x3B449BA6#32 _ rfl,
   IdealRules.named_const.statement Cert.KernelIdeal.κ "milli4" .f32 0x3B83126F#32 _ rfl,
   IdealRules.named_const.statement Cert.KernelIdeal.κ "milli5" .f32 0x3BA3D70A#32 _ rfl,
   IdealRules.named_const.statement Cert.KernelIdeal.κ "milli6" .f32 0x3BC49BA6#32 _ rfl,
   IdealRules.named_const.statement Cert.KernelIdeal.κ "milli7" .f32 0x3BE56042#32 _ rfl,
   IdealRules.named_const.statement Cert.KernelIdeal.κ "milli8" .f32 0x3C03126F#32 _ rfl,
   IdealRules.named_const.statement Cert.KernelIdeal.κ "milli9" .f32 0x3C1374BC#32 _ rfl,
   IdealRules.named_const.statement Cert.KernelIdeal.κ "tenth" .f32 0x3DCCCCCD#32 _ rfl⟩

/-- The reference's run ends with its arguments as they were and nothing left waiting. -/
theorem reference_frame : quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The certificate. -/
theorem claim : Cert.Claim := ⟨Cert.Kernel.Gen.facts, Cert.KernelIdeal.Gen.facts, Cert.ReferenceIdeal.Gen.facts, Cert.Pre_plain_arguments.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, preserves, letI := Cert.Pre_plain_arguments.facts; algebraic⟩

end Cert.Proof

end
